-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up [hPre_up_tables_ok : Cert.Pre_up_tables_ok.Facts] (m : (ℓ : Loc Cert.Up.nD Cert.Up.τ Cert.Up.sig) → Buf (Elt Bits) ℓ) : Prop :=
  ∀ c : Dev Cert.Up.nD,
    (Cert.Pre_up_tables_ok.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_tables_ok : Cert.Pre_up_tables_ok.Facts] (m : (ℓ : Loc Cert.UpIdeal.nD Cert.UpIdeal.τ Cert.UpIdeal.sig) → Buf (Elt Ideal) ℓ) : Prop :=
  ∀ c : Dev Cert.UpIdeal.nD,
    (Cert.Pre_up_tables_ok.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_tables_ok [hPre_up_tables_ok : Cert.Pre_up_tables_ok.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_tables_ok.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_down_tables_ok : Cert.Pre_down_tables_ok.Facts] (m : (ℓ : Loc Cert.Down.nD Cert.Down.τ Cert.Down.sig) → Buf (Elt Bits) ℓ) : Prop :=
  ∀ c : Dev Cert.Down.nD,
    (Cert.Pre_down_tables_ok.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_tables_ok : Cert.Pre_down_tables_ok.Facts] (m : (ℓ : Loc Cert.DownIdeal.nD Cert.DownIdeal.τ Cert.DownIdeal.sig) → Buf (Elt Ideal) ℓ) : Prop :=
  ∀ c : Dev Cert.DownIdeal.nD,
    (Cert.Pre_down_tables_ok.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_tables_ok [hPre_down_tables_ok : Cert.Pre_down_tables_ok.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_tables_ok.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_DenseUp [hPre_dense_up_layer : Cert.Pre_dense_up_layer.Facts] (m : (ℓ : Loc Cert.DenseUp.nD Cert.DenseUp.τ Cert.DenseUp.sig) → Buf (Elt Bits) ℓ) : Prop :=
  ∀ c : Dev Cert.DenseUp.nD,
    (Cert.Pre_dense_up_layer.fn (F := Bits) (m ((c.tc : Thread Cert.DenseUp.nD Cert.DenseUp.τ).loc Cert.DenseUp.main_arg0)) (m ((c.tc : Thread Cert.DenseUp.nD Cert.DenseUp.τ).loc Cert.DenseUp.main_arg1)) (m ((c.tc : Thread Cert.DenseUp.nD Cert.DenseUp.τ).loc Cert.DenseUp.main_arg2))) = (fun _ => 1#1)

def Pre_DenseUpIdeal [hPre_dense_up_layer : Cert.Pre_dense_up_layer.Facts] (m : (ℓ : Loc Cert.DenseUpIdeal.nD Cert.DenseUpIdeal.τ Cert.DenseUpIdeal.sig) → Buf (Elt Ideal) ℓ) : Prop :=
  ∀ c : Dev Cert.DenseUpIdeal.nD,
    (Cert.Pre_dense_up_layer.fn (F := Ideal) (m ((c.tc : Thread Cert.DenseUpIdeal.nD Cert.DenseUpIdeal.τ).loc Cert.DenseUpIdeal.main_arg0)) (m ((c.tc : Thread Cert.DenseUpIdeal.nD Cert.DenseUpIdeal.τ).loc Cert.DenseUpIdeal.main_arg1)) (m ((c.tc : Thread Cert.DenseUpIdeal.nD Cert.DenseUpIdeal.τ).loc Cert.DenseUpIdeal.main_arg2))) = (fun _ => 1#1)

def Pre_DenseUpReferenceIdeal (m : (ℓ : Loc Cert.DenseUpReferenceIdeal.nD Cert.DenseUpReferenceIdeal.τ Cert.DenseUpReferenceIdeal.sig) → Buf (Elt Ideal) ℓ) : Prop :=
  True

def Pre_DenseUpReferenceIdeal_dense_up_layer [hPre_dense_up_layer : Cert.Pre_dense_up_layer.Facts] (m : (ℓ : Loc Cert.DenseUpReferenceIdeal.nD Cert.DenseUpReferenceIdeal.τ Cert.DenseUpReferenceIdeal.sig) → Buf (Elt Ideal) ℓ) : Prop :=
  ∀ c : Dev Cert.DenseUpReferenceIdeal.nD,
    (Cert.Pre_dense_up_layer.fn (F := Ideal) (m ((c.tc : Thread Cert.DenseUpReferenceIdeal.nD Cert.DenseUpReferenceIdeal.τ).loc Cert.DenseUpReferenceIdeal.main_arg0)) (m ((c.tc : Thread Cert.DenseUpReferenceIdeal.nD Cert.DenseUpReferenceIdeal.τ).loc Cert.DenseUpReferenceIdeal.main_arg1)) (m ((c.tc : Thread Cert.DenseUpReferenceIdeal.nD Cert.DenseUpReferenceIdeal.τ).loc Cert.DenseUpReferenceIdeal.main_arg2))) = (fun _ => 1#1)

def Pre_DenseDown [hPre_dense_down_layer : Cert.Pre_dense_down_layer.Facts] (m : (ℓ : Loc Cert.DenseDown.nD Cert.DenseDown.τ Cert.DenseDown.sig) → Buf (Elt Bits) ℓ) : Prop :=
  ∀ c : Dev Cert.DenseDown.nD,
    (Cert.Pre_dense_down_layer.fn (F := Bits) (m ((c.tc : Thread Cert.DenseDown.nD Cert.DenseDown.τ).loc Cert.DenseDown.main_arg0)) (m ((c.tc : Thread Cert.DenseDown.nD Cert.DenseDown.τ).loc Cert.DenseDown.main_arg1)) (m ((c.tc : Thread Cert.DenseDown.nD Cert.DenseDown.τ).loc Cert.DenseDown.main_arg2)) (m ((c.tc : Thread Cert.DenseDown.nD Cert.DenseDown.τ).loc Cert.DenseDown.main_arg3))) = (fun _ => 1#1)

def Pre_DenseDownIdeal [hPre_dense_down_layer : Cert.Pre_dense_down_layer.Facts] (m : (ℓ : Loc Cert.DenseDownIdeal.nD Cert.DenseDownIdeal.τ Cert.DenseDownIdeal.sig) → Buf (Elt Ideal) ℓ) : Prop :=
  ∀ c : Dev Cert.DenseDownIdeal.nD,
    (Cert.Pre_dense_down_layer.fn (F := Ideal) (m ((c.tc : Thread Cert.DenseDownIdeal.nD Cert.DenseDownIdeal.τ).loc Cert.DenseDownIdeal.main_arg0)) (m ((c.tc : Thread Cert.DenseDownIdeal.nD Cert.DenseDownIdeal.τ).loc Cert.DenseDownIdeal.main_arg1)) (m ((c.tc : Thread Cert.DenseDownIdeal.nD Cert.DenseDownIdeal.τ).loc Cert.DenseDownIdeal.main_arg2)) (m ((c.tc : Thread Cert.DenseDownIdeal.nD Cert.DenseDownIdeal.τ).loc Cert.DenseDownIdeal.main_arg3))) = (fun _ => 1#1)

def Pre_DenseDownReferenceIdeal (m : (ℓ : Loc Cert.DenseDownReferenceIdeal.nD Cert.DenseDownReferenceIdeal.τ Cert.DenseDownReferenceIdeal.sig) → Buf (Elt Ideal) ℓ) : Prop :=
  True

def Pre_DenseDownReferenceIdeal_dense_down_layer [hPre_dense_down_layer : Cert.Pre_dense_down_layer.Facts] (m : (ℓ : Loc Cert.DenseDownReferenceIdeal.nD Cert.DenseDownReferenceIdeal.τ Cert.DenseDownReferenceIdeal.sig) → Buf (Elt Ideal) ℓ) : Prop :=
  ∀ c : Dev Cert.DenseDownReferenceIdeal.nD,
    (Cert.Pre_dense_down_layer.fn (F := Ideal) (m ((c.tc : Thread Cert.DenseDownReferenceIdeal.nD Cert.DenseDownReferenceIdeal.τ).loc Cert.DenseDownReferenceIdeal.main_arg0)) (m ((c.tc : Thread Cert.DenseDownReferenceIdeal.nD Cert.DenseDownReferenceIdeal.τ).loc Cert.DenseDownReferenceIdeal.main_arg1)) (m ((c.tc : Thread Cert.DenseDownReferenceIdeal.nD Cert.DenseDownReferenceIdeal.τ).loc Cert.DenseDownReferenceIdeal.main_arg2)) (m ((c.tc : Thread Cert.DenseDownReferenceIdeal.nD Cert.DenseDownReferenceIdeal.τ).loc Cert.DenseDownReferenceIdeal.main_arg3))) = (fun _ => 1#1)

def Pre_OddOutFirst (m : (ℓ : Loc Cert.OddOutFirst.nD Cert.OddOutFirst.τ Cert.OddOutFirst.sig) → Buf (Elt Bits) ℓ) : Prop :=
  True

def Pre_OddOutFirstIdeal (m : (ℓ : Loc Cert.OddOutFirstIdeal.nD Cert.OddOutFirstIdeal.τ Cert.OddOutFirstIdeal.sig) → Buf (Elt Ideal) ℓ) : Prop :=
  True

def Pre_OddOutFirstReferenceIdeal (m : (ℓ : Loc Cert.OddOutFirstReferenceIdeal.nD Cert.OddOutFirstReferenceIdeal.τ Cert.OddOutFirstReferenceIdeal.sig) → Buf (Elt Ideal) ℓ) : Prop :=
  True

def Pre_OddOutSecond (m : (ℓ : Loc Cert.OddOutSecond.nD Cert.OddOutSecond.τ Cert.OddOutSecond.sig) → Buf (Elt Bits) ℓ) : Prop :=
  True

def Pre_OddOutSecondIdeal (m : (ℓ : Loc Cert.OddOutSecondIdeal.nD Cert.OddOutSecondIdeal.τ Cert.OddOutSecondIdeal.sig) → Buf (Elt Ideal) ℓ) : Prop :=
  True

def Pre_OddOutSecondReferenceIdeal (m : (ℓ : Loc Cert.OddOutSecondReferenceIdeal.nD Cert.OddOutSecondReferenceIdeal.τ Cert.OddOutSecondReferenceIdeal.sig) → Buf (Elt Ideal) ℓ) : Prop :=
  True

def Pre_EvenOutFirst (m : (ℓ : Loc Cert.EvenOutFirst.nD Cert.EvenOutFirst.τ Cert.EvenOutFirst.sig) → Buf (Elt Bits) ℓ) : Prop :=
  True

def Pre_EvenOutFirstIdeal (m : (ℓ : Loc Cert.EvenOutFirstIdeal.nD Cert.EvenOutFirstIdeal.τ Cert.EvenOutFirstIdeal.sig) → Buf (Elt Ideal) ℓ) : Prop :=
  True

def Pre_EvenOutFirstReferenceIdeal (m : (ℓ : Loc Cert.EvenOutFirstReferenceIdeal.nD Cert.EvenOutFirstReferenceIdeal.τ Cert.EvenOutFirstReferenceIdeal.sig) → Buf (Elt Ideal) ℓ) : Prop :=
  True

def Pre_EvenOutSecond (m : (ℓ : Loc Cert.EvenOutSecond.nD Cert.EvenOutSecond.τ Cert.EvenOutSecond.sig) → Buf (Elt Bits) ℓ) : Prop :=
  True

def Pre_EvenOutSecondIdeal (m : (ℓ : Loc Cert.EvenOutSecondIdeal.nD Cert.EvenOutSecondIdeal.τ Cert.EvenOutSecondIdeal.sig) → Buf (Elt Ideal) ℓ) : Prop :=
  True

def Pre_EvenOutSecondReferenceIdeal (m : (ℓ : Loc Cert.EvenOutSecondReferenceIdeal.nD Cert.EvenOutSecondReferenceIdeal.τ Cert.EvenOutSecondReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] [hPre_up_tables_ok : Cert.Pre_up_tables_ok.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_tables_ok : Cert.Pre_up_tables_ok.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_up_tables_ok [hUpReferenceIdeal : Cert.UpReferenceIdeal.Facts] [hPre_up_tables_ok : Cert.Pre_up_tables_ok.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_tables_ok m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_down_tables_ok : Cert.Pre_down_tables_ok.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_tables_ok : Cert.Pre_down_tables_ok.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_down_tables_ok [hDownReferenceIdeal : Cert.DownReferenceIdeal.Facts] [hPre_down_tables_ok : Cert.Pre_down_tables_ok.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_tables_ok m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DenseUp [hDenseUp : Cert.DenseUp.Facts] [hPre_dense_up_layer : Cert.Pre_dense_up_layer.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2))
      ∧ r.2.sem = fun _ => 0)

def quiescent_DenseUpIdeal [hDenseUpIdeal : Cert.DenseUpIdeal.Facts] [hPre_dense_up_layer : Cert.Pre_dense_up_layer.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ r.2.sem = fun _ => 0)

def quiescent_DenseUpReferenceIdeal [hDenseUpReferenceIdeal : Cert.DenseUpReferenceIdeal.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2))
      ∧ r.2.sem = fun _ => 0)

def quiescent_DenseUpReferenceIdeal_pre_dense_up_layer [hDenseUpReferenceIdeal : Cert.DenseUpReferenceIdeal.Facts] [hPre_dense_up_layer : Cert.Pre_dense_up_layer.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal_dense_up_layer m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2))
      ∧ r.2.sem = fun _ => 0)

def quiescent_DenseDown [hDenseDown : Cert.DenseDown.Facts] [hPre_dense_down_layer : Cert.Pre_dense_down_layer.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3))
      ∧ r.2.sem = fun _ => 0)

def quiescent_DenseDownIdeal [hDenseDownIdeal : Cert.DenseDownIdeal.Facts] [hPre_dense_down_layer : Cert.Pre_dense_down_layer.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ r.2.sem = fun _ => 0)

def quiescent_DenseDownReferenceIdeal [hDenseDownReferenceIdeal : Cert.DenseDownReferenceIdeal.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2)
      ∧ r.2.mem ((c.tc : Thread Cert.DenseDownReferenceIdeal.nD Cert.DenseDownReferenceIdeal.τ).loc Cert.DenseDownReferenceIdeal.main_arg3) = m ((c.tc : Thread Cert.DenseDownReferenceIdeal.nD Cert.DenseDownReferenceIdeal.τ).loc Cert.DenseDownReferenceIdeal.main_arg3))
      ∧ r.2.sem = fun _ => 0)

def quiescent_DenseDownReferenceIdeal_pre_dense_down_layer [hDenseDownReferenceIdeal : Cert.DenseDownReferenceIdeal.Facts] [hPre_dense_down_layer : Cert.Pre_dense_down_layer.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal_dense_down_layer m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2)
      ∧ r.2.mem ((c.tc : Thread Cert.DenseDownReferenceIdeal.nD Cert.DenseDownReferenceIdeal.τ).loc Cert.DenseDownReferenceIdeal.main_arg3) = m ((c.tc : Thread Cert.DenseDownReferenceIdeal.nD Cert.DenseDownReferenceIdeal.τ).loc Cert.DenseDownReferenceIdeal.main_arg3))
      ∧ r.2.sem = fun _ => 0)

def quiescent_OddOutFirst [hOddOutFirst : Cert.OddOutFirst.Facts] : Prop :=
  ∀ (m : (ℓ : Loc Cert.OddOutFirst.nD Cert.OddOutFirst.τ Cert.OddOutFirst.sig) → Buf (Elt Bits) ℓ) (g : Dev Cert.OddOutFirst.nD → PrngReg), Pre_OddOutFirst m →
    θ_run (Cert.OddOutFirst.defs (F := Bits)) (onTc (τ := Cert.OddOutFirst.τ) (Cert.OddOutFirst.main (F := Bits))) ⟨m, fun _ => 0, g⟩ (fun r => (∀ c : Dev Cert.OddOutFirst.nD,
      r.2.mem ((c.tc : Thread Cert.OddOutFirst.nD Cert.OddOutFirst.τ).loc Cert.OddOutFirst.main_arg0) = m ((c.tc : Thread Cert.OddOutFirst.nD Cert.OddOutFirst.τ).loc Cert.OddOutFirst.main_arg0)
      ∧ r.2.mem ((c.tc : Thread Cert.OddOutFirst.nD Cert.OddOutFirst.τ).loc Cert.OddOutFirst.main_arg1) = m ((c.tc : Thread Cert.OddOutFirst.nD Cert.OddOutFirst.τ).loc Cert.OddOutFirst.main_arg1)
      ∧ r.2.mem ((c.tc : Thread Cert.OddOutFirst.nD Cert.OddOutFirst.τ).loc Cert.OddOutFirst.main_arg2) = m ((c.tc : Thread Cert.OddOutFirst.nD Cert.OddOutFirst.τ).loc Cert.OddOutFirst.main_arg2))
      ∧ r.2.sem = fun _ => 0)

def quiescent_OddOutFirstIdeal [hOddOutFirstIdeal : Cert.OddOutFirstIdeal.Facts] : Prop :=
  ∀ (m : (ℓ : Loc Cert.OddOutFirstIdeal.nD Cert.OddOutFirstIdeal.τ Cert.OddOutFirstIdeal.sig) → Buf (Elt Ideal) ℓ) (g : Dev Cert.OddOutFirstIdeal.nD → PrngReg), Pre_OddOutFirstIdeal m →
    θ_run (Cert.OddOutFirstIdeal.defs (F := Ideal)) (onTc (τ := Cert.OddOutFirstIdeal.τ) (Cert.OddOutFirstIdeal.main (F := Ideal))) ⟨m, fun _ => 0, g⟩ (fun r => (∀ c : Dev Cert.OddOutFirstIdeal.nD,
      r.2.mem ((c.tc : Thread Cert.OddOutFirstIdeal.nD Cert.OddOutFirstIdeal.τ).loc Cert.OddOutFirstIdeal.main_arg0) = m ((c.tc : Thread Cert.OddOutFirstIdeal.nD Cert.OddOutFirstIdeal.τ).loc Cert.OddOutFirstIdeal.main_arg0)
      ∧ r.2.mem ((c.tc : Thread Cert.OddOutFirstIdeal.nD Cert.OddOutFirstIdeal.τ).loc Cert.OddOutFirstIdeal.main_arg1) = m ((c.tc : Thread Cert.OddOutFirstIdeal.nD Cert.OddOutFirstIdeal.τ).loc Cert.OddOutFirstIdeal.main_arg1)
      ∧ r.2.mem ((c.tc : Thread Cert.OddOutFirstIdeal.nD Cert.OddOutFirstIdeal.τ).loc Cert.OddOutFirstIdeal.main_arg2) = m ((c.tc : Thread Cert.OddOutFirstIdeal.nD Cert.OddOutFirstIdeal.τ).loc Cert.OddOutFirstIdeal.main_arg2))
      ∧ r.2.sem = fun _ => 0)

def quiescent_OddOutFirstReferenceIdeal [hOddOutFirstReferenceIdeal : Cert.OddOutFirstReferenceIdeal.Facts] : Prop :=
  ∀ (m : (ℓ : Loc Cert.OddOutFirstReferenceIdeal.nD Cert.OddOutFirstReferenceIdeal.τ Cert.OddOutFirstReferenceIdeal.sig) → Buf (Elt Ideal) ℓ) (g : Dev Cert.OddOutFirstReferenceIdeal.nD → PrngReg), Pre_OddOutFirstReferenceIdeal m →
    θ_run (Cert.OddOutFirstReferenceIdeal.defs (F := Ideal)) (onTc (τ := Cert.OddOutFirstReferenceIdeal.τ) (Cert.OddOutFirstReferenceIdeal.main (F := Ideal))) ⟨m, fun _ => 0, g⟩ (fun r => (∀ c : Dev Cert.OddOutFirstReferenceIdeal.nD,
      r.2.mem ((c.tc : Thread Cert.OddOutFirstReferenceIdeal.nD Cert.OddOutFirstReferenceIdeal.τ).loc Cert.OddOutFirstReferenceIdeal.main_arg0) = m ((c.tc : Thread Cert.OddOutFirstReferenceIdeal.nD Cert.OddOutFirstReferenceIdeal.τ).loc Cert.OddOutFirstReferenceIdeal.main_arg0)
      ∧ r.2.mem ((c.tc : Thread Cert.OddOutFirstReferenceIdeal.nD Cert.OddOutFirstReferenceIdeal.τ).loc Cert.OddOutFirstReferenceIdeal.main_arg1) = m ((c.tc : Thread Cert.OddOutFirstReferenceIdeal.nD Cert.OddOutFirstReferenceIdeal.τ).loc Cert.OddOutFirstReferenceIdeal.main_arg1)
      ∧ r.2.mem ((c.tc : Thread Cert.OddOutFirstReferenceIdeal.nD Cert.OddOutFirstReferenceIdeal.τ).loc Cert.OddOutFirstReferenceIdeal.main_arg2) = m ((c.tc : Thread Cert.OddOutFirstReferenceIdeal.nD Cert.OddOutFirstReferenceIdeal.τ).loc Cert.OddOutFirstReferenceIdeal.main_arg2))
      ∧ r.2.sem = fun _ => 0)

def quiescent_OddOutSecond [hOddOutSecond : Cert.OddOutSecond.Facts] : Prop :=
  ∀ (m : (ℓ : Loc Cert.OddOutSecond.nD Cert.OddOutSecond.τ Cert.OddOutSecond.sig) → Buf (Elt Bits) ℓ) (g : Dev Cert.OddOutSecond.nD → PrngReg), Pre_OddOutSecond m →
    θ_run (Cert.OddOutSecond.defs (F := Bits)) (onTc (τ := Cert.OddOutSecond.τ) (Cert.OddOutSecond.main (F := Bits))) ⟨m, fun _ => 0, g⟩ (fun r => (∀ c : Dev Cert.OddOutSecond.nD,
      r.2.mem ((c.tc : Thread Cert.OddOutSecond.nD Cert.OddOutSecond.τ).loc Cert.OddOutSecond.main_arg0) = m ((c.tc : Thread Cert.OddOutSecond.nD Cert.OddOutSecond.τ).loc Cert.OddOutSecond.main_arg0)
      ∧ r.2.mem ((c.tc : Thread Cert.OddOutSecond.nD Cert.OddOutSecond.τ).loc Cert.OddOutSecond.main_arg1) = m ((c.tc : Thread Cert.OddOutSecond.nD Cert.OddOutSecond.τ).loc Cert.OddOutSecond.main_arg1)
      ∧ r.2.mem ((c.tc : Thread Cert.OddOutSecond.nD Cert.OddOutSecond.τ).loc Cert.OddOutSecond.main_arg2) = m ((c.tc : Thread Cert.OddOutSecond.nD Cert.OddOutSecond.τ).loc Cert.OddOutSecond.main_arg2))
      ∧ r.2.sem = fun _ => 0)

def quiescent_OddOutSecondIdeal [hOddOutSecondIdeal : Cert.OddOutSecondIdeal.Facts] : Prop :=
  ∀ (m : (ℓ : Loc Cert.OddOutSecondIdeal.nD Cert.OddOutSecondIdeal.τ Cert.OddOutSecondIdeal.sig) → Buf (Elt Ideal) ℓ) (g : Dev Cert.OddOutSecondIdeal.nD → PrngReg), Pre_OddOutSecondIdeal m →
    θ_run (Cert.OddOutSecondIdeal.defs (F := Ideal)) (onTc (τ := Cert.OddOutSecondIdeal.τ) (Cert.OddOutSecondIdeal.main (F := Ideal))) ⟨m, fun _ => 0, g⟩ (fun r => (∀ c : Dev Cert.OddOutSecondIdeal.nD,
      r.2.mem ((c.tc : Thread Cert.OddOutSecondIdeal.nD Cert.OddOutSecondIdeal.τ).loc Cert.OddOutSecondIdeal.main_arg0) = m ((c.tc : Thread Cert.OddOutSecondIdeal.nD Cert.OddOutSecondIdeal.τ).loc Cert.OddOutSecondIdeal.main_arg0)
      ∧ r.2.mem ((c.tc : Thread Cert.OddOutSecondIdeal.nD Cert.OddOutSecondIdeal.τ).loc Cert.OddOutSecondIdeal.main_arg1) = m ((c.tc : Thread Cert.OddOutSecondIdeal.nD Cert.OddOutSecondIdeal.τ).loc Cert.OddOutSecondIdeal.main_arg1)
      ∧ r.2.mem ((c.tc : Thread Cert.OddOutSecondIdeal.nD Cert.OddOutSecondIdeal.τ).loc Cert.OddOutSecondIdeal.main_arg2) = m ((c.tc : Thread Cert.OddOutSecondIdeal.nD Cert.OddOutSecondIdeal.τ).loc Cert.OddOutSecondIdeal.main_arg2))
      ∧ r.2.sem = fun _ => 0)

def quiescent_OddOutSecondReferenceIdeal [hOddOutSecondReferenceIdeal : Cert.OddOutSecondReferenceIdeal.Facts] : Prop :=
  ∀ (m : (ℓ : Loc Cert.OddOutSecondReferenceIdeal.nD Cert.OddOutSecondReferenceIdeal.τ Cert.OddOutSecondReferenceIdeal.sig) → Buf (Elt Ideal) ℓ) (g : Dev Cert.OddOutSecondReferenceIdeal.nD → PrngReg), Pre_OddOutSecondReferenceIdeal m →
    θ_run (Cert.OddOutSecondReferenceIdeal.defs (F := Ideal)) (onTc (τ := Cert.OddOutSecondReferenceIdeal.τ) (Cert.OddOutSecondReferenceIdeal.main (F := Ideal))) ⟨m, fun _ => 0, g⟩ (fun r => (∀ c : Dev Cert.OddOutSecondReferenceIdeal.nD,
      r.2.mem ((c.tc : Thread Cert.OddOutSecondReferenceIdeal.nD Cert.OddOutSecondReferenceIdeal.τ).loc Cert.OddOutSecondReferenceIdeal.main_arg0) = m ((c.tc : Thread Cert.OddOutSecondReferenceIdeal.nD Cert.OddOutSecondReferenceIdeal.τ).loc Cert.OddOutSecondReferenceIdeal.main_arg0)
      ∧ r.2.mem ((c.tc : Thread Cert.OddOutSecondReferenceIdeal.nD Cert.OddOutSecondReferenceIdeal.τ).loc Cert.OddOutSecondReferenceIdeal.main_arg1) = m ((c.tc : Thread Cert.OddOutSecondReferenceIdeal.nD Cert.OddOutSecondReferenceIdeal.τ).loc Cert.OddOutSecondReferenceIdeal.main_arg1)
      ∧ r.2.mem ((c.tc : Thread Cert.OddOutSecondReferenceIdeal.nD Cert.OddOutSecondReferenceIdeal.τ).loc Cert.OddOutSecondReferenceIdeal.main_arg2) = m ((c.tc : Thread Cert.OddOutSecondReferenceIdeal.nD Cert.OddOutSecondReferenceIdeal.τ).loc Cert.OddOutSecondReferenceIdeal.main_arg2))
      ∧ r.2.sem = fun _ => 0)

def quiescent_EvenOutFirst [hEvenOutFirst : Cert.EvenOutFirst.Facts] : Prop :=
  ∀ (m : (ℓ : Loc Cert.EvenOutFirst.nD Cert.EvenOutFirst.τ Cert.EvenOutFirst.sig) → Buf (Elt Bits) ℓ) (g : Dev Cert.EvenOutFirst.nD → PrngReg), Pre_EvenOutFirst m →
    θ_run (Cert.EvenOutFirst.defs (F := Bits)) (onTc (τ := Cert.EvenOutFirst.τ) (Cert.EvenOutFirst.main (F := Bits))) ⟨m, fun _ => 0, g⟩ (fun r => (∀ c : Dev Cert.EvenOutFirst.nD,
      r.2.mem ((c.tc : Thread Cert.EvenOutFirst.nD Cert.EvenOutFirst.τ).loc Cert.EvenOutFirst.main_arg0) = m ((c.tc : Thread Cert.EvenOutFirst.nD Cert.EvenOutFirst.τ).loc Cert.EvenOutFirst.main_arg0)
      ∧ r.2.mem ((c.tc : Thread Cert.EvenOutFirst.nD Cert.EvenOutFirst.τ).loc Cert.EvenOutFirst.main_arg1) = m ((c.tc : Thread Cert.EvenOutFirst.nD Cert.EvenOutFirst.τ).loc Cert.EvenOutFirst.main_arg1)
      ∧ r.2.mem ((c.tc : Thread Cert.EvenOutFirst.nD Cert.EvenOutFirst.τ).loc Cert.EvenOutFirst.main_arg2) = m ((c.tc : Thread Cert.EvenOutFirst.nD Cert.EvenOutFirst.τ).loc Cert.EvenOutFirst.main_arg2)
      ∧ r.2.mem ((c.tc : Thread Cert.EvenOutFirst.nD Cert.EvenOutFirst.τ).loc Cert.EvenOutFirst.main_arg3) = m ((c.tc : Thread Cert.EvenOutFirst.nD Cert.EvenOutFirst.τ).loc Cert.EvenOutFirst.main_arg3))
      ∧ r.2.sem = fun _ => 0)

def quiescent_EvenOutFirstIdeal [hEvenOutFirstIdeal : Cert.EvenOutFirstIdeal.Facts] : Prop :=
  ∀ (m : (ℓ : Loc Cert.EvenOutFirstIdeal.nD Cert.EvenOutFirstIdeal.τ Cert.EvenOutFirstIdeal.sig) → Buf (Elt Ideal) ℓ) (g : Dev Cert.EvenOutFirstIdeal.nD → PrngReg), Pre_EvenOutFirstIdeal m →
    θ_run (Cert.EvenOutFirstIdeal.defs (F := Ideal)) (onTc (τ := Cert.EvenOutFirstIdeal.τ) (Cert.EvenOutFirstIdeal.main (F := Ideal))) ⟨m, fun _ => 0, g⟩ (fun r => (∀ c : Dev Cert.EvenOutFirstIdeal.nD,
      r.2.mem ((c.tc : Thread Cert.EvenOutFirstIdeal.nD Cert.EvenOutFirstIdeal.τ).loc Cert.EvenOutFirstIdeal.main_arg0) = m ((c.tc : Thread Cert.EvenOutFirstIdeal.nD Cert.EvenOutFirstIdeal.τ).loc Cert.EvenOutFirstIdeal.main_arg0)
      ∧ r.2.mem ((c.tc : Thread Cert.EvenOutFirstIdeal.nD Cert.EvenOutFirstIdeal.τ).loc Cert.EvenOutFirstIdeal.main_arg1) = m ((c.tc : Thread Cert.EvenOutFirstIdeal.nD Cert.EvenOutFirstIdeal.τ).loc Cert.EvenOutFirstIdeal.main_arg1)
      ∧ r.2.mem ((c.tc : Thread Cert.EvenOutFirstIdeal.nD Cert.EvenOutFirstIdeal.τ).loc Cert.EvenOutFirstIdeal.main_arg2) = m ((c.tc : Thread Cert.EvenOutFirstIdeal.nD Cert.EvenOutFirstIdeal.τ).loc Cert.EvenOutFirstIdeal.main_arg2)
      ∧ r.2.mem ((c.tc : Thread Cert.EvenOutFirstIdeal.nD Cert.EvenOutFirstIdeal.τ).loc Cert.EvenOutFirstIdeal.main_arg3) = m ((c.tc : Thread Cert.EvenOutFirstIdeal.nD Cert.EvenOutFirstIdeal.τ).loc Cert.EvenOutFirstIdeal.main_arg3))
      ∧ r.2.sem = fun _ => 0)

def quiescent_EvenOutFirstReferenceIdeal [hEvenOutFirstReferenceIdeal : Cert.EvenOutFirstReferenceIdeal.Facts] : Prop :=
  ∀ (m : (ℓ : Loc Cert.EvenOutFirstReferenceIdeal.nD Cert.EvenOutFirstReferenceIdeal.τ Cert.EvenOutFirstReferenceIdeal.sig) → Buf (Elt Ideal) ℓ) (g : Dev Cert.EvenOutFirstReferenceIdeal.nD → PrngReg), Pre_EvenOutFirstReferenceIdeal m →
    θ_run (Cert.EvenOutFirstReferenceIdeal.defs (F := Ideal)) (onTc (τ := Cert.EvenOutFirstReferenceIdeal.τ) (Cert.EvenOutFirstReferenceIdeal.main (F := Ideal))) ⟨m, fun _ => 0, g⟩ (fun r => (∀ c : Dev Cert.EvenOutFirstReferenceIdeal.nD,
      r.2.mem ((c.tc : Thread Cert.EvenOutFirstReferenceIdeal.nD Cert.EvenOutFirstReferenceIdeal.τ).loc Cert.EvenOutFirstReferenceIdeal.main_arg0) = m ((c.tc : Thread Cert.EvenOutFirstReferenceIdeal.nD Cert.EvenOutFirstReferenceIdeal.τ).loc Cert.EvenOutFirstReferenceIdeal.main_arg0)
      ∧ r.2.mem ((c.tc : Thread Cert.EvenOutFirstReferenceIdeal.nD Cert.EvenOutFirstReferenceIdeal.τ).loc Cert.EvenOutFirstReferenceIdeal.main_arg1) = m ((c.tc : Thread Cert.EvenOutFirstReferenceIdeal.nD Cert.EvenOutFirstReferenceIdeal.τ).loc Cert.EvenOutFirstReferenceIdeal.main_arg1)
      ∧ r.2.mem ((c.tc : Thread Cert.EvenOutFirstReferenceIdeal.nD Cert.EvenOutFirstReferenceIdeal.τ).loc Cert.EvenOutFirstReferenceIdeal.main_arg2) = m ((c.tc : Thread Cert.EvenOutFirstReferenceIdeal.nD Cert.EvenOutFirstReferenceIdeal.τ).loc Cert.EvenOutFirstReferenceIdeal.main_arg2)
      ∧ r.2.mem ((c.tc : Thread Cert.EvenOutFirstReferenceIdeal.nD Cert.EvenOutFirstReferenceIdeal.τ).loc Cert.EvenOutFirstReferenceIdeal.main_arg3) = m ((c.tc : Thread Cert.EvenOutFirstReferenceIdeal.nD Cert.EvenOutFirstReferenceIdeal.τ).loc Cert.EvenOutFirstReferenceIdeal.main_arg3))
      ∧ r.2.sem = fun _ => 0)

def quiescent_EvenOutSecond [hEvenOutSecond : Cert.EvenOutSecond.Facts] : Prop :=
  ∀ (m : (ℓ : Loc Cert.EvenOutSecond.nD Cert.EvenOutSecond.τ Cert.EvenOutSecond.sig) → Buf (Elt Bits) ℓ) (g : Dev Cert.EvenOutSecond.nD → PrngReg), Pre_EvenOutSecond m →
    θ_run (Cert.EvenOutSecond.defs (F := Bits)) (onTc (τ := Cert.EvenOutSecond.τ) (Cert.EvenOutSecond.main (F := Bits))) ⟨m, fun _ => 0, g⟩ (fun r => (∀ c : Dev Cert.EvenOutSecond.nD,
      r.2.mem ((c.tc : Thread Cert.EvenOutSecond.nD Cert.EvenOutSecond.τ).loc Cert.EvenOutSecond.main_arg0) = m ((c.tc : Thread Cert.EvenOutSecond.nD Cert.EvenOutSecond.τ).loc Cert.EvenOutSecond.main_arg0)
      ∧ r.2.mem ((c.tc : Thread Cert.EvenOutSecond.nD Cert.EvenOutSecond.τ).loc Cert.EvenOutSecond.main_arg1) = m ((c.tc : Thread Cert.EvenOutSecond.nD Cert.EvenOutSecond.τ).loc Cert.EvenOutSecond.main_arg1)
      ∧ r.2.mem ((c.tc : Thread Cert.EvenOutSecond.nD Cert.EvenOutSecond.τ).loc Cert.EvenOutSecond.main_arg2) = m ((c.tc : Thread Cert.EvenOutSecond.nD Cert.EvenOutSecond.τ).loc Cert.EvenOutSecond.main_arg2)
      ∧ r.2.mem ((c.tc : Thread Cert.EvenOutSecond.nD Cert.EvenOutSecond.τ).loc Cert.EvenOutSecond.main_arg3) = m ((c.tc : Thread Cert.EvenOutSecond.nD Cert.EvenOutSecond.τ).loc Cert.EvenOutSecond.main_arg3))
      ∧ r.2.sem = fun _ => 0)

def quiescent_EvenOutSecondIdeal [hEvenOutSecondIdeal : Cert.EvenOutSecondIdeal.Facts] : Prop :=
  ∀ (m : (ℓ : Loc Cert.EvenOutSecondIdeal.nD Cert.EvenOutSecondIdeal.τ Cert.EvenOutSecondIdeal.sig) → Buf (Elt Ideal) ℓ) (g : Dev Cert.EvenOutSecondIdeal.nD → PrngReg), Pre_EvenOutSecondIdeal m →
    θ_run (Cert.EvenOutSecondIdeal.defs (F := Ideal)) (onTc (τ := Cert.EvenOutSecondIdeal.τ) (Cert.EvenOutSecondIdeal.main (F := Ideal))) ⟨m, fun _ => 0, g⟩ (fun r => (∀ c : Dev Cert.EvenOutSecondIdeal.nD,
      r.2.mem ((c.tc : Thread Cert.EvenOutSecondIdeal.nD Cert.EvenOutSecondIdeal.τ).loc Cert.EvenOutSecondIdeal.main_arg0) = m ((c.tc : Thread Cert.EvenOutSecondIdeal.nD Cert.EvenOutSecondIdeal.τ).loc Cert.EvenOutSecondIdeal.main_arg0)
      ∧ r.2.mem ((c.tc : Thread Cert.EvenOutSecondIdeal.nD Cert.EvenOutSecondIdeal.τ).loc Cert.EvenOutSecondIdeal.main_arg1) = m ((c.tc : Thread Cert.EvenOutSecondIdeal.nD Cert.EvenOutSecondIdeal.τ).loc Cert.EvenOutSecondIdeal.main_arg1)
      ∧ r.2.mem ((c.tc : Thread Cert.EvenOutSecondIdeal.nD Cert.EvenOutSecondIdeal.τ).loc Cert.EvenOutSecondIdeal.main_arg2) = m ((c.tc : Thread Cert.EvenOutSecondIdeal.nD Cert.EvenOutSecondIdeal.τ).loc Cert.EvenOutSecondIdeal.main_arg2)
      ∧ r.2.mem ((c.tc : Thread Cert.EvenOutSecondIdeal.nD Cert.EvenOutSecondIdeal.τ).loc Cert.EvenOutSecondIdeal.main_arg3) = m ((c.tc : Thread Cert.EvenOutSecondIdeal.nD Cert.EvenOutSecondIdeal.τ).loc Cert.EvenOutSecondIdeal.main_arg3))
      ∧ r.2.sem = fun _ => 0)

def quiescent_EvenOutSecondReferenceIdeal [hEvenOutSecondReferenceIdeal : Cert.EvenOutSecondReferenceIdeal.Facts] : Prop :=
  ∀ (m : (ℓ : Loc Cert.EvenOutSecondReferenceIdeal.nD Cert.EvenOutSecondReferenceIdeal.τ Cert.EvenOutSecondReferenceIdeal.sig) → Buf (Elt Ideal) ℓ) (g : Dev Cert.EvenOutSecondReferenceIdeal.nD → PrngReg), Pre_EvenOutSecondReferenceIdeal m →
    θ_run (Cert.EvenOutSecondReferenceIdeal.defs (F := Ideal)) (onTc (τ := Cert.EvenOutSecondReferenceIdeal.τ) (Cert.EvenOutSecondReferenceIdeal.main (F := Ideal))) ⟨m, fun _ => 0, g⟩ (fun r => (∀ c : Dev Cert.EvenOutSecondReferenceIdeal.nD,
      r.2.mem ((c.tc : Thread Cert.EvenOutSecondReferenceIdeal.nD Cert.EvenOutSecondReferenceIdeal.τ).loc Cert.EvenOutSecondReferenceIdeal.main_arg0) = m ((c.tc : Thread Cert.EvenOutSecondReferenceIdeal.nD Cert.EvenOutSecondReferenceIdeal.τ).loc Cert.EvenOutSecondReferenceIdeal.main_arg0)
      ∧ r.2.mem ((c.tc : Thread Cert.EvenOutSecondReferenceIdeal.nD Cert.EvenOutSecondReferenceIdeal.τ).loc Cert.EvenOutSecondReferenceIdeal.main_arg1) = m ((c.tc : Thread Cert.EvenOutSecondReferenceIdeal.nD Cert.EvenOutSecondReferenceIdeal.τ).loc Cert.EvenOutSecondReferenceIdeal.main_arg1)
      ∧ r.2.mem ((c.tc : Thread Cert.EvenOutSecondReferenceIdeal.nD Cert.EvenOutSecondReferenceIdeal.τ).loc Cert.EvenOutSecondReferenceIdeal.main_arg2) = m ((c.tc : Thread Cert.EvenOutSecondReferenceIdeal.nD Cert.EvenOutSecondReferenceIdeal.τ).loc Cert.EvenOutSecondReferenceIdeal.main_arg2)
      ∧ r.2.mem ((c.tc : Thread Cert.EvenOutSecondReferenceIdeal.nD Cert.EvenOutSecondReferenceIdeal.τ).loc Cert.EvenOutSecondReferenceIdeal.main_arg3) = m ((c.tc : Thread Cert.EvenOutSecondReferenceIdeal.nD Cert.EvenOutSecondReferenceIdeal.τ).loc Cert.EvenOutSecondReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] [hPre_up_tables_ok : Cert.Pre_up_tables_ok.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v205) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal [hDownIdeal : Cert.DownIdeal.Facts] [hDownReferenceIdeal : Cert.DownReferenceIdeal.Facts] [hPre_down_tables_ok : Cert.Pre_down_tables_ok.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v140) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_DenseUp_DenseUpIdeal : Prop :=
  True

def algebraic_DenseUpIdeal_DenseUpReferenceIdeal [hDenseUpIdeal : Cert.DenseUpIdeal.Facts] [hDenseUpReferenceIdeal : Cert.DenseUpReferenceIdeal.Facts] [hPre_dense_up_layer : Cert.Pre_dense_up_layer.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpReferenceIdeal.nD Cert.DenseUpReferenceIdeal.τ Cert.DenseUpReferenceIdeal.sig) → Buf (Elt Ideal) ℓ) (g' : Dev Cert.DenseUpReferenceIdeal.nD → PrngReg), Pre_DenseUpIdeal m →
    (∀ c : Dev Cert.DenseUpIdeal.nD,
      m' ((c.tc : Thread Cert.DenseUpReferenceIdeal.nD Cert.DenseUpReferenceIdeal.τ).loc Cert.DenseUpReferenceIdeal.main_arg0) = m ((c.tc : Thread Cert.DenseUpIdeal.nD Cert.DenseUpIdeal.τ).loc Cert.DenseUpIdeal.main_arg0)
      ∧ m' ((c.tc : Thread Cert.DenseUpReferenceIdeal.nD Cert.DenseUpReferenceIdeal.τ).loc Cert.DenseUpReferenceIdeal.main_arg1) = m ((c.tc : Thread Cert.DenseUpIdeal.nD Cert.DenseUpIdeal.τ).loc Cert.DenseUpIdeal.main_arg1)
      ∧ m' ((c.tc : Thread Cert.DenseUpReferenceIdeal.nD Cert.DenseUpReferenceIdeal.τ).loc Cert.DenseUpReferenceIdeal.main_arg2) = m ((c.tc : Thread Cert.DenseUpIdeal.nD Cert.DenseUpIdeal.τ).loc Cert.DenseUpIdeal.main_arg2)) →
    ∃ (v0 : (c : Dev Cert.DenseUpIdeal.nD) → Buf (Elt Ideal) ((c.tc : Thread Cert.DenseUpIdeal.nD Cert.DenseUpIdeal.τ).loc Cert.DenseUpIdeal.main_v3)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v3) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ θ_run (Cert.DenseUpReferenceIdeal.defs (F := Ideal)) (onTc (τ := Cert.DenseUpReferenceIdeal.τ) (Cert.DenseUpReferenceIdeal.main (F := Ideal))) ⟨m', fun _ => 0, g'⟩ (fun r => ∀ c : Dev Cert.DenseUpReferenceIdeal.nD,
          r.2.mem ((c.tc : Thread Cert.DenseUpReferenceIdeal.nD Cert.DenseUpReferenceIdeal.τ).loc Cert.DenseUpReferenceIdeal.main_v12) = v0 c
          ∧ r.2.mem ((c.tc : Thread Cert.DenseUpReferenceIdeal.nD Cert.DenseUpReferenceIdeal.τ).loc Cert.DenseUpReferenceIdeal.main_arg0) = m' ((c.tc : Thread Cert.DenseUpReferenceIdeal.nD Cert.DenseUpReferenceIdeal.τ).loc Cert.DenseUpReferenceIdeal.main_arg0)
          ∧ r.2.mem ((c.tc : Thread Cert.DenseUpReferenceIdeal.nD Cert.DenseUpReferenceIdeal.τ).loc Cert.DenseUpReferenceIdeal.main_arg1) = m' ((c.tc : Thread Cert.DenseUpReferenceIdeal.nD Cert.DenseUpReferenceIdeal.τ).loc Cert.DenseUpReferenceIdeal.main_arg1)
          ∧ r.2.mem ((c.tc : Thread Cert.DenseUpReferenceIdeal.nD Cert.DenseUpReferenceIdeal.τ).loc Cert.DenseUpReferenceIdeal.main_arg2) = m' ((c.tc : Thread Cert.DenseUpReferenceIdeal.nD Cert.DenseUpReferenceIdeal.τ).loc Cert.DenseUpReferenceIdeal.main_arg2))

def preserves_DenseDown_DenseDownIdeal : Prop :=
  True

def algebraic_DenseDownIdeal_DenseDownReferenceIdeal [hDenseDownIdeal : Cert.DenseDownIdeal.Facts] [hDenseDownReferenceIdeal : Cert.DenseDownReferenceIdeal.Facts] [hPre_dense_down_layer : Cert.Pre_dense_down_layer.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownReferenceIdeal.nD Cert.DenseDownReferenceIdeal.τ Cert.DenseDownReferenceIdeal.sig) → Buf (Elt Ideal) ℓ) (g' : Dev Cert.DenseDownReferenceIdeal.nD → PrngReg), Pre_DenseDownIdeal m →
    (∀ c : Dev Cert.DenseDownIdeal.nD,
      m' ((c.tc : Thread Cert.DenseDownReferenceIdeal.nD Cert.DenseDownReferenceIdeal.τ).loc Cert.DenseDownReferenceIdeal.main_arg0) = m ((c.tc : Thread Cert.DenseDownIdeal.nD Cert.DenseDownIdeal.τ).loc Cert.DenseDownIdeal.main_arg0)
      ∧ m' ((c.tc : Thread Cert.DenseDownReferenceIdeal.nD Cert.DenseDownReferenceIdeal.τ).loc Cert.DenseDownReferenceIdeal.main_arg1) = m ((c.tc : Thread Cert.DenseDownIdeal.nD Cert.DenseDownIdeal.τ).loc Cert.DenseDownIdeal.main_arg1)
      ∧ m' ((c.tc : Thread Cert.DenseDownReferenceIdeal.nD Cert.DenseDownReferenceIdeal.τ).loc Cert.DenseDownReferenceIdeal.main_arg2) = m ((c.tc : Thread Cert.DenseDownIdeal.nD Cert.DenseDownIdeal.τ).loc Cert.DenseDownIdeal.main_arg2)
      ∧ m' ((c.tc : Thread Cert.DenseDownReferenceIdeal.nD Cert.DenseDownReferenceIdeal.τ).loc Cert.DenseDownReferenceIdeal.main_arg3) = m ((c.tc : Thread Cert.DenseDownIdeal.nD Cert.DenseDownIdeal.τ).loc Cert.DenseDownIdeal.main_arg3)) →
    ∃ (v0 : (c : Dev Cert.DenseDownIdeal.nD) → Buf (Elt Ideal) ((c.tc : Thread Cert.DenseDownIdeal.nD Cert.DenseDownIdeal.τ).loc Cert.DenseDownIdeal.main_v3)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v3) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ θ_run (Cert.DenseDownReferenceIdeal.defs (F := Ideal)) (onTc (τ := Cert.DenseDownReferenceIdeal.τ) (Cert.DenseDownReferenceIdeal.main (F := Ideal))) ⟨m', fun _ => 0, g'⟩ (fun r => ∀ c : Dev Cert.DenseDownReferenceIdeal.nD,
          r.2.mem ((c.tc : Thread Cert.DenseDownReferenceIdeal.nD Cert.DenseDownReferenceIdeal.τ).loc Cert.DenseDownReferenceIdeal.main_v8) = v0 c
          ∧ r.2.mem ((c.tc : Thread Cert.DenseDownReferenceIdeal.nD Cert.DenseDownReferenceIdeal.τ).loc Cert.DenseDownReferenceIdeal.main_arg0) = m' ((c.tc : Thread Cert.DenseDownReferenceIdeal.nD Cert.DenseDownReferenceIdeal.τ).loc Cert.DenseDownReferenceIdeal.main_arg0)
          ∧ r.2.mem ((c.tc : Thread Cert.DenseDownReferenceIdeal.nD Cert.DenseDownReferenceIdeal.τ).loc Cert.DenseDownReferenceIdeal.main_arg1) = m' ((c.tc : Thread Cert.DenseDownReferenceIdeal.nD Cert.DenseDownReferenceIdeal.τ).loc Cert.DenseDownReferenceIdeal.main_arg1)
          ∧ r.2.mem ((c.tc : Thread Cert.DenseDownReferenceIdeal.nD Cert.DenseDownReferenceIdeal.τ).loc Cert.DenseDownReferenceIdeal.main_arg2) = m' ((c.tc : Thread Cert.DenseDownReferenceIdeal.nD Cert.DenseDownReferenceIdeal.τ).loc Cert.DenseDownReferenceIdeal.main_arg2)
          ∧ r.2.mem ((c.tc : Thread Cert.DenseDownReferenceIdeal.nD Cert.DenseDownReferenceIdeal.τ).loc Cert.DenseDownReferenceIdeal.main_arg3) = m' ((c.tc : Thread Cert.DenseDownReferenceIdeal.nD Cert.DenseDownReferenceIdeal.τ).loc Cert.DenseDownReferenceIdeal.main_arg3))

def preserves_OddOutFirst_OddOutFirstIdeal : Prop :=
  True

def algebraic_OddOutFirstIdeal_OddOutFirstReferenceIdeal [hOddOutFirstIdeal : Cert.OddOutFirstIdeal.Facts] [hOddOutFirstReferenceIdeal : Cert.OddOutFirstReferenceIdeal.Facts] : Prop :=
  ∀ (m : (ℓ : Loc Cert.OddOutFirstIdeal.nD Cert.OddOutFirstIdeal.τ Cert.OddOutFirstIdeal.sig) → Buf (Elt Ideal) ℓ) (g : Dev Cert.OddOutFirstIdeal.nD → PrngReg)
    (m' : (ℓ : Loc Cert.OddOutFirstReferenceIdeal.nD Cert.OddOutFirstReferenceIdeal.τ Cert.OddOutFirstReferenceIdeal.sig) → Buf (Elt Ideal) ℓ) (g' : Dev Cert.OddOutFirstReferenceIdeal.nD → PrngReg), Pre_OddOutFirstIdeal m →
    (∀ c : Dev Cert.OddOutFirstIdeal.nD,
      m' ((c.tc : Thread Cert.OddOutFirstReferenceIdeal.nD Cert.OddOutFirstReferenceIdeal.τ).loc Cert.OddOutFirstReferenceIdeal.main_arg0) = m ((c.tc : Thread Cert.OddOutFirstIdeal.nD Cert.OddOutFirstIdeal.τ).loc Cert.OddOutFirstIdeal.main_arg0)
      ∧ m' ((c.tc : Thread Cert.OddOutFirstReferenceIdeal.nD Cert.OddOutFirstReferenceIdeal.τ).loc Cert.OddOutFirstReferenceIdeal.main_arg1) = m ((c.tc : Thread Cert.OddOutFirstIdeal.nD Cert.OddOutFirstIdeal.τ).loc Cert.OddOutFirstIdeal.main_arg1)
      ∧ m' ((c.tc : Thread Cert.OddOutFirstReferenceIdeal.nD Cert.OddOutFirstReferenceIdeal.τ).loc Cert.OddOutFirstReferenceIdeal.main_arg2) = m ((c.tc : Thread Cert.OddOutFirstIdeal.nD Cert.OddOutFirstIdeal.τ).loc Cert.OddOutFirstIdeal.main_arg2)) →
    ∃ (v0 : (c : Dev Cert.OddOutFirstIdeal.nD) → Buf (Elt Ideal) ((c.tc : Thread Cert.OddOutFirstIdeal.nD Cert.OddOutFirstIdeal.τ).loc Cert.OddOutFirstIdeal.main_v0)),
      θ_run (Cert.OddOutFirstIdeal.defs (F := Ideal)) (onTc (τ := Cert.OddOutFirstIdeal.τ) (Cert.OddOutFirstIdeal.main (F := Ideal))) ⟨m, fun _ => 0, g⟩ (fun r => ∀ c : Dev Cert.OddOutFirstIdeal.nD,
          r.2.mem ((c.tc : Thread Cert.OddOutFirstIdeal.nD Cert.OddOutFirstIdeal.τ).loc Cert.OddOutFirstIdeal.main_v0) = v0 c
          ∧ r.2.mem ((c.tc : Thread Cert.OddOutFirstIdeal.nD Cert.OddOutFirstIdeal.τ).loc Cert.OddOutFirstIdeal.main_arg0) = m ((c.tc : Thread Cert.OddOutFirstIdeal.nD Cert.OddOutFirstIdeal.τ).loc Cert.OddOutFirstIdeal.main_arg0)
          ∧ r.2.mem ((c.tc : Thread Cert.OddOutFirstIdeal.nD Cert.OddOutFirstIdeal.τ).loc Cert.OddOutFirstIdeal.main_arg1) = m ((c.tc : Thread Cert.OddOutFirstIdeal.nD Cert.OddOutFirstIdeal.τ).loc Cert.OddOutFirstIdeal.main_arg1)
          ∧ r.2.mem ((c.tc : Thread Cert.OddOutFirstIdeal.nD Cert.OddOutFirstIdeal.τ).loc Cert.OddOutFirstIdeal.main_arg2) = m ((c.tc : Thread Cert.OddOutFirstIdeal.nD Cert.OddOutFirstIdeal.τ).loc Cert.OddOutFirstIdeal.main_arg2))
      ∧ θ_run (Cert.OddOutFirstReferenceIdeal.defs (F := Ideal)) (onTc (τ := Cert.OddOutFirstReferenceIdeal.τ) (Cert.OddOutFirstReferenceIdeal.main (F := Ideal))) ⟨m', fun _ => 0, g'⟩ (fun r => ∀ c : Dev Cert.OddOutFirstReferenceIdeal.nD,
          r.2.mem ((c.tc : Thread Cert.OddOutFirstReferenceIdeal.nD Cert.OddOutFirstReferenceIdeal.τ).loc Cert.OddOutFirstReferenceIdeal.main_v4) = v0 c
          ∧ r.2.mem ((c.tc : Thread Cert.OddOutFirstReferenceIdeal.nD Cert.OddOutFirstReferenceIdeal.τ).loc Cert.OddOutFirstReferenceIdeal.main_arg0) = m' ((c.tc : Thread Cert.OddOutFirstReferenceIdeal.nD Cert.OddOutFirstReferenceIdeal.τ).loc Cert.OddOutFirstReferenceIdeal.main_arg0)
          ∧ r.2.mem ((c.tc : Thread Cert.OddOutFirstReferenceIdeal.nD Cert.OddOutFirstReferenceIdeal.τ).loc Cert.OddOutFirstReferenceIdeal.main_arg1) = m' ((c.tc : Thread Cert.OddOutFirstReferenceIdeal.nD Cert.OddOutFirstReferenceIdeal.τ).loc Cert.OddOutFirstReferenceIdeal.main_arg1)
          ∧ r.2.mem ((c.tc : Thread Cert.OddOutFirstReferenceIdeal.nD Cert.OddOutFirstReferenceIdeal.τ).loc Cert.OddOutFirstReferenceIdeal.main_arg2) = m' ((c.tc : Thread Cert.OddOutFirstReferenceIdeal.nD Cert.OddOutFirstReferenceIdeal.τ).loc Cert.OddOutFirstReferenceIdeal.main_arg2))

def preserves_OddOutSecond_OddOutSecondIdeal : Prop :=
  True

def algebraic_OddOutSecondIdeal_OddOutSecondReferenceIdeal [hOddOutSecondIdeal : Cert.OddOutSecondIdeal.Facts] [hOddOutSecondReferenceIdeal : Cert.OddOutSecondReferenceIdeal.Facts] : Prop :=
  ∀ (m : (ℓ : Loc Cert.OddOutSecondIdeal.nD Cert.OddOutSecondIdeal.τ Cert.OddOutSecondIdeal.sig) → Buf (Elt Ideal) ℓ) (g : Dev Cert.OddOutSecondIdeal.nD → PrngReg)
    (m' : (ℓ : Loc Cert.OddOutSecondReferenceIdeal.nD Cert.OddOutSecondReferenceIdeal.τ Cert.OddOutSecondReferenceIdeal.sig) → Buf (Elt Ideal) ℓ) (g' : Dev Cert.OddOutSecondReferenceIdeal.nD → PrngReg), Pre_OddOutSecondIdeal m →
    (∀ c : Dev Cert.OddOutSecondIdeal.nD,
      m' ((c.tc : Thread Cert.OddOutSecondReferenceIdeal.nD Cert.OddOutSecondReferenceIdeal.τ).loc Cert.OddOutSecondReferenceIdeal.main_arg0) = m ((c.tc : Thread Cert.OddOutSecondIdeal.nD Cert.OddOutSecondIdeal.τ).loc Cert.OddOutSecondIdeal.main_arg0)
      ∧ m' ((c.tc : Thread Cert.OddOutSecondReferenceIdeal.nD Cert.OddOutSecondReferenceIdeal.τ).loc Cert.OddOutSecondReferenceIdeal.main_arg1) = m ((c.tc : Thread Cert.OddOutSecondIdeal.nD Cert.OddOutSecondIdeal.τ).loc Cert.OddOutSecondIdeal.main_arg1)
      ∧ m' ((c.tc : Thread Cert.OddOutSecondReferenceIdeal.nD Cert.OddOutSecondReferenceIdeal.τ).loc Cert.OddOutSecondReferenceIdeal.main_arg2) = m ((c.tc : Thread Cert.OddOutSecondIdeal.nD Cert.OddOutSecondIdeal.τ).loc Cert.OddOutSecondIdeal.main_arg2)) →
    ∃ (v0 : (c : Dev Cert.OddOutSecondIdeal.nD) → Buf (Elt Ideal) ((c.tc : Thread Cert.OddOutSecondIdeal.nD Cert.OddOutSecondIdeal.τ).loc Cert.OddOutSecondIdeal.main_v0)),
      θ_run (Cert.OddOutSecondIdeal.defs (F := Ideal)) (onTc (τ := Cert.OddOutSecondIdeal.τ) (Cert.OddOutSecondIdeal.main (F := Ideal))) ⟨m, fun _ => 0, g⟩ (fun r => ∀ c : Dev Cert.OddOutSecondIdeal.nD,
          r.2.mem ((c.tc : Thread Cert.OddOutSecondIdeal.nD Cert.OddOutSecondIdeal.τ).loc Cert.OddOutSecondIdeal.main_v0) = v0 c
          ∧ r.2.mem ((c.tc : Thread Cert.OddOutSecondIdeal.nD Cert.OddOutSecondIdeal.τ).loc Cert.OddOutSecondIdeal.main_arg0) = m ((c.tc : Thread Cert.OddOutSecondIdeal.nD Cert.OddOutSecondIdeal.τ).loc Cert.OddOutSecondIdeal.main_arg0)
          ∧ r.2.mem ((c.tc : Thread Cert.OddOutSecondIdeal.nD Cert.OddOutSecondIdeal.τ).loc Cert.OddOutSecondIdeal.main_arg1) = m ((c.tc : Thread Cert.OddOutSecondIdeal.nD Cert.OddOutSecondIdeal.τ).loc Cert.OddOutSecondIdeal.main_arg1)
          ∧ r.2.mem ((c.tc : Thread Cert.OddOutSecondIdeal.nD Cert.OddOutSecondIdeal.τ).loc Cert.OddOutSecondIdeal.main_arg2) = m ((c.tc : Thread Cert.OddOutSecondIdeal.nD Cert.OddOutSecondIdeal.τ).loc Cert.OddOutSecondIdeal.main_arg2))
      ∧ θ_run (Cert.OddOutSecondReferenceIdeal.defs (F := Ideal)) (onTc (τ := Cert.OddOutSecondReferenceIdeal.τ) (Cert.OddOutSecondReferenceIdeal.main (F := Ideal))) ⟨m', fun _ => 0, g'⟩ (fun r => ∀ c : Dev Cert.OddOutSecondReferenceIdeal.nD,
          r.2.mem ((c.tc : Thread Cert.OddOutSecondReferenceIdeal.nD Cert.OddOutSecondReferenceIdeal.τ).loc Cert.OddOutSecondReferenceIdeal.main_v4) = v0 c
          ∧ r.2.mem ((c.tc : Thread Cert.OddOutSecondReferenceIdeal.nD Cert.OddOutSecondReferenceIdeal.τ).loc Cert.OddOutSecondReferenceIdeal.main_arg0) = m' ((c.tc : Thread Cert.OddOutSecondReferenceIdeal.nD Cert.OddOutSecondReferenceIdeal.τ).loc Cert.OddOutSecondReferenceIdeal.main_arg0)
          ∧ r.2.mem ((c.tc : Thread Cert.OddOutSecondReferenceIdeal.nD Cert.OddOutSecondReferenceIdeal.τ).loc Cert.OddOutSecondReferenceIdeal.main_arg1) = m' ((c.tc : Thread Cert.OddOutSecondReferenceIdeal.nD Cert.OddOutSecondReferenceIdeal.τ).loc Cert.OddOutSecondReferenceIdeal.main_arg1)
          ∧ r.2.mem ((c.tc : Thread Cert.OddOutSecondReferenceIdeal.nD Cert.OddOutSecondReferenceIdeal.τ).loc Cert.OddOutSecondReferenceIdeal.main_arg2) = m' ((c.tc : Thread Cert.OddOutSecondReferenceIdeal.nD Cert.OddOutSecondReferenceIdeal.τ).loc Cert.OddOutSecondReferenceIdeal.main_arg2))

def preserves_EvenOutFirst_EvenOutFirstIdeal : Prop :=
  True

def algebraic_EvenOutFirstIdeal_EvenOutFirstReferenceIdeal [hEvenOutFirstIdeal : Cert.EvenOutFirstIdeal.Facts] [hEvenOutFirstReferenceIdeal : Cert.EvenOutFirstReferenceIdeal.Facts] : Prop :=
  ∀ (m : (ℓ : Loc Cert.EvenOutFirstIdeal.nD Cert.EvenOutFirstIdeal.τ Cert.EvenOutFirstIdeal.sig) → Buf (Elt Ideal) ℓ) (g : Dev Cert.EvenOutFirstIdeal.nD → PrngReg)
    (m' : (ℓ : Loc Cert.EvenOutFirstReferenceIdeal.nD Cert.EvenOutFirstReferenceIdeal.τ Cert.EvenOutFirstReferenceIdeal.sig) → Buf (Elt Ideal) ℓ) (g' : Dev Cert.EvenOutFirstReferenceIdeal.nD → PrngReg), Pre_EvenOutFirstIdeal m →
    (∀ c : Dev Cert.EvenOutFirstIdeal.nD,
      m' ((c.tc : Thread Cert.EvenOutFirstReferenceIdeal.nD Cert.EvenOutFirstReferenceIdeal.τ).loc Cert.EvenOutFirstReferenceIdeal.main_arg0) = m ((c.tc : Thread Cert.EvenOutFirstIdeal.nD Cert.EvenOutFirstIdeal.τ).loc Cert.EvenOutFirstIdeal.main_arg0)
      ∧ m' ((c.tc : Thread Cert.EvenOutFirstReferenceIdeal.nD Cert.EvenOutFirstReferenceIdeal.τ).loc Cert.EvenOutFirstReferenceIdeal.main_arg1) = m ((c.tc : Thread Cert.EvenOutFirstIdeal.nD Cert.EvenOutFirstIdeal.τ).loc Cert.EvenOutFirstIdeal.main_arg1)
      ∧ m' ((c.tc : Thread Cert.EvenOutFirstReferenceIdeal.nD Cert.EvenOutFirstReferenceIdeal.τ).loc Cert.EvenOutFirstReferenceIdeal.main_arg2) = m ((c.tc : Thread Cert.EvenOutFirstIdeal.nD Cert.EvenOutFirstIdeal.τ).loc Cert.EvenOutFirstIdeal.main_arg2)
      ∧ m' ((c.tc : Thread Cert.EvenOutFirstReferenceIdeal.nD Cert.EvenOutFirstReferenceIdeal.τ).loc Cert.EvenOutFirstReferenceIdeal.main_arg3) = m ((c.tc : Thread Cert.EvenOutFirstIdeal.nD Cert.EvenOutFirstIdeal.τ).loc Cert.EvenOutFirstIdeal.main_arg3)) →
    ∃ (v0 : (c : Dev Cert.EvenOutFirstIdeal.nD) → Buf (Elt Ideal) ((c.tc : Thread Cert.EvenOutFirstIdeal.nD Cert.EvenOutFirstIdeal.τ).loc Cert.EvenOutFirstIdeal.main_v0)),
      θ_run (Cert.EvenOutFirstIdeal.defs (F := Ideal)) (onTc (τ := Cert.EvenOutFirstIdeal.τ) (Cert.EvenOutFirstIdeal.main (F := Ideal))) ⟨m, fun _ => 0, g⟩ (fun r => ∀ c : Dev Cert.EvenOutFirstIdeal.nD,
          r.2.mem ((c.tc : Thread Cert.EvenOutFirstIdeal.nD Cert.EvenOutFirstIdeal.τ).loc Cert.EvenOutFirstIdeal.main_v0) = v0 c
          ∧ r.2.mem ((c.tc : Thread Cert.EvenOutFirstIdeal.nD Cert.EvenOutFirstIdeal.τ).loc Cert.EvenOutFirstIdeal.main_arg0) = m ((c.tc : Thread Cert.EvenOutFirstIdeal.nD Cert.EvenOutFirstIdeal.τ).loc Cert.EvenOutFirstIdeal.main_arg0)
          ∧ r.2.mem ((c.tc : Thread Cert.EvenOutFirstIdeal.nD Cert.EvenOutFirstIdeal.τ).loc Cert.EvenOutFirstIdeal.main_arg1) = m ((c.tc : Thread Cert.EvenOutFirstIdeal.nD Cert.EvenOutFirstIdeal.τ).loc Cert.EvenOutFirstIdeal.main_arg1)
          ∧ r.2.mem ((c.tc : Thread Cert.EvenOutFirstIdeal.nD Cert.EvenOutFirstIdeal.τ).loc Cert.EvenOutFirstIdeal.main_arg2) = m ((c.tc : Thread Cert.EvenOutFirstIdeal.nD Cert.EvenOutFirstIdeal.τ).loc Cert.EvenOutFirstIdeal.main_arg2)
          ∧ r.2.mem ((c.tc : Thread Cert.EvenOutFirstIdeal.nD Cert.EvenOutFirstIdeal.τ).loc Cert.EvenOutFirstIdeal.main_arg3) = m ((c.tc : Thread Cert.EvenOutFirstIdeal.nD Cert.EvenOutFirstIdeal.τ).loc Cert.EvenOutFirstIdeal.main_arg3))
      ∧ θ_run (Cert.EvenOutFirstReferenceIdeal.defs (F := Ideal)) (onTc (τ := Cert.EvenOutFirstReferenceIdeal.τ) (Cert.EvenOutFirstReferenceIdeal.main (F := Ideal))) ⟨m', fun _ => 0, g'⟩ (fun r => ∀ c : Dev Cert.EvenOutFirstReferenceIdeal.nD,
          r.2.mem ((c.tc : Thread Cert.EvenOutFirstReferenceIdeal.nD Cert.EvenOutFirstReferenceIdeal.τ).loc Cert.EvenOutFirstReferenceIdeal.main_v6) = v0 c
          ∧ r.2.mem ((c.tc : Thread Cert.EvenOutFirstReferenceIdeal.nD Cert.EvenOutFirstReferenceIdeal.τ).loc Cert.EvenOutFirstReferenceIdeal.main_arg0) = m' ((c.tc : Thread Cert.EvenOutFirstReferenceIdeal.nD Cert.EvenOutFirstReferenceIdeal.τ).loc Cert.EvenOutFirstReferenceIdeal.main_arg0)
          ∧ r.2.mem ((c.tc : Thread Cert.EvenOutFirstReferenceIdeal.nD Cert.EvenOutFirstReferenceIdeal.τ).loc Cert.EvenOutFirstReferenceIdeal.main_arg1) = m' ((c.tc : Thread Cert.EvenOutFirstReferenceIdeal.nD Cert.EvenOutFirstReferenceIdeal.τ).loc Cert.EvenOutFirstReferenceIdeal.main_arg1)
          ∧ r.2.mem ((c.tc : Thread Cert.EvenOutFirstReferenceIdeal.nD Cert.EvenOutFirstReferenceIdeal.τ).loc Cert.EvenOutFirstReferenceIdeal.main_arg2) = m' ((c.tc : Thread Cert.EvenOutFirstReferenceIdeal.nD Cert.EvenOutFirstReferenceIdeal.τ).loc Cert.EvenOutFirstReferenceIdeal.main_arg2)
          ∧ r.2.mem ((c.tc : Thread Cert.EvenOutFirstReferenceIdeal.nD Cert.EvenOutFirstReferenceIdeal.τ).loc Cert.EvenOutFirstReferenceIdeal.main_arg3) = m' ((c.tc : Thread Cert.EvenOutFirstReferenceIdeal.nD Cert.EvenOutFirstReferenceIdeal.τ).loc Cert.EvenOutFirstReferenceIdeal.main_arg3))

def preserves_EvenOutSecond_EvenOutSecondIdeal : Prop :=
  True

def algebraic_EvenOutSecondIdeal_EvenOutSecondReferenceIdeal [hEvenOutSecondIdeal : Cert.EvenOutSecondIdeal.Facts] [hEvenOutSecondReferenceIdeal : Cert.EvenOutSecondReferenceIdeal.Facts] : Prop :=
  ∀ (m : (ℓ : Loc Cert.EvenOutSecondIdeal.nD Cert.EvenOutSecondIdeal.τ Cert.EvenOutSecondIdeal.sig) → Buf (Elt Ideal) ℓ) (g : Dev Cert.EvenOutSecondIdeal.nD → PrngReg)
    (m' : (ℓ : Loc Cert.EvenOutSecondReferenceIdeal.nD Cert.EvenOutSecondReferenceIdeal.τ Cert.EvenOutSecondReferenceIdeal.sig) → Buf (Elt Ideal) ℓ) (g' : Dev Cert.EvenOutSecondReferenceIdeal.nD → PrngReg), Pre_EvenOutSecondIdeal m →
    (∀ c : Dev Cert.EvenOutSecondIdeal.nD,
      m' ((c.tc : Thread Cert.EvenOutSecondReferenceIdeal.nD Cert.EvenOutSecondReferenceIdeal.τ).loc Cert.EvenOutSecondReferenceIdeal.main_arg0) = m ((c.tc : Thread Cert.EvenOutSecondIdeal.nD Cert.EvenOutSecondIdeal.τ).loc Cert.EvenOutSecondIdeal.main_arg0)
      ∧ m' ((c.tc : Thread Cert.EvenOutSecondReferenceIdeal.nD Cert.EvenOutSecondReferenceIdeal.τ).loc Cert.EvenOutSecondReferenceIdeal.main_arg1) = m ((c.tc : Thread Cert.EvenOutSecondIdeal.nD Cert.EvenOutSecondIdeal.τ).loc Cert.EvenOutSecondIdeal.main_arg1)
      ∧ m' ((c.tc : Thread Cert.EvenOutSecondReferenceIdeal.nD Cert.EvenOutSecondReferenceIdeal.τ).loc Cert.EvenOutSecondReferenceIdeal.main_arg2) = m ((c.tc : Thread Cert.EvenOutSecondIdeal.nD Cert.EvenOutSecondIdeal.τ).loc Cert.EvenOutSecondIdeal.main_arg2)
      ∧ m' ((c.tc : Thread Cert.EvenOutSecondReferenceIdeal.nD Cert.EvenOutSecondReferenceIdeal.τ).loc Cert.EvenOutSecondReferenceIdeal.main_arg3) = m ((c.tc : Thread Cert.EvenOutSecondIdeal.nD Cert.EvenOutSecondIdeal.τ).loc Cert.EvenOutSecondIdeal.main_arg3)) →
    ∃ (v0 : (c : Dev Cert.EvenOutSecondIdeal.nD) → Buf (Elt Ideal) ((c.tc : Thread Cert.EvenOutSecondIdeal.nD Cert.EvenOutSecondIdeal.τ).loc Cert.EvenOutSecondIdeal.main_v0)),
      θ_run (Cert.EvenOutSecondIdeal.defs (F := Ideal)) (onTc (τ := Cert.EvenOutSecondIdeal.τ) (Cert.EvenOutSecondIdeal.main (F := Ideal))) ⟨m, fun _ => 0, g⟩ (fun r => ∀ c : Dev Cert.EvenOutSecondIdeal.nD,
          r.2.mem ((c.tc : Thread Cert.EvenOutSecondIdeal.nD Cert.EvenOutSecondIdeal.τ).loc Cert.EvenOutSecondIdeal.main_v0) = v0 c
          ∧ r.2.mem ((c.tc : Thread Cert.EvenOutSecondIdeal.nD Cert.EvenOutSecondIdeal.τ).loc Cert.EvenOutSecondIdeal.main_arg0) = m ((c.tc : Thread Cert.EvenOutSecondIdeal.nD Cert.EvenOutSecondIdeal.τ).loc Cert.EvenOutSecondIdeal.main_arg0)
          ∧ r.2.mem ((c.tc : Thread Cert.EvenOutSecondIdeal.nD Cert.EvenOutSecondIdeal.τ).loc Cert.EvenOutSecondIdeal.main_arg1) = m ((c.tc : Thread Cert.EvenOutSecondIdeal.nD Cert.EvenOutSecondIdeal.τ).loc Cert.EvenOutSecondIdeal.main_arg1)
          ∧ r.2.mem ((c.tc : Thread Cert.EvenOutSecondIdeal.nD Cert.EvenOutSecondIdeal.τ).loc Cert.EvenOutSecondIdeal.main_arg2) = m ((c.tc : Thread Cert.EvenOutSecondIdeal.nD Cert.EvenOutSecondIdeal.τ).loc Cert.EvenOutSecondIdeal.main_arg2)
          ∧ r.2.mem ((c.tc : Thread Cert.EvenOutSecondIdeal.nD Cert.EvenOutSecondIdeal.τ).loc Cert.EvenOutSecondIdeal.main_arg3) = m ((c.tc : Thread Cert.EvenOutSecondIdeal.nD Cert.EvenOutSecondIdeal.τ).loc Cert.EvenOutSecondIdeal.main_arg3))
      ∧ θ_run (Cert.EvenOutSecondReferenceIdeal.defs (F := Ideal)) (onTc (τ := Cert.EvenOutSecondReferenceIdeal.τ) (Cert.EvenOutSecondReferenceIdeal.main (F := Ideal))) ⟨m', fun _ => 0, g'⟩ (fun r => ∀ c : Dev Cert.EvenOutSecondReferenceIdeal.nD,
          r.2.mem ((c.tc : Thread Cert.EvenOutSecondReferenceIdeal.nD Cert.EvenOutSecondReferenceIdeal.τ).loc Cert.EvenOutSecondReferenceIdeal.main_v6) = v0 c
          ∧ r.2.mem ((c.tc : Thread Cert.EvenOutSecondReferenceIdeal.nD Cert.EvenOutSecondReferenceIdeal.τ).loc Cert.EvenOutSecondReferenceIdeal.main_arg0) = m' ((c.tc : Thread Cert.EvenOutSecondReferenceIdeal.nD Cert.EvenOutSecondReferenceIdeal.τ).loc Cert.EvenOutSecondReferenceIdeal.main_arg0)
          ∧ r.2.mem ((c.tc : Thread Cert.EvenOutSecondReferenceIdeal.nD Cert.EvenOutSecondReferenceIdeal.τ).loc Cert.EvenOutSecondReferenceIdeal.main_arg1) = m' ((c.tc : Thread Cert.EvenOutSecondReferenceIdeal.nD Cert.EvenOutSecondReferenceIdeal.τ).loc Cert.EvenOutSecondReferenceIdeal.main_arg1)
          ∧ r.2.mem ((c.tc : Thread Cert.EvenOutSecondReferenceIdeal.nD Cert.EvenOutSecondReferenceIdeal.τ).loc Cert.EvenOutSecondReferenceIdeal.main_arg2) = m' ((c.tc : Thread Cert.EvenOutSecondReferenceIdeal.nD Cert.EvenOutSecondReferenceIdeal.τ).loc Cert.EvenOutSecondReferenceIdeal.main_arg2)
          ∧ r.2.mem ((c.tc : Thread Cert.EvenOutSecondReferenceIdeal.nD Cert.EvenOutSecondReferenceIdeal.τ).loc Cert.EvenOutSecondReferenceIdeal.main_arg3) = m' ((c.tc : Thread Cert.EvenOutSecondReferenceIdeal.nD Cert.EvenOutSecondReferenceIdeal.τ).loc Cert.EvenOutSecondReferenceIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDenseUp : Cert.DenseUp.Facts) (hDenseUpIdeal : Cert.DenseUpIdeal.Facts) (hDenseUpReferenceIdeal : Cert.DenseUpReferenceIdeal.Facts) (hDenseDown : Cert.DenseDown.Facts) (hDenseDownIdeal : Cert.DenseDownIdeal.Facts) (hDenseDownReferenceIdeal : Cert.DenseDownReferenceIdeal.Facts) (hOddOutFirst : Cert.OddOutFirst.Facts) (hOddOutFirstIdeal : Cert.OddOutFirstIdeal.Facts) (hOddOutFirstReferenceIdeal : Cert.OddOutFirstReferenceIdeal.Facts) (hOddOutSecond : Cert.OddOutSecond.Facts) (hOddOutSecondIdeal : Cert.OddOutSecondIdeal.Facts) (hOddOutSecondReferenceIdeal : Cert.OddOutSecondReferenceIdeal.Facts) (hEvenOutFirst : Cert.EvenOutFirst.Facts) (hEvenOutFirstIdeal : Cert.EvenOutFirstIdeal.Facts) (hEvenOutFirstReferenceIdeal : Cert.EvenOutFirstReferenceIdeal.Facts) (hEvenOutSecond : Cert.EvenOutSecond.Facts) (hEvenOutSecondIdeal : Cert.EvenOutSecondIdeal.Facts) (hEvenOutSecondReferenceIdeal : Cert.EvenOutSecondReferenceIdeal.Facts) (hPre_up_tables_ok : Cert.Pre_up_tables_ok.Facts) (hPre_down_tables_ok : Cert.Pre_down_tables_ok.Facts) (hPre_dense_up_layer : Cert.Pre_dense_up_layer.Facts) (hPre_dense_down_layer : Cert.Pre_dense_down_layer.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp) (hPre_up_tables_ok := hPre_up_tables_ok)
    ∧ quiescent_UpIdeal (hUpIdeal := hUpIdeal) (hPre_up_tables_ok := hPre_up_tables_ok)
    ∧ quiescent_UpReferenceIdeal (hUpReferenceIdeal := hUpReferenceIdeal)
    ∧ quiescent_UpReferenceIdeal_pre_up_tables_ok (hUpReferenceIdeal := hUpReferenceIdeal) (hPre_up_tables_ok := hPre_up_tables_ok)
    ∧ quiescent_Down (hDown := hDown) (hPre_down_tables_ok := hPre_down_tables_ok)
    ∧ quiescent_DownIdeal (hDownIdeal := hDownIdeal) (hPre_down_tables_ok := hPre_down_tables_ok)
    ∧ quiescent_DownReferenceIdeal (hDownReferenceIdeal := hDownReferenceIdeal)
    ∧ quiescent_DownReferenceIdeal_pre_down_tables_ok (hDownReferenceIdeal := hDownReferenceIdeal) (hPre_down_tables_ok := hPre_down_tables_ok)
    ∧ quiescent_DenseUp (hDenseUp := hDenseUp) (hPre_dense_up_layer := hPre_dense_up_layer)
    ∧ quiescent_DenseUpIdeal (hDenseUpIdeal := hDenseUpIdeal) (hPre_dense_up_layer := hPre_dense_up_layer)
    ∧ quiescent_DenseUpReferenceIdeal (hDenseUpReferenceIdeal := hDenseUpReferenceIdeal)
    ∧ quiescent_DenseUpReferenceIdeal_pre_dense_up_layer (hDenseUpReferenceIdeal := hDenseUpReferenceIdeal) (hPre_dense_up_layer := hPre_dense_up_layer)
    ∧ quiescent_DenseDown (hDenseDown := hDenseDown) (hPre_dense_down_layer := hPre_dense_down_layer)
    ∧ quiescent_DenseDownIdeal (hDenseDownIdeal := hDenseDownIdeal) (hPre_dense_down_layer := hPre_dense_down_layer)
    ∧ quiescent_DenseDownReferenceIdeal (hDenseDownReferenceIdeal := hDenseDownReferenceIdeal)
    ∧ quiescent_DenseDownReferenceIdeal_pre_dense_down_layer (hDenseDownReferenceIdeal := hDenseDownReferenceIdeal) (hPre_dense_down_layer := hPre_dense_down_layer)
    ∧ quiescent_OddOutFirst (hOddOutFirst := hOddOutFirst)
    ∧ quiescent_OddOutFirstIdeal (hOddOutFirstIdeal := hOddOutFirstIdeal)
    ∧ quiescent_OddOutFirstReferenceIdeal (hOddOutFirstReferenceIdeal := hOddOutFirstReferenceIdeal)
    ∧ quiescent_OddOutSecond (hOddOutSecond := hOddOutSecond)
    ∧ quiescent_OddOutSecondIdeal (hOddOutSecondIdeal := hOddOutSecondIdeal)
    ∧ quiescent_OddOutSecondReferenceIdeal (hOddOutSecondReferenceIdeal := hOddOutSecondReferenceIdeal)
    ∧ quiescent_EvenOutFirst (hEvenOutFirst := hEvenOutFirst)
    ∧ quiescent_EvenOutFirstIdeal (hEvenOutFirstIdeal := hEvenOutFirstIdeal)
    ∧ quiescent_EvenOutFirstReferenceIdeal (hEvenOutFirstReferenceIdeal := hEvenOutFirstReferenceIdeal)
    ∧ quiescent_EvenOutSecond (hEvenOutSecond := hEvenOutSecond)
    ∧ quiescent_EvenOutSecondIdeal (hEvenOutSecondIdeal := hEvenOutSecondIdeal)
    ∧ quiescent_EvenOutSecondReferenceIdeal (hEvenOutSecondReferenceIdeal := hEvenOutSecondReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal) (hPre_up_tables_ok := hPre_up_tables_ok)
    ∧ preserves_Down_DownIdeal
    ∧ algebraic_DownIdeal_DownReferenceIdeal (hDownIdeal := hDownIdeal) (hDownReferenceIdeal := hDownReferenceIdeal) (hPre_down_tables_ok := hPre_down_tables_ok)
    ∧ preserves_DenseUp_DenseUpIdeal
    ∧ algebraic_DenseUpIdeal_DenseUpReferenceIdeal (hDenseUpIdeal := hDenseUpIdeal) (hDenseUpReferenceIdeal := hDenseUpReferenceIdeal) (hPre_dense_up_layer := hPre_dense_up_layer)
    ∧ preserves_DenseDown_DenseDownIdeal
    ∧ algebraic_DenseDownIdeal_DenseDownReferenceIdeal (hDenseDownIdeal := hDenseDownIdeal) (hDenseDownReferenceIdeal := hDenseDownReferenceIdeal) (hPre_dense_down_layer := hPre_dense_down_layer)
    ∧ preserves_OddOutFirst_OddOutFirstIdeal
    ∧ algebraic_OddOutFirstIdeal_OddOutFirstReferenceIdeal (hOddOutFirstIdeal := hOddOutFirstIdeal) (hOddOutFirstReferenceIdeal := hOddOutFirstReferenceIdeal)
    ∧ preserves_OddOutSecond_OddOutSecondIdeal
    ∧ algebraic_OddOutSecondIdeal_OddOutSecondReferenceIdeal (hOddOutSecondIdeal := hOddOutSecondIdeal) (hOddOutSecondReferenceIdeal := hOddOutSecondReferenceIdeal)
    ∧ preserves_EvenOutFirst_EvenOutFirstIdeal
    ∧ algebraic_EvenOutFirstIdeal_EvenOutFirstReferenceIdeal (hEvenOutFirstIdeal := hEvenOutFirstIdeal) (hEvenOutFirstReferenceIdeal := hEvenOutFirstReferenceIdeal)
    ∧ preserves_EvenOutSecond_EvenOutSecondIdeal
    ∧ algebraic_EvenOutSecondIdeal_EvenOutSecondReferenceIdeal (hEvenOutSecondIdeal := hEvenOutSecondIdeal) (hEvenOutSecondReferenceIdeal := hEvenOutSecondReferenceIdeal)
-- ==== Pre_dense_down_layer.lean ====
abbrev S_ : Shape := ⟨0, ![]⟩
abbrev S16384x7168 : Shape := ⟨2, ![16384, 7168]⟩
abbrev S2x7168x2048 : Shape := ⟨3, ![2, 7168, 2048]⟩
abbrev S16384x2048 : Shape := ⟨2, ![16384, 2048]⟩

class Facts : Prop where

variable [Facts]

def fn {F : FTy → Type} [FloatOps F] (main_arg0 : IVec S_ 32) (main_arg1 : FVec F S16384x7168 .bf16) (main_arg2 : FVec F S2x7168x2048 .f32) (main_arg3 : FVec F S16384x2048 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_dense_up_layer.lean ====
abbrev S_ : Shape := ⟨0, ![]⟩
abbrev S16384x2048 : Shape := ⟨2, ![16384, 2048]⟩
abbrev S2x2048x14336 : Shape := ⟨3, ![2, 2048, 14336]⟩

class Facts : Prop where

variable [Facts]

def fn {F : FTy → Type} [FloatOps F] (main_arg0 : IVec S_ 32) (main_arg1 : FVec F S16384x2048 .bf16) (main_arg2 : FVec F S2x2048x14336 .f32) : IVec S_ 1 :=
  let main_c : IVec S_ 32 := constantI S_ 32 0#32
  let main_v0 : IVec S_ 1 := cmpi .sge main_arg0 main_c
  let main_c_0 : IVec S_ 32 := constantI S_ 32 2#32
  let main_v1 : IVec S_ 1 := cmpi .slt main_arg0 main_c_0
  let main_v2 : IVec S_ 1 := andi main_v0 main_v1
  main_v2
-- ==== Pre_down_tables_ok.lean ====
abbrev S72 : Shape := ⟨1, ![72]⟩
abbrev S1 : Shape := ⟨1, ![1]⟩
abbrev S36864x7168 : Shape := ⟨2, ![36864, 7168]⟩
abbrev S16x7168x2048 : Shape := ⟨3, ![16, 7168, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : IVec S72 32) (main_arg1 : IVec S1 32) (main_arg2 : IVec S72 32) (main_arg3 : FVec F S36864x7168 .bf16) (main_arg4 : FVec F S16x7168x2048 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_up_tables_ok.lean ====
abbrev S72 : Shape := ⟨1, ![72]⟩
abbrev S1 : Shape := ⟨1, ![1]⟩
abbrev S36864x2048 : Shape := ⟨2, ![36864, 2048]⟩
abbrev S16x2048x14336 : Shape := ⟨3, ![16, 2048, 14336]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  shapeCasts_S1_S_ : S1.ShapeCasts S_

variable [Facts]

def fn {F : FTy → Type} [FloatOps F] (main_arg0 : IVec S72 32) (main_arg1 : IVec S1 32) (main_arg2 : IVec S72 32) (main_arg3 : FVec F S36864x2048 .bf16) (main_arg4 : FVec F S16x2048x14336 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S2x8192x2x4x128 : Shape := ⟨5, ![2, 8192, 2, 4, 128]⟩
abbrev S2x8192x2x128 : Shape := ⟨4, ![2, 8192, 2, 128]⟩
abbrev S8 : Shape := ⟨1, ![8]⟩
abbrev S16384x1024 : Shape := ⟨2, ![16384, 1024]⟩
abbrev S_ : Shape := ⟨0, ![]⟩
abbrev S16384x256 : Shape := ⟨2, ![16384, 256]⟩
abbrev S16384x1536 : Shape := ⟨2, ![16384, 1536]⟩
abbrev S256x1024 : Shape := ⟨2, ![256, 1024]⟩
abbrev S128x256 : Shape := ⟨2, ![128, 256]⟩
abbrev S256x256 : Shape := ⟨2, ![256, 256]⟩
abbrev S512x256 : Shape := ⟨2, ![512, 256]⟩
abbrev S256x512 : Shape := ⟨2, ![256, 512]⟩
abbrev S512x128 : Shape := ⟨2, ![512, 128]⟩
abbrev S1 : Shape := ⟨1, ![1]⟩
abbrev S256x128 : Shape := ⟨2, ![256, 128]⟩
abbrev S256 : Shape := ⟨1, ![256]⟩
abbrev S256x1 : Shape := ⟨2, ![256, 1]⟩

abbrev nBuf : Space → Nat
  | .hbm => 13
  | .vmem => 16
  | .smem => 1
  | _ => 0

abbrev bufTy : (tb : Table) → Fin (tcTables nBuf tb) → BufTy
  | .hbm, ⟨0, _⟩ => ⟨S2x8192x2x4x128, .f32⟩
  | .hbm, ⟨1, _⟩ => ⟨S2x8192x2x128, .f32⟩
  | .hbm, ⟨2, _⟩ => ⟨S2x8192x2x128, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x256, .f32⟩
  | .hbm, ⟨9, _⟩ => ⟨S16384x256, .f32⟩
  | .hbm, ⟨10, _⟩ => ⟨S16384x1536, .f32⟩
  | .hbm, ⟨11, _⟩ => ⟨S16384x1536, .bf16⟩
  | .hbm, ⟨12, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S128x256, .bf16⟩
  | .local _ .vmem, ⟨14, _⟩ => ⟨S256x1024, .bf16⟩
  | .local _ .vmem, ⟨15, _⟩ => ⟨S256x1024, .bf16⟩
  | .local _ .smem, ⟨0, _⟩ => ⟨S8, .f32⟩
  | _, _ => ⟨S2x8192x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c4_i32 : BitVec 32 := 4#32
  let c0_i32_0 : BitVec 32 := 0#32
  ![v4.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c2_i32 : BitVec 32 := 2#32
  let v2 : BitVec 32 := Scalar.muli v1 c2_i32
  let c63_i32 : BitVec 32 := 63#32
  let v3 : BitVec 32 := Scalar.minsi v2 c63_i32
  let v4 : BitVec 32 := Scalar.addi v0 v3
  let c4_i32 : BitVec 32 := 4#32
  let c0_i32 : BitVec 32 := 0#32
  ![v4.toNat, c4_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c2_i32 : BitVec 32 := 2#32
  let v2 : BitVec 32 := Scalar.muli v1 c2_i32
  let c63_i32 : BitVec 32 := 63#32
  let v3 : BitVec 32 := Scalar.minsi v2 c63_i32
  let v4 : BitVec 32 := Scalar.addi v0 v3
  let c5_i32 : BitVec 32 := 5#32
  let c0_i32 : BitVec 32 := 0#32
  ![v4.toNat, c5_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x2x4x128 : Shape := ⟨5, ![2, 8192, 2, 4, 128]⟩
abbrev S2x8192x2x128 : Shape := ⟨4, ![2, 8192, 2, 128]⟩
abbrev S8 : Shape := ⟨1, ![8]⟩
abbrev S_ : Shape := ⟨0, ![]⟩
abbrev S2x8448x2x128 : Shape := ⟨4, ![2, 8448, 2, 128]⟩
abbrev S2x66x128x2x128 : Shape := ⟨5, ![2, 66, 128, 2, 128]⟩
abbrev S2x64x128x2x128 : Shape := ⟨5, ![2, 64, 128, 2, 128]⟩
abbrev S2x64x384x2x128 : Shape := ⟨5, ![2, 64, 384, 2, 128]⟩
abbrev S2x64x128x2x4x128 : Shape := ⟨6, ![2, 64, 128, 2, 4, 128]⟩
abbrev S2x64x2x384x128x4 : Shape := ⟨6, ![2, 64, 2, 384, 128, 4]⟩
abbrev S2x64x2x4x128x384 : Shape := ⟨6, ![2, 64, 2, 4, 128, 384]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S384 : Shape := ⟨1, ![384]⟩
abbrev S1x1x384 : Shape := ⟨3, ![1, 1, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S2x64x2x4x128 : Shape := ⟨5, ![2, 64, 2, 4, 128]⟩
abbrev S2x4 : Shape := ⟨2, ![2, 4]⟩
abbrev S1x1x2x4x1 : Shape := ⟨5, ![1, 1, 2, 4, 1]⟩
abbrev S2x64x2x4x128x1 : Shape := ⟨6, ![2, 64, 2, 4, 128, 1]⟩
abbrev S2x64x2x128x4x128 : Shape := ⟨6, ![2, 64, 2, 128, 4, 128]⟩
abbrev S2x64x128x2x4 : Shape := ⟨5, ![2, 64, 128, 2, 4]⟩
abbrev S2x64x128x2x4x1 : Shape := ⟨6, ![2, 64, 128, 2, 4, 1]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2x8192x2x4x128, .f32⟩
  | .hbm, ⟨1, _⟩ => ⟨S2x8192x2x128, .f32⟩
  | .hbm, ⟨2, _⟩ => ⟨S2x8192x2x128, .f32⟩
  | .hbm, ⟨3, _⟩ => ⟨S8, .f32⟩
  | .hbm, ⟨4, _⟩ => ⟨S_, .i32⟩
  | .hbm, ⟨5, _⟩ => ⟨S_, .f32⟩
  | .hbm, ⟨6, _⟩ => ⟨S2x8448x2x128, .f32⟩
  | .hbm, ⟨7, _⟩ => ⟨S2x66x128x2x128, .f32⟩
  | .hbm, ⟨8, _⟩ => ⟨S_, .i32⟩
  | .hbm, ⟨9, _⟩ => ⟨S_, .f32⟩
  | .hbm, ⟨10, _⟩ => ⟨S2x8448x2x128, .f32⟩
  | .hbm, ⟨11, _⟩ => ⟨S2x66x128x2x128, .f32⟩
  | .hbm, ⟨12, _⟩ => ⟨S2x64x128x2x128, .f32⟩
  | .hbm, ⟨13, _⟩ => ⟨S2x64x128x2x128, .f32⟩
  | .hbm, ⟨14, _⟩ => ⟨S2x64x128x2x128, .f32⟩
  | .hbm, ⟨15, _⟩ => ⟨S2x64x384x2x128, .f32⟩
  | .hbm, ⟨16, _⟩ => ⟨S2x64x128x2x128, .f32⟩
  | .hbm, ⟨17, _⟩ => ⟨S2x64x128x2x128, .f32⟩
  | .hbm, ⟨18, _⟩ => ⟨S2x64x128x2x128, .f32⟩
  | .hbm, ⟨19, _⟩ => ⟨S2x64x384x2x128, .f32⟩
  | .hbm, ⟨20, _⟩ => ⟨S2x64x128x2x4x128, .f32⟩
  | .hbm, ⟨21, _⟩ => ⟨S2x64x2x384x128x4, .f32⟩
  | .hbm, ⟨22, _⟩ => ⟨S2x64x2x4x128x384, .f32⟩
  | .hbm, ⟨23, _⟩ => ⟨S_, .f32⟩
  | .hbm, ⟨24, _⟩ => ⟨S2x64x2x4x128x384, .f32⟩
  | .hbm, ⟨25, _⟩ => ⟨S2x64x2x4x128x384, .f32⟩
  | .hbm, ⟨26, _⟩ => ⟨S64, .i32⟩
  | .hbm, ⟨27, _⟩ => ⟨S64x1x1, .i32⟩
  | .hbm, ⟨28, _⟩ => ⟨S_, .i32⟩
  | .hbm, ⟨29, _⟩ => ⟨S64x1x1, .i32⟩
  | .hbm, ⟨30, _⟩ => ⟨S64x1x1, .i32⟩
  | .hbm, ⟨31, _⟩ => ⟨S128, .i32⟩
  | .hbm, ⟨32, _⟩ => ⟨S1x128x1, .i32⟩
  | .hbm, ⟨33, _⟩ => ⟨S64x128x1, .i32⟩
  | .hbm, ⟨34, _⟩ => ⟨S64x128x1, .i32⟩
  | .hbm, ⟨35, _⟩ => ⟨S64x128x1, .i32⟩
  | .hbm, ⟨36, _⟩ => ⟨S64, .i32⟩
  | .hbm, ⟨37, _⟩ => ⟨S64x1x1, .i32⟩
  | .hbm, ⟨38, _⟩ => ⟨S_, .i32⟩
  | .hbm, ⟨39, _⟩ => ⟨S64x1x1, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S384, .i32⟩
  | .hbm, ⟨45, _⟩ => ⟨S1x1x384, .i32⟩
  | .hbm, ⟨46, _⟩ => ⟨S64x1x384, .i32⟩
  | .hbm, ⟨47, _⟩ => ⟨S64x1x384, .i32⟩
  | .hbm, ⟨48, _⟩ => ⟨S64x1x384, .i32⟩
  | .hbm, ⟨49, _⟩ => ⟨S64x128x384, .i32⟩
  | .hbm, ⟨50, _⟩ => ⟨S64x128x384, .i32⟩
  | .hbm, ⟨51, _⟩ => ⟨S64x128x384, .i32⟩
  | .hbm, ⟨52, _⟩ => ⟨S64x128x384, .i32⟩
  | .hbm, ⟨53, _⟩ => ⟨S_, .i32⟩
  | .hbm, ⟨54, _⟩ => ⟨S64x128x384, .i32⟩
  | .hbm, ⟨55, _⟩ => ⟨S64x128x384, .i1⟩
  | .hbm, ⟨56, _⟩ => ⟨S_, .i32⟩
  | .hbm, ⟨57, _⟩ => ⟨S64x1x384, .i32⟩
  | .hbm, ⟨58, _⟩ => ⟨S64x1x384, .i1⟩
  | .hbm, ⟨59, _⟩ => ⟨S64x128x384, .i1⟩
  | .hbm, ⟨60, _⟩ => ⟨S64x128x384, .i1⟩
  | .hbm, ⟨61, _⟩ => ⟨S_, .i32⟩
  | .hbm, ⟨62, _⟩ => ⟨S64x1x384, .i32⟩
  | .hbm, ⟨63, _⟩ => ⟨S64x1x384, .i1⟩
  | .hbm, ⟨64, _⟩ => ⟨S64x128x384, .i1⟩
  | .hbm, ⟨65, _⟩ => ⟨S64x128x384, .i1⟩
  | .hbm, ⟨66, _⟩ => ⟨S1x64x1x1x128x384, .i1⟩
  | .hbm, ⟨67, _⟩ => ⟨S_, .f32⟩
  | .hbm, ⟨68, _⟩ => ⟨S_, .f32⟩
  | .hbm, ⟨69, _⟩ => ⟨S2x64x2x4x128x384, .i1⟩
  | .hbm, ⟨70, _⟩ => ⟨S2x64x2x4x128x384, .f32⟩
  | .hbm, ⟨71, _⟩ => ⟨S2x64x2x4x128x384, .f32⟩
  | .hbm, ⟨72, _⟩ => ⟨S_, .f32⟩
  | .hbm, ⟨73, _⟩ => ⟨S2x64x2x4x128, .f32⟩
  | .hbm, ⟨74, _⟩ => ⟨S2x4, .f32⟩
  | .hbm, ⟨75, _⟩ => ⟨S1x1x2x4x1, .f32⟩
  | .hbm, ⟨76, _⟩ => ⟨S2x64x2x4x128, .f32⟩
  | .hbm, ⟨77, _⟩ => ⟨S2x64x2x4x128, .f32⟩
  | .hbm, ⟨78, _⟩ => ⟨S2x64x2x4x128x1, .f32⟩
  | .hbm, ⟨79, _⟩ => ⟨S2x64x2x4x128x384, .f32⟩
  | .hbm, ⟨80, _⟩ => ⟨S2x64x2x4x128x384, .f32⟩
  | .hbm, ⟨81, _⟩ => ⟨S2x64x2x4x128x384, .f32⟩
  | .hbm, ⟨82, _⟩ => ⟨S_, .f32⟩
  | .hbm, ⟨83, _⟩ => ⟨S2x64x2x4x128, .f32⟩
  | .hbm, ⟨84, _⟩ => ⟨S2x64x2x4x128, .f32⟩
  | .hbm, ⟨85, _⟩ => ⟨S2x64x2x4x128, .f32⟩
  | .hbm, ⟨86, _⟩ => ⟨S2x64x2x4x128, .f32⟩
  | .hbm, ⟨87, _⟩ => ⟨S2x64x2x4x128, .f32⟩
  | .hbm, ⟨88, _⟩ => ⟨S2x64x2x128x4x128, .f32⟩
  | .hbm, ⟨89, _⟩ => ⟨S2x64x128x2x4x128, .f32⟩
  | .hbm, ⟨90, _⟩ => ⟨S2x64x128x2x4, .f32⟩
  | .hbm, ⟨91, _⟩ => ⟨S2x64x128x2x4x1, .f32⟩
  | .hbm, ⟨92, _⟩ => ⟨S2x64x128x2x4x128, .f32⟩
  | .hbm, ⟨93, _⟩ => ⟨S2x64x128x2x4x128, .f32⟩
  | .hbm, ⟨94, _⟩ => ⟨S16384x1024, .f32⟩
  | .hbm, ⟨95, _⟩ => ⟨S16384x1024, .bf16⟩
  | _, _ => ⟨S2x8192x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Up.lean ====
abbrev S72 : Shape := ⟨1, ![72]⟩
abbrev S1 : Shape := ⟨1, ![1]⟩
abbrev S36864x2048 : Shape := ⟨2, ![36864, 2048]⟩
abbrev S16x2048x14336 : Shape := ⟨3, ![16, 2048, 14336]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 8
  | .smem => 3
  | _ => 0

abbrev bufTy : (tb : Table) → Fin (tcTables nBuf tb) → BufTy
  | .hbm, ⟨0, _⟩ => ⟨S36864x2048, .bf16⟩
  | .hbm, ⟨1, _⟩ => ⟨S16x2048x14336, .f32⟩
  | .hbm, ⟨2, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v2 : BitVec 32) : Fin 1 → Nat :=
  let arg1 : BitVec 32 := BitVec.ofNat 32 (i 1).val
  let c1_i32 : BitVec 32 := 1#32
  let v3 : BitVec 32 := Scalar.subi v2 c1_i32
  let v4 : BitVec 32 := Scalar.minsi arg1 v3
  let v5 : Index := Scalar.indexCast v4
  ![v5.toNat]

def k0_chk1 (i : grid0.Coords) (v2 : BitVec 32) : Prop :=
  (∀ a, (k0_off2 i v2) a + S1.size a ≤ S72.size a)
theorem k0_off2_inb : ∀ (i : grid0.Coords) (v2 : BitVec 32) (k0_hw1 : k0_chk1 i v2), ∀ a, (k0_off2 i v2) a + S1.size a ≤ S72.size a := fun i v2 k0_hw1 => k0_hw1

def k0_cond1 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v_true : BitVec 1 := 1#1
  let v8 : BitVec 1 := Scalar.xori v7 v_true
  let v9 : BitVec 1 := Scalar.andi v1 v8
  let v10 : BitVec 32 := Scalar.extui v9
  let c0_i32 : BitVec 32 := 0#32
  let v11 : BitVec 1 := Scalar.cmpi .ne v10 c0_i32
  v11

def k0_cond2 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v12 : BitVec 1 := Scalar.andi v1 v7
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v15 : BitVec 1 := Scalar.xori v1 true_3
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c7_i32 : BitVec 32 := 7#32
  let v2 : BitVec 32 := Scalar.addi c7_i32 arg0
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S72 : Shape := ⟨1, ![72]⟩
abbrev S1 : Shape := ⟨1, ![1]⟩
abbrev S36864x2048 : Shape := ⟨2, ![36864, 2048]⟩
abbrev S16x2048x14336 : Shape := ⟨3, ![16, 2048, 14336]⟩
abbrev S512 : Shape := ⟨1, ![512]⟩
abbrev S1x512 : Shape := ⟨2, ![1, 512]⟩
abbrev S72x1 : Shape := ⟨2, ![72, 1]⟩
abbrev S_ : Shape := ⟨0, ![]⟩
abbrev S72x512 : Shape := ⟨2, ![72, 512]⟩
abbrev S36864 : Shape := ⟨1, ![36864]⟩
abbrev S36864x1 : Shape := ⟨2, ![36864, 1]⟩
abbrev S1x16 : Shape := ⟨2, ![1, 16]⟩
abbrev S36864x16 : Shape := ⟨2, ![36864, 16]⟩
abbrev S36864x7168 : Shape := ⟨2, ![36864, 7168]⟩
abbrev S1x2048x14336 : Shape := ⟨3, ![1, 2048, 14336]⟩
abbrev S2048x14336 : Shape := ⟨2, ![2048, 14336]⟩
abbrev S36864x14336 : Shape := ⟨2, ![36864, 14336]⟩

abbrev nBuf : Space → Nat
  | .hbm => 351
  | .vmem => 0
  | .smem => 0
  | _ => 0

abbrev hbmTy0_0 (i : Nat) : BufTy := match i % 128 with
  | 0 => ⟨S72, .i32⟩
  | 1 => ⟨S1, .i32⟩
  | 2 => ⟨S72, .i32⟩
  | 3 => ⟨S36864x2048, .bf16⟩
  | 4 => ⟨S16x2048x14336, .f32⟩
  | 5 => ⟨S512, .i32⟩
  | 6 => ⟨S1x512, .i32⟩
  | 7 => ⟨S72, .i32⟩
  | 8 => ⟨S72x1, .i32⟩
  | 9 => ⟨S_, .i32⟩
  | 10 => ⟨S72x1, .i32⟩
  | 11 => ⟨S72x1, .i1⟩
  | 12 => ⟨S72x1, .i32⟩
  | 13 => ⟨S_, .i32⟩
  | 14 => ⟨S72x1, .i32⟩
  | 15 => ⟨S72x1, .i1⟩
  | 16 => ⟨S_, .i32⟩
  | 17 => ⟨S1x512, .i32⟩
  | 18 => ⟨S1x512, .i1⟩
  | 19 => ⟨S72x512, .i1⟩
  | 20 => ⟨S72x512, .i1⟩
  | 21 => ⟨S72x512, .i1⟩
  | 22 => ⟨S72x512, .i1⟩
  | 23 => ⟨S72x512, .i1⟩
  | 24 => ⟨S_, .f32⟩
  | 25 => ⟨S_, .f32⟩
  | 26 => ⟨S72x512, .f32⟩
  | 27 => ⟨S72x512, .f32⟩
  | 28 => ⟨S72x512, .f32⟩
  | 29 => ⟨S36864, .f32⟩
  | 30 => ⟨S72x1, .i32⟩
  | 31 => ⟨S72x512, .i32⟩
  | 32 => ⟨S36864, .i32⟩
  | 33 => ⟨S36864x1, .i32⟩
  | 34 => ⟨S1x16, .i32⟩
  | 35 => ⟨S36864x16, .i32⟩
  | 36 => ⟨S36864x16, .i32⟩
  | 37 => ⟨S36864x16, .i1⟩
  | 38 => ⟨S36864x16, .f32⟩
  | 39 => ⟨S36864x1, .f32⟩
  | 40 => ⟨S36864x1, .f32⟩
  | 41 => ⟨S36864x16, .f32⟩
  | 42 => ⟨S36864x16, .f32⟩
  | 43 => ⟨S36864x2048, .f32⟩
  | 44 => ⟨S_, .f32⟩
  | 45 => ⟨S36864x7168, .f32⟩
  | 46 => ⟨S1x2048x14336, .f32⟩
  | 47 => ⟨S2048x14336, .f32⟩
  | 48 => ⟨S36864x14336, .f32⟩
  | 49 => ⟨S36864x7168, .f32⟩
  | 50 => ⟨S36864x7168, .f32⟩
  | 51 => ⟨S36864x1, .f32⟩
  | 52 => ⟨S36864x7168, .f32⟩
  | 53 => ⟨S36864x7168, .f32⟩
  | 54 => ⟨S_, .f32⟩
  | 55 => ⟨S36864x7168, .f32⟩
  | 56 => ⟨S36864x7168, .f32⟩
  | 57 => ⟨S_, .f32⟩
  | 58 => ⟨S36864x7168, .f32⟩
  | 59 => ⟨S36864x7168, .f32⟩
  | 60 => ⟨S36864x7168, .f32⟩
  | 61 => ⟨S36864x7168, .f32⟩
  | 62 => ⟨S36864x7168, .f32⟩
  | 63 => ⟨S36864x7168, .f32⟩
  | 64 => ⟨S36864x7168, .f32⟩
  | 65 => ⟨S1x2048x14336, .f32⟩
  | 66 => ⟨S2048x14336, .f32⟩
  | 67 => ⟨S36864x14336, .f32⟩
  | 68 => ⟨S36864x7168, .f32⟩
  | 69 => ⟨S36864x7168, .f32⟩
  | 70 => ⟨S36864x1, .f32⟩
  | 71 => ⟨S36864x7168, .f32⟩
  | 72 => ⟨S36864x7168, .f32⟩
  | 73 => ⟨S_, .f32⟩
  | 74 => ⟨S36864x7168, .f32⟩
  | 75 => ⟨S36864x7168, .f32⟩
  | 76 => ⟨S_, .f32⟩
  | 77 => ⟨S36864x7168, .f32⟩
  | 78 => ⟨S36864x7168, .f32⟩
  | 79 => ⟨S36864x7168, .f32⟩
  | 80 => ⟨S36864x7168, .f32⟩
  | 81 => ⟨S36864x7168, .f32⟩
  | 82 => ⟨S36864x7168, .f32⟩
  | 83 => ⟨S36864x7168, .f32⟩
  | 84 => ⟨S1x2048x14336, .f32⟩
  | 85 => ⟨S2048x14336, .f32⟩
  | 86 => ⟨S36864x14336, .f32⟩
  | 87 => ⟨S36864x7168, .f32⟩
  | 88 => ⟨S36864x7168, .f32⟩
  | 89 => ⟨S36864x1, .f32⟩
  | 90 => ⟨S36864x7168, .f32⟩
  | 91 => ⟨S36864x7168, .f32⟩
  | 92 => ⟨S_, .f32⟩
  | 93 => ⟨S36864x7168, .f32⟩
  | 94 => ⟨S36864x7168, .f32⟩
  | 95 => ⟨S_, .f32⟩
  | 96 => ⟨S36864x7168, .f32⟩
  | 97 => ⟨S36864x7168, .f32⟩
  | 98 => ⟨S36864x7168, .f32⟩
  | 99 => ⟨S36864x7168, .f32⟩
  | 100 => ⟨S36864x7168, .f32⟩
  | 101 => ⟨S36864x7168, .f32⟩
  | 102 => ⟨S36864x7168, .f32⟩
  | 103 => ⟨S1x2048x14336, .f32⟩
  | 104 => ⟨S2048x14336, .f32⟩
  | 105 => ⟨S36864x14336, .f32⟩
  | 106 => ⟨S36864x7168, .f32⟩
  | 107 => ⟨S36864x7168, .f32⟩
  | 108 => ⟨S36864x1, .f32⟩
  | 109 => ⟨S36864x7168, .f32⟩
  | 110 => ⟨S36864x7168, .f32⟩
  | 111 => ⟨S_, .f32⟩
  | 112 => ⟨S36864x7168, .f32⟩
  | 113 => ⟨S36864x7168, .f32⟩
  | 114 => ⟨S_, .f32⟩
  | 115 => ⟨S36864x7168, .f32⟩
  | 116 => ⟨S36864x7168, .f32⟩
  | 117 => ⟨S36864x7168, .f32⟩
  | 118 => ⟨S36864x7168, .f32⟩
  | 119 => ⟨S36864x7168, .f32⟩
  | 120 => ⟨S36864x7168, .f32⟩
  | 121 => ⟨S36864x7168, .f32⟩
  | 122 => ⟨S1x2048x14336, .f32⟩
  | 123 => ⟨S2048x14336, .f32⟩
  | 124 => ⟨S36864x14336, .f32⟩
  | 125 => ⟨S36864x7168, .f32⟩
  | 126 => ⟨S36864x7168, .f32⟩
  | 127 => ⟨S36864x1, .f32⟩
  | _ => ⟨S72, .i32⟩

abbrev hbmTy0_1 (i : Nat) : BufTy := match i % 128 with
  | 0 => ⟨S36864x7168, .f32⟩
  | 1 => ⟨S36864x7168, .f32⟩
  | 2 => ⟨S_, .f32⟩
  | 3 => ⟨S36864x7168, .f32⟩
  | 4 => ⟨S36864x7168, .f32⟩
  | 5 => ⟨S_, .f32⟩
  | 6 => ⟨S36864x7168, .f32⟩
  | 7 => ⟨S36864x7168, .f32⟩
  | 8 => ⟨S36864x7168, .f32⟩
  | 9 => ⟨S36864x7168, .f32⟩
  | 10 => ⟨S36864x7168, .f32⟩
  | 11 => ⟨S36864x7168, .f32⟩
  | 12 => ⟨S36864x7168, .f32⟩
  | 13 => ⟨S1x2048x14336, .f32⟩
  | 14 => ⟨S2048x14336, .f32⟩
  | 15 => ⟨S36864x14336, .f32⟩
  | 16 => ⟨S36864x7168, .f32⟩
  | 17 => ⟨S36864x7168, .f32⟩
  | 18 => ⟨S36864x1, .f32⟩
  | 19 => ⟨S36864x7168, .f32⟩
  | 20 => ⟨S36864x7168, .f32⟩
  | 21 => ⟨S_, .f32⟩
  | 22 => ⟨S36864x7168, .f32⟩
  | 23 => ⟨S36864x7168, .f32⟩
  | 24 => ⟨S_, .f32⟩
  | 25 => ⟨S36864x7168, .f32⟩
  | 26 => ⟨S36864x7168, .f32⟩
  | 27 => ⟨S36864x7168, .f32⟩
  | 28 => ⟨S36864x7168, .f32⟩
  | 29 => ⟨S36864x7168, .f32⟩
  | 30 => ⟨S36864x7168, .f32⟩
  | 31 => ⟨S36864x7168, .f32⟩
  | 32 => ⟨S1x2048x14336, .f32⟩
  | 33 => ⟨S2048x14336, .f32⟩
  | 34 => ⟨S36864x14336, .f32⟩
  | 35 => ⟨S36864x7168, .f32⟩
  | 36 => ⟨S36864x7168, .f32⟩
  | 37 => ⟨S36864x1, .f32⟩
  | 38 => ⟨S36864x7168, .f32⟩
  | 39 => ⟨S36864x7168, .f32⟩
  | 40 => ⟨S_, .f32⟩
  | 41 => ⟨S36864x7168, .f32⟩
  | 42 => ⟨S36864x7168, .f32⟩
  | 43 => ⟨S_, .f32⟩
  | 44 => ⟨S36864x7168, .f32⟩
  | 45 => ⟨S36864x7168, .f32⟩
  | 46 => ⟨S36864x7168, .f32⟩
  | 47 => ⟨S36864x7168, .f32⟩
  | 48 => ⟨S36864x7168, .f32⟩
  | 49 => ⟨S36864x7168, .f32⟩
  | 50 => ⟨S36864x7168, .f32⟩
  | 51 => ⟨S1x2048x14336, .f32⟩
  | 52 => ⟨S2048x14336, .f32⟩
  | 53 => ⟨S36864x14336, .f32⟩
  | 54 => ⟨S36864x7168, .f32⟩
  | 55 => ⟨S36864x7168, .f32⟩
  | 56 => ⟨S36864x1, .f32⟩
  | 57 => ⟨S36864x7168, .f32⟩
  | 58 => ⟨S36864x7168, .f32⟩
  | 59 => ⟨S_, .f32⟩
  | 60 => ⟨S36864x7168, .f32⟩
  | 61 => ⟨S36864x7168, .f32⟩
  | 62 => ⟨S_, .f32⟩
  | 63 => ⟨S36864x7168, .f32⟩
  | 64 => ⟨S36864x7168, .f32⟩
  | 65 => ⟨S36864x7168, .f32⟩
  | 66 => ⟨S36864x7168, .f32⟩
  | 67 => ⟨S36864x7168, .f32⟩
  | 68 => ⟨S36864x7168, .f32⟩
  | 69 => ⟨S36864x7168, .f32⟩
  | 70 => ⟨S1x2048x14336, .f32⟩
  | 71 => ⟨S2048x14336, .f32⟩
  | 72 => ⟨S36864x14336, .f32⟩
  | 73 => ⟨S36864x7168, .f32⟩
  | 74 => ⟨S36864x7168, .f32⟩
  | 75 => ⟨S36864x1, .f32⟩
  | 76 => ⟨S36864x7168, .f32⟩
  | 77 => ⟨S36864x7168, .f32⟩
  | 78 => ⟨S_, .f32⟩
  | 79 => ⟨S36864x7168, .f32⟩
  | 80 => ⟨S36864x7168, .f32⟩
  | 81 => ⟨S_, .f32⟩
  | 82 => ⟨S36864x7168, .f32⟩
  | 83 => ⟨S36864x7168, .f32⟩
  | 84 => ⟨S36864x7168, .f32⟩
  | 85 => ⟨S36864x7168, .f32⟩
  | 86 => ⟨S36864x7168, .f32⟩
  | 87 => ⟨S36864x7168, .f32⟩
  | 88 => ⟨S36864x7168, .f32⟩
  | 89 => ⟨S1x2048x14336, .f32⟩
  | 90 => ⟨S2048x14336, .f32⟩
  | 91 => ⟨S36864x14336, .f32⟩
  | 92 => ⟨S36864x7168, .f32⟩
  | 93 => ⟨S36864x7168, .f32⟩
  | 94 => ⟨S36864x1, .f32⟩
  | 95 => ⟨S36864x7168, .f32⟩
  | 96 => ⟨S36864x7168, .f32⟩
  | 97 => ⟨S_, .f32⟩
  | 98 => ⟨S36864x7168, .f32⟩
  | 99 => ⟨S36864x7168, .f32⟩
  | 100 => ⟨S_, .f32⟩
  | 101 => ⟨S36864x7168, .f32⟩
  | 102 => ⟨S36864x7168, .f32⟩
  | 103 => ⟨S36864x7168, .f32⟩
  | 104 => ⟨S36864x7168, .f32⟩
  | 105 => ⟨S36864x7168, .f32⟩
  | 106 => ⟨S36864x7168, .f32⟩
  | 107 => ⟨S36864x7168, .f32⟩
  | 108 => ⟨S1x2048x14336, .f32⟩
  | 109 => ⟨S2048x14336, .f32⟩
  | 110 => ⟨S36864x14336, .f32⟩
  | 111 => ⟨S36864x7168, .f32⟩
  | 112 => ⟨S36864x7168, .f32⟩
  | 113 => ⟨S36864x1, .f32⟩
  | 114 => ⟨S36864x7168, .f32⟩
  | 115 => ⟨S36864x7168, .f32⟩
  | 116 => ⟨S_, .f32⟩
  | 117 => ⟨S36864x7168, .f32⟩
  | 118 => ⟨S36864x7168, .f32⟩
  | 119 => ⟨S_, .f32⟩
  | 120 => ⟨S36864x7168, .f32⟩
  | 121 => ⟨S36864x7168, .f32⟩
  | 122 => ⟨S36864x7168, .f32⟩
  | 123 => ⟨S36864x7168, .f32⟩
  | 124 => ⟨S36864x7168, .f32⟩
  | 125 => ⟨S36864x7168, .f32⟩
  | 126 => ⟨S36864x7168, .f32⟩
  | 127 => ⟨S1x2048x14336, .f32⟩
  | _ => ⟨S72, .i32⟩

abbrev hbmTy0_2 (i : Nat) : BufTy := match i % 128 with
  | 0 => ⟨S2048x14336, .f32⟩
  | 1 => ⟨S36864x14336, .f32⟩
  | 2 => ⟨S36864x7168, .f32⟩
  | 3 => ⟨S36864x7168, .f32⟩
  | 4 => ⟨S36864x1, .f32⟩
  | 5 => ⟨S36864x7168, .f32⟩
  | 6 => ⟨S36864x7168, .f32⟩
  | 7 => ⟨S_, .f32⟩
  | 8 => ⟨S36864x7168, .f32⟩
  | 9 => ⟨S36864x7168, .f32⟩
  | 10 => ⟨S_, .f32⟩
  | 11 => ⟨S36864x7168, .f32⟩
  | 12 => ⟨S36864x7168, .f32⟩
  | 13 => ⟨S36864x7168, .f32⟩
  | 14 => ⟨S36864x7168, .f32⟩
  | 15 => ⟨S36864x7168, .f32⟩
  | 16 => ⟨S36864x7168, .f32⟩
  | 17 => ⟨S36864x7168, .f32⟩
  | 18 => ⟨S1x2048x14336, .f32⟩
  | 19 => ⟨S2048x14336, .f32⟩
  | 20 => ⟨S36864x14336, .f32⟩
  | 21 => ⟨S36864x7168, .f32⟩
  | 22 => ⟨S36864x7168, .f32⟩
  | 23 => ⟨S36864x1, .f32⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S_, .f32⟩
  | 30 => ⟨S36864x7168, .f32⟩
  | 31 => ⟨S36864x7168, .f32⟩
  | 32 => ⟨S36864x7168, .f32⟩
  | 33 => ⟨S36864x7168, .f32⟩
  | 34 => ⟨S36864x7168, .f32⟩
  | 35 => ⟨S36864x7168, .f32⟩
  | 36 => ⟨S36864x7168, .f32⟩
  | 37 => ⟨S1x2048x14336, .f32⟩
  | 38 => ⟨S2048x14336, .f32⟩
  | 39 => ⟨S36864x14336, .f32⟩
  | 40 => ⟨S36864x7168, .f32⟩
  | 41 => ⟨S36864x7168, .f32⟩
  | 42 => ⟨S36864x1, .f32⟩
  | 43 => ⟨S36864x7168, .f32⟩
  | 44 => ⟨S36864x7168, .f32⟩
  | 45 => ⟨S_, .f32⟩
  | 46 => ⟨S36864x7168, .f32⟩
  | 47 => ⟨S36864x7168, .f32⟩
  | 48 => ⟨S_, .f32⟩
  | 49 => ⟨S36864x7168, .f32⟩
  | 50 => ⟨S36864x7168, .f32⟩
  | 51 => ⟨S36864x7168, .f32⟩
  | 52 => ⟨S36864x7168, .f32⟩
  | 53 => ⟨S36864x7168, .f32⟩
  | 54 => ⟨S36864x7168, .f32⟩
  | 55 => ⟨S36864x7168, .f32⟩
  | 56 => ⟨S1x2048x14336, .f32⟩
  | 57 => ⟨S2048x14336, .f32⟩
  | 58 => ⟨S36864x14336, .f32⟩
  | 59 => ⟨S36864x7168, .f32⟩
  | 60 => ⟨S36864x7168, .f32⟩
  | 61 => ⟨S36864x1, .f32⟩
  | 62 => ⟨S36864x7168, .f32⟩
  | 63 => ⟨S36864x7168, .f32⟩
  | 64 => ⟨S_, .f32⟩
  | 65 => ⟨S36864x7168, .f32⟩
  | 66 => ⟨S36864x7168, .f32⟩
  | 67 => ⟨S_, .f32⟩
  | 68 => ⟨S36864x7168, .f32⟩
  | 69 => ⟨S36864x7168, .f32⟩
  | 70 => ⟨S36864x7168, .f32⟩
  | 71 => ⟨S36864x7168, .f32⟩
  | 72 => ⟨S36864x7168, .f32⟩
  | 73 => ⟨S36864x7168, .f32⟩
  | 74 => ⟨S36864x7168, .f32⟩
  | 75 => ⟨S1x2048x14336, .f32⟩
  | 76 => ⟨S2048x14336, .f32⟩
  | 77 => ⟨S36864x14336, .f32⟩
  | 78 => ⟨S36864x7168, .f32⟩
  | 79 => ⟨S36864x7168, .f32⟩
  | 80 => ⟨S36864x1, .f32⟩
  | 81 => ⟨S36864x7168, .f32⟩
  | 82 => ⟨S36864x7168, .f32⟩
  | 83 => ⟨S_, .f32⟩
  | 84 => ⟨S36864x7168, .f32⟩
  | 85 => ⟨S36864x7168, .f32⟩
  | 86 => ⟨S_, .f32⟩
  | 87 => ⟨S36864x7168, .f32⟩
  | 88 => ⟨S36864x7168, .f32⟩
  | 89 => ⟨S36864x7168, .f32⟩
  | 90 => ⟨S36864x7168, .f32⟩
  | 91 => ⟨S36864x7168, .f32⟩
  | 92 => ⟨S36864x7168, .f32⟩
  | 93 => ⟨S36864x7168, .f32⟩
  | 94 => ⟨S36864x7168, .bf16⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call4_v0 : Ref sig .tc := ⟨.hbm, 90, rfl⟩
abbrev main_call4_v1 : Ref sig .tc := ⟨.hbm, 91, rfl⟩
abbrev main_call4_cst : Ref sig .tc := ⟨.hbm, 92, rfl⟩
abbrev main_call4_v2 : Ref sig .tc := ⟨.hbm, 93, rfl⟩
abbrev main_call4_v3 : Ref sig .tc := ⟨.hbm, 94, rfl⟩
abbrev main_call4_cst_0 : Ref sig .tc := ⟨.hbm, 95, rfl⟩
abbrev main_call4_v4 : Ref sig .tc := ⟨.hbm, 96, rfl⟩
abbrev main_call4_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_call8_v0 : Ref sig .tc := ⟨.hbm, 166, rfl⟩
abbrev main_call8_v1 : Ref sig .tc := ⟨.hbm, 167, rfl⟩
abbrev main_call8_cst : Ref sig .tc := ⟨.hbm, 168, rfl⟩
abbrev main_call8_v2 : Ref sig .tc := ⟨.hbm, 169, rfl⟩
abbrev main_call8_v3 : Ref sig .tc := ⟨.hbm, 170, rfl⟩
abbrev main_call8_cst_0 : Ref sig .tc := ⟨.hbm, 171, rfl⟩
abbrev main_call8_v4 : Ref sig .tc := ⟨.hbm, 172, rfl⟩
abbrev main_call8_v5 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_call9_v0 : Ref sig .tc := ⟨.hbm, 185, rfl⟩
abbrev main_call9_v1 : Ref sig .tc := ⟨.hbm, 186, rfl⟩
abbrev main_call9_cst : Ref sig .tc := ⟨.hbm, 187, rfl⟩
abbrev main_call9_v2 : Ref sig .tc := ⟨.hbm, 188, rfl⟩
abbrev main_call9_v3 : Ref sig .tc := ⟨.hbm, 189, rfl⟩
abbrev main_call9_cst_0 : Ref sig .tc := ⟨.hbm, 190, rfl⟩
abbrev main_call9_v4 : Ref sig .tc := ⟨.hbm, 191, rfl⟩
abbrev main_call9_v5 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_call10_v0 : Ref sig .tc := ⟨.hbm, 204, rfl⟩
abbrev main_call10_v1 : Ref sig .tc := ⟨.hbm, 205, rfl⟩
abbrev main_call10_cst : Ref sig .tc := ⟨.hbm, 206, rfl⟩
abbrev main_call10_v2 : Ref sig .tc := ⟨.hbm, 207, rfl⟩
abbrev main_call10_v3 : Ref sig .tc := ⟨.hbm, 208, rfl⟩
abbrev main_call10_cst_0 : Ref sig .tc := ⟨.hbm, 209, rfl⟩
abbrev main_call10_v4 : Ref sig .tc := ⟨.hbm, 210, rfl⟩
abbrev main_call10_v5 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_call11_v0 : Ref sig .tc := ⟨.hbm, 223, rfl⟩
abbrev main_call11_v1 : Ref sig .tc := ⟨.hbm, 224, rfl⟩
abbrev main_call11_cst : Ref sig .tc := ⟨.hbm, 225, rfl⟩
abbrev main_call11_v2 : Ref sig .tc := ⟨.hbm, 226, rfl⟩
abbrev main_call11_v3 : Ref sig .tc := ⟨.hbm, 227, rfl⟩
abbrev main_call11_cst_0 : Ref sig .tc := ⟨.hbm, 228, rfl⟩
abbrev main_call11_v4 : Ref sig .tc := ⟨.hbm, 229, rfl⟩
abbrev main_call11_v5 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_call12_v0 : Ref sig .tc := ⟨.hbm, 242, rfl⟩
abbrev main_call12_v1 : Ref sig .tc := ⟨.hbm, 243, rfl⟩
abbrev main_call12_cst : Ref sig .tc := ⟨.hbm, 244, rfl⟩
abbrev main_call12_v2 : Ref sig .tc := ⟨.hbm, 245, rfl⟩
abbrev main_call12_v3 : Ref sig .tc := ⟨.hbm, 246, rfl⟩
abbrev main_call12_cst_0 : Ref sig .tc := ⟨.hbm, 247, rfl⟩
abbrev main_call12_v4 : Ref sig .tc := ⟨.hbm, 248, rfl⟩
abbrev main_call12_v5 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_call13_v0 : Ref sig .tc := ⟨.hbm, 261, rfl⟩
abbrev main_call13_v1 : Ref sig .tc := ⟨.hbm, 262, rfl⟩
abbrev main_call13_cst : Ref sig .tc := ⟨.hbm, 263, rfl⟩
abbrev main_call13_v2 : Ref sig .tc := ⟨.hbm, 264, rfl⟩
abbrev main_call13_v3 : Ref sig .tc := ⟨.hbm, 265, rfl⟩
abbrev main_call13_cst_0 : Ref sig .tc := ⟨.hbm, 266, rfl⟩
abbrev main_call13_v4 : Ref sig .tc := ⟨.hbm, 267, rfl⟩
abbrev main_call13_v5 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_call14_v0 : Ref sig .tc := ⟨.hbm, 280, rfl⟩
abbrev main_call14_v1 : Ref sig .tc := ⟨.hbm, 281, rfl⟩
abbrev main_call14_cst : Ref sig .tc := ⟨.hbm, 282, rfl⟩
abbrev main_call14_v2 : Ref sig .tc := ⟨.hbm, 283, rfl⟩
abbrev main_call14_v3 : Ref sig .tc := ⟨.hbm, 284, rfl⟩
abbrev main_call14_cst_0 : Ref sig .tc := ⟨.hbm, 285, rfl⟩
abbrev main_call14_v4 : Ref sig .tc := ⟨.hbm, 286, rfl⟩
abbrev main_call14_v5 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_call15_v0 : Ref sig .tc := ⟨.hbm, 299, rfl⟩
abbrev main_call15_v1 : Ref sig .tc := ⟨.hbm, 300, rfl⟩
abbrev main_call15_cst : Ref sig .tc := ⟨.hbm, 301, rfl⟩
abbrev main_call15_v2 : Ref sig .tc := ⟨.hbm, 302, rfl⟩
abbrev main_call15_v3 : Ref sig .tc := ⟨.hbm, 303, rfl⟩
abbrev main_call15_cst_0 : Ref sig .tc := ⟨.hbm, 304, rfl⟩
abbrev main_call15_v4 : Ref sig .tc := ⟨.hbm, 305, rfl⟩
abbrev main_call15_v5 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_call16_v0 : Ref sig .tc := ⟨.hbm, 318, rfl⟩
abbrev main_call16_v1 : Ref sig .tc := ⟨.hbm, 319, rfl⟩
abbrev main_call16_cst : Ref sig .tc := ⟨.hbm, 320, rfl⟩
abbrev main_call16_v2 : Ref sig .tc := ⟨.hbm, 321, rfl⟩
abbrev main_call16_v3 : Ref sig .tc := ⟨.hbm, 322, rfl⟩
abbrev main_call16_cst_0 : Ref sig .tc := ⟨.hbm, 323, rfl⟩
abbrev main_call16_v4 : Ref sig .tc := ⟨.hbm, 324, rfl⟩
abbrev main_call16_v5 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_v199 : Ref sig .tc := ⟨.hbm, 336, rfl⟩
abbrev main_call17_v0 : Ref sig .tc := ⟨.hbm, 337, rfl⟩
abbrev main_call17_v1 : Ref sig .tc := ⟨.hbm, 338, rfl⟩
abbrev main_call17_cst : Ref sig .tc := ⟨.hbm, 339, rfl⟩
abbrev main_call17_v2 : Ref sig .tc := ⟨.hbm, 340, rfl⟩
abbrev main_call17_v3 : Ref sig .tc := ⟨.hbm, 341, rfl⟩
abbrev main_call17_cst_0 : Ref sig .tc := ⟨.hbm, 342, rfl⟩
abbrev main_call17_v4 : Ref sig .tc := ⟨.hbm, 343, rfl⟩
abbrev main_call17_v5 : Ref sig .tc := ⟨.hbm, 344, rfl⟩
abbrev main_v200 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩

abbrev nD : Nat := 1
abbrev τ : Topo := Topo.v7x

variable {F : FTy → Type} [FloatOps F]
-- ==== Down.lean ====
abbrev S72 : Shape := ⟨1, ![72]⟩
abbrev S1 : Shape := ⟨1, ![1]⟩
abbrev S36864x7168 : Shape := ⟨2, ![36864, 7168]⟩
abbrev S16x7168x2048 : Shape := ⟨3, ![16, 7168, 2048]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩
abbrev S256x7168 : Shape := ⟨2, ![256, 7168]⟩
abbrev S256x512 : Shape := ⟨2, ![256, 512]⟩

abbrev nBuf : Space → Nat
  | .hbm => 3
  | .vmem => 6
  | .smem => 3
  | _ => 0

abbrev bufTy : (tb : Table) → Fin (tcTables nBuf tb) → BufTy
  | .hbm, ⟨0, _⟩ => ⟨S36864x7168, .bf16⟩
  | .hbm, ⟨1, _⟩ => ⟨S16x7168x2048, .f32⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v2 : BitVec 32) : Fin 1 → Nat :=
  let arg1 : BitVec 32 := BitVec.ofNat 32 (i 1).val
  let c1_i32 : BitVec 32 := 1#32
  let v3 : BitVec 32 := Scalar.subi v2 c1_i32
  let v4 : BitVec 32 := Scalar.minsi arg1 v3
  let v5 : Index := Scalar.indexCast v4
  ![v5.toNat]

def k0_chk1 (i : grid0.Coords) (v2 : BitVec 32) : Prop :=
  (∀ a, (k0_off2 i v2) a + S1.size a ≤ S72.size a)
theorem k0_off2_inb : ∀ (i : grid0.Coords) (v2 : BitVec 32) (k0_hw1 : k0_chk1 i v2), ∀ a, (k0_off2 i v2) a + S1.size a ≤ S72.size a := fun i v2 k0_hw1 => k0_hw1

def k0_cond1 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v_true : BitVec 1 := 1#1
  let v8 : BitVec 1 := Scalar.xori v7 v_true
  let v9 : BitVec 1 := Scalar.andi v1 v8
  let v10 : BitVec 32 := Scalar.extui v9
  let c0_i32 : BitVec 32 := 0#32
  let v11 : BitVec 1 := Scalar.cmpi .ne v10 c0_i32
  v11

def k0_cond2 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v12 : BitVec 1 := Scalar.andi v1 v7
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v15 : BitVec 1 := Scalar.xori v1 true_3
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S72 : Shape := ⟨1, ![72]⟩
abbrev S1 : Shape := ⟨1, ![1]⟩
abbrev S36864x7168 : Shape := ⟨2, ![36864, 7168]⟩
abbrev S16x7168x2048 : Shape := ⟨3, ![16, 7168, 2048]⟩
abbrev S512 : Shape := ⟨1, ![512]⟩
abbrev S1x512 : Shape := ⟨2, ![1, 512]⟩
abbrev S72x1 : Shape := ⟨2, ![72, 1]⟩
abbrev S_ : Shape := ⟨0, ![]⟩
abbrev S72x512 : Shape := ⟨2, ![72, 512]⟩
abbrev S36864 : Shape := ⟨1, ![36864]⟩
abbrev S36864x1 : Shape := ⟨2, ![36864, 1]⟩
abbrev S1x16 : Shape := ⟨2, ![1, 16]⟩
abbrev S36864x16 : Shape := ⟨2, ![36864, 16]⟩
abbrev S36864x2048 : Shape := ⟨2, ![36864, 2048]⟩
abbrev S1x7168x2048 : Shape := ⟨3, ![1, 7168, 2048]⟩
abbrev S7168x2048 : Shape := ⟨2, ![7168, 2048]⟩

abbrev nBuf : Space → Nat
  | .hbm => 158
  | .vmem => 0
  | .smem => 0
  | _ => 0

abbrev hbmTy0_0 (i : Nat) : BufTy := match i % 128 with
  | 0 => ⟨S72, .i32⟩
  | 1 => ⟨S1, .i32⟩
  | 2 => ⟨S72, .i32⟩
  | 3 => ⟨S36864x7168, .bf16⟩
  | 4 => ⟨S16x7168x2048, .f32⟩
  | 5 => ⟨S512, .i32⟩
  | 6 => ⟨S1x512, .i32⟩
  | 7 => ⟨S72, .i32⟩
  | 8 => ⟨S72x1, .i32⟩
  | 9 => ⟨S_, .i32⟩
  | 10 => ⟨S72x1, .i32⟩
  | 11 => ⟨S72x1, .i1⟩
  | 12 => ⟨S72x1, .i32⟩
  | 13 => ⟨S_, .i32⟩
  | 14 => ⟨S72x1, .i32⟩
  | 15 => ⟨S72x1, .i1⟩
  | 16 => ⟨S_, .i32⟩
  | 17 => ⟨S1x512, .i32⟩
  | 18 => ⟨S1x512, .i1⟩
  | 19 => ⟨S72x512, .i1⟩
  | 20 => ⟨S72x512, .i1⟩
  | 21 => ⟨S72x512, .i1⟩
  | 22 => ⟨S72x512, .i1⟩
  | 23 => ⟨S72x512, .i1⟩
  | 24 => ⟨S_, .f32⟩
  | 25 => ⟨S_, .f32⟩
  | 26 => ⟨S72x512, .f32⟩
  | 27 => ⟨S72x512, .f32⟩
  | 28 => ⟨S72x512, .f32⟩
  | 29 => ⟨S36864, .f32⟩
  | 30 => ⟨S72x1, .i32⟩
  | 31 => ⟨S72x512, .i32⟩
  | 32 => ⟨S36864, .i32⟩
  | 33 => ⟨S36864x1, .i32⟩
  | 34 => ⟨S1x16, .i32⟩
  | 35 => ⟨S36864x16, .i32⟩
  | 36 => ⟨S36864x16, .i32⟩
  | 37 => ⟨S36864x16, .i1⟩
  | 38 => ⟨S36864x16, .f32⟩
  | 39 => ⟨S36864x1, .f32⟩
  | 40 => ⟨S36864x1, .f32⟩
  | 41 => ⟨S36864x16, .f32⟩
  | 42 => ⟨S36864x16, .f32⟩
  | 43 => ⟨S36864x7168, .f32⟩
  | 44 => ⟨S_, .f32⟩
  | 45 => ⟨S36864x2048, .f32⟩
  | 46 => ⟨S36864x1, .f32⟩
  | 47 => ⟨S1x7168x2048, .f32⟩
  | 48 => ⟨S7168x2048, .f32⟩
  | 49 => ⟨S36864x2048, .f32⟩
  | 50 => ⟨S36864x2048, .f32⟩
  | 51 => ⟨S36864x2048, .f32⟩
  | 52 => ⟨S36864x2048, .f32⟩
  | 53 => ⟨S36864x1, .f32⟩
  | 54 => ⟨S1x7168x2048, .f32⟩
  | 55 => ⟨S7168x2048, .f32⟩
  | 56 => ⟨S36864x2048, .f32⟩
  | 57 => ⟨S36864x2048, .f32⟩
  | 58 => ⟨S36864x2048, .f32⟩
  | 59 => ⟨S36864x2048, .f32⟩
  | 60 => ⟨S36864x1, .f32⟩
  | 61 => ⟨S1x7168x2048, .f32⟩
  | 62 => ⟨S7168x2048, .f32⟩
  | 63 => ⟨S36864x2048, .f32⟩
  | 64 => ⟨S36864x2048, .f32⟩
  | 65 => ⟨S36864x2048, .f32⟩
  | 66 => ⟨S36864x2048, .f32⟩
  | 67 => ⟨S36864x1, .f32⟩
  | 68 => ⟨S1x7168x2048, .f32⟩
  | 69 => ⟨S7168x2048, .f32⟩
  | 70 => ⟨S36864x2048, .f32⟩
  | 71 => ⟨S36864x2048, .f32⟩
  | 72 => ⟨S36864x2048, .f32⟩
  | 73 => ⟨S36864x2048, .f32⟩
  | 74 => ⟨S36864x1, .f32⟩
  | 75 => ⟨S1x7168x2048, .f32⟩
  | 76 => ⟨S7168x2048, .f32⟩
  | 77 => ⟨S36864x2048, .f32⟩
  | 78 => ⟨S36864x2048, .f32⟩
  | 79 => ⟨S36864x2048, .f32⟩
  | 80 => ⟨S36864x2048, .f32⟩
  | 81 => ⟨S36864x1, .f32⟩
  | 82 => ⟨S1x7168x2048, .f32⟩
  | 83 => ⟨S7168x2048, .f32⟩
  | 84 => ⟨S36864x2048, .f32⟩
  | 85 => ⟨S36864x2048, .f32⟩
  | 86 => ⟨S36864x2048, .f32⟩
  | 87 => ⟨S36864x2048, .f32⟩
  | 88 => ⟨S36864x1, .f32⟩
  | 89 => ⟨S1x7168x2048, .f32⟩
  | 90 => ⟨S7168x2048, .f32⟩
  | 91 => ⟨S36864x2048, .f32⟩
  | 92 => ⟨S36864x2048, .f32⟩
  | 93 => ⟨S36864x2048, .f32⟩
  | 94 => ⟨S36864x2048, .f32⟩
  | 95 => ⟨S36864x1, .f32⟩
  | 96 => ⟨S1x7168x2048, .f32⟩
  | 97 => ⟨S7168x2048, .f32⟩
  | 98 => ⟨S36864x2048, .f32⟩
  | 99 => ⟨S36864x2048, .f32⟩
  | 100 => ⟨S36864x2048, .f32⟩
  | 101 => ⟨S36864x2048, .f32⟩
  | 102 => ⟨S36864x1, .f32⟩
  | 103 => ⟨S1x7168x2048, .f32⟩
  | 104 => ⟨S7168x2048, .f32⟩
  | 105 => ⟨S36864x2048, .f32⟩
  | 106 => ⟨S36864x2048, .f32⟩
  | 107 => ⟨S36864x2048, .f32⟩
  | 108 => ⟨S36864x2048, .f32⟩
  | 109 => ⟨S36864x1, .f32⟩
  | 110 => ⟨S1x7168x2048, .f32⟩
  | 111 => ⟨S7168x2048, .f32⟩
  | 112 => ⟨S36864x2048, .f32⟩
  | 113 => ⟨S36864x2048, .f32⟩
  | 114 => ⟨S36864x2048, .f32⟩
  | 115 => ⟨S36864x2048, .f32⟩
  | 116 => ⟨S36864x1, .f32⟩
  | 117 => ⟨S1x7168x2048, .f32⟩
  | 118 => ⟨S7168x2048, .f32⟩
  | 119 => ⟨S36864x2048, .f32⟩
  | 120 => ⟨S36864x2048, .f32⟩
  | 121 => ⟨S36864x2048, .f32⟩
  | 122 => ⟨S36864x2048, .f32⟩
  | 123 => ⟨S36864x1, .f32⟩
  | 124 => ⟨S1x7168x2048, .f32⟩
  | 125 => ⟨S7168x2048, .f32⟩
  | 126 => ⟨S36864x2048, .f32⟩
  | 127 => ⟨S36864x2048, .f32⟩
  | _ => ⟨S72, .i32⟩

abbrev hbmTy0_1 (i : Nat) : BufTy := match i % 128 with
  | 0 => ⟨S36864x2048, .f32⟩
  | 1 => ⟨S36864x2048, .f32⟩
  | 2 => ⟨S36864x1, .f32⟩
  | 3 => ⟨S1x7168x2048, .f32⟩
  | 4 => ⟨S7168x2048, .f32⟩
  | 5 => ⟨S36864x2048, .f32⟩
  | 6 => ⟨S36864x2048, .f32⟩
  | 7 => ⟨S36864x2048, .f32⟩
  | 8 => ⟨S36864x2048, .f32⟩
  | 9 => ⟨S36864x1, .f32⟩
  | 10 => ⟨S1x7168x2048, .f32⟩
  | 11 => ⟨S7168x2048, .f32⟩
  | 12 => ⟨S36864x2048, .f32⟩
  | 13 => ⟨S36864x2048, .f32⟩
  | 14 => ⟨S36864x2048, .f32⟩
  | 15 => ⟨S36864x2048, .f32⟩
  | 16 => ⟨S36864x1, .f32⟩
  | 17 => ⟨S1x7168x2048, .f32⟩
  | 18 => ⟨S7168x2048, .f32⟩
  | 19 => ⟨S36864x2048, .f32⟩
  | 20 => ⟨S36864x2048, .f32⟩
  | 21 => ⟨S36864x2048, .f32⟩
  | 22 => ⟨S36864x2048, .f32⟩
  | 23 => ⟨S36864x1, .f32⟩
  | 24 => ⟨S1x7168x2048, .f32⟩
  | 25 => ⟨S7168x2048, .f32⟩
  | 26 => ⟨S36864x2048, .f32⟩
  | 27 => ⟨S36864x2048, .f32⟩
  | 28 => ⟨S36864x2048, .f32⟩
  | 29 => ⟨S36864x2048, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩

abbrev nD : Nat := 1
abbrev τ : Topo := Topo.v7x

variable {F : FTy → Type} [FloatOps F]
-- ==== DenseUp.lean ====
abbrev S_ : Shape := ⟨0, ![]⟩
abbrev S16384x2048 : Shape := ⟨2, ![16384, 2048]⟩
abbrev S2x2048x14336 : Shape := ⟨3, ![2, 2048, 14336]⟩
abbrev S16 : Shape := ⟨1, ![16]⟩
abbrev S1 : Shape := ⟨1, ![1]⟩
abbrev S16384x7168 : Shape := ⟨2, ![16384, 7168]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 6
  | .vmem => 8
  | .smem => 3
  | _ => 0

abbrev bufTy : (tb : Table) → Fin (tcTables nBuf tb) → BufTy
  | .hbm, ⟨0, _⟩ => ⟨S_, .i32⟩
  | .hbm, ⟨1, _⟩ => ⟨S16384x2048, .bf16⟩
  | .hbm, ⟨2, _⟩ => ⟨S2x2048x14336, .f32⟩
  | .hbm, ⟨3, _⟩ => ⟨S_, .i32⟩
  | .hbm, ⟨4, _⟩ => ⟨S_, .i32⟩
  | .hbm, ⟨5, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .smem, ⟨0, _⟩ => ⟨S16, .i32⟩
  | .local _ .smem, ⟨1, _⟩ => ⟨S1, .i32⟩
  | .local _ .smem, ⟨2, _⟩ => ⟨S16, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v3 : Ref sig .tc := ⟨.hbm, 5, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 16], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v2 : BitVec 32) : Fin 1 → Nat :=
  let arg1 : BitVec 32 := BitVec.ofNat 32 (i 1).val
  let c1_i32 : BitVec 32 := 1#32
  let v3 : BitVec 32 := Scalar.subi v2 c1_i32
  let v4 : BitVec 32 := Scalar.minsi arg1 v3
  let v5 : Index := Scalar.indexCast v4
  ![v5.toNat]

def k0_chk1 (i : grid0.Coords) (v2 : BitVec 32) : Prop :=
  (∀ a, (k0_off2 i v2) a + S1.size a ≤ S16.size a)
theorem k0_off2_inb : ∀ (i : grid0.Coords) (v2 : BitVec 32) (k0_hw1 : k0_chk1 i v2), ∀ a, (k0_off2 i v2) a + S1.size a ≤ S16.size a := fun i v2 k0_hw1 => k0_hw1

def k0_cond1 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v_true : BitVec 1 := 1#1
  let v8 : BitVec 1 := Scalar.xori v7 v_true
  let v9 : BitVec 1 := Scalar.andi v1 v8
  let v10 : BitVec 32 := Scalar.extui v9
  let c0_i32 : BitVec 32 := 0#32
  let v11 : BitVec 1 := Scalar.cmpi .ne v10 c0_i32
  v11

def k0_cond2 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v12 : BitVec 1 := Scalar.andi v1 v7
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v15 : BitVec 1 := Scalar.xori v1 true_3
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c14_i32 : BitVec 32 := 14#32
  let v2 : BitVec 32 := Scalar.addi c14_i32 arg0
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseUpReferenceIdeal.lean ====
abbrev S_ : Shape := ⟨0, ![]⟩
abbrev S16384x2048 : Shape := ⟨2, ![16384, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S16384x14336 : Shape := ⟨2, ![16384, 14336]⟩
abbrev S16384x7168 : Shape := ⟨2, ![16384, 7168]⟩

abbrev nBuf : Space → Nat
  | .hbm => 25
  | .vmem => 0
  | .smem => 0
  | _ => 0

abbrev bufTy : (tb : Table) → Fin (tcTables nBuf tb) → BufTy
  | .hbm, ⟨0, _⟩ => ⟨S_, .i32⟩
  | .hbm, ⟨1, _⟩ => ⟨S16384x2048, .bf16⟩
  | .hbm, ⟨2, _⟩ => ⟨S2x2048x14336, .f32⟩
  | .hbm, ⟨3, _⟩ => ⟨S_, .i32⟩
  | .hbm, ⟨4, _⟩ => ⟨S_, .i1⟩
  | .hbm, ⟨5, _⟩ => ⟨S1x2048x14336, .f32⟩
  | .hbm, ⟨6, _⟩ => ⟨S2048x14336, .f32⟩
  | .hbm, ⟨7, _⟩ => ⟨S1x2048x14336, .f32⟩
  | .hbm, ⟨8, _⟩ => ⟨S2048x14336, .f32⟩
  | .hbm, ⟨9, _⟩ => ⟨S2048x14336, .f32⟩
  | .hbm, ⟨10, _⟩ => ⟨S16384x2048, .f32⟩
  | .hbm, ⟨11, _⟩ => ⟨S16384x14336, .f32⟩
  | .hbm, ⟨12, _⟩ => ⟨S16384x7168, .f32⟩
  | .hbm, ⟨13, _⟩ => ⟨S16384x7168, .f32⟩
  | .hbm, ⟨14, _⟩ => ⟨S16384x7168, .f32⟩
  | .hbm, ⟨15, _⟩ => ⟨S16384x7168, .f32⟩
  | .hbm, ⟨16, _⟩ => ⟨S_, .f32⟩
  | .hbm, ⟨17, _⟩ => ⟨S16384x7168, .f32⟩
  | .hbm, ⟨18, _⟩ => ⟨S16384x7168, .f32⟩
  | .hbm, ⟨19, _⟩ => ⟨S_, .f32⟩
  | .hbm, ⟨20, _⟩ => ⟨S16384x7168, .f32⟩
  | .hbm, ⟨21, _⟩ => ⟨S16384x7168, .f32⟩
  | .hbm, ⟨22, _⟩ => ⟨S16384x7168, .f32⟩
  | .hbm, ⟨23, _⟩ => ⟨S16384x7168, .f32⟩
  | .hbm, ⟨24, _⟩ => ⟨S16384x7168, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== DenseDown.lean ====
abbrev S_ : Shape := ⟨0, ![]⟩
abbrev S16384x7168 : Shape := ⟨2, ![16384, 7168]⟩
abbrev S2x7168x2048 : Shape := ⟨3, ![2, 7168, 2048]⟩
abbrev S16384x2048 : Shape := ⟨2, ![16384, 2048]⟩
abbrev S32 : Shape := ⟨1, ![32]⟩
abbrev S1 : Shape := ⟨1, ![1]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩
abbrev S256x7168 : Shape := ⟨2, ![256, 7168]⟩
abbrev S256x512 : Shape := ⟨2, ![256, 512]⟩

abbrev nBuf : Space → Nat
  | .hbm => 7
  | .vmem => 8
  | .smem => 3
  | _ => 0

abbrev bufTy : (tb : Table) → Fin (tcTables nBuf tb) → BufTy
  | .hbm, ⟨0, _⟩ => ⟨S_, .i32⟩
  | .hbm, ⟨1, _⟩ => ⟨S16384x7168, .bf16⟩
  | .hbm, ⟨2, _⟩ => ⟨S2x7168x2048, .f32⟩
  | .hbm, ⟨3, _⟩ => ⟨S16384x2048, .f32⟩
  | .hbm, ⟨4, _⟩ => ⟨S_, .i32⟩
  | .hbm, ⟨5, _⟩ => ⟨S_, .i32⟩
  | .hbm, ⟨6, _⟩ => ⟨S16384x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .smem, ⟨0, _⟩ => ⟨S32, .i32⟩
  | .local _ .smem, ⟨1, _⟩ => ⟨S1, .i32⟩
  | .local _ .smem, ⟨2, _⟩ => ⟨S32, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v2 : BitVec 32) : Fin 1 → Nat :=
  let arg1 : BitVec 32 := BitVec.ofNat 32 (i 1).val
  let c1_i32 : BitVec 32 := 1#32
  let v3 : BitVec 32 := Scalar.subi v2 c1_i32
  let v4 : BitVec 32 := Scalar.minsi arg1 v3
  let v5 : Index := Scalar.indexCast v4
  ![v5.toNat]

def k0_chk1 (i : grid0.Coords) (v2 : BitVec 32) : Prop :=
  (∀ a, (k0_off2 i v2) a + S1.size a ≤ S32.size a)
theorem k0_off2_inb : ∀ (i : grid0.Coords) (v2 : BitVec 32) (k0_hw1 : k0_chk1 i v2), ∀ a, (k0_off2 i v2) a + S1.size a ≤ S32.size a := fun i v2 k0_hw1 => k0_hw1

def k0_cond1 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v_true : BitVec 1 := 1#1
  let v8 : BitVec 1 := Scalar.xori v7 v_true
  let v9 : BitVec 1 := Scalar.andi v1 v8
  let v10 : BitVec 32 := Scalar.extui v9
  let c0_i32 : BitVec 32 := 0#32
  let v11 : BitVec 1 := Scalar.cmpi .ne v10 c0_i32
  v11

def k0_cond2 (i : grid0.Coords) (v0 : BitVec 32) (v6 : BitVec 32) : BitVec 1 :=
  let arg1 : BitVec 32 := BitVec.ofNat 32 (i 1).val
  let v1 : BitVec 1 := Scalar.cmpi .slt arg1 v0
  let c1_i32_1 : BitVec 32 := 1#32
  let v7 : BitVec 1 := Scalar.cmpi .eq v6 c1_i32_1
  let v12 : BitVec 1 := Scalar.andi v1 v7
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v15 : BitVec 1 := Scalar.xori v1 true_3
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseDownReferenceIdeal.lean ====
abbrev S_ : Shape := ⟨0, ![]⟩
abbrev S16384x7168 : Shape := ⟨2, ![16384, 7168]⟩
abbrev S2x7168x2048 : Shape := ⟨3, ![2, 7168, 2048]⟩
abbrev S16384x2048 : Shape := ⟨2, ![16384, 2048]⟩
abbrev S1x7168x2048 : Shape := ⟨3, ![1, 7168, 2048]⟩
abbrev S7168x2048 : Shape := ⟨2, ![7168, 2048]⟩

abbrev nBuf : Space → Nat
  | .hbm => 14
  | .vmem => 0
  | .smem => 0
  | _ => 0

abbrev bufTy : (tb : Table) → Fin (tcTables nBuf tb) → BufTy
  | .hbm, ⟨0, _⟩ => ⟨S_, .i32⟩
  | .hbm, ⟨1, _⟩ => ⟨S16384x7168, .bf16⟩
  | .hbm, ⟨2, _⟩ => ⟨S2x7168x2048, .f32⟩
  | .hbm, ⟨3, _⟩ => ⟨S16384x2048, .f32⟩
  | .hbm, ⟨4, _⟩ => ⟨S_, .i32⟩
  | .hbm, ⟨5, _⟩ => ⟨S_, .i1⟩
  | .hbm, ⟨6, _⟩ => ⟨S1x7168x2048, .f32⟩
  | .hbm, ⟨7, _⟩ => ⟨S7168x2048, .f32⟩
  | .hbm, ⟨8, _⟩ => ⟨S1x7168x2048, .f32⟩
  | .hbm, ⟨9, _⟩ => ⟨S7168x2048, .f32⟩
  | .hbm, ⟨10, _⟩ => ⟨S7168x2048, .f32⟩
  | .hbm, ⟨11, _⟩ => ⟨S16384x7168, .f32⟩
  | .hbm, ⟨12, _⟩ => ⟨S16384x2048, .f32⟩
  | .hbm, ⟨13, _⟩ => ⟨S16384x2048, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== OddOutFirst.lean ====
abbrev S16384x2048 : Shape := ⟨2, ![16384, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutFirstReferenceIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddOutSecond.lean ====
abbrev S16384x2048 : Shape := ⟨2, ![16384, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutSecondReferenceIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvenOutFirst.lean ====
abbrev S16384x1024 : Shape := ⟨2, ![16384, 1024]⟩
abbrev S2x2048x2048 : Shape := ⟨3, ![2, 2048, 2048]⟩
abbrev S16384x2048 : Shape := ⟨2, ![16384, 2048]⟩
abbrev S1024x1024 : Shape := ⟨2, ![1024, 1024]⟩
abbrev S1x1024x1024 : Shape := ⟨3, ![1, 1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenOutFirstReferenceIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== EvenOutSecond.lean ====
abbrev S16384x1024 : Shape := ⟨2, ![16384, 1024]⟩
abbrev S2x2048x2048 : Shape := ⟨3, ![2, 2048, 2048]⟩
abbrev S16384x2048 : Shape := ⟨2, ![16384, 2048]⟩
abbrev S1024x1024 : Shape := ⟨2, ![1024, 1024]⟩
abbrev S1x1024x1024 : Shape := ⟨3, ![1, 1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenOutSecondReferenceIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.UpRun.lean ====
module

public import proofs.«01_k».proof.Proof.Gen.UpIdeal.Launch
public import proofs.«01_k».proof.Proof.Gen.UpIdeal.Skeleton
public import Idealize.ShloMosaic.Lib.Pipeline.TableIdle
public import Idealize.ShloMosaic.Lib.Pipeline.FrameBody
public import Idealize.ShloMosaic.Lib.Pipeline.ValueKit.Tiles
public import Idealize.ShloMosaic.Lib.Ring
public import Idealize.ShloMosaic.Lib.Tactic
public import Idealize.ShloMosaic.Lib.Exec
public import Idealize.ShloMosaic.Lib.Affine
public import Idealize.ShloMosaic.Lib.Writes
public import Idealize.ShloMosaic.Adequacy
public import Idealize.ShloMosaic.Init

@[expose] public section

set_option maxRecDepth 16384
set_option Elab.async false

noncomputable section

/-
  The body of the first expert product (moe_up) run once on arbitrary buffers, over any number system and any tables.  A
  tile of 512 rows takes one of three paths: all its rows hold tokens, only its first 256 do, or none does.  On each path
  the body leaves its output block at the path's payloads.
-/

namespace Cert.UpIdeal.Moe

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads of the tables -/

abbrev te : Memref sig .tc .smem S72 .i32 := Memref.whole main_arg0
abbrev na : Memref sig .tc .smem S1 .i32 := Memref.whole main_arg1
abbrev th : Memref sig .tc .smem S72 .i32 := Memref.whole main_arg2

/-- The number of active tiles. -/
abbrev naW (T1 : S1.Idx → Elt F .i32) : BitVec 32 :=
  View.readAt (Elt F) na.view (Rect.unit (s := S1) ![0] S1.size inb_S1_S1_0).toLoadRect T1 (Shape.Idx.first (numel1_S1.symm ▸ Nat.one_pos))

/-- The mark of the tile: 1 where only its first half holds tokens. -/
abbrev thW (i : grid0.Coords) (T1 : S1.Idx → Elt F .i32) (T2 : S72.Idx → Elt F .i32) (hw : k0_chk1 i (naW (F := F) T1)) : BitVec 32 :=
  View.readAt (Elt F) th.view (Rect.unit (s := S72) (k0_off2 i (naW (F := F) T1)) S1.size (k0_off2_inb i (naW (F := F) T1) hw)).toLoadRect T2
    (Shape.Idx.first (numel1_S1.symm ▸ Nat.one_pos))

/-! The three conditions exclude each other and one of them holds. -/

theorem full_excludes (i : grid0.Coords) (v w : BitVec 32) : k0_cond1 i v w = 1#1 → ¬ k0_cond2 i v w = 1#1 ∧ ¬ k0_cond3 i v = 1#1 := by
  unfold k0_cond1 k0_cond2 k0_cond3; dsimp only
  generalize Scalar.cmpi .slt _ v = a; generalize Scalar.cmpi .eq w _ = b
  revert a b; decide

theorem half_excludes (i : grid0.Coords) (v w : BitVec 32) : k0_cond2 i v w = 1#1 → ¬ k0_cond3 i v = 1#1 := by
  unfold k0_cond2 k0_cond3; dsimp only
  generalize Scalar.cmpi .slt _ v = a; generalize Scalar.cmpi .eq w _ = b
  revert a b; decide

theorem none_left (i : grid0.Coords) (v w : BitVec 32) : ¬ k0_cond1 i v w = 1#1 → ¬ k0_cond2 i v w = 1#1 → k0_cond3 i v = 1#1 := by
  unfold k0_cond1 k0_cond2 k0_cond3; dsimp only
  generalize Scalar.cmpi .slt _ v = a; generalize Scalar.cmpi .eq w _ = b
  revert a b; decide

/-- One of the three conditions holds, whatever words the two of them that read a mark read. -/
theorem some_path (i : grid0.Coords) (v w : BitVec 32) :
    (!(k0_cond1 i v w == 1#1) && !(k0_cond2 i v w == 1#1) && !(k0_cond3 i v == 1#1)) = false := by
  unfold k0_cond1 k0_cond2 k0_cond3; dsimp only
  generalize Scalar.cmpi .slt _ v = a; generalize Scalar.cmpi .eq w _ = b
  revert a b; decide

/-! ## The body on each path -/

section Paths
variable (c : Dev nD) (i : grid0.Coords)
  (arg5 : Memref sig .tc .vmem S512x2048 .bf16) (harg5 : arg5.IsWhole) (arg6 : Memref sig .tc .vmem S1x2048x1024 .f32) (harg6 : arg6.IsWhole)
  (arg7 : Memref sig .tc .vmem S1x2048x1024 .f32) (harg7 : arg7.IsWhole) (arg8 : Memref sig .tc .vmem S512x1024 .bf16) (harg8 : arg8.IsWhole)
  (T0 : S72.Idx → Elt F .i32) (T1 : S1.Idx → Elt F .i32) (T2 : S72.Idx → Elt F .i32)
  (x0 : S512x2048.Idx → Elt F .bf16) (x1 x2 : S1x2048x1024.Idx → Elt F .f32)

/-- The three input blocks and the three tables, as the body finds and leaves them. -/
def held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (te.view.loc (c : Thread nD τ) ↦{fullShare.right} T0)
    ∗ (na.view.loc (c : Thread nD τ) ↦{fullShare.right} T1)
    ∗ (th.view.loc (c : Thread nD τ) ↦{fullShare.right} T2))

/-- The body, run from the held blocks and any output buffer, ends with the output buffer overwritten by `pieces`. -/
def Leaves (pieces : List (View.Piece (Elt F) S512x1024 .bf16)) : Prop :=
  ∀ K : PUnit → sProp 𝕄,
    iprop(held c arg5 arg6 arg7 T0 T1 T2 x0 x1 x2 ∗ (∃ d, owns (c : Thread nD τ) arg8 fullShare d)
      ∗ (iprop(held c arg5 arg6 arg7 T0 T1 T2 x0 x1 x2
          ∗ (∃ f, arg8.view.loc (c : Thread nD τ) ↦[arg8.view.set]{fullShare} arg8.view.writes (Elt F) f pieces)) -∗ K ⟨⟩))
      ⊢ wp frame (wpE (defs₀ (F := F)) Variants.none c none) Set.univ
        (cc0_moe_up i te (Memref.isWhole_whole _) na (Memref.isWhole_whole _) th (Memref.isWhole_whole _) arg5 harg5 arg6 harg6 arg7 harg7 arg8 harg8) K

variable (hw : k0_chk1 i (naW (F := F) T1))

set_option backward.proofsInPublic true in
set_option maxHeartbeats 8000000 in
/-- Every row of the tile holds a token. -/
def runFull (h1 : k0_cond1 i (naW (F := F) T1) (thW (F := F) i T1 T2 hw) = 1#1) (h2 : ¬ k0_cond2 i (naW (F := F) T1) (thW (F := F) i T1 T2 hw) = 1#1)
    (h3 : ¬ k0_cond3 i (naW (F := F) T1) = 1#1) :
    { pieces : List (View.Piece (Elt F) S512x1024 .bf16) //
      Leaves c i arg5 harg5 arg6 harg6 arg7 harg7 arg8 harg8 T0 T1 T2 x0 x1 x2 pieces } :=
  ⟨_, fun K => by
    unfold held owns
    rw [cc0_moe_up_eq_skeleton]; unfold cc0_moe_up_skel
    iintro ⟨⟨H0, H1, H2, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = k0_cond1 _ _ _ = _; exact h1) | (guard_target = ¬(k0_cond2 _ _ _ = _); exact h2) | (guard_target = ¬(k0_cond3 _ _ = _); exact h3))
    sl_step
    iapply Hk
    isplitr [HO]
    · isplitl [H0]; · iexact H0
      isplitl [H1]; · iexact H1
      isplitl [H2]; · iexact H2
      isplitl [HT0]; · iexact HT0
      isplitl [HT1]; · iexact HT1
      iexact HT2
    iexists _; iexact HO⟩

set_option backward.proofsInPublic true in
set_option maxHeartbeats 8000000 in
/-- Only the first half of the tile holds tokens. -/
def runHalf (h1 : ¬ k0_cond1 i (naW (F := F) T1) (thW (F := F) i T1 T2 hw) = 1#1) (h2 : k0_cond2 i (naW (F := F) T1) (thW (F := F) i T1 T2 hw) = 1#1)
    (h3 : ¬ k0_cond3 i (naW (F := F) T1) = 1#1) :
    { pieces : List (View.Piece (Elt F) S512x1024 .bf16) //
      Leaves c i arg5 harg5 arg6 harg6 arg7 harg7 arg8 harg8 T0 T1 T2 x0 x1 x2 pieces } :=
  ⟨_, fun K => by
    unfold held owns
    rw [cc0_moe_up_eq_skeleton]; unfold cc0_moe_up_skel
    iintro ⟨⟨H0, H1, H2, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = ¬(k0_cond1 _ _ _ = _); exact h1) | (guard_target = k0_cond2 _ _ _ = _; exact h2) | (guard_target = ¬(k0_cond3 _ _ = _); exact h3))
    sl_step
    iapply Hk
    isplitr [HO]
    · isplitl [H0]; · iexact H0
      isplitl [H1]; · iexact H1
      isplitl [H2]; · iexact H2
      isplitl [HT0]; · iexact HT0
      isplitl [HT1]; · iexact HT1
      iexact HT2
    iexists _; iexact HO⟩

set_option backward.proofsInPublic true in
set_option maxHeartbeats 8000000 in
/-- No row of the tile holds a token. -/
def runNone (h1 : ¬ k0_cond1 i (naW (F := F) T1) (thW (F := F) i T1 T2 hw) = 1#1) (h2 : ¬ k0_cond2 i (naW (F := F) T1) (thW (F := F) i T1 T2 hw) = 1#1)
    (h3 : k0_cond3 i (naW (F := F) T1) = 1#1) :
    { pieces : List (View.Piece (Elt F) S512x1024 .bf16) //
      Leaves c i arg5 harg5 arg6 harg6 arg7 harg7 arg8 harg8 T0 T1 T2 x0 x1 x2 pieces } :=
  ⟨_, fun K => by
    unfold held owns
    rw [cc0_moe_up_eq_skeleton]; unfold cc0_moe_up_skel
    iintro ⟨⟨H0, H1, H2, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = ¬(k0_cond1 _ _ _ = _); exact h1) | (guard_target = ¬(k0_cond2 _ _ _ = _); exact h2) | (guard_target = k0_cond3 _ _ = _; exact h3))
    sl_step
    iapply Hk
    isplitr [HO]
    · isplitl [H0]; · iexact H0
      isplitl [H1]; · iexact H1
      isplitl [H2]; · iexact H2
      isplitl [HT0]; · iexact HT0
      isplitl [HT1]; · iexact HT1
      iexact HT2
    iexists _; iexact HO⟩

end Paths

end Cert.UpIdeal.Moe

end
-- ==== Proof.UpFrame.lean ====
module

public import proofs.«01_k».proof.Proof.UpRun
public import Idealize.ShloMosaic.Lib.Claim

@[expose] public section

set_option maxRecDepth 16384
set_option Elab.async false

noncomputable section

/-
  The launch of the first expert product (moe_up) over any number system and any tables whose blocks lie inside their
  arrays: it ends, leaves its arguments as they were, and its result holds the body's output at every grid point.
-/

namespace Cert.UpIdeal.Moe

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What the body leaves, whichever path it takes -/

/-- One staging buffer of the output window. -/
abbrev outView : View sig .tc .vmem S512x1024 .bf16 := (Memref.whole cc0_stg3_0 : Memref sig .tc .vmem S512x1024 .bf16).view

section Body
variable (c : Dev nD) (i : grid0.Coords)
  (arg5 : Memref sig .tc .vmem S512x2048 .bf16) (harg5 : arg5.IsWhole) (arg6 : Memref sig .tc .vmem S1x2048x1024 .f32) (harg6 : arg6.IsWhole)
  (arg7 : Memref sig .tc .vmem S1x2048x1024 .f32) (harg7 : arg7.IsWhole) (arg8 : Memref sig .tc .vmem S512x1024 .bf16) (harg8 : arg8.IsWhole)
  (T0 : S72.Idx → Elt F .i32) (T1 : S1.Idx → Elt F .i32) (T2 : S72.Idx → Elt F .i32)
  (x0 : S512x2048.Idx → Elt F .bf16) (x1 x2 : S1x2048x1024.Idx → Elt F .f32) (hw : k0_chk1 i (naW (F := F) T1))

theorem cover_full (h1 h2 h3) (y : S512x1024.Idx) :
    ∃ pc ∈ (runFull c i arg5 harg5 arg6 harg6 arg7 harg7 arg8 harg8 T0 T1 T2 x0 x1 x2 hw h1 h2 h3).1, y ∈ pc.1.set :=
  View.cover_of_tiledL (runFull c i arg5 harg5 arg6 harg6 arg7 harg7 arg8 harg8 T0 T1 T2 x0 x1 x2 hw h1 h2 h3).1 S512x1024.size (by sl_kernel_rfl) y

theorem cover_half (h1 h2 h3) (y : S512x1024.Idx) :
    ∃ pc ∈ (runHalf c i arg5 harg5 arg6 harg6 arg7 harg7 arg8 harg8 T0 T1 T2 x0 x1 x2 hw h1 h2 h3).1, y ∈ pc.1.set :=
  View.cover_of_tiledL (runHalf c i arg5 harg5 arg6 harg6 arg7 harg7 arg8 harg8 T0 T1 T2 x0 x1 x2 hw h1 h2 h3).1 S256x1024.size (by sl_kernel_rfl) y

theorem cover_none (h1 h2 h3) (y : S512x1024.Idx) :
    ∃ pc ∈ (runNone c i arg5 harg5 arg6 harg6 arg7 harg7 arg8 harg8 T0 T1 T2 x0 x1 x2 hw h1 h2 h3).1, y ∈ pc.1.set :=
  View.cover_of_tiledL (runNone c i arg5 harg5 arg6 harg6 arg7 harg7 arg8 harg8 T0 T1 T2 x0 x1 x2 hw h1 h2 h3).1 S512x1024.size (by sl_kernel_rfl) y

/-- The output block after the body: the path's pieces read back. -/
def left : Vec F S512x1024 .bf16 :=
  if h1 : k0_cond1 i (naW (F := F) T1) (thW (F := F) i T1 T2 hw) = 1#1 then
    outView.read (Elt F) (outView.writes (Elt F) outView.junk
      (runFull c i arg5 harg5 arg6 harg6 arg7 harg7 arg8 harg8 T0 T1 T2 x0 x1 x2 hw h1 (full_excludes _ _ _ h1).1 (full_excludes _ _ _ h1).2).1)
  else if h2 : k0_cond2 i (naW (F := F) T1) (thW (F := F) i T1 T2 hw) = 1#1 then
    outView.read (Elt F) (outView.writes (Elt F) outView.junk
      (runHalf c i arg5 harg5 arg6 harg6 arg7 harg7 arg8 harg8 T0 T1 T2 x0 x1 x2 hw h1 h2 (half_excludes _ _ _ h2)).1)
  else
    outView.read (Elt F) (outView.writes (Elt F) outView.junk
      (runNone c i arg5 harg5 arg6 harg6 arg7 harg7 arg8 harg8 T0 T1 T2 x0 x1 x2 hw h1 h2 (none_left _ _ _ h1 h2)).1)

/-- The body ends with the blocks and tables it found and its output block at `left`. -/
theorem body_leaves (K : PUnit → sProp 𝕄) :
    iprop(held c arg5 arg6 arg7 T0 T1 T2 x0 x1 x2 ∗ (∃ d, owns (c : Thread nD τ) arg8 fullShare d)
      ∗ (iprop(held c arg5 arg6 arg7 T0 T1 T2 x0 x1 x2
          ∗ owns (c : Thread nD τ) arg8 fullShare (left c i arg5 harg5 arg6 harg6 arg7 harg7 arg8 harg8 T0 T1 T2 x0 x1 x2 hw)) -∗ K ⟨⟩))
      ⊢ wp frame (wpE (defs₀ (F := F)) Variants.none c none) Set.univ
        (cc0_moe_up i te (Memref.isWhole_whole _) na (Memref.isWhole_whole _) th (Memref.isWhole_whole _) arg5 harg5 arg6 harg6 arg7 harg7 arg8 harg8) K := by
  by_cases h1 : k0_cond1 i (naW (F := F) T1) (thW (F := F) i T1 T2 hw) = 1#1
  · unfold left; rw [dif_pos h1]
    iintro ⟨H, HO, Hk⟩
    iapply ((runFull c i arg5 harg5 arg6 harg6 arg7 harg7 arg8 harg8 T0 T1 T2 x0 x1 x2 hw h1 (full_excludes _ _ _ h1).1 (full_excludes _ _ _ h1).2).2 _)
    isplitl [H]; · iexact H
    isplitl [HO]; · iexact HO
    iintro ⟨H, ⟨%f, HO⟩⟩
    iapply Hk
    isplitl [H]; · iexact H
    unfold owns; iexists _; isplitr
    swap; · iexact HO
    ipureintro; exact View.read_writes_of_cover _ _ _ _ _ (cover_full c _ _ _ _ _ _ _ _ _ _ _ _ _ _ _ _ _ _ _)
  · by_cases h2 : k0_cond2 i (naW (F := F) T1) (thW (F := F) i T1 T2 hw) = 1#1
    · unfold left; rw [dif_neg h1, dif_pos h2]
      iintro ⟨H, HO, Hk⟩
      iapply ((runHalf c i arg5 harg5 arg6 harg6 arg7 harg7 arg8 harg8 T0 T1 T2 x0 x1 x2 hw h1 h2 (half_excludes _ _ _ h2)).2 _)
      isplitl [H]; · iexact H
      isplitl [HO]; · iexact HO
      iintro ⟨H, ⟨%f, HO⟩⟩
      iapply Hk
      isplitl [H]; · iexact H
      unfold owns; iexists _; isplitr
      swap; · iexact HO
      ipureintro; exact View.read_writes_of_cover _ _ _ _ _ (cover_half c _ _ _ _ _ _ _ _ _ _ _ _ _ _ _ _ _ _ _)
    · unfold left; rw [dif_neg h1, dif_neg h2]
      iintro ⟨H, HO, Hk⟩
      iapply ((runNone c i arg5 harg5 arg6 harg6 arg7 harg7 arg8 harg8 T0 T1 T2 x0 x1 x2 hw h1 h2 (none_left _ _ _ h1 h2)).2 _)
      isplitl [H]; · iexact H
      isplitl [HO]; · iexact HO
      iintro ⟨H, ⟨%f, HO⟩⟩
      iapply Hk
      isplitl [H]; · iexact H
      unfold owns; iexists _; isplitr
      swap; · iexact HO
      ipureintro; exact View.read_writes_of_cover _ _ _ _ _ (cover_none c _ _ _ _ _ _ _ _ _ _ _ _ _ _ _ _ _ _ _)

end Body

/-! ## The pipeline at the tables `a` -/

variable (m : (ℓ : Loc nD τ sig) → Buf (Elt F) ℓ) (ρ : Dev nD → PrngReg)
  (a : (pcfg0 (F := F)).Adm) (hw : ∀ i : grid0.Coords, k0_chk1 i (naW (F := F) (a.1 1)))

abbrev cfgA : Pipeline.Cfg sig Λ₀ := cfg0 a
abbrev crd (t : Fin (cfgA a).N) : grid0.Coords := (cfgA a).grid.coords t

/-! Each window's staging buffer at a point. -/
abbrev ms0 (t : Fin (cfgA a).N) : Memref sig .tc .vmem S512x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1024 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x1024 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x1024 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The output block after point `t`. -/
def leftAt (c : Dev nD) (t : Fin (cfgA a).N) : Vec F S512x1024 .bf16 :=
  left c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t))

/-- The proof data of the pipeline. -/
def dats (_ : Fin 1) (c : Dev nD) : Dat τ (Elt F) Unit ℕ (UR sig nD τ) ℕ (cfgA a) c where
  A w := m ((c : Thread nD τ).loc (Pipeline.arrRef spec0 w))
  after w t := match w with
    | ⟨0, _⟩ => iblk m a c (0 : Fin 4) t
    | ⟨1, _⟩ => iblk m a c (1 : Fin 4) t
    | ⟨2, _⟩ => iblk m a c (2 : Fin 4) t
    | ⟨3, _⟩ => leftAt m a hw c t
  Φ _ := iprop(Pipeline.ΦA spec0 c ∗ Pipeline.ΦT pre0 a.1 c)
  q w := Pipeline.shareOf spec0 w
  owed _ := 0

theorem after_0 (c : Dev nD) (t : Fin (cfgA a).N) : (dats m a hw 0 c).after (0 : Fin 4) t = iblk m a c (0 : Fin 4) t := rfl
theorem after_1 (c : Dev nD) (t : Fin (cfgA a).N) : (dats m a hw 0 c).after (1 : Fin 4) t = iblk m a c (1 : Fin 4) t := rfl
theorem after_2 (c : Dev nD) (t : Fin (cfgA a).N) : (dats m a hw 0 c).after (2 : Fin 4) t = iblk m a c (2 : Fin 4) t := rfl
theorem after_3 (c : Dev nD) (t : Fin (cfgA a).N) : (dats m a hw 0 c).after (3 : Fin 4) t = leftAt m a hw c t := rfl

/-! Each input's buffer holds its block whenever the body runs. -/

theorem before_0 (c : Dev nD) (t : Fin (cfgA a).N) (d) : (dats m a hw 0 c).before (0 : Fin 4) t d = iblk m a c (0 : Fin 4) t :=
  ((dats m a hw 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a hw 0 c).before (1 : Fin 4) t d = iblk m a c (1 : Fin 4) t :=
  ((dats m a hw 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats m a hw 0 c).before (2 : Fin 4) t d = iblk m a c (2 : Fin 4) t :=
  ((dats m a hw 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output window is stored at every point. -/
theorem out_live (i : grid0.Coords) : (cfgA a).idle (3 : Fin 4) i = false := some_path i _ _

/-- The tables as the region hands them to the body, one by one. -/
theorem tables_eq (c : Dev nD) (v : pre0.Contents (Elt F)) :
    (Pipeline.ΦT (U := UR sig nD τ) pre0 v c : sProp 𝕄)
      = iprop((te.view.loc (c : Thread nD τ) ↦{fullShare.right} v 0) ∗ (na.view.loc (c : Thread nD τ) ↦{fullShare.right} v 1)
        ∗ (th.view.loc (c : Thread nD τ) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_moe_up (crd a t) te (Memref.isWhole_whole _) na (Memref.isWhole_whole _) th (Memref.isWhole_whole _)
    (ms0 a t) (hs0 a t) (ms1 a t) (hs1 a t) (ms2 a t) (hs2 a t) (ms3 a t) (hs3 a t)

set_option maxHeartbeats 4000000 in
/-- The body's obligation at a point. -/
theorem sound_body (c : Dev nD) (t : Fin (cfgA a).N) :
    iprop((dats m a hw 0 c).Φ t.castSucc ∗ (dats m a hw 0 c).owesAt () t.castSucc
        ∗ (∃ d, owns (c : Thread nD τ) (ms0 a t) fullShare ((dats m a hw 0 c).before (0 : Fin 4) t d))
        ∗ (∃ d, owns (c : Thread nD τ) (ms1 a t) fullShare ((dats m a hw 0 c).before (1 : Fin 4) t d))
        ∗ (∃ d, owns (c : Thread nD τ) (ms2 a t) fullShare ((dats m a hw 0 c).before (2 : Fin 4) t d))
        ∗ (∃ d, owns (c : Thread nD τ) (ms3 a t) fullShare ((dats m a hw 0 c).before (3 : Fin 4) t d)))
      ⊢ wp frame (wpE (defs₀ (F := F)) Variants.none c none) Set.univ (bodyAt a t) fun _ =>
          iprop((dats m a hw 0 c).Φ t.succ ∗ (dats m a hw 0 c).owesAt () t.succ
            ∗ owns (c : Thread nD τ) (ms0 a t) fullShare ((dats m a hw 0 c).after (0 : Fin 4) t)
            ∗ owns (c : Thread nD τ) (ms1 a t) fullShare ((dats m a hw 0 c).after (1 : Fin 4) t)
            ∗ owns (c : Thread nD τ) (ms2 a t) fullShare ((dats m a hw 0 c).after (2 : Fin 4) t)
            ∗ owns (c : Thread nD τ) (ms3 a t) fullShare ((dats m a hw 0 c).after (3 : Fin 4) t)) := by
  simp only [before_0, before_1, before_2, after_0, after_1, after_2, after_3]
  rewrite [show (dats m a hw 0 c).Φ t.succ = iprop(Pipeline.ΦA spec0 c ∗ Pipeline.ΦT pre0 a.1 c) from rfl,
    show (dats m a hw 0 c).Φ t.castSucc = iprop(Pipeline.ΦA spec0 c ∗ Pipeline.ΦT pre0 a.1 c) from rfl,
    show (dats m a hw 0 c).owesAt () t.succ = (dats m a hw 0 c).owesAt () t.castSucc from rfl, tables_eq]
  iintro ⟨⟨HA, HT0, HT1, HT2⟩, Ho, ⟨%d0, H0⟩, ⟨%d1, H1⟩, ⟨%d2, H2⟩, ⟨%d3, H3⟩⟩
  iapply (body_leaves c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t)) _)
  unfold held
  isplitl [H0 H1 H2 HT0 HT1 HT2]
  · isplitl [H0]; · iapply rep_of_owns; iexact H0
    isplitl [H1]; · iapply rep_of_owns; iexact H1
    isplitl [H2]; · iapply rep_of_owns; iexact H2
    isplitl [HT0]; · iexact HT0
    isplitl [HT1]; · iexact HT1
    iexact HT2
  isplitl [H3]; · iexists _; iexact H3
  iintro ⟨⟨H0, H1, H2, HT0, HT1, HT2⟩, H3⟩
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  unfold leftAt; iexact H3

/-- The same as the library states it. -/
theorem body_obligation (c : Dev nD) : BodyObligation (dats m a hw 0 c) (defs₀ (F := F)) Variants.none () Set.univ := fun t => by
  rw [bigSep_W0, bigSep_W0, out_live]
  exact sound_body m a hw c t

/-! ## The launch -/

variable (hpf : ∀ (c : Dev nD) (k : Fin 3), m ((c : Thread nD τ).loc (pre0.ref k)) = a.1 k)

include hpf in
set_option backward.isDefEq.respectTransparency.types false in
set_option maxHeartbeats 4000000 in
/-- Every run of the program ends with each array at the computed contents, everything else as it was and every counter zero. -/
theorem run_main_quiescent : θ_run defs (onTc (τ := τ) (main (F := F))) (s₀ m ρ) (fun r =>
    Pipeline.FramePost (Pipeline.pin (pcfgs (F := F)) fun _ => a) (dats m a hw) 0 (fun c b => m ((c : Thread nD τ).loc b)) r ∧ r.2.sem = fun _ => 0) :=
  Pipeline.θ_run_frameP_shared (Q' := _) pcfgs (fun _ => a) (dats m a hw) (0 : Fin 1) launch₀0 defs₀ Variants.none m ρ main
    (hbody := fun c => (body_obligation m a hw c).loose) (hq := fun _ _ _ => rfl)
    (howed := fun _ _ => rfl) (V := fun c b => m ((c : Thread nD τ).loc b))
    (hmain := Pipeline.hmainP_region _ _ _ _ _ _ fun c => by delta main; simp only [Prog.bind_lift, Prog.pure_eq_ret])
    (hA := fun _ _ => rfl) (hpf := hpf) (hΦ := fun _ _ => rfl)

include hpf in
/-- The result ends at the computed contents, the arguments as they were, and every counter reads zero. -/
theorem run_all : θ_run (defs (F := F)) (onTc (τ := τ) (main (F := F))) ⟨m, fun _ => 0, ρ⟩ (fun r => (∀ c : Dev nD,
      r.2.mem ((c.tc : Thread nD τ).loc main_v0) = (dats m a hw 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 (3 : Fin 4), (h.1 c).2 main_arg0 (Pipeline.mem_restRefs_of main_arg0 (by decide)
      (show ∀ w : Fin 4, (spec0 w).arr.view.ref ≠ main_arg0 by decide)), (h.1 c).2 main_arg1 (Pipeline.mem_restRefs_of main_arg1 (by decide)
      (show ∀ w : Fin 4, (spec0 w).arr.view.ref ≠ main_arg1 by decide)), (h.1 c).2 main_arg2 (Pipeline.mem_restRefs_of main_arg2 (by decide)
      (show ∀ w : Fin 4, (spec0 w).arr.view.ref ≠ main_arg2 by decide)),
    ((h.1 c).1 (0 : Fin 4)).trans ((dats m a hw 0 c).arrAt_in (0 : Fin 4) rfl _), ((h.1 c).1 (1 : Fin 4)).trans ((dats m a hw 0 c).arrAt_in (1 : Fin 4) rfl _)⟩, h.2⟩)
    (run_main_quiescent m ρ a hw hpf)

include hw hpf in
/-- The arguments end as they were and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_all m ρ a hw hpf)

end Cert.UpIdeal.Moe

end
-- ==== Proof.MoeWords.lean ====
module

public import proofs.«01_k».proof.Pre_up_tables_ok
public import proofs.«01_k».proof.Pre_down_tables_ok
public import Idealize.ShloMosaic.Lib.ReduceAll
public import Idealize.ShloMosaic.Lib.Affine
public import Idealize.ShloMosaic.Lib.Pointwise
public import Idealize.ShloMosaic.Lib.WordArith

@[expose] public section

noncomputable section

/-
  The tile tables of the two expert products: the precondition in plain words, and the words computed from the tables.
-/

namespace Cert.Moe

open Idealize.ShloMosaic

abbrev S72 : Shape := ⟨1, ![72]⟩
abbrev S1 : Shape := ⟨1, ![1]⟩

/-- Every tile's expert is one of the 16 stacked experts, and at least one tile is active. -/
structure TablesOk (te : S72.Idx → BitVec 32) (na : S1.Idx → BitVec 32) : Prop where
  expert (k : S72.Idx) : (te k).toNat < 16
  active (k : S1.Idx) : 1 ≤ (na k).toInt

theorem lt_of_signed (x : BitVec 32) (h0 : (0#32).toInt ≤ x.toInt) (h1 : x.toInt < (16#32).toInt) : x.toNat < 16 := by
  rw [show (0#32).toInt = 0 from by decide] at h0
  rw [show (16#32).toInt = 16 from by decide] at h1
  have := BitVec.toInt_eq_toNat_cond x
  have := x.isLt
  split at * <;> omega

instance : Subsingleton (⟨0, ![]⟩ : Shape).Idx := ⟨fun _ _ => funext fun a => a.elim0⟩
instance : Subsingleton S1.Idx := ⟨fun x y => funext fun a => by
  match a with
  | ⟨0, _⟩ => exact Fin.ext (by have := (x 0).isLt; have := (y 0).isLt; change (x 0).val < 1 at *; change (y 0).val < 1 at *; change (x 0).val = (y 0).val; omega)⟩

theorem and_eq_one : ∀ a b : BitVec 1, IntOp.andi a b = 1#1 → a = 1#1 ∧ b = 1#1 := by decide

section
variable {F : FTy → Type} [FloatOps F] (te : S72.Idx → BitVec 32) (na : S1.Idx → BitVec 32) (th : S72.Idx → BitVec 32)

theorem tables_of_up [Cert.Pre_up_tables_ok.Facts] (x w) (h : Cert.Pre_up_tables_ok.fn (F := F) te na th x w = fun _ => 1#1) : TablesOk te na := by
  have e := congrFun h (fun a => a.elim0)
  unfold Cert.Pre_up_tables_ok.fn at e
  obtain ⟨e1, e2⟩ := and_eq_one _ _ e
  refine ⟨fun k => ?_, fun k => ?_⟩
  · obtain ⟨a, b⟩ := and_eq_one _ _ (Host.reduce_andi_all _ _ _ _ _ e1 k)
    exact lt_of_signed _ (IntOp.cmpi_sge.1 a) (IntOp.cmpi_slt.1 b)
  · have a := IntOp.cmpi_sge.1 e2
    refine le_trans (le_of_eq ?_) (le_trans a (le_of_eq ?_))
    · decide
    · exact congrArg BitVec.toInt (congrArg na (Subsingleton.elim _ _))

theorem tables_of_down [Cert.Pre_down_tables_ok.Facts] (x w) (h : Cert.Pre_down_tables_ok.fn (F := F) te na th x w = fun _ => 1#1) : TablesOk te na := by
  have e := congrFun h (fun a => a.elim0)
  unfold Cert.Pre_down_tables_ok.fn at e
  obtain ⟨e1, e2⟩ := and_eq_one _ _ e
  refine ⟨fun k => ?_, fun k => ?_⟩
  · obtain ⟨a, b⟩ := and_eq_one _ _ (Host.reduce_andi_all _ _ _ _ _ e1 k)
    exact lt_of_signed _ (IntOp.cmpi_sge.1 a) (IntOp.cmpi_slt.1 b)
  · have a := IntOp.cmpi_sge.1 e2
    refine le_trans (le_of_eq ?_) (le_trans a (le_of_eq ?_))
    · decide
    · exact congrArg BitVec.toInt (congrArg na (Subsingleton.elim _ _))

end

/-- The row block of tile `j`: `j` itself where the tile is active, the last active tile otherwise. -/
theorem row_toNat (j : ℕ) (hj : j < 72) (v : BitVec 32) (hv : 1 ≤ v.toInt) :
    (Scalar.minsi (BitVec.ofNat 32 j) (Scalar.subi v 1#32)).toNat = min j (v.toNat - 1) := by
  have hv' := BitVec.toInt_eq_toNat_cond v
  have hl := v.isLt
  have h1 : (BitVec.ofNat 32 j).toNat = j := by rw [BitVec.toNat_ofNat]; omega
  have h2 : (v - 1#32).toNat = v.toNat - 1 := by
    rw [BitVec.toNat_sub, show (1#32).toNat = 1 from rfl]; split at hv' <;> omega
  show (IntOp.minsi (BitVec.ofNat 32 j) (v - 1#32)).toNat = _
  rw [Idealize.ShloMosaic.WordArith.toNat_minsi_of_lt _ _ (by omega) (by split at hv' <;> omega), h1, h2]

/-- A tile is active exactly when its number is below the number of active tiles. -/
theorem active_iff (j : ℕ) (hj : j < 72) (v : BitVec 32) (hv : 1 ≤ v.toInt) :
    Scalar.cmpi .slt (BitVec.ofNat 32 j) v = 1#1 ↔ j < v.toNat := by
  have hv' := BitVec.toInt_eq_toNat_cond v
  have h1 : (BitVec.ofNat 32 j).toNat = j := by rw [BitVec.toNat_ofNat]; omega
  have h3 : (BitVec.ofNat 32 j).toInt = j := by rw [BitVec.toInt_eq_toNat_cond, h1]; split <;> omega
  have hl := v.isLt
  refine (IntOp.cmpi_slt (x := BitVec.ofNat 32 j) (y := v)).trans ?_
  rw [h3]; split at hv' <;> omega

end Cert.Moe

end
-- ==== Proof.UpTables.lean ====
module

public import proofs.«01_k».proof.Proof.UpFrame
public import proofs.«01_k».proof.Proof.MoeWords

@[expose] public section

noncomputable section

/-
  Tables that meet the precondition keep every block of the first expert product inside its array.
-/

namespace Cert.UpIdeal.Moe

open Cert.UpIdeal Cert.UpIdeal.Gen
open Idealize.ShloMosaic Idealize.ShloMosaic.TcCoe
open Idealize.ShloMosaic.Pipeline (Dat Cfg Window)
open Cert.Moe (TablesOk row_toNat)

variable {F : FTy → Type} [FloatOps F]

theorem coord0_lt (i : grid0.Coords) : (i 0).val < 7 := (i 0).isLt
theorem coord1_lt (i : grid0.Coords) : (i 1).val < 72 := (i 1).isLt
theorem word_toNat (n : ℕ) (h : n < 72) : (BitVec.ofNat 32 n).toNat = n := by rw [BitVec.toNat_ofNat]; omega

section
variable (pf : pre0.Contents (Elt F)) (h : TablesOk (pf 0) (pf 1))
include h

theorem map0_row (i : grid0.Coords) : cc0_transform_0 inb_S1_S1_0 numel1_S1 pf i 0 = min (i 1).val ((pf 1 (fun a => ⟨0, by revert a; decide⟩) : BitVec 32).toNat - 1) :=
  (row_toNat _ (coord1_lt i) _ (h.active _)).trans
    (congrArg (fun k => min (i 1).val ((pf 1 k : BitVec 32).toNat - 1)) (Subsingleton.elim (α := Cert.Moe.S1.Idx) _ _))

theorem map1_expert (i : grid0.Coords) : cc0_transform_1 k0_off1_inb numel1_S1 pf i 0 < 16 := h.expert _
theorem map2_expert (i : grid0.Coords) : cc0_transform_2 k0_off1_inb numel1_S1 pf i 0 < 16 := h.expert _

theorem ok : ok0 pf := by
  refine ⟨fun i => ?_, fun i => ?_, fun i => ?_⟩
  · have hb : ∀ a, (cc0_transform_0 inb_S1_S1_0 numel1_S1 pf i a + 1) * S512x2048.size a ≤ S36864x2048.size a := fun a => by
      match a with
      | ⟨0, _⟩ =>
        show (cc0_transform_0 inb_S1_S1_0 numel1_S1 pf i 0 + 1) * 512 ≤ 36864
        rw [map0_row pf h i]; have := coord1_lt i; omega
      | ⟨1, _⟩ => show ((0#32 : BitVec 32).toNat + 1) * 2048 ≤ 2048; decide
    exact ⟨hb, .inr (Affine.block_words_dvd (s := S36864x2048) (p := EltTy.packing .bf16) (by decide) (by decide))⟩
  · have hb : ∀ a, (cc0_transform_1 k0_off1_inb numel1_S1 pf i a + 1) * S1x2048x1024.size a ≤ S16x2048x14336.size a := fun a => by
      match a with
      | ⟨0, _⟩ =>
        show (cc0_transform_1 k0_off1_inb numel1_S1 pf i 0 + 1) * 1 ≤ 16
        have := map1_expert pf h i; omega
      | ⟨1, _⟩ => show ((0#32 : BitVec 32).toNat + 1) * 2048 ≤ 2048; decide
      | ⟨2, _⟩ =>
        show ((BitVec.ofNat 32 (i 0).val).toNat + 1) * 1024 ≤ 14336
        have := coord0_lt i; rw [word_toNat _ (by omega)]; omega
    exact ⟨hb, .inl rfl⟩
  · have hb : ∀ a, (cc0_transform_2 k0_off1_inb numel1_S1 pf i a + 1) * S1x2048x1024.size a ≤ S16x2048x14336.size a := fun a => by
      match a with
      | ⟨0, _⟩ =>
        show (cc0_transform_2 k0_off1_inb numel1_S1 pf i 0 + 1) * 1 ≤ 16
        have := map2_expert pf h i; omega
      | ⟨1, _⟩ => show ((0#32 : BitVec 32).toNat + 1) * 2048 ≤ 2048; decide
      | ⟨2, _⟩ =>
        show ((7#32 + BitVec.ofNat 32 (i 0).val).toNat + 1) * 1024 ≤ 14336
        have := coord0_lt i; rw [BitVec.toNat_add, word_toNat (i 0).val (by omega), show (7#32).toNat = 7 from rfl]; omega
    exact ⟨hb, .inl rfl⟩

/-- At least one tile is active, in the word as the body reads it. -/
theorem na_pos : 1 ≤ (naW (F := F) (pf 1)).toInt := h.active _

/-- The mark the body reads lies inside its table. -/
theorem mark_inb (i : grid0.Coords) : k0_chk1 i (naW (F := F) (pf 1)) := fun a => by
  have e := row_toNat _ (coord1_lt i) _ (na_pos pf h)
  have := coord1_lt i
  match a with
  | ⟨0, _⟩ =>
    refine Nat.le_trans (Nat.add_le_add_right (le_of_eq e) 1) ?_
    show _ + 1 ≤ 72
    omega
end

/-! ## The tables of a memory -/

section Mem
variable (m : (ℓ : Loc nD τ sig) → Buf (Elt F) ℓ)

/-- The tables a memory holds. -/
abbrev tabs : pre0.Contents (Elt F) := fun k => m (((0 : Dev nD).tc : Thread nD τ).loc (pre0.ref k))

variable (h : TablesOk (tabs m 0) (tabs m 1))

/-- The same with the proof that every block lies inside its array. -/
abbrev adm : (pcfg0 (F := F)).Adm := ⟨tabs m, ok _ h⟩

theorem adm_marks (i : grid0.Coords) : k0_chk1 i (naW (F := F) ((adm m h).1 1)) := mark_inb _ h i

theorem adm_tabs (c : Dev nD) (k : Fin 3) : m ((c : Thread nD τ).loc (pre0.ref k)) = (adm m h).1 k := by
  obtain rfl : c = 0 := Subsingleton.elim _ _
  rfl

end Mem

end Cert.UpIdeal.Moe

end
-- ==== Proof.MoeSpec.lean ====
module

public import proofs.«01_k».proof.Proof.MoeWords
public import Idealize.ShloMosaic.PureOps.Ideal
public import Idealize.ShloMosaic.Lib.Affine
public import Idealize.ShloMosaic.Lib.Pointwise

@[expose] public section

noncomputable section

/-
  The two expert products, entry by entry.  The rows come in tiles of 512, and each tile belongs to one expert.  A row is
  used when its tile is active and, in a tile marked 1, when it lies in the tile's first half.  The other rows are zero.
-/

namespace Cert.Moe

open Idealize.ShloMosaic

abbrev SX : Shape := ⟨2, ![36864, 2048]⟩
abbrev SGu : Shape := ⟨3, ![16, 2048, 14336]⟩
abbrev SH : Shape := ⟨2, ![36864, 7168]⟩
abbrev SDown : Shape := ⟨3, ![16, 7168, 2048]⟩

/-- Row `r` of tile `j` is used, with `v` active tiles and the tile's mark `w`. -/
def Used (v w : BitVec 32) (j r : ℕ) : Prop := j < v.toNat ∧ (w ≠ 1#32 ∨ r < 256)

instance (v w : BitVec 32) (j r : ℕ) : Decidable (Used v w j r) := inferInstanceAs (Decidable (_ ∧ _))

/-- A tile's expert. -/
def expert (te : S72.Idx → BitVec 32) (j : Fin 72) : Fin 16 := ⟨(te (ix1 j)).toNat % 16, Nat.mod_lt _ (by decide)⟩

/-- The swish-gated product of a gate and an up value. -/
def gated (g u : EReal) : EReal := g * Ideal.logistic g * u

/-- Row `r`, column `f` of the first product, for expert `e`. -/
def upTerm (x : SX.Idx → EReal) (w : SGu.Idx → EReal) (r : Fin 36864) (f : Fin 7168) (e : Fin 16) : EReal :=
  gated (∑ k : Fin 2048, x (ix2 r k) * w (ix3 e k ⟨f, by omega⟩)) (∑ k : Fin 2048, x (ix2 r k) * w (ix3 e k ⟨7168 + f, by omega⟩))

/-- Row `r`, column `n` of the second product, for expert `e`. -/
def downTerm (h : SH.Idx → EReal) (w : SDown.Idx → EReal) (r : Fin 36864) (n : Fin 2048) (e : Fin 16) : EReal :=
  ∑ k : Fin 7168, h (ix2 r k) * w (ix3 e k n)

/-- The row's expert's term where the row is used, zero elsewhere. -/
def routed (te : S72.Idx → BitVec 32) (na : S1.Idx → BitVec 32) (th : S72.Idx → BitVec 32) (r : Fin 36864) (s : Fin 16 → EReal) : EReal :=
  if Used (na (ix1 0)) (th (ix1 ⟨r / 512, by omega⟩)) (r / 512) (r % 512) then s (expert te ⟨r / 512, by omega⟩) else 0

/-! ## The reference's words -/

/-- The reference's test of a row, on words. -/
theorem used_word (j : ℕ) (hj : j < 72) (v : BitVec 32) (hv : 1 ≤ v.toInt) (w : BitVec 32) (r : ℕ) (hr : r < 512) :
    IntOp.andi (IntOp.cmpi .slt (BitVec.ofNat 32 j) v) (IntOp.ori (IntOp.cmpi .ne w 1#32) (IntOp.cmpi .slt (BitVec.ofNat 32 r) 256#32)) = 1#1
      ↔ Used v w j r := by
  rw [IntOp.andi_eq_one, IntOp.ori_eq_one, IntOp.cmpi_ne, IntOp.cmpi_slt (x := BitVec.ofNat 32 r)]
  refine and_congr (active_iff j hj v hv) (or_congr Iff.rfl ?_)
  rw [show (256#32).toInt = 256 from by decide, BitVec.toInt_eq_toNat_cond, BitVec.toNat_ofNat]
  split <;> omega

/-- The reference's mark of a row. -/
theorem select_used (j : ℕ) (hj : j < 72) (v : BitVec 32) (hv : 1 ≤ v.toInt) (w : BitVec 32) (r : ℕ) (hr : r < 512) :
    Scalar.select (IntOp.andi (IntOp.cmpi .slt (BitVec.ofNat 32 j) v)
        (IntOp.ori (IntOp.cmpi .ne w 1#32) (IntOp.cmpi .slt (BitVec.ofNat 32 r) 256#32))) (1 : EReal) 0
      = if Used v w j r then 1 else 0 := by
  by_cases h : Used v w j r
  · rw [if_pos h, (used_word j hj v hv w r hr).2 h]; rfl
  · rw [if_neg h, Scalar.select_of_ne_one (fun e => h ((used_word j hj v hv w r hr).1 e))]

/-- The reference's column of an expert. -/
theorem column_word (te : S72.Idx → BitVec 32) (j : Fin 72) (h : (te (ix1 j)).toNat < 16) (e : Fin 16) :
    (FloatOps.uitofp (F := Ideal) .f32 (IntOp.cmpi .eq (te (ix1 j)) (BitVec.ofNat 32 e)) : EReal) = if expert te j = e then 1 else 0 := by
  have hi : IntOp.cmpi .eq (te (ix1 j)) (BitVec.ofNat 32 e) = 1#1 ↔ expert te j = e := by
    rw [IntOp.cmpi_eq, ← BitVec.toNat_inj, BitVec.toNat_ofNat, Fin.ext_iff]
    unfold expert
    have := e.isLt
    dsimp only
    omega
  by_cases he : expert te j = e
  · rw [if_pos he, hi.2 he]
    show (((1#1 : BitVec 1).toNat : ℝ) : EReal) = 1
    simp
  · have h0 : IntOp.cmpi .eq (te (ix1 j)) (BitVec.ofNat 32 e) = 0#1 := by
      have hn : IntOp.cmpi .eq (te (ix1 j)) (BitVec.ofNat 32 e) ≠ 1#1 := fun q => he (hi.1 q)
      revert hn
      generalize IntOp.cmpi .eq (te (ix1 j)) (BitVec.ofNat 32 e) = b
      revert b; decide
    rw [if_neg he, h0]
    show (((0#1 : BitVec 1).toNat : ℝ) : EReal) = 0
    simp

/-! ## The sum over all experts -/

/-- The weight of expert `e` in a row of expert `E`: 1 where they agree and the row is used, else 0. -/
def weight (used : Prop) [Decidable used] (E e : Fin 16) : EReal := (if E = e then 1 else 0) * (if used then 1 else 0)

/-- A sum over the sixteen experts, written out in order. -/
theorem sum_experts (t : Fin 16 → EReal) :
    ∑ e, t e = t 0 + t 1 + t 2 + t 3 + t 4 + t 5 + t 6 + t 7 + t 8 + t 9 + t 10 + t 11 + t 12 + t 13 + t 14 + t 15 := by
  simp only [Fin.sum_univ_castSucc, Finset.univ_eq_empty, Finset.sum_empty, zero_add]
  rfl

/-- The weighted sum over all experts is the row's expert's term where the row is used, and zero elsewhere. -/
theorem sum_weight (used : Prop) [Decidable used] (E : Fin 16) (s : Fin 16 → EReal) :
    ∑ e, weight used E e * s e = if used then s E else 0 := by
  unfold weight
  by_cases h : used
  · simp [h]
  · simp [h]

end Cert.Moe

end
-- ==== Proof.UpValue.lean ====
module

public import proofs.«01_k».proof.Proof.UpTables
public import proofs.«01_k».proof.Proof.MoeSpec
public import Idealize.ShloMosaic.Lib.Pointwise

@[expose] public section

set_option maxRecDepth 16384

noncomputable section

/-
  The output block of the first expert product, entry by entry.
-/

namespace Cert.UpIdeal.Moe

open Cert.UpIdeal Cert.UpIdeal.Gen Idealize.ShloMosaic Idealize.ShloMosaic.TcCoe Idealize.ShloMosaic.Tactic Cert.Moe

/-! ## The conditions of the three paths -/

theorem full_iff (i : grid0.Coords) (v w : BitVec 32) (hv : 1 ≤ v.toInt) : k0_cond1 i v w = 1#1 ↔ (i 1).val < v.toNat ∧ w ≠ 1#32 := by
  rw [← active_iff _ (coord1_lt i) v hv, ne_eq, ← IntOp.cmpi_eq (x := w) (y := 1#32)]
  show k0_cond1 i v w = 1#1 ↔ _ ∧ ¬ Scalar.cmpi .eq w 1#32 = 1#1
  unfold k0_cond1; dsimp only
  generalize Scalar.cmpi .slt _ v = a; generalize Scalar.cmpi .eq w _ = b
  revert a b; decide

theorem half_iff (i : grid0.Coords) (v w : BitVec 32) (hv : 1 ≤ v.toInt) : k0_cond2 i v w = 1#1 ↔ (i 1).val < v.toNat ∧ w = 1#32 := by
  rw [← active_iff _ (coord1_lt i) v hv, ← IntOp.cmpi_eq (x := w) (y := 1#32)]
  show k0_cond2 i v w = 1#1 ↔ _ ∧ Scalar.cmpi .eq w 1#32 = 1#1
  unfold k0_cond2; dsimp only
  generalize Scalar.cmpi .slt _ v = a; generalize Scalar.cmpi .eq w _ = b
  revert a b; decide

/-! ## The payloads -/

theorem full_apply (x : Vec Ideal S512x2048 .bf16) (g u : Vec Ideal S1x2048x1024 .f32) (r : Fin 512) (f : Fin 1024) :
    k0_pay1 (F := Ideal) x g u (ix2 r f)
      = gated (∑ k : Fin 2048, x (ix2 r k) * g (ix3 0 k f)) (∑ k : Fin 2048, x (ix2 r k) * u (ix3 0 k f)) := by
  pointwise [k0_pay1, gated]

theorem half_apply (x : Vec Ideal S256x2048 .bf16) (g u : Vec Ideal S1x2048x1024 .f32) (r : Fin 256) (f : Fin 1024) :
    k0_pay2 (F := Ideal) x g u (ix2 r f)
      = gated (∑ k : Fin 2048, x (ix2 r k) * g (ix3 0 k f)) (∑ k : Fin 2048, x (ix2 r k) * u (ix3 0 k f)) := by
  pointwise [k0_pay2, gated]

theorem rest_apply (r : Fin 256) (f : Fin 1024) : k0_pay3 (F := Ideal) (ix2 r f) = 0 := by
  pointwise [k0_pay3]

theorem none_apply (r : Fin 512) (f : Fin 1024) : k0_pay4 (F := Ideal) (ix2 r f) = 0 := by
  pointwise [k0_pay4]

/-! ## Loads of the blocks -/

theorem ld_x (x : Vec Ideal S512x2048 .bf16) (inb : ∀ a, (![0, 0] : Fin 2 → Nat) a + (![512, 2048] : Fin 2 → Nat) a ≤ S512x2048.size a) (r : Fin 512) (k : Fin 2048) :
    x ((Rect.unit (s := S512x2048) ![0, 0] ![512, 2048] inb).idx (ix2 r k)) = x (ix2 r k) := by
  refine congrArg x (funext fun a => Fin.ext ?_)
  match a with
  | ⟨0, _⟩ => show 0 + 1 * r.val = r.val; omega
  | ⟨1, _⟩ => show 0 + 1 * k.val = k.val; omega

theorem ld_w (x : Vec Ideal S1x2048x1024 .f32) (inb : ∀ a, (![0, 0, 0] : Fin 3 → Nat) a + (![1, 2048, 1024] : Fin 3 → Nat) a ≤ S1x2048x1024.size a) (k : Fin 2048) (f : Fin 1024) :
    x ((Rect.unit (s := S1x2048x1024) ![0, 0, 0] ![1, 2048, 1024] inb).idx (ix3 0 k f)) = x (ix3 0 k f) := by
  refine congrArg x (funext fun a => Fin.ext ?_)
  match a with
  | ⟨0, _⟩ => rfl
  | ⟨1, _⟩ => show 0 + 1 * k.val = k.val; omega
  | ⟨2, _⟩ => show 0 + 1 * f.val = f.val; omega

theorem ld_top (x : Vec Ideal S512x2048 .bf16) (inb : ∀ a, (![0, 0] : Fin 2 → Nat) a + (![256, 2048] : Fin 2 → Nat) a ≤ S512x2048.size a) (r : Fin 256) (k : Fin 2048) :
    x ((Rect.unit (s := S512x2048) ![0, 0] ![256, 2048] inb).idx (ix2 r k)) = x (ix2 ⟨r, by omega⟩ k) := by
  refine congrArg x (funext fun a => Fin.ext ?_)
  match a with
  | ⟨0, _⟩ => show 0 + 1 * r.val = r.val; omega
  | ⟨1, _⟩ => show 0 + 1 * k.val = k.val; omega

/-! ## Which stored piece an entry lies in -/

/-- A piece of `n` rows from row `o` holds `v` at row `r`, column `f`, if its own entry there is `v` whenever the row is one of its. -/
theorem piece_at (n : ℕ) (o : ℕ) (w : (⟨2, ![n, 1024]⟩ : Shape).Idx → EReal) (r : Fin 512) (f : Fin 1024) (v : EReal)
    (h : ∀ q : Fin n, r.val = o + q.val → w (ix2 q f) = v) :
    View.TileAt (Val := Elt Ideal) (e := .bf16) (S := S512x1024) (ix2 r f) ![o, 0] ![n, 1024] w v := by
  intro x hx
  have h0 := hx 0
  have h1 := hx 1
  replace h0 : r.val = o + (x 0).val := h0
  replace h1 : f.val = 0 + (x 1).val := h1
  have e : x = ix2 (x 0) f := by
    funext a
    match a with
    | ⟨0, _⟩ => rfl
    | ⟨1, _⟩ => exact Fin.ext (by show (x 1).val = f.val; omega)
  rw [e]; exact h (x 0) h0

section Block
variable (c : Dev nD) (i : grid0.Coords)
  (arg5 : Memref sig .tc .vmem S512x2048 .bf16) (harg5 : arg5.IsWhole) (arg6 : Memref sig .tc .vmem S1x2048x1024 .f32) (harg6 : arg6.IsWhole)
  (arg7 : Memref sig .tc .vmem S1x2048x1024 .f32) (harg7 : arg7.IsWhole) (arg8 : Memref sig .tc .vmem S512x1024 .bf16) (harg8 : arg8.IsWhole)
  (T0 : S72.Idx → Elt Ideal .i32) (T1 : S1.Idx → Elt Ideal .i32) (T2 : S72.Idx → Elt Ideal .i32)
  (x0 : S512x2048.Idx → Elt Ideal .bf16) (x1 x2 : S1x2048x1024.Idx → Elt Ideal .f32) (hw : k0_chk1 i (naW (F := Ideal) T1))

/-- The output block after the body: the gated products of the used rows, zero elsewhere. -/
theorem left_apply (hv : 1 ≤ (naW (F := Ideal) T1).toInt) (r : Fin 512) (f : Fin 1024) :
    left c i arg5 harg5 arg6 harg6 arg7 harg7 arg8 harg8 T0 T1 T2 x0 x1 x2 hw (ix2 r f)
      = if Used (naW (F := Ideal) T1) (thW (F := Ideal) i T1 T2 hw) (i 1).val r.val then
          gated (∑ k : Fin 2048, x0 (ix2 r k) * x1 (ix3 0 k f)) (∑ k : Fin 2048, x0 (ix2 r k) * x2 (ix3 0 k f))
        else 0 := by
  unfold left
  by_cases h1 : k0_cond1 i (naW (F := Ideal) T1) (thW (F := Ideal) i T1 T2 hw) = 1#1
  · have hu := (full_iff i _ _ hv).1 h1
    rw [dif_pos h1, if_pos ⟨hu.1, .inl hu.2⟩, View.read_writes_eq_canon _ _ _ (cover_full c i arg5 harg5 arg6 harg6 arg7 harg7 arg8 harg8 T0 T1 T2 x0 x1 x2 hw h1 _ _)]
    refine View.canon_eq_of_allAt _ _ _ (cover_full c i arg5 harg5 arg6 harg6 arg7 harg7 arg8 harg8 T0 T1 T2 x0 x1 x2 hw h1 _ _ _) ?_
    unfold runFull
    dsimp only
    sl_unfold_words
    simp only [View.readAt_rep]
    refine View.allAt_cons_unit _ _ _ _ _ (piece_at 512 0 _ r f _ fun q hq => ?_) (View.allAt_nil _ _)
    obtain rfl : r = q := Fin.ext (by omega)
    refine (full_apply ..).trans ?_
    simp only [ld_x, ld_w]
  · by_cases h2 : k0_cond2 i (naW (F := Ideal) T1) (thW (F := Ideal) i T1 T2 hw) = 1#1
    · have hu := (half_iff i _ _ hv).1 h2
      rw [dif_neg h1, dif_pos h2, View.read_writes_eq_canon _ _ _ (cover_half c i arg5 harg5 arg6 harg6 arg7 harg7 arg8 harg8 T0 T1 T2 x0 x1 x2 hw h1 h2 _)]
      refine View.canon_eq_of_allAt _ _ _ (cover_half c i arg5 harg5 arg6 harg6 arg7 harg7 arg8 harg8 T0 T1 T2 x0 x1 x2 hw h1 h2 _ _) ?_
      unfold runHalf
      dsimp only
      sl_unfold_words
      simp only [View.readAt_rep]
      refine View.allAt_cons_unit _ _ _ _ _ (piece_at 256 256 _ r f _ fun q hq => ?_)
        (View.allAt_cons_unit _ _ _ _ _ (piece_at 256 0 _ r f _ fun q hq => ?_) (View.allAt_nil _ _))
      · rw [if_neg (fun h => h.2.elim (fun h => h hu.2) (by omega))]; exact rest_apply ..
      · rw [if_pos ⟨hu.1, .inr (by omega)⟩]
        refine (half_apply ..).trans ?_
        simp only [ld_top, ld_w]
        rw [show (⟨q.val, by omega⟩ : Fin 512) = r from Fin.ext (by dsimp only; omega)]
    · have hu : ¬ Used (naW (F := Ideal) T1) (thW (F := Ideal) i T1 T2 hw) (i 1).val r.val := fun h => by
        by_cases hm : thW (F := Ideal) i T1 T2 hw = 1#32
        · exact h2 ((half_iff i _ _ hv).2 ⟨h.1, hm⟩)
        · exact h1 ((full_iff i _ _ hv).2 ⟨h.1, hm⟩)
      rw [dif_neg h1, dif_neg h2, if_neg hu, View.read_writes_eq_canon _ _ _ (cover_none c i arg5 harg5 arg6 harg6 arg7 harg7 arg8 harg8 T0 T1 T2 x0 x1 x2 hw h1 h2 _)]
      refine View.canon_eq_of_allAt _ _ _ (cover_none c i arg5 harg5 arg6 harg6 arg7 harg7 arg8 harg8 T0 T1 T2 x0 x1 x2 hw h1 h2 _ _) ?_
      unfold runNone
      dsimp only
      sl_unfold_words
      refine View.allAt_cons_unit _ _ _ _ _ (piece_at 512 0 _ r f _ fun q hq => ?_) (View.allAt_nil _ _)
      exact none_apply ..

end Block

end Cert.UpIdeal.Moe

end
-- ==== Proof.UpArray.lean ====
module

public import proofs.«01_k».proof.Proof.UpValue
public import Idealize.ShloMosaic.Lib.Pipeline.Value

@[expose] public section

set_option maxRecDepth 16384

noncomputable section

/-
  The result array of the first expert product, entry by entry, from the arguments.
-/

namespace Cert.UpIdeal.Moe

open Cert.UpIdeal Cert.UpIdeal.Gen Idealize.ShloMosaic Idealize.ShloMosaic.TcCoe Idealize.ShloMosaic.Tactic Cert.Moe

/-! ## The grid -/

theorem coord_0 : ∀ t : Fin grid0.N, (grid0.coords t 0).val = t.val / 72 := by decide +kernel
theorem coord_1 : ∀ t : Fin grid0.N, (grid0.coords t 1).val = t.val % 72 := by decide +kernel
theorem out_rows : ∀ t : Fin grid0.N, cc0_transform_3 (grid0.coords t) 0 = t.val % 72 := by decide +kernel
theorem out_cols : ∀ t : Fin grid0.N, cc0_transform_3 (grid0.coords t) 1 = t.val / 72 := by decide +kernel

section
variable (m : (ℓ : Loc nD τ sig) → Buf (Elt Ideal) ℓ)
  (a : (pcfg0 (F := Ideal)).Adm) (hw : ∀ i : grid0.Coords, k0_chk1 i (naW (F := Ideal) (a.1 1)))

/-- Distinct points write distinct blocks. -/
theorem out_inj (t t' : Fin (cfgA a).N) (h : ((cfgA a).win (3 : Fin 4)).index t = ((cfgA a).win (3 : Fin 4)).index t') : t = t' := by
  have h0 : cc0_transform_3 (grid0.coords t) 0 = cc0_transform_3 (grid0.coords t') 0 := congrFun h 0
  have h1 : cc0_transform_3 (grid0.coords t) 1 = cc0_transform_3 (grid0.coords t') 1 := congrFun h 1
  rw [out_rows, out_rows] at h0
  rw [out_cols, out_cols] at h1
  exact Fin.ext (by omega)

/-- So each point writes its block back. -/
theorem out_flush (t : Fin (cfgA a).N) : ((cfgA a).win (3 : Fin 4)).flush t = true := by
  unfold Pipeline.Window.flush
  rw [Bool.and_eq_true]
  refine ⟨rfl, ?_⟩
  rw [Bool.or_eq_true, decide_eq_true_eq, decide_eq_true_eq]
  by_cases h : t.val + 1 = (cfgA a).N
  · exact .inl h
  · have ht : t.val + 1 < (cfgA a).N := by have := t.isLt; omega
    refine .inr ⟨ht, fun e => ?_⟩
    have := congrArg Fin.val (out_inj a _ _ e)
    dsimp only at this
    omega

/-- Block `t` of the final array is what point `t` left. -/
theorem block_left (c : Dev nD) (t : Fin (cfgA a).N) :
    (((cfgA a).win (3 : Fin 4)).blk t).view.read (Elt Ideal) ((dats m a hw 0 c).arrAt (3 : Fin 4) (cfgA a).N) = (dats m a hw 0 c).flushed (3 : Fin 4) t :=
  (dats m a hw 0 c).read_blk_arrAt_eq_flushed (3 : Fin 4)
    (fun t t' _ _ hne => ((cfgA a).win (3 : Fin 4)).disjoint_blk fun h => hne (out_inj a t t' h)) (cfgA a).N t t.isLt (out_flush a t)

/-- An entry of an array, as an entry of the block of its tile and column block. -/
theorem read_block (G : S36864x7168.Idx → Elt Ideal .bf16) (r : Fin 36864) (f : Fin 7168) (t : Fin (cfgA a).N) (ht : t.val = f / 1024 * 72 + r / 512) :
    (((cfgA a).win (3 : Fin 4)).blk t).view.read (Elt Ideal) G (ix2 (⟨r % 512, by omega⟩ : Fin 512) (⟨f % 1024, by omega⟩ : Fin 1024)) = G (ix2 r f) := by
  have h0 := out_rows t
  have h1 := out_cols t
  refine congrArg G (funext fun b => Fin.ext ?_)
  match b with
  | ⟨0, _⟩ =>
    refine Eq.trans (b := cc0_transform_3 (grid0.coords t) 0 * 512 + 1 * (r.val % 512)) rfl ((show _ = r.val from ?_).trans rfl)
    rw [h0]; omega
  | ⟨1, _⟩ =>
    refine Eq.trans (b := cc0_transform_3 (grid0.coords t) 1 * 1024 + 1 * (f.val % 1024)) rfl ((show _ = f.val from ?_).trans rfl)
    rw [h1]; omega

/-! The input blocks, read off the arguments. -/

theorem blk_x (c : Dev nD) (t : Fin (cfgA a).N) (q : Fin 512) (k : Fin 2048) (r : Fin 36864)
    (hr : r.val = cc0_transform_0 inb_S1_S1_0 numel1_S1 a.1 (grid0.coords t) 0 * 512 + q) :
    iblk m a c (0 : Fin 4) t (ix2 q k) = m ((c : Thread nD τ).loc main_arg3) (ix2 r k) := by
  refine congrArg (m ((c : Thread nD τ).loc main_arg3)) (funext fun b => Fin.ext ?_)
  match b with
  | ⟨0, _⟩ =>
    refine Eq.trans (b := cc0_transform_0 inb_S1_S1_0 numel1_S1 a.1 (grid0.coords t) 0 * 512 + 1 * q.val) rfl ((show _ = r.val from ?_).trans rfl)
    rw [hr]; omega
  | ⟨1, _⟩ =>
    refine Eq.trans (b := (0#32 : BitVec 32).toNat * 2048 + 1 * k.val) rfl ((show _ = k.val from ?_).trans rfl)
    rw [show (0#32 : BitVec 32).toNat = 0 from rfl]; omega

theorem blk_g (c : Dev nD) (t : Fin (cfgA a).N) (k : Fin 2048) (f : Fin 1024) (e : Fin 16) (F : Fin 14336)
    (he : e.val = cc0_transform_1 k0_off1_inb numel1_S1 a.1 (grid0.coords t) 0) (hF : F.val = t / 72 * 1024 + f) :
    iblk m a c (1 : Fin 4) t (ix3 0 k f) = m ((c : Thread nD τ).loc main_arg4) (ix3 e k F) := by
  have h0 := coord_0 t
  have h1 := coord0_lt (grid0.coords t)
  refine congrArg (m ((c : Thread nD τ).loc main_arg4)) (funext fun b => Fin.ext ?_)
  match b with
  | ⟨0, _⟩ =>
    refine Eq.trans (b := cc0_transform_1 k0_off1_inb numel1_S1 a.1 (grid0.coords t) 0 * 1 + 1 * 0) rfl ((show _ = e.val from ?_).trans rfl)
    rw [he]; omega
  | ⟨1, _⟩ =>
    refine Eq.trans (b := (0#32 : BitVec 32).toNat * 2048 + 1 * k.val) rfl ((show _ = k.val from ?_).trans rfl)
    rw [show (0#32 : BitVec 32).toNat = 0 from rfl]; omega
  | ⟨2, _⟩ =>
    refine Eq.trans (b := (BitVec.ofNat 32 (grid0.coords t 0).val).toNat * 1024 + 1 * f.val) rfl ((show _ = F.val from ?_).trans rfl)
    rw [word_toNat (grid0.coords t 0).val (by omega), h0, hF]; omega

theorem blk_u (c : Dev nD) (t : Fin (cfgA a).N) (k : Fin 2048) (f : Fin 1024) (e : Fin 16) (F : Fin 14336)
    (he : e.val = cc0_transform_2 k0_off1_inb numel1_S1 a.1 (grid0.coords t) 0) (hF : F.val = 7168 + (t / 72 * 1024 + f)) :
    iblk m a c (2 : Fin 4) t (ix3 0 k f) = m ((c : Thread nD τ).loc main_arg4) (ix3 e k F) := by
  have h0 := coord_0 t
  have h1 := coord0_lt (grid0.coords t)
  refine congrArg (m ((c : Thread nD τ).loc main_arg4)) (funext fun b => Fin.ext ?_)
  match b with
  | ⟨0, _⟩ =>
    refine Eq.trans (b := cc0_transform_2 k0_off1_inb numel1_S1 a.1 (grid0.coords t) 0 * 1 + 1 * 0) rfl ((show _ = e.val from ?_).trans rfl)
    rw [he]; omega
  | ⟨1, _⟩ =>
    refine Eq.trans (b := (0#32 : BitVec 32).toNat * 2048 + 1 * k.val) rfl ((show _ = k.val from ?_).trans rfl)
    rw [show (0#32 : BitVec 32).toNat = 0 from rfl]; omega
  | ⟨2, _⟩ =>
    refine Eq.trans (b := (7#32 + BitVec.ofNat 32 (grid0.coords t 0).val).toNat * 1024 + 1 * f.val) rfl ((show _ = F.val from ?_).trans rfl)
    rw [BitVec.toNat_add, word_toNat (grid0.coords t 0).val (by omega), show (7#32).toNat = 7 from rfl, h0, hF]; omega

end

/-! ## The result -/

section
variable (m : (ℓ : Loc nD τ sig) → Buf (Elt Ideal) ℓ) (h : TablesOk (tabs m 0) (tabs m 1))

/-- The words of the tables, as the body reads them. -/
theorem naW_eq (T1 : S1.Idx → Elt Ideal .i32) : naW (F := Ideal) T1 = T1 (ix1 0) :=
  congrArg T1 (Subsingleton.elim (α := Cert.Moe.S1.Idx) _ _)

include h in
theorem thW_eq (i : grid0.Coords) (hw) (j : Fin 72) (hj : j.val = (i 1).val) (hact : j.val < (naW (F := Ideal) (tabs m 1)).toNat) :
    thW (F := Ideal) i (tabs m 1) (tabs m 2) hw = tabs m 2 (ix1 j) := by
  have e := row_toNat _ (coord1_lt i) _ (na_pos (tabs m) h)
  refine congrArg (tabs m 2) (funext fun b => Fin.ext ?_)
  match b with
  | ⟨0, _⟩ =>
    refine Eq.trans (b := (Scalar.minsi (BitVec.ofNat 32 (i 1).val) (Scalar.subi (naW (F := Ideal) (tabs m 1)) 1#32)).toNat + 1 * 0) rfl
      ((show _ = j.val from ?_).trans rfl)
    refine (Nat.add_zero _).trans (e.trans ?_)
    omega

theorem expert_eq (pf : pre0.Contents (Elt Ideal)) (i : grid0.Coords) (j : Fin 72) (hj : j.val = (i 1).val) :
    cc0_transform_1 k0_off1_inb numel1_S1 pf i 0 = (pf 0 (ix1 j) : BitVec 32).toNat := by
  have e := word_toNat _ (coord1_lt i)
  refine congrArg (fun k => (pf 0 k : BitVec 32).toNat) (funext fun b => Fin.ext ?_)
  match b with
  | ⟨0, _⟩ =>
    refine Eq.trans (b := (BitVec.ofNat 32 (i 1).val).toNat + 1 * 0) rfl ((show _ = j.val from ?_).trans rfl)
    rw [e, hj]; omega

/-- The final array: the used rows' gated products, each with its expert's weights, zero elsewhere. -/
theorem final_apply (c : Dev nD) (r : Fin 36864) (f : Fin 7168) :
    (dats m (adm m h) (adm_marks m h) 0 c).arrAt (3 : Fin 4) (cfgA (adm m h)).N (ix2 r f)
      = routed (tabs m 0) (tabs m 1) (tabs m 2) r
          (upTerm (m ((c : Thread nD τ).loc main_arg3)) (m ((c : Thread nD τ).loc main_arg4)) r f) := by
  have hN : (cfgA (adm m h)).N = 504 := N_0
  have ht : f.val / 1024 * 72 + r.val / 512 < (cfgA (adm m h)).N := by omega
  generalize hT : (⟨_, ht⟩ : Fin (cfgA (adm m h)).N) = t
  have htv : t.val = f.val / 1024 * 72 + r.val / 512 := by rw [← hT]
  have hi : (grid0.coords t 1).val = r.val / 512 := by rw [coord_1 t, htv]; omega
  have hj : t.val / 72 = f.val / 1024 := by rw [htv]; omega
  have hbl := congrFun (block_left m (adm m h) (adm_marks m h) c t) (ix2 (⟨r % 512, by omega⟩ : Fin 512) (⟨f % 1024, by omega⟩ : Fin 1024))
  refine (read_block (adm m h) ((dats m (adm m h) (adm_marks m h) 0 c).arrAt (3 : Fin 4) (cfgA (adm m h)).N) r f t htv).symm.trans (hbl.trans ?_)
  refine Eq.trans (b := leftAt m (adm m h) (adm_marks m h) c t (ix2 ⟨r % 512, by omega⟩ ⟨f % 1024, by omega⟩)) rfl ?_
  unfold leftAt
  refine (left_apply c (crd (adm m h) t) (ms0 (adm m h) t) (hs0 (adm m h) t) (ms1 (adm m h) t) (hs1 (adm m h) t) (ms2 (adm m h) t) (hs2 (adm m h) t)
    (ms3 (adm m h) t) (hs3 (adm m h) t) (tabs m 0) (tabs m 1) (tabs m 2) (iblk m (adm m h) c (0 : Fin 4) t) (iblk m (adm m h) c (1 : Fin 4) t)
    (iblk m (adm m h) c (2 : Fin 4) t) (adm_marks m h _) (na_pos (tabs m) h) ⟨r % 512, by omega⟩ ⟨f % 1024, by omega⟩).trans ?_
  unfold routed
  have hna := naW_eq (tabs m 1)
  have hexp := expert_eq (tabs m) (grid0.coords t) ⟨r / 512, by omega⟩ hi.symm
  have hlt : (tabs m 0 (ix1 ⟨r / 512, by omega⟩) : BitVec 32).toNat < 16 := h.expert _
  by_cases hact : r.val / 512 < (naW (F := Ideal) (tabs m 1)).toNat
  · have hth := thW_eq m h (grid0.coords t) (adm_marks m h _) ⟨r / 512, by omega⟩ hi.symm hact
    have hrow : cc0_transform_0 inb_S1_S1_0 numel1_S1 (tabs m) (grid0.coords t) 0 = r.val / 512 := by
      refine (row_toNat _ (coord1_lt (grid0.coords t)) _ (na_pos (tabs m) h)).trans ?_
      rw [hi]; omega
    have hiff : Used (naW (F := Ideal) (tabs m 1)) (thW (F := Ideal) (grid0.coords t) (tabs m 1) (tabs m 2) (adm_marks m h _)) (grid0.coords t 1).val (r.val % 512)
        ↔ Used (tabs m 1 (ix1 0)) (tabs m 2 (ix1 ⟨r / 512, by omega⟩)) (r.val / 512) (r.val % 512) :=
      iff_of_eq ((congrArg (fun n => Used _ _ n (r.val % 512)) hi).trans (congrArg₂ (fun v w => Used v w (r.val / 512) (r.val % 512)) hna hth))
    by_cases hu : Used (naW (F := Ideal) (tabs m 1)) (thW (F := Ideal) (grid0.coords t) (tabs m 1) (tabs m 2) (adm_marks m h _)) (grid0.coords t 1).val (r.val % 512)
    swap
    · exact (if_neg hu).trans (if_neg (fun hu' => hu (hiff.mpr hu'))).symm
    refine (if_pos hu).trans (Eq.trans ?_ (if_pos (hiff.mp hu)).symm)
    unfold upTerm
    refine congrArg₂ gated (Finset.sum_congr rfl fun k _ => congrArg₂ (· * ·) ?_ ?_) (Finset.sum_congr rfl fun k _ => congrArg₂ (· * ·) ?_ ?_)
    · exact blk_x m (adm m h) c t _ k r (by rw [hrow]; dsimp only; omega)
    · exact blk_g m (adm m h) c t k _ _ _ (by unfold expert; dsimp only; rw [hexp]; omega) (by dsimp only; omega)
    · exact blk_x m (adm m h) c t _ k r (by rw [hrow]; dsimp only; omega)
    · exact blk_u m (adm m h) c t k _ _ _ (by unfold expert; dsimp only; refine Eq.trans ?_ hexp.symm; omega) (by dsimp only; omega)
  · rw [if_neg (fun hu => hact (by rw [← hi]; exact hu.1)), if_neg (fun hu => hact (by rw [hna]; exact hu.1))]

end

end Cert.UpIdeal.Moe

end
-- ==== Proof.UpRef.lean ====
/-
  The reference of the first expert product, entry by entry.  It adds up all sixteen experts' terms, each times the row's weight for
  that expert, and all the weights but one are zero.
-/
module

public import proofs.«01_k».proof.Proof.MoeSpec
public import proofs.«01_k».proof.Proof.Gen.UpReferenceIdeal.Read
public import Idealize.ShloMosaic.Lib.Pointwise

@[expose] public section

set_option maxRecDepth 16384

noncomputable section

namespace Cert.UpReferenceIdeal.Moe

open Cert.UpReferenceIdeal Cert.UpReferenceIdeal.Gen Cert.UpReferenceIdeal.Read Idealize.ShloMosaic Cert.Moe

/-- The mark of a row: 1 where the row is used. -/
theorem mark_apply (te na th) (h : TablesOk te na) (j : Fin 72) (r : Fin 512) :
    val_main_v17 (F := Ideal) na th (ix2 j r) = if Used (na (ix1 0)) (th (ix1 j)) j r then 1 else 0 := by
  refine Eq.trans ?_ (select_used j j.isLt (na (ix1 0)) (h.active _) (th (ix1 j)) r r.isLt)
  pointwise [val_main_v0, val_main_v1, val_main_v2, val_main_v3, val_main_v4, val_main_v5, val_main_v6, val_main_v7, val_main_c, val_main_v8,
    val_main_v9, val_main_c_0, val_main_v10, val_main_v11, val_main_v12, val_main_v13, val_main_v14, val_main_v15, val_main_v16,
    val_main_cst, val_main_cst_1, val_main_call0_v0, val_main_call0_v1, val_main_v17]

/-- The expert column: 1 in the column of the row's expert. -/
theorem column_apply (te na) (h : TablesOk te na) (r : Fin 36864) (e : Fin 16) :
    val_main_v22 (F := Ideal) te (ix2 r e) = if expert te ⟨r / 512, by omega⟩ = e then 1 else 0 := by
  refine Eq.trans ?_ (column_word te ⟨r / 512, by omega⟩ (h.expert _) e)
  pointwise [val_main_v22, val_main_call1_v4, val_main_call1_v3, val_main_call1_v2, val_main_call1_v1, val_main_call1_v0, val_main_v21,
    val_main_v20, val_main_v19]

/-- The marks laid out by row. -/
theorem marks_apply (na th) (r : Fin 36864) :
    val_main_v18 (F := Ideal) na th (ix1 r) = val_main_v17 (F := Ideal) na th (ix2 ⟨r / 512, by omega⟩ ⟨r % 512, by omega⟩) := by
  pointwise [val_main_v18]

/-- The weight of an expert in a row. -/
theorem weight_apply (te na th) (h : TablesOk te na) (r : Fin 36864) (e : Fin 16) :
    val_main_v26 (F := Ideal) te na th (ix2 r e)
      = weight (Used (na (ix1 0)) (th (ix1 ⟨r / 512, by omega⟩)) (r / 512) (r % 512)) (expert te ⟨r / 512, by omega⟩) e := by
  refine (val_main_v26_apply te na th _).trans (congrArg₂ (· * ·) (column_apply te na h r e) ?_)
  refine Eq.trans ?_ ((marks_apply na th r).trans (mark_apply te na th h _ _))
  refine (val_main_v25_apply na th _).trans ((val_main_v24_apply na th _).trans ((val_main_v23_apply na th _).trans ?_))
  refine congrArg _ (funext fun a => ?_)
  match a with
  | ⟨0, _⟩ => rfl

/-- The result: the sixteen terms added up. -/
theorem terms_apply (te na th x w) (r : Fin 36864) (f : Fin 7168) :
    val_main_v205 (F := Ideal) te na th x w (ix2 r f)
      = ∑ e, val_main_v26 (F := Ideal) te na th (ix2 r e) * upTerm x w r f e := by
  refine Eq.trans ?_ (sum_experts (fun e => val_main_v26 (F := Ideal) te na th (ix2 r e) * upTerm x w r f e)).symm
  unfold upTerm gated Ideal.logistic
  pointwise [val_main_v205, val_main_v204, val_main_v203, val_main_v202, val_main_v201, val_main_v200, val_main_call17_v5, val_main_call17_v4,
    val_main_call17_cst_0, val_main_call17_v3, val_main_call17_v2, val_main_call17_cst, val_main_call17_v1, val_main_call17_v0,
    val_main_v199, val_main_v198, val_main_v197, val_main_v196, val_main_v195, val_main_v194, val_main_v193, val_main_v192,
    val_main_v191, val_main_v190, val_main_v189, val_main_call16_v5, val_main_call16_v4, val_main_call16_cst_0, val_main_call16_v3,
    val_main_call16_v2, val_main_call16_cst, val_main_call16_v1, val_main_call16_v0, val_main_v188, val_main_v187, val_main_v186,
    val_main_v185, val_main_v184, val_main_v183, val_main_v182, val_main_v181, val_main_v180, val_main_v179, val_main_v178,
    val_main_call15_v5, val_main_call15_v4, val_main_call15_cst_0, val_main_call15_v3, val_main_call15_v2, val_main_call15_cst,
    val_main_call15_v1, val_main_call15_v0, val_main_v177, val_main_v176, val_main_v175, val_main_v174, val_main_v173, val_main_v172,
    val_main_v171, val_main_v170, val_main_v169, val_main_v168, val_main_v167, val_main_call14_v5, val_main_call14_v4,
    val_main_call14_cst_0, val_main_call14_v3, val_main_call14_v2, val_main_call14_cst, val_main_call14_v1, val_main_call14_v0,
    val_main_v166, val_main_v165, val_main_v164, val_main_v163, val_main_v162, val_main_v161, val_main_v160, val_main_v159,
    val_main_v158, val_main_v157, val_main_v156, val_main_call13_v5, val_main_call13_v4, val_main_call13_cst_0, val_main_call13_v3,
    val_main_call13_v2, val_main_call13_cst, val_main_call13_v1, val_main_call13_v0, val_main_v155, val_main_v154, val_main_v153,
    val_main_v152, val_main_v151, val_main_v150, val_main_v149, val_main_v148, val_main_v147, val_main_v146, val_main_v145,
    val_main_call12_v5, val_main_call12_v4, val_main_call12_cst_0, val_main_call12_v3, val_main_call12_v2, val_main_call12_cst,
    val_main_call12_v1, val_main_call12_v0, val_main_v144, val_main_v143, val_main_v142, val_main_v141, val_main_v140, val_main_v139,
    val_main_v138, val_main_v137, val_main_v136, val_main_v135, val_main_v134, val_main_call11_v5, val_main_call11_v4,
    val_main_call11_cst_0, val_main_call11_v3, val_main_call11_v2, val_main_call11_cst, val_main_call11_v1, val_main_call11_v0,
    val_main_v133, val_main_v132, val_main_v131, val_main_v130, val_main_v129, val_main_v128, val_main_v127, val_main_v126,
    val_main_v125, val_main_v124, val_main_v123, val_main_call10_v5, val_main_call10_v4, val_main_call10_cst_0, val_main_call10_v3,
    val_main_call10_v2, val_main_call10_cst, val_main_call10_v1, val_main_call10_v0, val_main_v122, val_main_v121, val_main_v120,
    val_main_v119, val_main_v118, val_main_v117, val_main_v116, val_main_v115, val_main_v114, val_main_v113, val_main_v112,
    val_main_call9_v5, val_main_call9_v4, val_main_call9_cst_0, val_main_call9_v3, val_main_call9_v2, val_main_call9_cst,
    val_main_call9_v1, val_main_call9_v0, val_main_v111, val_main_v110, val_main_v109, val_main_v108, val_main_v107, val_main_v106,
    val_main_v105, val_main_v104, val_main_v103, val_main_v102, val_main_v101, val_main_call8_v5, val_main_call8_v4,
    val_main_call8_cst_0, val_main_call8_v3, val_main_call8_v2, val_main_call8_cst, val_main_call8_v1, val_main_call8_v0, val_main_v100,
    val_main_v99, val_main_v98, val_main_v97, val_main_v96, val_main_v95, val_main_v94, val_main_v93, val_main_v92, val_main_v91,
    val_main_v90, val_main_call7_v5, val_main_call7_v4, val_main_call7_cst_0, val_main_call7_v3, val_main_call7_v2, val_main_call7_cst,
    val_main_call7_v1, val_main_call7_v0, val_main_v89, val_main_v88, val_main_v87, val_main_v86, val_main_v85, val_main_v84,
    val_main_v83, val_main_v82, val_main_v81, val_main_v80, val_main_v79, val_main_call6_v5, val_main_call6_v4, val_main_call6_cst_0,
    val_main_call6_v3, val_main_call6_v2, val_main_call6_cst, val_main_call6_v1, val_main_call6_v0, val_main_v78, val_main_v77,
    val_main_v76, val_main_v75, val_main_v74, val_main_v73, val_main_v72, val_main_v71, val_main_v70, val_main_v69, val_main_v68,
    val_main_call5_v5, val_main_call5_v4, val_main_call5_cst_0, val_main_call5_v3, val_main_call5_v2, val_main_call5_cst,
    val_main_call5_v1, val_main_call5_v0, val_main_v67, val_main_v66, val_main_v65, val_main_v64, val_main_v63, val_main_v62,
    val_main_v61, val_main_v60, val_main_v59, val_main_v58, val_main_v57, val_main_call4_v5, val_main_call4_v4, val_main_call4_cst_0,
    val_main_call4_v3, val_main_call4_v2, val_main_call4_cst, val_main_call4_v1, val_main_call4_v0, val_main_v56, val_main_v55,
    val_main_v54, val_main_v53, val_main_v52, val_main_v51, val_main_v50, val_main_v49, val_main_v48, val_main_v47, val_main_v46,
    val_main_call3_v5, val_main_call3_v4, val_main_call3_cst_0, val_main_call3_v3, val_main_call3_v2, val_main_call3_cst,
    val_main_call3_v1, val_main_call3_v0, val_main_v45, val_main_v44, val_main_v43, val_main_v42, val_main_v41, val_main_v40,
    val_main_v39, val_main_v38, val_main_v37, val_main_v36, val_main_v35, val_main_call2_v5, val_main_call2_v4, val_main_call2_cst_0,
    val_main_call2_v3, val_main_call2_v2, val_main_call2_cst, val_main_call2_v1, val_main_call2_v0, val_main_v34, val_main_v33,
    val_main_v32, val_main_v31, val_main_v30, val_main_v29, val_main_v28, val_main_cst_2, val_main_v27]

/-- The reference's result. -/
theorem ref_apply (te na th x w) (h : TablesOk te na) (r : Fin 36864) (f : Fin 7168) :
    val_main_v205 (F := Ideal) te na th x w (ix2 r f) = routed te na th r (upTerm x w r f) := by
  rw [terms_apply]
  refine (Finset.sum_congr rfl fun e _ => congrArg (· * upTerm x w r f e) (weight_apply te na th h r e)).trans ?_
  exact sum_weight _ _ _

end Cert.UpReferenceIdeal.Moe

end
-- ==== Proof.UpClaim.lean ====
/-
  The claims of the first expert product: the frames of its three programs and the equality of the two results.
-/
module

public import proofs.«01_k».proof.Defs
public import proofs.«01_k».proof.Proof.UpArray
public import proofs.«01_k».proof.Proof.UpRef
public import proofs.«01_k».proof.Proof.Gen.Up
public import proofs.«01_k».proof.Proof.Gen.UpReferenceIdeal.Run
public import proofs.«01_k».proof.Proof.Gen.Pre_up_tables_ok
public import Idealize.ShloMosaic.PureOps.BitExact
public import Idealize.ShloMosaic.Lib.Quiescent

@[expose] public section

set_option maxRecDepth 16384

noncomputable section

namespace Cert.UpIdeal.Moe

open Cert.UpIdeal Cert.UpIdeal.Gen Idealize.ShloMosaic Idealize.ShloMosaic.TcCoe Idealize.ShloMosaic.Tactic Idealize.SL.Sem Cert.Moe

/-! ## The frames -/

/-- The kernel over the ideal numbers. -/
theorem frame_ideal : quiescent_UpIdeal := fun m ρ hp =>
  let h : TablesOk (tabs m 0) (tabs m 1) := tables_of_up _ _ _ _ _ (hp 0)
  frame m ρ (adm m h) (adm_marks m h) (adm_tabs m h)

/-- The kernel's two programs have the same text, so that their runs over bits are the same statement. -/
theorem run_bits (m : (ℓ : Loc Cert.Up.nD Cert.Up.τ Cert.Up.sig) → Buf (Elt Bits) ℓ) (g : Dev Cert.Up.nD → PrngReg) :
    (θ_run (Cert.UpIdeal.defs (F := Bits)) (onTc (τ := Cert.UpIdeal.τ) (Cert.UpIdeal.main (F := Bits))) ⟨m, fun _ => 0, g⟩ (fun r => (∀ c : Dev Cert.UpIdeal.nD,
          r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
        ∧ r.2.sem = fun _ => 0))
      = (θ_run (Cert.Up.defs (F := Bits)) (onTc (τ := Cert.Up.τ) (Cert.Up.main (F := Bits))) ⟨m, fun _ => 0, g⟩ (fun r => (∀ c : Dev Cert.Up.nD,
          r.2.mem ((c.tc : Thread Cert.Up.nD Cert.Up.τ).loc Cert.Up.main_arg0) = m ((c.tc : Thread Cert.Up.nD Cert.Up.τ).loc Cert.Up.main_arg0)
          ∧ r.2.mem ((c.tc : Thread Cert.Up.nD Cert.Up.τ).loc Cert.Up.main_arg1) = m ((c.tc : Thread Cert.Up.nD Cert.Up.τ).loc Cert.Up.main_arg1)
          ∧ r.2.mem ((c.tc : Thread Cert.Up.nD Cert.Up.τ).loc Cert.Up.main_arg2) = m ((c.tc : Thread Cert.Up.nD Cert.Up.τ).loc Cert.Up.main_arg2)
          ∧ r.2.mem ((c.tc : Thread Cert.Up.nD Cert.Up.τ).loc Cert.Up.main_arg3) = m ((c.tc : Thread Cert.Up.nD Cert.Up.τ).loc Cert.Up.main_arg3)
          ∧ r.2.mem ((c.tc : Thread Cert.Up.nD Cert.Up.τ).loc Cert.Up.main_arg4) = m ((c.tc : Thread Cert.Up.nD Cert.Up.τ).loc Cert.Up.main_arg4))
        ∧ r.2.sem = fun _ => 0)) := by
  sl_kernel_rfl

/-- The kernel over bits. -/
theorem frame_bits : quiescent_Up := fun m g hp =>
  let h : TablesOk (tabs (F := Bits) m 0) (tabs (F := Bits) m 1) := tables_of_up _ _ _ _ _ (hp 0)
  (run_bits m g).mp (frame (F := Bits) m g (adm m h) (adm_marks m h) (adm_tabs m h))

/-- The reference. -/
theorem frame_reference : quiescent_UpReferenceIdeal := fun m ρ _ =>
  (θ_run _ _ _).mono (fun r h => ⟨fun c => (h c).2, sem_eq_zero_of_no_sems (by decide) r.2⟩)
    (Cert.UpReferenceIdeal.Value.run m ρ)

/-- The reference on the tables the kernel is given. -/
theorem frame_reference_tables : quiescent_UpReferenceIdeal_pre_up_tables_ok := fun m ρ _ =>
  (θ_run _ _ _).mono (fun r h => ⟨fun c => (h c).2, sem_eq_zero_of_no_sems (by decide) r.2⟩)
    (Cert.UpReferenceIdeal.Value.run m ρ)

/-! ## The results -/

variable (m : (ℓ : Loc nD τ sig) → Buf (Elt Ideal) ℓ)

/-- The kernel's final array. -/
abbrev result (h : TablesOk (tabs m 0) (tabs m 1)) (c : Dev nD) : Buf (Elt Ideal) ((c.tc : Thread nD τ).loc main_v0) :=
  (dats m (adm m h) (adm_marks m h) 0 c).arrAt (3 : Fin 4) (cfgA (adm m h)).N

/-- Every run of the kernel ends with that array, and its arguments as they were. -/
theorem run_result (ρ) (h : TablesOk (tabs m 0) (tabs m 1)) :
    θ_run (defs (F := Ideal)) (onTc (τ := τ) (main (F := Ideal))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r q c => q.1 c)
    (run_all m ρ (adm m h) (adm_marks m h) (adm_tabs m h))

/-- The kernel's result is the reference's, entry by entry. -/
theorem result_eq (h : TablesOk (tabs m 0) (tabs m 1))
    (m' : (ℓ : Loc Cert.UpReferenceIdeal.nD Cert.UpReferenceIdeal.τ Cert.UpReferenceIdeal.sig) → Buf (Elt Ideal) ℓ) (c : Dev nD)
    (h0 : m' ((c.tc : Thread Cert.UpReferenceIdeal.nD Cert.UpReferenceIdeal.τ).loc Cert.UpReferenceIdeal.main_arg0) = m ((c.tc : Thread nD τ).loc main_arg0))
    (h1 : m' ((c.tc : Thread Cert.UpReferenceIdeal.nD Cert.UpReferenceIdeal.τ).loc Cert.UpReferenceIdeal.main_arg1) = m ((c.tc : Thread nD τ).loc main_arg1))
    (h2 : m' ((c.tc : Thread Cert.UpReferenceIdeal.nD Cert.UpReferenceIdeal.τ).loc Cert.UpReferenceIdeal.main_arg2) = m ((c.tc : Thread nD τ).loc main_arg2))
    (h3 : m' ((c.tc : Thread Cert.UpReferenceIdeal.nD Cert.UpReferenceIdeal.τ).loc Cert.UpReferenceIdeal.main_arg3) = m ((c.tc : Thread nD τ).loc main_arg3))
    (h4 : m' ((c.tc : Thread Cert.UpReferenceIdeal.nD Cert.UpReferenceIdeal.τ).loc Cert.UpReferenceIdeal.main_arg4) = m ((c.tc : Thread nD τ).loc main_arg4)) :
    truncf (F := Ideal) .bf16 (Cert.UpReferenceIdeal.Value.res_main_v204 (StableHlo.launchContents m' c)) Cert.UpReferenceIdeal.Gen.bitsLt_bf16_f32 = result m h c := by
  obtain rfl : c = 0 := Subsingleton.elim _ _
  refine (Cert.UpReferenceIdeal.Read.val_main_v205_eq (StableHlo.launchContents m' 0)).trans ?_
  change Cert.UpReferenceIdeal.Read.val_main_v205 (F := Ideal) (m' (((0 : Dev nD).tc : Thread Cert.UpReferenceIdeal.nD Cert.UpReferenceIdeal.τ).loc Cert.UpReferenceIdeal.main_arg0)) (m' (((0 : Dev nD).tc : Thread Cert.UpReferenceIdeal.nD Cert.UpReferenceIdeal.τ).loc Cert.UpReferenceIdeal.main_arg1)) (m' (((0 : Dev nD).tc : Thread Cert.UpReferenceIdeal.nD Cert.UpReferenceIdeal.τ).loc Cert.UpReferenceIdeal.main_arg2)) (m' (((0 : Dev nD).tc : Thread Cert.UpReferenceIdeal.nD Cert.UpReferenceIdeal.τ).loc Cert.UpReferenceIdeal.main_arg3)) (m' (((0 : Dev nD).tc : Thread Cert.UpReferenceIdeal.nD Cert.UpReferenceIdeal.τ).loc Cert.UpReferenceIdeal.main_arg4)) = _
  rw [h0, h1, h2, h3, h4]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.UpReferenceIdeal.Moe.ref_apply _ _ _ _ _ h _ _).trans (final_apply m h 0 _ _).symm

/-- Both programs run and end with equal results. -/
theorem value : algebraic_UpIdeal_UpReferenceIdeal := fun m g m' g' hp hargs =>
  let h : TablesOk (tabs m 0) (tabs m 1) := tables_of_up _ _ _ _ _ (hp 0)
  ⟨fun c => result m h c, run_result m g h,
    (θ_run _ _ _).mono (fun _ q c => ⟨(q c).1.trans
        (result_eq m h m' c (hargs c).1 (hargs c).2.1 (hargs c).2.2.1 (hargs c).2.2.2.1 (hargs c).2.2.2.2), (q c).2⟩)
      (Cert.UpReferenceIdeal.Value.run m' g')⟩

end Cert.UpIdeal.Moe

end
-- ==== Proof.DownRun.lean ====
module

public import proofs.«01_k».proof.Proof.Gen.DownIdeal.Launch
public import proofs.«01_k».proof.Proof.Gen.DownIdeal.Skeleton
public import Idealize.ShloMosaic.Lib.Pipeline.TableIdle
public import Idealize.ShloMosaic.Lib.Pipeline.FrameBody
public import Idealize.ShloMosaic.Lib.Pipeline.ValueKit.Tiles
public import Idealize.ShloMosaic.Lib.Ring
public import Idealize.ShloMosaic.Lib.Tactic
public import Idealize.ShloMosaic.Lib.Exec
public import Idealize.ShloMosaic.Lib.Affine
public import Idealize.ShloMosaic.Lib.Writes
public import Idealize.ShloMosaic.Adequacy
public import Idealize.ShloMosaic.Init

@[expose] public section

set_option maxRecDepth 16384
set_option Elab.async false

noncomputable section

/-
  The body of the second expert product (moe_down) run once on arbitrary buffers, over any number system and any tables.  A
  tile of 512 rows takes one of three paths: all its rows hold tokens, only its first 256 do, or none does.  On each path
  the body leaves its output block at the path's payloads.
-/

namespace Cert.DownIdeal.Moe

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads of the tables -/

abbrev te : Memref sig .tc .smem S72 .i32 := Memref.whole main_arg0
abbrev na : Memref sig .tc .smem S1 .i32 := Memref.whole main_arg1
abbrev th : Memref sig .tc .smem S72 .i32 := Memref.whole main_arg2

/-- The number of active tiles. -/
abbrev naW (T1 : S1.Idx → Elt F .i32) : BitVec 32 :=
  View.readAt (Elt F) na.view (Rect.unit (s := S1) ![0] S1.size inb_S1_S1_0).toLoadRect T1 (Shape.Idx.first (numel1_S1.symm ▸ Nat.one_pos))

/-- The mark of the tile: 1 where only its first half holds tokens. -/
abbrev thW (i : grid0.Coords) (T1 : S1.Idx → Elt F .i32) (T2 : S72.Idx → Elt F .i32) (hw : k0_chk1 i (naW (F := F) T1)) : BitVec 32 :=
  View.readAt (Elt F) th.view (Rect.unit (s := S72) (k0_off2 i (naW (F := F) T1)) S1.size (k0_off2_inb i (naW (F := F) T1) hw)).toLoadRect T2
    (Shape.Idx.first (numel1_S1.symm ▸ Nat.one_pos))

/-! The three conditions exclude each other and one of them holds. -/

theorem full_excludes (i : grid0.Coords) (v w : BitVec 32) : k0_cond1 i v w = 1#1 → ¬ k0_cond2 i v w = 1#1 ∧ ¬ k0_cond3 i v = 1#1 := by
  unfold k0_cond1 k0_cond2 k0_cond3; dsimp only
  generalize Scalar.cmpi .slt _ v = a; generalize Scalar.cmpi .eq w _ = b
  revert a b; decide

theorem half_excludes (i : grid0.Coords) (v w : BitVec 32) : k0_cond2 i v w = 1#1 → ¬ k0_cond3 i v = 1#1 := by
  unfold k0_cond2 k0_cond3; dsimp only
  generalize Scalar.cmpi .slt _ v = a; generalize Scalar.cmpi .eq w _ = b
  revert a b; decide

theorem none_left (i : grid0.Coords) (v w : BitVec 32) : ¬ k0_cond1 i v w = 1#1 → ¬ k0_cond2 i v w = 1#1 → k0_cond3 i v = 1#1 := by
  unfold k0_cond1 k0_cond2 k0_cond3; dsimp only
  generalize Scalar.cmpi .slt _ v = a; generalize Scalar.cmpi .eq w _ = b
  revert a b; decide

/-- One of the three conditions holds, whatever words the two of them that read a mark read. -/
theorem some_path (i : grid0.Coords) (v w : BitVec 32) :
    (!(k0_cond1 i v w == 1#1) && !(k0_cond2 i v w == 1#1) && !(k0_cond3 i v == 1#1)) = false := by
  unfold k0_cond1 k0_cond2 k0_cond3; dsimp only
  generalize Scalar.cmpi .slt _ v = a; generalize Scalar.cmpi .eq w _ = b
  revert a b; decide

/-! ## The body on each path -/

section Paths
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole)
  (T0 : S72.Idx → Elt F .i32) (T1 : S1.Idx → Elt F .i32) (T2 : S72.Idx → Elt F .i32)
  (x0 : S512x7168.Idx → Elt F .bf16) (x1 : S1x7168x512.Idx → Elt F .f32)

/-- The two input blocks and the three tables, as the body finds and leaves them. -/
def held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (te.view.loc (c : Thread nD τ) ↦{fullShare.right} T0)
    ∗ (na.view.loc (c : Thread nD τ) ↦{fullShare.right} T1)
    ∗ (th.view.loc (c : Thread nD τ) ↦{fullShare.right} T2))

/-- The body, run from the held blocks and any output buffer, ends with the output buffer overwritten by `pieces`. -/
def Leaves (pieces : List (View.Piece (Elt F) S512x512 .f32)) : Prop :=
  ∀ K : PUnit → sProp 𝕄,
    iprop(held c arg5 arg6 T0 T1 T2 x0 x1 ∗ (∃ d, owns (c : Thread nD τ) arg7 fullShare d)
      ∗ (iprop(held c arg5 arg6 T0 T1 T2 x0 x1
          ∗ (∃ f, arg7.view.loc (c : Thread nD τ) ↦[arg7.view.set]{fullShare} arg7.view.writes (Elt F) f pieces)) -∗ K ⟨⟩))
      ⊢ wp frame (wpE (defs₀ (F := F)) Variants.none c none) Set.univ
        (cc0_moe_down i te (Memref.isWhole_whole _) na (Memref.isWhole_whole _) th (Memref.isWhole_whole _) arg5 harg5 arg6 harg6 arg7 harg7) K

variable (hw : k0_chk1 i (naW (F := F) T1))

set_option backward.proofsInPublic true in
set_option maxHeartbeats 8000000 in
/-- Every row of the tile holds a token. -/
def runFull (h1 : k0_cond1 i (naW (F := F) T1) (thW (F := F) i T1 T2 hw) = 1#1) (h2 : ¬ k0_cond2 i (naW (F := F) T1) (thW (F := F) i T1 T2 hw) = 1#1)
    (h3 : ¬ k0_cond3 i (naW (F := F) T1) = 1#1) :
    { pieces : List (View.Piece (Elt F) S512x512 .f32) //
      Leaves c i arg5 harg5 arg6 harg6 arg7 harg7 T0 T1 T2 x0 x1 pieces } :=
  ⟨_, fun K => by
    unfold held owns
    rw [cc0_moe_down_eq_skeleton]; unfold cc0_moe_down_skel
    iintro ⟨⟨H0, H1, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = k0_cond1 _ _ _ = _; exact h1) | (guard_target = ¬(k0_cond2 _ _ _ = _); exact h2) | (guard_target = ¬(k0_cond3 _ _ = _); exact h3))
    sl_step
    iapply Hk
    isplitr [HO]
    · isplitl [H0]; · iexact H0
      isplitl [H1]; · iexact H1
      isplitl [HT0]; · iexact HT0
      isplitl [HT1]; · iexact HT1
      iexact HT2
    iexists _; iexact HO⟩

set_option backward.proofsInPublic true in
set_option maxHeartbeats 8000000 in
/-- Only the first half of the tile holds tokens. -/
def runHalf (h1 : ¬ k0_cond1 i (naW (F := F) T1) (thW (F := F) i T1 T2 hw) = 1#1) (h2 : k0_cond2 i (naW (F := F) T1) (thW (F := F) i T1 T2 hw) = 1#1)
    (h3 : ¬ k0_cond3 i (naW (F := F) T1) = 1#1) :
    { pieces : List (View.Piece (Elt F) S512x512 .f32) //
      Leaves c i arg5 harg5 arg6 harg6 arg7 harg7 T0 T1 T2 x0 x1 pieces } :=
  ⟨_, fun K => by
    unfold held owns
    rw [cc0_moe_down_eq_skeleton]; unfold cc0_moe_down_skel
    iintro ⟨⟨H0, H1, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = ¬(k0_cond1 _ _ _ = _); exact h1) | (guard_target = k0_cond2 _ _ _ = _; exact h2) | (guard_target = ¬(k0_cond3 _ _ = _); exact h3))
    sl_step
    iapply Hk
    isplitr [HO]
    · isplitl [H0]; · iexact H0
      isplitl [H1]; · iexact H1
      isplitl [HT0]; · iexact HT0
      isplitl [HT1]; · iexact HT1
      iexact HT2
    iexists _; iexact HO⟩

set_option backward.proofsInPublic true in
set_option maxHeartbeats 8000000 in
/-- No row of the tile holds a token. -/
def runNone (h1 : ¬ k0_cond1 i (naW (F := F) T1) (thW (F := F) i T1 T2 hw) = 1#1) (h2 : ¬ k0_cond2 i (naW (F := F) T1) (thW (F := F) i T1 T2 hw) = 1#1)
    (h3 : k0_cond3 i (naW (F := F) T1) = 1#1) :
    { pieces : List (View.Piece (Elt F) S512x512 .f32) //
      Leaves c i arg5 harg5 arg6 harg6 arg7 harg7 T0 T1 T2 x0 x1 pieces } :=
  ⟨_, fun K => by
    unfold held owns
    rw [cc0_moe_down_eq_skeleton]; unfold cc0_moe_down_skel
    iintro ⟨⟨H0, H1, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = ¬(k0_cond1 _ _ _ = _); exact h1) | (guard_target = ¬(k0_cond2 _ _ _ = _); exact h2) | (guard_target = k0_cond3 _ _ = _; exact h3))
    sl_step
    iapply Hk
    isplitr [HO]
    · isplitl [H0]; · iexact H0
      isplitl [H1]; · iexact H1
      isplitl [HT0]; · iexact HT0
      isplitl [HT1]; · iexact HT1
      iexact HT2
    iexists _; iexact HO⟩

end Paths

end Cert.DownIdeal.Moe

end
-- ==== Proof.DownFrame.lean ====
module

public import proofs.«01_k».proof.Proof.DownRun
public import Idealize.ShloMosaic.Lib.Claim

@[expose] public section

set_option maxRecDepth 16384
set_option Elab.async false

noncomputable section

/-
  The launch of the second expert product (moe_down) over any number system and any tables whose blocks lie inside their
  arrays: it ends, leaves its arguments as they were, and its result holds the body's output at every grid point.
-/

namespace Cert.DownIdeal.Moe

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What the body leaves, whichever path it takes -/

/-- One staging buffer of the output window. -/
abbrev outView : View sig .tc .vmem S512x512 .f32 := (Memref.whole cc0_stg2_0 : Memref sig .tc .vmem S512x512 .f32).view

section Body
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole)
  (T0 : S72.Idx → Elt F .i32) (T1 : S1.Idx → Elt F .i32) (T2 : S72.Idx → Elt F .i32)
  (x0 : S512x7168.Idx → Elt F .bf16) (x1 : S1x7168x512.Idx → Elt F .f32) (hw : k0_chk1 i (naW (F := F) T1))

theorem cover_full (h1 h2 h3) (y : S512x512.Idx) :
    ∃ pc ∈ (runFull c i arg5 harg5 arg6 harg6 arg7 harg7 T0 T1 T2 x0 x1 hw h1 h2 h3).1, y ∈ pc.1.set :=
  View.cover_of_tiledL (runFull c i arg5 harg5 arg6 harg6 arg7 harg7 T0 T1 T2 x0 x1 hw h1 h2 h3).1 S512x512.size (by sl_kernel_rfl) y

theorem cover_half (h1 h2 h3) (y : S512x512.Idx) :
    ∃ pc ∈ (runHalf c i arg5 harg5 arg6 harg6 arg7 harg7 T0 T1 T2 x0 x1 hw h1 h2 h3).1, y ∈ pc.1.set :=
  View.cover_of_tiledL (runHalf c i arg5 harg5 arg6 harg6 arg7 harg7 T0 T1 T2 x0 x1 hw h1 h2 h3).1 S256x512.size (by sl_kernel_rfl) y

theorem cover_none (h1 h2 h3) (y : S512x512.Idx) :
    ∃ pc ∈ (runNone c i arg5 harg5 arg6 harg6 arg7 harg7 T0 T1 T2 x0 x1 hw h1 h2 h3).1, y ∈ pc.1.set :=
  View.cover_of_tiledL (runNone c i arg5 harg5 arg6 harg6 arg7 harg7 T0 T1 T2 x0 x1 hw h1 h2 h3).1 S512x512.size (by sl_kernel_rfl) y

/-- The output block after the body: the path's pieces read back. -/
def left : Vec F S512x512 .f32 :=
  if h1 : k0_cond1 i (naW (F := F) T1) (thW (F := F) i T1 T2 hw) = 1#1 then
    outView.read (Elt F) (outView.writes (Elt F) outView.junk
      (runFull c i arg5 harg5 arg6 harg6 arg7 harg7 T0 T1 T2 x0 x1 hw h1 (full_excludes _ _ _ h1).1 (full_excludes _ _ _ h1).2).1)
  else if h2 : k0_cond2 i (naW (F := F) T1) (thW (F := F) i T1 T2 hw) = 1#1 then
    outView.read (Elt F) (outView.writes (Elt F) outView.junk
      (runHalf c i arg5 harg5 arg6 harg6 arg7 harg7 T0 T1 T2 x0 x1 hw h1 h2 (half_excludes _ _ _ h2)).1)
  else
    outView.read (Elt F) (outView.writes (Elt F) outView.junk
      (runNone c i arg5 harg5 arg6 harg6 arg7 harg7 T0 T1 T2 x0 x1 hw h1 h2 (none_left _ _ _ h1 h2)).1)

/-- The body ends with the blocks and tables it found and its output block at `left`. -/
theorem body_leaves (K : PUnit → sProp 𝕄) :
    iprop(held c arg5 arg6 T0 T1 T2 x0 x1 ∗ (∃ d, owns (c : Thread nD τ) arg7 fullShare d)
      ∗ (iprop(held c arg5 arg6 T0 T1 T2 x0 x1
          ∗ owns (c : Thread nD τ) arg7 fullShare (left c i arg5 harg5 arg6 harg6 arg7 harg7 T0 T1 T2 x0 x1 hw)) -∗ K ⟨⟩))
      ⊢ wp frame (wpE (defs₀ (F := F)) Variants.none c none) Set.univ
        (cc0_moe_down i te (Memref.isWhole_whole _) na (Memref.isWhole_whole _) th (Memref.isWhole_whole _) arg5 harg5 arg6 harg6 arg7 harg7) K := by
  by_cases h1 : k0_cond1 i (naW (F := F) T1) (thW (F := F) i T1 T2 hw) = 1#1
  · unfold left; rw [dif_pos h1]
    iintro ⟨H, HO, Hk⟩
    iapply ((runFull c i arg5 harg5 arg6 harg6 arg7 harg7 T0 T1 T2 x0 x1 hw h1 (full_excludes _ _ _ h1).1 (full_excludes _ _ _ h1).2).2 _)
    isplitl [H]; · iexact H
    isplitl [HO]; · iexact HO
    iintro ⟨H, ⟨%f, HO⟩⟩
    iapply Hk
    isplitl [H]; · iexact H
    unfold owns; iexists _; isplitr
    swap; · iexact HO
    ipureintro; exact View.read_writes_of_cover _ _ _ _ _ (cover_full c _ _ _ _ _ _ _ _ _ _ _ _ _ _ _ _)
  · by_cases h2 : k0_cond2 i (naW (F := F) T1) (thW (F := F) i T1 T2 hw) = 1#1
    · unfold left; rw [dif_neg h1, dif_pos h2]
      iintro ⟨H, HO, Hk⟩
      iapply ((runHalf c i arg5 harg5 arg6 harg6 arg7 harg7 T0 T1 T2 x0 x1 hw h1 h2 (half_excludes _ _ _ h2)).2 _)
      isplitl [H]; · iexact H
      isplitl [HO]; · iexact HO
      iintro ⟨H, ⟨%f, HO⟩⟩
      iapply Hk
      isplitl [H]; · iexact H
      unfold owns; iexists _; isplitr
      swap; · iexact HO
      ipureintro; exact View.read_writes_of_cover _ _ _ _ _ (cover_half c _ _ _ _ _ _ _ _ _ _ _ _ _ _ _ _)
    · unfold left; rw [dif_neg h1, dif_neg h2]
      iintro ⟨H, HO, Hk⟩
      iapply ((runNone c i arg5 harg5 arg6 harg6 arg7 harg7 T0 T1 T2 x0 x1 hw h1 h2 (none_left _ _ _ h1 h2)).2 _)
      isplitl [H]; · iexact H
      isplitl [HO]; · iexact HO
      iintro ⟨H, ⟨%f, HO⟩⟩
      iapply Hk
      isplitl [H]; · iexact H
      unfold owns; iexists _; isplitr
      swap; · iexact HO
      ipureintro; exact View.read_writes_of_cover _ _ _ _ _ (cover_none c _ _ _ _ _ _ _ _ _ _ _ _ _ _ _ _)

end Body

/-! ## The pipeline at the tables `a` -/

variable (m : (ℓ : Loc nD τ sig) → Buf (Elt F) ℓ) (ρ : Dev nD → PrngReg)
  (a : (pcfg0 (F := F)).Adm) (hw : ∀ i : grid0.Coords, k0_chk1 i (naW (F := F) (a.1 1)))

abbrev cfgA : Pipeline.Cfg sig Λ₀ := cfg0 a
abbrev crd (t : Fin (cfgA a).N) : grid0.Coords := (cfgA a).grid.coords t

/-! Each window's staging buffer at a point. -/
abbrev ms0 (t : Fin (cfgA a).N) : Memref sig .tc .vmem S512x7168 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x7168x512 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S512x512 .f32 := spec0_2.stage ((cfgA a).slots t (2 : Fin 3))
abbrev hs2 (t : Fin (cfgA a).N) : (ms2 a t).IsWhole := hstage0_2 (((cfgA a).slots t (2 : Fin 3)).cast nbuf0_2)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The output block after point `t`. -/
def leftAt (c : Dev nD) (t : Fin (cfgA a).N) : Vec F S512x512 .f32 :=
  left c (crd a t) (ms0 a t) (hs0 a t) (ms1 a t) (hs1 a t) (ms2 a t) (hs2 a t) (a.1 0) (a.1 1) (a.1 2)
    (iblk m a c (0 : Fin 3) t) (iblk m a c (1 : Fin 3) t) (hw (crd a t))

/-- The proof data of the pipeline. -/
def dats (_ : Fin 1) (c : Dev nD) : Dat τ (Elt F) Unit ℕ (UR sig nD τ) ℕ (cfgA a) c where
  A w := m ((c : Thread nD τ).loc (Pipeline.arrRef spec0 w))
  after w t := match w with
    | ⟨0, _⟩ => iblk m a c (0 : Fin 3) t
    | ⟨1, _⟩ => iblk m a c (1 : Fin 3) t
    | ⟨2, _⟩ => leftAt m a hw c t
  Φ _ := iprop(Pipeline.ΦA spec0 c ∗ Pipeline.ΦT pre0 a.1 c)
  q w := Pipeline.shareOf spec0 w
  owed _ := 0

theorem after_0 (c : Dev nD) (t : Fin (cfgA a).N) : (dats m a hw 0 c).after (0 : Fin 3) t = iblk m a c (0 : Fin 3) t := rfl
theorem after_1 (c : Dev nD) (t : Fin (cfgA a).N) : (dats m a hw 0 c).after (1 : Fin 3) t = iblk m a c (1 : Fin 3) t := rfl
theorem after_2 (c : Dev nD) (t : Fin (cfgA a).N) : (dats m a hw 0 c).after (2 : Fin 3) t = leftAt m a hw c t := rfl

/-! Each input's buffer holds its block whenever the body runs. -/

theorem before_0 (c : Dev nD) (t : Fin (cfgA a).N) (d) : (dats m a hw 0 c).before (0 : Fin 3) t d = iblk m a c (0 : Fin 3) t :=
  ((dats m a hw 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a hw 0 c).before (1 : Fin 3) t d = iblk m a c (1 : Fin 3) t :=
  ((dats m a hw 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The output window is stored at every point. -/
theorem out_live (i : grid0.Coords) : (cfgA a).idle (2 : Fin 3) i = false := some_path i _ _

/-- The tables as the region hands them to the body, one by one. -/
theorem tables_eq (c : Dev nD) (v : pre0.Contents (Elt F)) :
    (Pipeline.ΦT (U := UR sig nD τ) pre0 v c : sProp 𝕄)
      = iprop((te.view.loc (c : Thread nD τ) ↦{fullShare.right} v 0) ∗ (na.view.loc (c : Thread nD τ) ↦{fullShare.right} v 1)
        ∗ (th.view.loc (c : Thread nD τ) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_moe_down (crd a t) te (Memref.isWhole_whole _) na (Memref.isWhole_whole _) th (Memref.isWhole_whole _)
    (ms0 a t) (hs0 a t) (ms1 a t) (hs1 a t) (ms2 a t) (hs2 a t)

set_option maxHeartbeats 4000000 in
/-- The body's obligation at a point. -/
theorem sound_body (c : Dev nD) (t : Fin (cfgA a).N) :
    iprop((dats m a hw 0 c).Φ t.castSucc ∗ (dats m a hw 0 c).owesAt () t.castSucc
        ∗ (∃ d, owns (c : Thread nD τ) (ms0 a t) fullShare ((dats m a hw 0 c).before (0 : Fin 3) t d))
        ∗ (∃ d, owns (c : Thread nD τ) (ms1 a t) fullShare ((dats m a hw 0 c).before (1 : Fin 3) t d))
        ∗ (∃ d, owns (c : Thread nD τ) (ms2 a t) fullShare ((dats m a hw 0 c).before (2 : Fin 3) t d)))
      ⊢ wp frame (wpE (defs₀ (F := F)) Variants.none c none) Set.univ (bodyAt a t) fun _ =>
          iprop((dats m a hw 0 c).Φ t.succ ∗ (dats m a hw 0 c).owesAt () t.succ
            ∗ owns (c : Thread nD τ) (ms0 a t) fullShare ((dats m a hw 0 c).after (0 : Fin 3) t)
            ∗ owns (c : Thread nD τ) (ms1 a t) fullShare ((dats m a hw 0 c).after (1 : Fin 3) t)
            ∗ owns (c : Thread nD τ) (ms2 a t) fullShare ((dats m a hw 0 c).after (2 : Fin 3) t)) := by
  simp only [before_0, before_1, after_0, after_1, after_2]
  rewrite [show (dats m a hw 0 c).Φ t.succ = iprop(Pipeline.ΦA spec0 c ∗ Pipeline.ΦT pre0 a.1 c) from rfl,
    show (dats m a hw 0 c).Φ t.castSucc = iprop(Pipeline.ΦA spec0 c ∗ Pipeline.ΦT pre0 a.1 c) from rfl,
    show (dats m a hw 0 c).owesAt () t.succ = (dats m a hw 0 c).owesAt () t.castSucc from rfl, tables_eq]
  iintro ⟨⟨HA, HT0, HT1, HT2⟩, Ho, ⟨%d0, H0⟩, ⟨%d1, H1⟩, ⟨%d3, H3⟩⟩
  iapply (body_leaves c (crd a t) (ms0 a t) (hs0 a t) (ms1 a t) (hs1 a t) (ms2 a t) (hs2 a t) (a.1 0) (a.1 1) (a.1 2)
    (iblk m a c (0 : Fin 3) t) (iblk m a c (1 : Fin 3) t) (hw (crd a t)) _)
  unfold held
  isplitl [H0 H1 HT0 HT1 HT2]
  · isplitl [H0]; · iapply rep_of_owns; iexact H0
    isplitl [H1]; · iapply rep_of_owns; iexact H1
    isplitl [HT0]; · iexact HT0
    isplitl [HT1]; · iexact HT1
    iexact HT2
  isplitl [H3]; · iexists _; iexact H3
  iintro ⟨⟨H0, H1, HT0, HT1, HT2⟩, H3⟩
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  unfold leftAt; iexact H3

/-- The same as the library states it. -/
theorem body_obligation (c : Dev nD) : BodyObligation (dats m a hw 0 c) (defs₀ (F := F)) Variants.none () Set.univ := fun t => by
  rw [bigSep_W0, bigSep_W0, out_live]
  exact sound_body m a hw c t

/-! ## The launch -/

variable (hpf : ∀ (c : Dev nD) (k : Fin 3), m ((c : Thread nD τ).loc (pre0.ref k)) = a.1 k)

include hpf in
set_option backward.isDefEq.respectTransparency.types false in
set_option maxHeartbeats 4000000 in
/-- Every run of the program ends with each array at the computed contents, everything else as it was and every counter zero. -/
theorem run_main_quiescent : θ_run defs (onTc (τ := τ) (main (F := F))) (s₀ m ρ) (fun r =>
    Pipeline.FramePost (Pipeline.pin (pcfgs (F := F)) fun _ => a) (dats m a hw) 0 (fun c b => m ((c : Thread nD τ).loc b)) r ∧ r.2.sem = fun _ => 0) :=
  Pipeline.θ_run_frameP_shared (Q' := _) pcfgs (fun _ => a) (dats m a hw) (0 : Fin 1) launch0.to₀ defs₀ Variants.none m ρ main
    (hbody := fun c => (body_obligation m a hw c).loose) (hq := fun _ _ _ => rfl)
    (howed := fun _ _ => rfl) (V := fun c b => m ((c : Thread nD τ).loc b))
    (hmain := Pipeline.hmainP_region _ _ _ _ _ _ fun c => by delta main; simp only [Prog.bind_lift, Prog.pure_eq_ret])
    (hA := fun _ _ => rfl) (hpf := hpf) (hΦ := fun _ _ => rfl)

include hpf in
/-- The result ends at the computed contents, the arguments as they were, and every counter reads zero. -/
theorem run_all : θ_run (defs (F := F)) (onTc (τ := τ) (main (F := F))) ⟨m, fun _ => 0, ρ⟩ (fun r => (∀ c : Dev nD,
      r.2.mem ((c.tc : Thread nD τ).loc main_v0) = (dats m a hw 0 c).arrAt (2 : Fin 3) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 (2 : Fin 3), (h.1 c).2 main_arg0 (Pipeline.mem_restRefs_of main_arg0 (by decide)
      (show ∀ w : Fin 3, (spec0 w).arr.view.ref ≠ main_arg0 by decide)), (h.1 c).2 main_arg1 (Pipeline.mem_restRefs_of main_arg1 (by decide)
      (show ∀ w : Fin 3, (spec0 w).arr.view.ref ≠ main_arg1 by decide)), (h.1 c).2 main_arg2 (Pipeline.mem_restRefs_of main_arg2 (by decide)
      (show ∀ w : Fin 3, (spec0 w).arr.view.ref ≠ main_arg2 by decide)),
    ((h.1 c).1 (0 : Fin 3)).trans ((dats m a hw 0 c).arrAt_in (0 : Fin 3) rfl _), ((h.1 c).1 (1 : Fin 3)).trans ((dats m a hw 0 c).arrAt_in (1 : Fin 3) rfl _)⟩, h.2⟩)
    (run_main_quiescent m ρ a hw hpf)

include hw hpf in
/-- The arguments end as they were and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_all m ρ a hw hpf)

end Cert.DownIdeal.Moe

end
-- ==== Proof.DownTables.lean ====
module

public import proofs.«01_k».proof.Proof.DownFrame
public import proofs.«01_k».proof.Proof.MoeWords

@[expose] public section

noncomputable section

/-
  Tables that meet the precondition keep every block of the second expert product inside its array.
-/

namespace Cert.DownIdeal.Moe

open Cert.DownIdeal Cert.DownIdeal.Gen
open Idealize.ShloMosaic Idealize.ShloMosaic.TcCoe
open Idealize.ShloMosaic.Pipeline (Dat Cfg Window)
open Cert.Moe (TablesOk row_toNat)

variable {F : FTy → Type} [FloatOps F]

theorem coord0_lt (i : grid0.Coords) : (i 0).val < 4 := (i 0).isLt
theorem coord1_lt (i : grid0.Coords) : (i 1).val < 72 := (i 1).isLt
theorem word_toNat (n : ℕ) (h : n < 72) : (BitVec.ofNat 32 n).toNat = n := by rw [BitVec.toNat_ofNat]; omega

section
variable (pf : pre0.Contents (Elt F)) (h : TablesOk (pf 0) (pf 1))
include h

theorem map0_row (i : grid0.Coords) : cc0_transform_0 inb_S1_S1_0 numel1_S1 pf i 0 = min (i 1).val ((pf 1 (fun a => ⟨0, by revert a; decide⟩) : BitVec 32).toNat - 1) :=
  (row_toNat _ (coord1_lt i) _ (h.active _)).trans
    (congrArg (fun k => min (i 1).val ((pf 1 k : BitVec 32).toNat - 1)) (Subsingleton.elim (α := Cert.Moe.S1.Idx) _ _))

theorem map1_expert (i : grid0.Coords) : cc0_transform_1 k0_off1_inb numel1_S1 pf i 0 < 16 := h.expert _

theorem ok : ok0 pf := by
  refine ⟨fun i => ?_, fun i => ?_⟩
  · have hb : ∀ a, (cc0_transform_0 inb_S1_S1_0 numel1_S1 pf i a + 1) * S512x7168.size a ≤ S36864x7168.size a := fun a => by
      match a with
      | ⟨0, _⟩ =>
        show (cc0_transform_0 inb_S1_S1_0 numel1_S1 pf i 0 + 1) * 512 ≤ 36864
        rw [map0_row pf h i]; have := coord1_lt i; omega
      | ⟨1, _⟩ => show ((0#32 : BitVec 32).toNat + 1) * 7168 ≤ 7168; decide
    exact ⟨hb, .inr (Affine.block_words_dvd (s := S36864x7168) (p := EltTy.packing .bf16) (by decide) (by decide))⟩
  · have hb : ∀ a, (cc0_transform_1 k0_off1_inb numel1_S1 pf i a + 1) * S1x7168x512.size a ≤ S16x7168x2048.size a := fun a => by
      match a with
      | ⟨0, _⟩ =>
        show (cc0_transform_1 k0_off1_inb numel1_S1 pf i 0 + 1) * 1 ≤ 16
        have := map1_expert pf h i; omega
      | ⟨1, _⟩ => show ((0#32 : BitVec 32).toNat + 1) * 7168 ≤ 7168; decide
      | ⟨2, _⟩ =>
        show ((BitVec.ofNat 32 (i 0).val).toNat + 1) * 512 ≤ 2048
        have := coord0_lt i; rw [word_toNat _ (by omega)]; omega
    exact ⟨hb, .inl rfl⟩

/-- At least one tile is active, in the word as the body reads it. -/
theorem na_pos : 1 ≤ (naW (F := F) (pf 1)).toInt := h.active _

/-- The mark the body reads lies inside its table. -/
theorem mark_inb (i : grid0.Coords) : k0_chk1 i (naW (F := F) (pf 1)) := fun a => by
  have e := row_toNat _ (coord1_lt i) _ (na_pos pf h)
  have := coord1_lt i
  match a with
  | ⟨0, _⟩ =>
    refine Nat.le_trans (Nat.add_le_add_right (le_of_eq e) 1) ?_
    show _ + 1 ≤ 72
    omega
end

/-! ## The tables of a memory -/

section Mem
variable (m : (ℓ : Loc nD τ sig) → Buf (Elt F) ℓ)

/-- The tables a memory holds. -/
abbrev tabs : pre0.Contents (Elt F) := fun k => m (((0 : Dev nD).tc : Thread nD τ).loc (pre0.ref k))

variable (h : TablesOk (tabs m 0) (tabs m 1))

/-- The same with the proof that every block lies inside its array. -/
abbrev adm : (pcfg0 (F := F)).Adm := ⟨tabs m, ok _ h⟩

theorem adm_marks (i : grid0.Coords) : k0_chk1 i (naW (F := F) ((adm m h).1 1)) := mark_inb _ h i

theorem adm_tabs (c : Dev nD) (k : Fin 3) : m ((c : Thread nD τ).loc (pre0.ref k)) = (adm m h).1 k := by
  obtain rfl : c = 0 := Subsingleton.elim _ _
  rfl

end Mem

end Cert.DownIdeal.Moe

end
-- ==== Proof.DownValue.lean ====
module

public import proofs.«01_k».proof.Proof.DownTables
public import proofs.«01_k».proof.Proof.MoeSpec
public import Idealize.ShloMosaic.Lib.Pointwise

@[expose] public section

set_option maxRecDepth 16384

noncomputable section

/-
  The output block of the second expert product, entry by entry.
-/

namespace Cert.DownIdeal.Moe

open Cert.DownIdeal Cert.DownIdeal.Gen Idealize.ShloMosaic Idealize.ShloMosaic.TcCoe Idealize.ShloMosaic.Tactic Cert.Moe

/-! ## The conditions of the three paths -/

theorem full_iff (i : grid0.Coords) (v w : BitVec 32) (hv : 1 ≤ v.toInt) : k0_cond1 i v w = 1#1 ↔ (i 1).val < v.toNat ∧ w ≠ 1#32 := by
  rw [← active_iff _ (coord1_lt i) v hv, ne_eq, ← IntOp.cmpi_eq (x := w) (y := 1#32)]
  show k0_cond1 i v w = 1#1 ↔ _ ∧ ¬ Scalar.cmpi .eq w 1#32 = 1#1
  unfold k0_cond1; dsimp only
  generalize Scalar.cmpi .slt _ v = a; generalize Scalar.cmpi .eq w _ = b
  revert a b; decide

theorem half_iff (i : grid0.Coords) (v w : BitVec 32) (hv : 1 ≤ v.toInt) : k0_cond2 i v w = 1#1 ↔ (i 1).val < v.toNat ∧ w = 1#32 := by
  rw [← active_iff _ (coord1_lt i) v hv, ← IntOp.cmpi_eq (x := w) (y := 1#32)]
  show k0_cond2 i v w = 1#1 ↔ _ ∧ Scalar.cmpi .eq w 1#32 = 1#1
  unfold k0_cond2; dsimp only
  generalize Scalar.cmpi .slt _ v = a; generalize Scalar.cmpi .eq w _ = b
  revert a b; decide

/-! ## The payloads -/

theorem full_apply (x : Vec Ideal S512x7168 .bf16) (g : Vec Ideal S1x7168x512 .f32) (r : Fin 512) (f : Fin 512) :
    k0_pay1 (F := Ideal) x g (ix2 r f)
      = ∑ k : Fin 7168, x (ix2 r k) * g (ix3 0 k f) := by
  pointwise [k0_pay1]

theorem half_apply (x : Vec Ideal S256x7168 .bf16) (g : Vec Ideal S1x7168x512 .f32) (r : Fin 256) (f : Fin 512) :
    k0_pay2 (F := Ideal) x g (ix2 r f)
      = ∑ k : Fin 7168, x (ix2 r k) * g (ix3 0 k f) := by
  pointwise [k0_pay2]

theorem rest_apply (r : Fin 256) (f : Fin 512) : k0_pay3 (F := Ideal) (ix2 r f) = 0 := by
  pointwise [k0_pay3]

theorem none_apply (r : Fin 512) (f : Fin 512) : k0_pay4 (F := Ideal) (ix2 r f) = 0 := by
  pointwise [k0_pay4]

/-! ## Loads of the blocks -/

theorem ld_x (x : Vec Ideal S512x7168 .bf16) (inb : ∀ a, (![0, 0] : Fin 2 → Nat) a + (![512, 7168] : Fin 2 → Nat) a ≤ S512x7168.size a) (r : Fin 512) (k : Fin 7168) :
    x ((Rect.unit (s := S512x7168) ![0, 0] ![512, 7168] inb).idx (ix2 r k)) = x (ix2 r k) := by
  refine congrArg x (funext fun a => Fin.ext ?_)
  match a with
  | ⟨0, _⟩ => show 0 + 1 * r.val = r.val; omega
  | ⟨1, _⟩ => show 0 + 1 * k.val = k.val; omega

theorem ld_w (x : Vec Ideal S1x7168x512 .f32) (inb : ∀ a, (![0, 0, 0] : Fin 3 → Nat) a + (![1, 7168, 512] : Fin 3 → Nat) a ≤ S1x7168x512.size a) (k : Fin 7168) (f : Fin 512) :
    x ((Rect.unit (s := S1x7168x512) ![0, 0, 0] ![1, 7168, 512] inb).idx (ix3 0 k f)) = x (ix3 0 k f) := by
  refine congrArg x (funext fun a => Fin.ext ?_)
  match a with
  | ⟨0, _⟩ => rfl
  | ⟨1, _⟩ => show 0 + 1 * k.val = k.val; omega
  | ⟨2, _⟩ => show 0 + 1 * f.val = f.val; omega

theorem ld_top (x : Vec Ideal S512x7168 .bf16) (inb : ∀ a, (![0, 0] : Fin 2 → Nat) a + (![256, 7168] : Fin 2 → Nat) a ≤ S512x7168.size a) (r : Fin 256) (k : Fin 7168) :
    x ((Rect.unit (s := S512x7168) ![0, 0] ![256, 7168] inb).idx (ix2 r k)) = x (ix2 ⟨r, by omega⟩ k) := by
  refine congrArg x (funext fun a => Fin.ext ?_)
  match a with
  | ⟨0, _⟩ => show 0 + 1 * r.val = r.val; omega
  | ⟨1, _⟩ => show 0 + 1 * k.val = k.val; omega

/-! ## Which stored piece an entry lies in -/

/-- A piece of `n` rows from row `o` holds `v` at row `r`, column `f`, if its own entry there is `v` whenever the row is one of its. -/
theorem piece_at (n : ℕ) (o : ℕ) (w : (⟨2, ![n, 512]⟩ : Shape).Idx → EReal) (r : Fin 512) (f : Fin 512) (v : EReal)
    (h : ∀ q : Fin n, r.val = o + q.val → w (ix2 q f) = v) :
    View.TileAt (Val := Elt Ideal) (e := .f32) (S := S512x512) (ix2 r f) ![o, 0] ![n, 512] w v := by
  intro x hx
  have h0 := hx 0
  have h1 := hx 1
  replace h0 : r.val = o + (x 0).val := h0
  replace h1 : f.val = 0 + (x 1).val := h1
  have e : x = ix2 (x 0) f := by
    funext a
    match a with
    | ⟨0, _⟩ => rfl
    | ⟨1, _⟩ => exact Fin.ext (by show (x 1).val = f.val; omega)
  rw [e]; exact h (x 0) h0

section Block
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole)
  (T0 : S72.Idx → Elt Ideal .i32) (T1 : S1.Idx → Elt Ideal .i32) (T2 : S72.Idx → Elt Ideal .i32)
  (x0 : S512x7168.Idx → Elt Ideal .bf16) (x1 : S1x7168x512.Idx → Elt Ideal .f32) (hw : k0_chk1 i (naW (F := Ideal) T1))

/-- The output block after the body: the products of the used rows, zero elsewhere. -/
theorem left_apply (hv : 1 ≤ (naW (F := Ideal) T1).toInt) (r : Fin 512) (f : Fin 512) :
    left c i arg5 harg5 arg6 harg6 arg7 harg7 T0 T1 T2 x0 x1 hw (ix2 r f)
      = if Used (naW (F := Ideal) T1) (thW (F := Ideal) i T1 T2 hw) (i 1).val r.val then
          ∑ k : Fin 7168, x0 (ix2 r k) * x1 (ix3 0 k f)
        else 0 := by
  unfold left
  by_cases h1 : k0_cond1 i (naW (F := Ideal) T1) (thW (F := Ideal) i T1 T2 hw) = 1#1
  · have hu := (full_iff i _ _ hv).1 h1
    rw [dif_pos h1, if_pos ⟨hu.1, .inl hu.2⟩, View.read_writes_eq_canon _ _ _ (cover_full c i arg5 harg5 arg6 harg6 arg7 harg7 T0 T1 T2 x0 x1 hw h1 _ _)]
    refine View.canon_eq_of_allAt _ _ _ (cover_full c i arg5 harg5 arg6 harg6 arg7 harg7 T0 T1 T2 x0 x1 hw h1 _ _ _) ?_
    unfold runFull
    dsimp only
    sl_unfold_words
    simp only [View.readAt_rep]
    refine View.allAt_cons_unit _ _ _ _ _ (piece_at 512 0 _ r f _ fun q hq => ?_) (View.allAt_nil _ _)
    obtain rfl : r = q := Fin.ext (by omega)
    refine (full_apply ..).trans ?_
    simp only [ld_x, ld_w]
  · by_cases h2 : k0_cond2 i (naW (F := Ideal) T1) (thW (F := Ideal) i T1 T2 hw) = 1#1
    · have hu := (half_iff i _ _ hv).1 h2
      rw [dif_neg h1, dif_pos h2, View.read_writes_eq_canon _ _ _ (cover_half c i arg5 harg5 arg6 harg6 arg7 harg7 T0 T1 T2 x0 x1 hw h1 h2 _)]
      refine View.canon_eq_of_allAt _ _ _ (cover_half c i arg5 harg5 arg6 harg6 arg7 harg7 T0 T1 T2 x0 x1 hw h1 h2 _ _) ?_
      unfold runHalf
      dsimp only
      sl_unfold_words
      simp only [View.readAt_rep]
      refine View.allAt_cons_unit _ _ _ _ _ (piece_at 256 256 _ r f _ fun q hq => ?_)
        (View.allAt_cons_unit _ _ _ _ _ (piece_at 256 0 _ r f _ fun q hq => ?_) (View.allAt_nil _ _))
      · rw [if_neg (fun h => h.2.elim (fun h => h hu.2) (by omega))]; exact rest_apply ..
      · rw [if_pos ⟨hu.1, .inr (by omega)⟩]
        refine (half_apply ..).trans ?_
        simp only [ld_top, ld_w]
        rw [show (⟨q.val, by omega⟩ : Fin 512) = r from Fin.ext (by dsimp only; omega)]
    · have hu : ¬ Used (naW (F := Ideal) T1) (thW (F := Ideal) i T1 T2 hw) (i 1).val r.val := fun h => by
        by_cases hm : thW (F := Ideal) i T1 T2 hw = 1#32
        · exact h2 ((half_iff i _ _ hv).2 ⟨h.1, hm⟩)
        · exact h1 ((full_iff i _ _ hv).2 ⟨h.1, hm⟩)
      rw [dif_neg h1, dif_neg h2, if_neg hu, View.read_writes_eq_canon _ _ _ (cover_none c i arg5 harg5 arg6 harg6 arg7 harg7 T0 T1 T2 x0 x1 hw h1 h2 _)]
      refine View.canon_eq_of_allAt _ _ _ (cover_none c i arg5 harg5 arg6 harg6 arg7 harg7 T0 T1 T2 x0 x1 hw h1 h2 _ _) ?_
      unfold runNone
      dsimp only
      sl_unfold_words
      refine View.allAt_cons_unit _ _ _ _ _ (piece_at 512 0 _ r f _ fun q hq => ?_) (View.allAt_nil _ _)
      exact none_apply ..

end Block

end Cert.DownIdeal.Moe

end
-- ==== Proof.DownArray.lean ====
module

public import proofs.«01_k».proof.Proof.DownValue
public import Idealize.ShloMosaic.Lib.Pipeline.Value

@[expose] public section

set_option maxRecDepth 16384

noncomputable section

/-
  The result array of the second expert product, entry by entry, from the arguments.
-/

namespace Cert.DownIdeal.Moe

open Cert.DownIdeal Cert.DownIdeal.Gen Idealize.ShloMosaic Idealize.ShloMosaic.TcCoe Idealize.ShloMosaic.Tactic Cert.Moe

/-! ## The grid -/

theorem coord_0 : ∀ t : Fin grid0.N, (grid0.coords t 0).val = t.val / 72 := by decide +kernel
theorem coord_1 : ∀ t : Fin grid0.N, (grid0.coords t 1).val = t.val % 72 := by decide +kernel
theorem out_rows : ∀ t : Fin grid0.N, cc0_transform_2 (grid0.coords t) 0 = t.val % 72 := by decide +kernel
theorem out_cols : ∀ t : Fin grid0.N, cc0_transform_2 (grid0.coords t) 1 = t.val / 72 := by decide +kernel

section
variable (m : (ℓ : Loc nD τ sig) → Buf (Elt Ideal) ℓ)
  (a : (pcfg0 (F := Ideal)).Adm) (hw : ∀ i : grid0.Coords, k0_chk1 i (naW (F := Ideal) (a.1 1)))

/-- Distinct points write distinct blocks. -/
theorem out_inj (t t' : Fin (cfgA a).N) (h : ((cfgA a).win (2 : Fin 3)).index t = ((cfgA a).win (2 : Fin 3)).index t') : t = t' := by
  have h0 : cc0_transform_2 (grid0.coords t) 0 = cc0_transform_2 (grid0.coords t') 0 := congrFun h 0
  have h1 : cc0_transform_2 (grid0.coords t) 1 = cc0_transform_2 (grid0.coords t') 1 := congrFun h 1
  rw [out_rows, out_rows] at h0
  rw [out_cols, out_cols] at h1
  exact Fin.ext (by omega)

/-- So each point writes its block back. -/
theorem out_flush (t : Fin (cfgA a).N) : ((cfgA a).win (2 : Fin 3)).flush t = true := by
  unfold Pipeline.Window.flush
  rw [Bool.and_eq_true]
  refine ⟨rfl, ?_⟩
  rw [Bool.or_eq_true, decide_eq_true_eq, decide_eq_true_eq]
  by_cases h : t.val + 1 = (cfgA a).N
  · exact .inl h
  · have ht : t.val + 1 < (cfgA a).N := by have := t.isLt; omega
    refine .inr ⟨ht, fun e => ?_⟩
    have := congrArg Fin.val (out_inj a _ _ e)
    dsimp only at this
    omega

/-- Block `t` of the final array is what point `t` left. -/
theorem block_left (c : Dev nD) (t : Fin (cfgA a).N) :
    (((cfgA a).win (2 : Fin 3)).blk t).view.read (Elt Ideal) ((dats m a hw 0 c).arrAt (2 : Fin 3) (cfgA a).N) = (dats m a hw 0 c).flushed (2 : Fin 3) t :=
  (dats m a hw 0 c).read_blk_arrAt_eq_flushed (2 : Fin 3)
    (fun t t' _ _ hne => ((cfgA a).win (2 : Fin 3)).disjoint_blk fun h => hne (out_inj a t t' h)) (cfgA a).N t t.isLt (out_flush a t)

/-- An entry of an array, as an entry of the block of its tile and column block. -/
theorem read_block (G : S36864x2048.Idx → Elt Ideal .f32) (r : Fin 36864) (f : Fin 2048) (t : Fin (cfgA a).N) (ht : t.val = f / 512 * 72 + r / 512) :
    (((cfgA a).win (2 : Fin 3)).blk t).view.read (Elt Ideal) G (ix2 (⟨r % 512, by omega⟩ : Fin 512) (⟨f % 512, by omega⟩ : Fin 512)) = G (ix2 r f) := by
  have h0 := out_rows t
  have h1 := out_cols t
  refine congrArg G (funext fun b => Fin.ext ?_)
  match b with
  | ⟨0, _⟩ =>
    refine Eq.trans (b := cc0_transform_2 (grid0.coords t) 0 * 512 + 1 * (r.val % 512)) rfl ((show _ = r.val from ?_).trans rfl)
    rw [h0]; omega
  | ⟨1, _⟩ =>
    refine Eq.trans (b := cc0_transform_2 (grid0.coords t) 1 * 512 + 1 * (f.val % 512)) rfl ((show _ = f.val from ?_).trans rfl)
    rw [h1]; omega

/-! The input blocks, read off the arguments. -/

theorem blk_x (c : Dev nD) (t : Fin (cfgA a).N) (q : Fin 512) (k : Fin 7168) (r : Fin 36864)
    (hr : r.val = cc0_transform_0 inb_S1_S1_0 numel1_S1 a.1 (grid0.coords t) 0 * 512 + q) :
    iblk m a c (0 : Fin 3) t (ix2 q k) = m ((c : Thread nD τ).loc main_arg3) (ix2 r k) := by
  refine congrArg (m ((c : Thread nD τ).loc main_arg3)) (funext fun b => Fin.ext ?_)
  match b with
  | ⟨0, _⟩ =>
    refine Eq.trans (b := cc0_transform_0 inb_S1_S1_0 numel1_S1 a.1 (grid0.coords t) 0 * 512 + 1 * q.val) rfl ((show _ = r.val from ?_).trans rfl)
    rw [hr]; omega
  | ⟨1, _⟩ =>
    refine Eq.trans (b := (0#32 : BitVec 32).toNat * 7168 + 1 * k.val) rfl ((show _ = k.val from ?_).trans rfl)
    rw [show (0#32 : BitVec 32).toNat = 0 from rfl]; omega

theorem blk_g (c : Dev nD) (t : Fin (cfgA a).N) (k : Fin 7168) (f : Fin 512) (e : Fin 16) (F : Fin 2048)
    (he : e.val = cc0_transform_1 k0_off1_inb numel1_S1 a.1 (grid0.coords t) 0) (hF : F.val = t / 72 * 512 + f) :
    iblk m a c (1 : Fin 3) t (ix3 0 k f) = m ((c : Thread nD τ).loc main_arg4) (ix3 e k F) := by
  have h0 := coord_0 t
  have h1 := coord0_lt (grid0.coords t)
  refine congrArg (m ((c : Thread nD τ).loc main_arg4)) (funext fun b => Fin.ext ?_)
  match b with
  | ⟨0, _⟩ =>
    refine Eq.trans (b := cc0_transform_1 k0_off1_inb numel1_S1 a.1 (grid0.coords t) 0 * 1 + 1 * 0) rfl ((show _ = e.val from ?_).trans rfl)
    rw [he]; omega
  | ⟨1, _⟩ =>
    refine Eq.trans (b := (0#32 : BitVec 32).toNat * 7168 + 1 * k.val) rfl ((show _ = k.val from ?_).trans rfl)
    rw [show (0#32 : BitVec 32).toNat = 0 from rfl]; omega
  | ⟨2, _⟩ =>
    refine Eq.trans (b := (BitVec.ofNat 32 (grid0.coords t 0).val).toNat * 512 + 1 * f.val) rfl ((show _ = F.val from ?_).trans rfl)
    rw [word_toNat (grid0.coords t 0).val (by omega), h0, hF]; omega

end

/-! ## The result -/

section
variable (m : (ℓ : Loc nD τ sig) → Buf (Elt Ideal) ℓ) (h : TablesOk (tabs m 0) (tabs m 1))

/-- The words of the tables, as the body reads them. -/
theorem naW_eq (T1 : S1.Idx → Elt Ideal .i32) : naW (F := Ideal) T1 = T1 (ix1 0) :=
  congrArg T1 (Subsingleton.elim (α := Cert.Moe.S1.Idx) _ _)

include h in
theorem thW_eq (i : grid0.Coords) (hw) (j : Fin 72) (hj : j.val = (i 1).val) (hact : j.val < (naW (F := Ideal) (tabs m 1)).toNat) :
    thW (F := Ideal) i (tabs m 1) (tabs m 2) hw = tabs m 2 (ix1 j) := by
  have e := row_toNat _ (coord1_lt i) _ (na_pos (tabs m) h)
  refine congrArg (tabs m 2) (funext fun b => Fin.ext ?_)
  match b with
  | ⟨0, _⟩ =>
    refine Eq.trans (b := (Scalar.minsi (BitVec.ofNat 32 (i 1).val) (Scalar.subi (naW (F := Ideal) (tabs m 1)) 1#32)).toNat + 1 * 0) rfl
      ((show _ = j.val from ?_).trans rfl)
    refine (Nat.add_zero _).trans (e.trans ?_)
    omega

theorem expert_eq (pf : pre0.Contents (Elt Ideal)) (i : grid0.Coords) (j : Fin 72) (hj : j.val = (i 1).val) :
    cc0_transform_1 k0_off1_inb numel1_S1 pf i 0 = (pf 0 (ix1 j) : BitVec 32).toNat := by
  have e := word_toNat _ (coord1_lt i)
  refine congrArg (fun k => (pf 0 k : BitVec 32).toNat) (funext fun b => Fin.ext ?_)
  match b with
  | ⟨0, _⟩ =>
    refine Eq.trans (b := (BitVec.ofNat 32 (i 1).val).toNat + 1 * 0) rfl ((show _ = j.val from ?_).trans rfl)
    rw [e, hj]; omega

/-- The final array: the used rows' products, each with its expert's weights, zero elsewhere. -/
theorem final_apply (c : Dev nD) (r : Fin 36864) (f : Fin 2048) :
    (dats m (adm m h) (adm_marks m h) 0 c).arrAt (2 : Fin 3) (cfgA (adm m h)).N (ix2 r f)
      = routed (tabs m 0) (tabs m 1) (tabs m 2) r
          (downTerm (m ((c : Thread nD τ).loc main_arg3)) (m ((c : Thread nD τ).loc main_arg4)) r f) := by
  have hN : (cfgA (adm m h)).N = 288 := N_0
  have ht : f.val / 512 * 72 + r.val / 512 < (cfgA (adm m h)).N := by omega
  generalize hT : (⟨_, ht⟩ : Fin (cfgA (adm m h)).N) = t
  have htv : t.val = f.val / 512 * 72 + r.val / 512 := by rw [← hT]
  have hi : (grid0.coords t 1).val = r.val / 512 := by rw [coord_1 t, htv]; omega
  have hj : t.val / 72 = f.val / 512 := by rw [htv]; omega
  have hbl := congrFun (block_left m (adm m h) (adm_marks m h) c t) (ix2 (⟨r % 512, by omega⟩ : Fin 512) (⟨f % 512, by omega⟩ : Fin 512))
  refine (read_block (adm m h) ((dats m (adm m h) (adm_marks m h) 0 c).arrAt (2 : Fin 3) (cfgA (adm m h)).N) r f t htv).symm.trans (hbl.trans ?_)
  refine Eq.trans (b := leftAt m (adm m h) (adm_marks m h) c t (ix2 ⟨r % 512, by omega⟩ ⟨f % 512, by omega⟩)) rfl ?_
  unfold leftAt
  refine (left_apply c (crd (adm m h) t) (ms0 (adm m h) t) (hs0 (adm m h) t) (ms1 (adm m h) t) (hs1 (adm m h) t) (ms2 (adm m h) t) (hs2 (adm m h) t)
    (tabs m 0) (tabs m 1) (tabs m 2) (iblk m (adm m h) c (0 : Fin 3) t) (iblk m (adm m h) c (1 : Fin 3) t)
    (adm_marks m h _) (na_pos (tabs m) h) ⟨r % 512, by omega⟩ ⟨f % 512, by omega⟩).trans ?_
  unfold routed
  have hna := naW_eq (tabs m 1)
  have hexp := expert_eq (tabs m) (grid0.coords t) ⟨r / 512, by omega⟩ hi.symm
  have hlt : (tabs m 0 (ix1 ⟨r / 512, by omega⟩) : BitVec 32).toNat < 16 := h.expert _
  by_cases hact : r.val / 512 < (naW (F := Ideal) (tabs m 1)).toNat
  · have hth := thW_eq m h (grid0.coords t) (adm_marks m h _) ⟨r / 512, by omega⟩ hi.symm hact
    have hrow : cc0_transform_0 inb_S1_S1_0 numel1_S1 (tabs m) (grid0.coords t) 0 = r.val / 512 := by
      refine (row_toNat _ (coord1_lt (grid0.coords t)) _ (na_pos (tabs m) h)).trans ?_
      rw [hi]; omega
    have hiff : Used (naW (F := Ideal) (tabs m 1)) (thW (F := Ideal) (grid0.coords t) (tabs m 1) (tabs m 2) (adm_marks m h _)) (grid0.coords t 1).val (r.val % 512)
        ↔ Used (tabs m 1 (ix1 0)) (tabs m 2 (ix1 ⟨r / 512, by omega⟩)) (r.val / 512) (r.val % 512) :=
      iff_of_eq ((congrArg (fun n => Used _ _ n (r.val % 512)) hi).trans (congrArg₂ (fun v w => Used v w (r.val / 512) (r.val % 512)) hna hth))
    by_cases hu : Used (naW (F := Ideal) (tabs m 1)) (thW (F := Ideal) (grid0.coords t) (tabs m 1) (tabs m 2) (adm_marks m h _)) (grid0.coords t 1).val (r.val % 512)
    swap
    · exact (if_neg hu).trans (if_neg (fun hu' => hu (hiff.mpr hu'))).symm
    refine (if_pos hu).trans (Eq.trans ?_ (if_pos (hiff.mp hu)).symm)
    unfold downTerm
    refine Finset.sum_congr rfl fun k _ => congrArg₂ (· * ·) ?_ ?_
    · exact blk_x m (adm m h) c t _ k r (by rw [hrow]; dsimp only; omega)
    · exact blk_g m (adm m h) c t k _ _ _ (by unfold expert; dsimp only; rw [hexp]; omega) (by dsimp only; omega)
  · rw [if_neg (fun hu => hact (by rw [← hi]; exact hu.1)), if_neg (fun hu => hact (by rw [hna]; exact hu.1))]

end

end Cert.DownIdeal.Moe

end
-- ==== Proof.DownRef.lean ====
/-
  The reference of the second expert product, entry by entry.  It adds up all sixteen experts' terms, each times the row's weight for
  that expert, and all the weights but one are zero.
-/
module

public import proofs.«01_k».proof.Proof.MoeSpec
public import proofs.«01_k».proof.Proof.Gen.DownReferenceIdeal.Read
public import Idealize.ShloMosaic.Lib.Pointwise

@[expose] public section

set_option maxRecDepth 16384

noncomputable section

namespace Cert.DownReferenceIdeal.Moe

open Cert.DownReferenceIdeal Cert.DownReferenceIdeal.Gen Cert.DownReferenceIdeal.Read Idealize.ShloMosaic Cert.Moe

/-- The mark of a row: 1 where the row is used. -/
theorem mark_apply (te na th) (h : TablesOk te na) (j : Fin 72) (r : Fin 512) :
    val_main_v17 (F := Ideal) na th (ix2 j r) = if Used (na (ix1 0)) (th (ix1 j)) j r then 1 else 0 := by
  refine Eq.trans ?_ (select_used j j.isLt (na (ix1 0)) (h.active _) (th (ix1 j)) r r.isLt)
  pointwise [val_main_v0, val_main_v1, val_main_v2, val_main_v3, val_main_v4, val_main_v5, val_main_v6, val_main_v7, val_main_c, val_main_v8,
    val_main_v9, val_main_c_0, val_main_v10, val_main_v11, val_main_v12, val_main_v13, val_main_v14, val_main_v15, val_main_v16,
    val_main_cst, val_main_cst_1, val_main_call0_v0, val_main_call0_v1, val_main_v17]

/-- The expert column: 1 in the column of the row's expert. -/
theorem column_apply (te na) (h : TablesOk te na) (r : Fin 36864) (e : Fin 16) :
    val_main_v22 (F := Ideal) te (ix2 r e) = if expert te ⟨r / 512, by omega⟩ = e then 1 else 0 := by
  refine Eq.trans ?_ (column_word te ⟨r / 512, by omega⟩ (h.expert _) e)
  pointwise [val_main_v22, val_main_call1_v4, val_main_call1_v3, val_main_call1_v2, val_main_call1_v1, val_main_call1_v0, val_main_v21,
    val_main_v20, val_main_v19]

/-- The marks laid out by row. -/
theorem marks_apply (na th) (r : Fin 36864) :
    val_main_v18 (F := Ideal) na th (ix1 r) = val_main_v17 (F := Ideal) na th (ix2 ⟨r / 512, by omega⟩ ⟨r % 512, by omega⟩) := by
  pointwise [val_main_v18]

/-- The weight of an expert in a row. -/
theorem weight_apply (te na th) (h : TablesOk te na) (r : Fin 36864) (e : Fin 16) :
    val_main_v26 (F := Ideal) te na th (ix2 r e)
      = weight (Used (na (ix1 0)) (th (ix1 ⟨r / 512, by omega⟩)) (r / 512) (r % 512)) (expert te ⟨r / 512, by omega⟩) e := by
  refine (val_main_v26_apply te na th _).trans (congrArg₂ (· * ·) (column_apply te na h r e) ?_)
  refine Eq.trans ?_ ((marks_apply na th r).trans (mark_apply te na th h _ _))
  refine (val_main_v25_apply na th _).trans ((val_main_v24_apply na th _).trans ((val_main_v23_apply na th _).trans ?_))
  refine congrArg _ (funext fun a => ?_)
  match a with
  | ⟨0, _⟩ => rfl

/-- The result: the sixteen terms added up. -/
theorem terms_apply (te na th x w) (r : Fin 36864) (f : Fin 2048) :
    val_main_v140 (F := Ideal) te na th x w (ix2 r f)
      = ∑ e, val_main_v26 (F := Ideal) te na th (ix2 r e) * downTerm x w r f e := by
  refine Eq.trans ?_ (sum_experts (fun e => val_main_v26 (F := Ideal) te na th (ix2 r e) * downTerm x w r f e)).symm
  unfold downTerm
  pointwise [val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v104, val_main_v103, val_main_v102, val_main_v101,
    val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29,
    val_main_v28, val_main_cst_2, val_main_v27]

/-- The reference's result. -/
theorem ref_apply (te na th x w) (h : TablesOk te na) (r : Fin 36864) (f : Fin 2048) :
    val_main_v140 (F := Ideal) te na th x w (ix2 r f) = routed te na th r (downTerm x w r f) := by
  rw [terms_apply]
  refine (Finset.sum_congr rfl fun e _ => congrArg (· * downTerm x w r f e) (weight_apply te na th h r e)).trans ?_
  exact sum_weight _ _ _

end Cert.DownReferenceIdeal.Moe

end
-- ==== Proof.DownClaim.lean ====
/-
  The claims of the second expert product: the frames of its three programs and the equality of the two results.
-/
module

public import proofs.«01_k».proof.Defs
public import proofs.«01_k».proof.Proof.DownArray
public import proofs.«01_k».proof.Proof.DownRef
public import proofs.«01_k».proof.Proof.Gen.Down
public import proofs.«01_k».proof.Proof.Gen.DownReferenceIdeal.Run
public import proofs.«01_k».proof.Proof.Gen.Pre_down_tables_ok
public import Idealize.ShloMosaic.PureOps.BitExact
public import Idealize.ShloMosaic.Lib.Quiescent

@[expose] public section

set_option maxRecDepth 16384

noncomputable section

namespace Cert.DownIdeal.Moe

open Cert.DownIdeal Cert.DownIdeal.Gen Idealize.ShloMosaic Idealize.ShloMosaic.TcCoe Idealize.ShloMosaic.Tactic Idealize.SL.Sem Cert.Moe

/-! ## The frames -/

/-- The kernel over the ideal numbers. -/
theorem frame_ideal : quiescent_DownIdeal := fun m ρ hp =>
  let h : TablesOk (tabs m 0) (tabs m 1) := tables_of_down _ _ _ _ _ (hp 0)
  frame m ρ (adm m h) (adm_marks m h) (adm_tabs m h)

/-- The kernel's two programs have the same text, so that their runs over bits are the same statement. -/
theorem run_bits (m : (ℓ : Loc Cert.Down.nD Cert.Down.τ Cert.Down.sig) → Buf (Elt Bits) ℓ) (g : Dev Cert.Down.nD → PrngReg) :
    (θ_run (Cert.DownIdeal.defs (F := Bits)) (onTc (τ := Cert.DownIdeal.τ) (Cert.DownIdeal.main (F := Bits))) ⟨m, fun _ => 0, g⟩ (fun r => (∀ c : Dev Cert.DownIdeal.nD,
          r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
        ∧ r.2.sem = fun _ => 0))
      = (θ_run (Cert.Down.defs (F := Bits)) (onTc (τ := Cert.Down.τ) (Cert.Down.main (F := Bits))) ⟨m, fun _ => 0, g⟩ (fun r => (∀ c : Dev Cert.Down.nD,
          r.2.mem ((c.tc : Thread Cert.Down.nD Cert.Down.τ).loc Cert.Down.main_arg0) = m ((c.tc : Thread Cert.Down.nD Cert.Down.τ).loc Cert.Down.main_arg0)
          ∧ r.2.mem ((c.tc : Thread Cert.Down.nD Cert.Down.τ).loc Cert.Down.main_arg1) = m ((c.tc : Thread Cert.Down.nD Cert.Down.τ).loc Cert.Down.main_arg1)
          ∧ r.2.mem ((c.tc : Thread Cert.Down.nD Cert.Down.τ).loc Cert.Down.main_arg2) = m ((c.tc : Thread Cert.Down.nD Cert.Down.τ).loc Cert.Down.main_arg2)
          ∧ r.2.mem ((c.tc : Thread Cert.Down.nD Cert.Down.τ).loc Cert.Down.main_arg3) = m ((c.tc : Thread Cert.Down.nD Cert.Down.τ).loc Cert.Down.main_arg3)
          ∧ r.2.mem ((c.tc : Thread Cert.Down.nD Cert.Down.τ).loc Cert.Down.main_arg4) = m ((c.tc : Thread Cert.Down.nD Cert.Down.τ).loc Cert.Down.main_arg4))
        ∧ r.2.sem = fun _ => 0)) := by
  sl_kernel_rfl

/-- The kernel over bits. -/
theorem frame_bits : quiescent_Down := fun m g hp =>
  let h : TablesOk (tabs (F := Bits) m 0) (tabs (F := Bits) m 1) := tables_of_down _ _ _ _ _ (hp 0)
  (run_bits m g).mp (frame (F := Bits) m g (adm m h) (adm_marks m h) (adm_tabs m h))

/-- The reference. -/
theorem frame_reference : quiescent_DownReferenceIdeal := fun m ρ _ =>
  (θ_run _ _ _).mono (fun r h => ⟨fun c => (h c).2, sem_eq_zero_of_no_sems (by decide) r.2⟩)
    (Cert.DownReferenceIdeal.Value.run m ρ)

/-- The reference on the tables the kernel is given. -/
theorem frame_reference_tables : quiescent_DownReferenceIdeal_pre_down_tables_ok := fun m ρ _ =>
  (θ_run _ _ _).mono (fun r h => ⟨fun c => (h c).2, sem_eq_zero_of_no_sems (by decide) r.2⟩)
    (Cert.DownReferenceIdeal.Value.run m ρ)

/-! ## The results -/

variable (m : (ℓ : Loc nD τ sig) → Buf (Elt Ideal) ℓ)

/-- The kernel's final array. -/
abbrev result (h : TablesOk (tabs m 0) (tabs m 1)) (c : Dev nD) : Buf (Elt Ideal) ((c.tc : Thread nD τ).loc main_v0) :=
  (dats m (adm m h) (adm_marks m h) 0 c).arrAt (2 : Fin 3) (cfgA (adm m h)).N

/-- Every run of the kernel ends with that array, and its arguments as they were. -/
theorem run_result (ρ) (h : TablesOk (tabs m 0) (tabs m 1)) :
    θ_run (defs (F := Ideal)) (onTc (τ := τ) (main (F := Ideal))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r q c => q.1 c)
    (run_all m ρ (adm m h) (adm_marks m h) (adm_tabs m h))

/-- The kernel's result is the reference's, entry by entry. -/
theorem result_eq (h : TablesOk (tabs m 0) (tabs m 1))
    (m' : (ℓ : Loc Cert.DownReferenceIdeal.nD Cert.DownReferenceIdeal.τ Cert.DownReferenceIdeal.sig) → Buf (Elt Ideal) ℓ) (c : Dev nD)
    (h0 : m' ((c.tc : Thread Cert.DownReferenceIdeal.nD Cert.DownReferenceIdeal.τ).loc Cert.DownReferenceIdeal.main_arg0) = m ((c.tc : Thread nD τ).loc main_arg0))
    (h1 : m' ((c.tc : Thread Cert.DownReferenceIdeal.nD Cert.DownReferenceIdeal.τ).loc Cert.DownReferenceIdeal.main_arg1) = m ((c.tc : Thread nD τ).loc main_arg1))
    (h2 : m' ((c.tc : Thread Cert.DownReferenceIdeal.nD Cert.DownReferenceIdeal.τ).loc Cert.DownReferenceIdeal.main_arg2) = m ((c.tc : Thread nD τ).loc main_arg2))
    (h3 : m' ((c.tc : Thread Cert.DownReferenceIdeal.nD Cert.DownReferenceIdeal.τ).loc Cert.DownReferenceIdeal.main_arg3) = m ((c.tc : Thread nD τ).loc main_arg3))
    (h4 : m' ((c.tc : Thread Cert.DownReferenceIdeal.nD Cert.DownReferenceIdeal.τ).loc Cert.DownReferenceIdeal.main_arg4) = m ((c.tc : Thread nD τ).loc main_arg4)) :
    Cert.DownReferenceIdeal.Value.res_main_v140 m' c = result m h c := by
  obtain rfl : c = 0 := Subsingleton.elim _ _
  rw [Cert.DownReferenceIdeal.Read.val_main_v140_eq, h0, h1, h2, h3, h4]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.DownReferenceIdeal.Moe.ref_apply _ _ _ _ _ h _ _).trans (final_apply m h 0 _ _).symm

/-- Both programs run and end with equal results. -/
theorem value : algebraic_DownIdeal_DownReferenceIdeal := fun m g m' g' hp hargs =>
  let h : TablesOk (tabs m 0) (tabs m 1) := tables_of_down _ _ _ _ _ (hp 0)
  ⟨fun c => result m h c, run_result m g h,
    (θ_run _ _ _).mono (fun _ q c => ⟨(q c).1.trans
        (result_eq m h m' c (hargs c).1 (hargs c).2.1 (hargs c).2.2.1 (hargs c).2.2.2.1 (hargs c).2.2.2.2), (q c).2⟩)
      (Cert.DownReferenceIdeal.Value.run m' g')⟩

end Cert.DownIdeal.Moe

end
-- ==== Proof.DenseUpRun.lean ====
module

public import proofs.«01_k».proof.Proof.Gen.DenseUpIdeal.Launch
public import proofs.«01_k».proof.Proof.Gen.DenseUpIdeal.Skeleton
public import Idealize.ShloMosaic.Lib.Pipeline.TableIdle
public import Idealize.ShloMosaic.Lib.Pipeline.FrameBody
public import Idealize.ShloMosaic.Lib.Pipeline.ValueKit.Tiles
public import Idealize.ShloMosaic.Lib.Ring
public import Idealize.ShloMosaic.Lib.Tactic
public import Idealize.ShloMosaic.Lib.Exec
public import Idealize.ShloMosaic.Lib.Affine
public import Idealize.ShloMosaic.Lib.Writes
public import Idealize.ShloMosaic.Adequacy
public import Idealize.ShloMosaic.Init

@[expose] public section

set_option maxRecDepth 16384
set_option Elab.async false

noncomputable section

/-
  The body of the first dense product (ffn_up) run once on arbitrary buffers, over any number system and any tables on which it
  takes the path of a tile all of whose rows hold tokens.
-/

namespace Cert.DenseUpIdeal.Dense

open Cert.DenseUpIdeal Cert.DenseUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads of the tables -/

abbrev te : Memref sig .tc .smem S16 .i32 := Memref.whole main_v0
abbrev na : Memref sig .tc .smem S1 .i32 := Memref.whole main_v1
abbrev th : Memref sig .tc .smem S16 .i32 := Memref.whole main_v2

/-- The number of active tiles. -/
abbrev naW (T1 : S1.Idx → Elt F .i32) : BitVec 32 :=
  View.readAt (Elt F) na.view (Rect.unit (s := S1) ![0] S1.size inb_S1_S1_0).toLoadRect T1 (Shape.Idx.first (numel1_S1.symm ▸ Nat.one_pos))

/-- The mark of the tile: 1 where only its first half holds tokens. -/
abbrev thW (i : grid0.Coords) (T1 : S1.Idx → Elt F .i32) (T2 : S16.Idx → Elt F .i32) (hw : k0_chk1 i (naW (F := F) T1)) : BitVec 32 :=
  View.readAt (Elt F) th.view (Rect.unit (s := S16) (k0_off2 i (naW (F := F) T1)) S1.size (k0_off2_inb i (naW (F := F) T1) hw)).toLoadRect T2
    (Shape.Idx.first (numel1_S1.symm ▸ Nat.one_pos))

/-! The first condition excludes the other two. -/

theorem full_excludes (i : grid0.Coords) (v w : BitVec 32) : k0_cond1 i v w = 1#1 → ¬ k0_cond2 i v w = 1#1 ∧ ¬ k0_cond3 i v = 1#1 := by
  unfold k0_cond1 k0_cond2 k0_cond3; dsimp only
  generalize Scalar.cmpi .slt _ v = a; generalize Scalar.cmpi .eq w _ = b
  revert a b; decide

/-- One of the three conditions holds, whatever words the two of them that read a mark read. -/
theorem some_path (i : grid0.Coords) (v w : BitVec 32) :
    (!(k0_cond1 i v w == 1#1) && !(k0_cond2 i v w == 1#1) && !(k0_cond3 i v == 1#1)) = false := by
  unfold k0_cond1 k0_cond2 k0_cond3; dsimp only
  generalize Scalar.cmpi .slt _ v = a; generalize Scalar.cmpi .eq w _ = b
  revert a b; decide

/-! ## The body -/

section Paths
variable (c : Dev nD) (i : grid0.Coords)
  (arg5 : Memref sig .tc .vmem S1024x2048 .bf16) (harg5 : arg5.IsWhole) (arg6 : Memref sig .tc .vmem S1x2048x512 .f32) (harg6 : arg6.IsWhole)
  (arg7 : Memref sig .tc .vmem S1x2048x512 .f32) (harg7 : arg7.IsWhole) (arg8 : Memref sig .tc .vmem S1024x512 .bf16) (harg8 : arg8.IsWhole)
  (T0 : S16.Idx → Elt F .i32) (T1 : S1.Idx → Elt F .i32) (T2 : S16.Idx → Elt F .i32)
  (x0 : S1024x2048.Idx → Elt F .bf16) (x1 : S1x2048x512.Idx → Elt F .f32) (x2 : S1x2048x512.Idx → Elt F .f32)

/-- The three input blocks and the three tables, as the body finds and leaves them. -/
def held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (te.view.loc (c : Thread nD τ) ↦{fullShare.right} T0)
    ∗ (na.view.loc (c : Thread nD τ) ↦{fullShare.right} T1)
    ∗ (th.view.loc (c : Thread nD τ) ↦{fullShare.right} T2))

/-- The body, run from the held blocks and any output buffer, ends with the output buffer overwritten by `pieces`. -/
def Leaves (pieces : List (View.Piece (Elt F) S1024x512 .bf16)) : Prop :=
  ∀ K : PUnit → sProp 𝕄,
    iprop(held c arg5 arg6 arg7 T0 T1 T2 x0 x1 x2 ∗ (∃ d, owns (c : Thread nD τ) arg8 fullShare d)
      ∗ (iprop(held c arg5 arg6 arg7 T0 T1 T2 x0 x1 x2
          ∗ (∃ f, arg8.view.loc (c : Thread nD τ) ↦[arg8.view.set]{fullShare} arg8.view.writes (Elt F) f pieces)) -∗ K ⟨⟩))
      ⊢ wp frame (wpE (defs₀ (F := F)) Variants.none c none) Set.univ
        (cc0_ffn_up i te (Memref.isWhole_whole _) na (Memref.isWhole_whole _) th (Memref.isWhole_whole _) arg5 harg5 arg6 harg6 arg7 harg7 arg8 harg8) K

variable (hw : k0_chk1 i (naW (F := F) T1))

set_option backward.proofsInPublic true in
set_option maxHeartbeats 8000000 in
/-- Every row of the tile holds a token. -/
def runFull (h1 : k0_cond1 i (naW (F := F) T1) (thW (F := F) i T1 T2 hw) = 1#1) (h2 : ¬ k0_cond2 i (naW (F := F) T1) (thW (F := F) i T1 T2 hw) = 1#1)
    (h3 : ¬ k0_cond3 i (naW (F := F) T1) = 1#1) :
    { pieces : List (View.Piece (Elt F) S1024x512 .bf16) //
      Leaves c i arg5 harg5 arg6 harg6 arg7 harg7 arg8 harg8 T0 T1 T2 x0 x1 x2 pieces } :=
  ⟨_, fun K => by
    unfold held owns
    rw [cc0_ffn_up_eq_skeleton]; unfold cc0_ffn_up_skel
    iintro ⟨⟨H0, H1, H2, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = k0_cond1 _ _ _ = _; exact h1) | (guard_target = ¬(k0_cond2 _ _ _ = _); exact h2) | (guard_target = ¬(k0_cond3 _ _ = _); exact h3))
    sl_step
    iapply Hk
    isplitr [HO]
    · isplitl [H0]; · iexact H0
      isplitl [H1]; · iexact H1
      isplitl [H2]; · iexact H2
      isplitl [HT0]; · iexact HT0
      isplitl [HT1]; · iexact HT1
      iexact HT2
    iexists _; iexact HO⟩

end Paths

end Cert.DenseUpIdeal.Dense

end
-- ==== Proof.DenseUpFrame.lean ====
module

public import proofs.«01_k».proof.Proof.DenseUpRun
public import Idealize.ShloMosaic.Lib.Claim

@[expose] public section

set_option maxRecDepth 16384
set_option Elab.async false

noncomputable section

/-
  The launch of the first dense product (ffn_up) over any number system and any layer number whose
  blocks lie inside the weights: it ends, leaves its arguments as they were, and its result holds the body's output at every grid point.
-/

namespace Cert.DenseUpIdeal.Dense

open Cert.DenseUpIdeal Cert.DenseUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What the body leaves -/

/-- One staging buffer of the output window. -/
abbrev outView : View sig .tc .vmem S1024x512 .bf16 := (Memref.whole cc0_stg3_0 : Memref sig .tc .vmem S1024x512 .bf16).view

section Body
variable (c : Dev nD) (i : grid0.Coords)
  (arg5 : Memref sig .tc .vmem S1024x2048 .bf16) (harg5 : arg5.IsWhole) (arg6 : Memref sig .tc .vmem S1x2048x512 .f32) (harg6 : arg6.IsWhole)
  (arg7 : Memref sig .tc .vmem S1x2048x512 .f32) (harg7 : arg7.IsWhole) (arg8 : Memref sig .tc .vmem S1024x512 .bf16) (harg8 : arg8.IsWhole)
  (T0 : S16.Idx → Elt F .i32) (T1 : S1.Idx → Elt F .i32) (T2 : S16.Idx → Elt F .i32)
  (x0 : S1024x2048.Idx → Elt F .bf16) (x1 : S1x2048x512.Idx → Elt F .f32) (x2 : S1x2048x512.Idx → Elt F .f32) (hw : k0_chk1 i (naW (F := F) T1))

theorem cover_full (h1 h2 h3) (y : S1024x512.Idx) :
    ∃ pc ∈ (runFull c i arg5 harg5 arg6 harg6 arg7 harg7 arg8 harg8 T0 T1 T2 x0 x1 x2 hw h1 h2 h3).1, y ∈ pc.1.set :=
  View.cover_of_tiledL (runFull c i arg5 harg5 arg6 harg6 arg7 harg7 arg8 harg8 T0 T1 T2 x0 x1 x2 hw h1 h2 h3).1 S1024x512.size (by sl_kernel_rfl) y

variable (h1 : k0_cond1 i (naW (F := F) T1) (thW (F := F) i T1 T2 hw) = 1#1)

/-- The output block after the body: its stored piece read back. -/
def left : Vec F S1024x512 .bf16 :=
  outView.read (Elt F) (outView.writes (Elt F) outView.junk
    (runFull c i arg5 harg5 arg6 harg6 arg7 harg7 arg8 harg8 T0 T1 T2 x0 x1 x2 hw h1 (full_excludes _ _ _ h1).1 (full_excludes _ _ _ h1).2).1)

/-- The body ends with the blocks and tables it found and its output block at `left`. -/
theorem body_leaves (K : PUnit → sProp 𝕄) :
    iprop(held c arg5 arg6 arg7 T0 T1 T2 x0 x1 x2 ∗ (∃ d, owns (c : Thread nD τ) arg8 fullShare d)
      ∗ (iprop(held c arg5 arg6 arg7 T0 T1 T2 x0 x1 x2
          ∗ owns (c : Thread nD τ) arg8 fullShare (left c i arg5 harg5 arg6 harg6 arg7 harg7 arg8 harg8 T0 T1 T2 x0 x1 x2 hw h1)) -∗ K ⟨⟩))
      ⊢ wp frame (wpE (defs₀ (F := F)) Variants.none c none) Set.univ
        (cc0_ffn_up i te (Memref.isWhole_whole _) na (Memref.isWhole_whole _) th (Memref.isWhole_whole _) arg5 harg5 arg6 harg6 arg7 harg7 arg8 harg8) K := by
  unfold left
  iintro ⟨H, HO, Hk⟩
  iapply ((runFull c i arg5 harg5 arg6 harg6 arg7 harg7 arg8 harg8 T0 T1 T2 x0 x1 x2 hw h1 (full_excludes _ _ _ h1).1 (full_excludes _ _ _ h1).2).2 _)
  isplitl [H]; · iexact H
  isplitl [HO]; · iexact HO
  iintro ⟨H, ⟨%f, HO⟩⟩
  iapply Hk
  isplitl [H]; · iexact H
  unfold owns; iexists _; isplitr
  swap; · iexact HO
  ipureintro; exact View.read_writes_of_cover _ _ _ _ _ (cover_full c _ _ _ _ _ _ _ _ _ _ _ _ _ _ _ _ _ _ _)

end Body

/-! ## The arrays and tables when the pipeline starts -/

section Start
variable (m : (ℓ : Loc nD τ sig) → Buf (Elt F) ℓ)

/-- The buffers when the pipeline starts: those of the launch, with the three tables filled in. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub hostOps0_fresh main_chain

theorem V_arg0 (c : Dev nD) : V m c main_arg0 = m ((c : Thread nD τ).loc main_arg0) := by
  unfold V hostOps0; after_results_simp <;> rfl
theorem V_arg1 (c : Dev nD) : V m c main_arg1 = m ((c : Thread nD τ).loc main_arg1) := by
  unfold V hostOps0; after_results_simp <;> rfl
theorem V_arg2 (c : Dev nD) : V m c main_arg2 = m ((c : Thread nD τ).loc main_arg2) := by
  unfold V hostOps0; after_results_simp <;> rfl

/-- The tables: the layer for every tile, the number of tiles, and no tile half full. -/
theorem V_te (c : Dev nD) : V m c main_v0 = broadcastInDim S16 ![] bcast_S_S16 (m ((c : Thread nD τ).loc main_arg0)) := by
  unfold V hostOps0; after_results_simp <;> rfl
theorem V_na (c : Dev nD) : V m c main_v1 = broadcastInDim S1 ![] bcast_S_S1 (constantI S_ 32 16#32) := by
  unfold V hostOps0; after_results_simp <;> rfl
theorem V_th (c : Dev nD) : V m c main_v2 = broadcastInDim S16 ![] bcast_S_S16 (constantI S_ 32 0#32) := by
  unfold V hostOps0; after_results_simp <;> rfl
end Start

/-! ## The pipeline at the tables `a` -/

variable (m : (ℓ : Loc nD τ sig) → Buf (Elt F) ℓ) (ρ : Dev nD → PrngReg)
  (a : (pcfg0 (F := F)).Adm) (hw : ∀ i : grid0.Coords, k0_chk1 i (naW (F := F) (a.1 1)))
  (hf : ∀ i : grid0.Coords, k0_cond1 i (naW (F := F) (a.1 1)) (thW (F := F) i (a.1 1) (a.1 2) (hw i)) = 1#1)

abbrev cfgA : Pipeline.Cfg sig Λ₀ := cfg0 a
abbrev crd (t : Fin (cfgA a).N) : grid0.Coords := (cfgA a).grid.coords t

/-! Each window's staging buffer at a point. -/
abbrev ms0 (t : Fin (cfgA a).N) : Memref sig .tc .vmem S1024x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S1024x512 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- The output block after point `t`. -/
def leftAt (c : Dev nD) (t : Fin (cfgA a).N) : Vec F S1024x512 .bf16 :=
  left c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t)) (hf (crd a t))

/-- The proof data of the pipeline. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 4) t
    | ⟨1, _⟩ => iblk m a c (1 : Fin 4) t
    | ⟨2, _⟩ => iblk m a c (2 : Fin 4) t
    | ⟨3, _⟩ => leftAt m a hw hf c t
  Φ _ := iprop(Pipeline.ΦA spec0 c ∗ Pipeline.ΦT pre0 a.1 c)
  q w := Pipeline.shareOf spec0 w
  owed _ := 0

theorem after_0 (c : Dev nD) (t : Fin (cfgA a).N) : (dats m a hw hf 0 c).after (0 : Fin 4) t = iblk m a c (0 : Fin 4) t := rfl
theorem after_1 (c : Dev nD) (t : Fin (cfgA a).N) : (dats m a hw hf 0 c).after (1 : Fin 4) t = iblk m a c (1 : Fin 4) t := rfl
theorem after_2 (c : Dev nD) (t : Fin (cfgA a).N) : (dats m a hw hf 0 c).after (2 : Fin 4) t = iblk m a c (2 : Fin 4) t := rfl
set_option maxHeartbeats 4000000 in
theorem after_3 (c : Dev nD) (t : Fin (cfgA a).N) : (dats m a hw hf 0 c).after (3 : Fin 4) t = leftAt m a hw hf c t := rfl

/-! Each input's buffer holds its block whenever the body runs. -/

theorem before_0 (c : Dev nD) (t : Fin (cfgA a).N) (d) : (dats m a hw hf 0 c).before (0 : Fin 4) t d = iblk m a c (0 : Fin 4) t :=
  ((dats m a hw hf 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a hw hf 0 c).before (1 : Fin 4) t d = iblk m a c (1 : Fin 4) t :=
  ((dats m a hw hf 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats m a hw hf 0 c).before (2 : Fin 4) t d = iblk m a c (2 : Fin 4) t :=
  ((dats m a hw hf 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output window is stored at every point. -/
theorem out_live (i : grid0.Coords) : (cfgA a).idle (3 : Fin 4) i = false := some_path i _ _

/-- The tables as the region hands them to the body, one by one. -/
theorem tables_eq (c : Dev nD) (v : pre0.Contents (Elt F)) :
    (Pipeline.ΦT (U := UR sig nD τ) pre0 v c : sProp 𝕄)
      = iprop((te.view.loc (c : Thread nD τ) ↦{fullShare.right} v 0) ∗ (na.view.loc (c : Thread nD τ) ↦{fullShare.right} v 1)
        ∗ (th.view.loc (c : Thread nD τ) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_ffn_up (crd a t) te (Memref.isWhole_whole _) na (Memref.isWhole_whole _) th (Memref.isWhole_whole _)
    (ms0 a t) (hs0 a t) (ms1 a t) (hs1 a t) (ms2 a t) (hs2 a t) (ms3 a t) (hs3 a t)

set_option maxHeartbeats 4000000 in
/-- The body's obligation at a point. -/
theorem sound_body (c : Dev nD) (t : Fin (cfgA a).N) :
    iprop((dats m a hw hf 0 c).Φ t.castSucc ∗ (dats m a hw hf 0 c).owesAt () t.castSucc
        ∗ (∃ d, owns (c : Thread nD τ) (ms0 a t) fullShare ((dats m a hw hf 0 c).before (0 : Fin 4) t d))
        ∗ (∃ d, owns (c : Thread nD τ) (ms1 a t) fullShare ((dats m a hw hf 0 c).before (1 : Fin 4) t d))
        ∗ (∃ d, owns (c : Thread nD τ) (ms2 a t) fullShare ((dats m a hw hf 0 c).before (2 : Fin 4) t d))
        ∗ (∃ d, owns (c : Thread nD τ) (ms3 a t) fullShare ((dats m a hw hf 0 c).before (3 : Fin 4) t d)))
      ⊢ wp frame (wpE (defs₀ (F := F)) Variants.none c none) Set.univ (bodyAt a t) fun _ =>
          iprop((dats m a hw hf 0 c).Φ t.succ ∗ (dats m a hw hf 0 c).owesAt () t.succ
            ∗ owns (c : Thread nD τ) (ms0 a t) fullShare ((dats m a hw hf 0 c).after (0 : Fin 4) t)
            ∗ owns (c : Thread nD τ) (ms1 a t) fullShare ((dats m a hw hf 0 c).after (1 : Fin 4) t)
            ∗ owns (c : Thread nD τ) (ms2 a t) fullShare ((dats m a hw hf 0 c).after (2 : Fin 4) t)
            ∗ owns (c : Thread nD τ) (ms3 a t) fullShare ((dats m a hw hf 0 c).after (3 : Fin 4) t)) := by
  simp only [before_0, before_1, before_2, after_0, after_1, after_2, after_3]
  rewrite [show (dats m a hw hf 0 c).Φ t.succ = iprop(Pipeline.ΦA spec0 c ∗ Pipeline.ΦT pre0 a.1 c) from rfl,
    show (dats m a hw hf 0 c).Φ t.castSucc = iprop(Pipeline.ΦA spec0 c ∗ Pipeline.ΦT pre0 a.1 c) from rfl,
    show (dats m a hw hf 0 c).owesAt () t.succ = (dats m a hw hf 0 c).owesAt () t.castSucc from rfl, tables_eq]
  iintro ⟨⟨HA, HT0, HT1, HT2⟩, Ho, ⟨%d0, H0⟩, ⟨%d1, H1⟩, ⟨%d2, H2⟩, ⟨%d3, H3⟩⟩
  iapply (body_leaves c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t)) (hf (crd a t)) _)
  unfold held
  isplitl [H0 H1 H2 HT0 HT1 HT2]
  · isplitl [H0]; · iapply rep_of_owns; iexact H0
    isplitl [H1]; · iapply rep_of_owns; iexact H1
    isplitl [H2]; · iapply rep_of_owns; iexact H2
    isplitl [HT0]; · iexact HT0
    isplitl [HT1]; · iexact HT1
    iexact HT2
  isplitl [H3]; · iexists _; iexact H3
  iintro ⟨⟨H0, H1, H2, HT0, HT1, HT2⟩, H3⟩
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  unfold leftAt; iexact H3

/-- The same as the library states it. -/
theorem body_obligation (c : Dev nD) : BodyObligation (dats m a hw hf 0 c) (defs₀ (F := F)) Variants.none () Set.univ := fun t => by
  rw [bigSep_W0, bigSep_W0, out_live]
  exact sound_body m a hw hf c t

/-! ## The launch -/

variable (hpf : ∀ (c : Dev nD) (k : Fin 3), V m c (pre0.ref k) = a.1 k)

include hpf in
set_option backward.isDefEq.respectTransparency.types false in
set_option maxHeartbeats 4000000 in
/-- Every run of the program ends with each array at the computed contents, everything else as it was and every counter zero. -/
theorem run_main_quiescent : θ_run defs (onTc (τ := τ) (main (F := F))) (s₀ m ρ) (fun r =>
    Pipeline.FramePost (Pipeline.pin (pcfgs (F := F)) fun _ => a) (dats m a hw hf) 0 (V m) r ∧ r.2.sem = fun _ => 0) :=
  Pipeline.θ_run_frameP_shared (Q' := _) pcfgs (fun _ => a) (dats m a hw hf) (0 : Fin 1) launch₀0 defs₀ Variants.none m ρ main
    (hbody := fun c => (body_obligation m a hw hf c).loose) (hq := fun _ _ _ => rfl)
    (howed := fun _ _ => rfl) (V := V m)
    (hmain := hmain m)
    (hA := fun _ _ => rfl) (hpf := hpf) (hΦ := fun _ _ => rfl)

include hpf in
/-- The result ends at the computed contents, the arguments as they were, and every counter reads zero. -/
theorem run_all : θ_run (defs (F := F)) (onTc (τ := τ) (main (F := F))) ⟨m, fun _ => 0, ρ⟩ (fun r => (∀ c : Dev nD,
      r.2.mem ((c.tc : Thread nD τ).loc main_v3) = (dats m a hw hf 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 (3 : Fin 4),
    ((h.1 c).2 main_arg0 (Pipeline.mem_restRefs_of main_arg0 (by decide) (show ∀ w : Fin 4, (spec0 w).arr.view.ref ≠ main_arg0 by decide))).trans (V_arg0 m c),
    (((h.1 c).1 (0 : Fin 4)).trans ((dats m a hw hf 0 c).arrAt_in (0 : Fin 4) rfl _)).trans (V_arg1 m c),
    (((h.1 c).1 (1 : Fin 4)).trans ((dats m a hw hf 0 c).arrAt_in (1 : Fin 4) rfl _)).trans (V_arg2 m c)⟩, h.2⟩)
    (run_main_quiescent m ρ a hw hf hpf)

include hw hf hpf in
/-- The arguments end as they were and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_all m ρ a hw hf hpf)

end Cert.DenseUpIdeal.Dense

end
-- ==== Proof.DenseWords.lean ====
module

public import proofs.«01_k».proof.Pre_dense_up_layer
public import proofs.«01_k».proof.Pre_dense_down_layer
public import proofs.«01_k».proof.Proof.MoeWords
public import proofs.«01_k».proof.Proof.MoeSpec
public import Idealize.ShloMosaic.Lib.DynamicIndex

@[expose] public section

noncomputable section

/-
  The layer number of the dense feed-forward layer: the precondition in plain words, and the two products entry by entry.
-/

namespace Cert.Dense

open Idealize.ShloMosaic Cert.Moe

abbrev S_ : Shape := ⟨0, ![]⟩

theorem lt_of_signed (x : BitVec 32) (h0 : (0#32).toInt ≤ x.toInt) (h1 : x.toInt < (2#32).toInt) : x.toNat < 2 := by
  rw [show (0#32).toInt = 0 from by decide] at h0
  rw [show (2#32).toInt = 2 from by decide] at h1
  have := BitVec.toInt_eq_toNat_cond x
  have := x.isLt
  split at * <;> omega

section
variable {F : FTy → Type} [FloatOps F] (j : S_.Idx → BitVec 32)

theorem layer_of_up [Cert.Pre_dense_up_layer.Facts] (x w) (h : Cert.Pre_dense_up_layer.fn (F := F) j x w = fun _ => 1#1) :
    (j (fun a => a.elim0)).toNat < 2 := by
  have e := congrFun h (fun a => a.elim0)
  unfold Cert.Pre_dense_up_layer.fn at e
  obtain ⟨a, b⟩ := and_eq_one _ _ e
  exact lt_of_signed _ (IntOp.cmpi_sge.1 a) (IntOp.cmpi_slt.1 b)

theorem layer_of_down [Cert.Pre_dense_down_layer.Facts] (x w y) (h : Cert.Pre_dense_down_layer.fn (F := F) j x w y = fun _ => 1#1) :
    (j (fun a => a.elim0)).toNat < 2 := by
  have e := congrFun h (fun a => a.elim0)
  unfold Cert.Pre_dense_down_layer.fn at e
  obtain ⟨a, b⟩ := and_eq_one _ _ e
  exact lt_of_signed _ (IntOp.cmpi_sge.1 a) (IntOp.cmpi_slt.1 b)

end

/-- The layer a number names. -/
def layer (j : S_.Idx → BitVec 32) : Fin 2 := ⟨(j (fun a => a.elim0)).toNat % 2, Nat.mod_lt _ (by decide)⟩

/-- Row `r`, column `f` of the first product, with layer `e`'s weights. -/
def upEntry (x : (⟨2, ![16384, 2048]⟩ : Shape).Idx → EReal) (w : (⟨3, ![2, 2048, 14336]⟩ : Shape).Idx → EReal) (e : Fin 2) (r : Fin 16384) (f : Fin 7168) : EReal :=
  gated (∑ k : Fin 2048, x (ix2 r k) * w (ix3 e k ⟨f, by omega⟩)) (∑ k : Fin 2048, x (ix2 r k) * w (ix3 e k ⟨7168 + f, by omega⟩))

/-- Row `r`, column `n` of the second product, with layer `e`'s weights, added to the stream. -/
def downEntry (h : (⟨2, ![16384, 7168]⟩ : Shape).Idx → EReal) (w : (⟨3, ![2, 7168, 2048]⟩ : Shape).Idx → EReal) (y : (⟨2, ![16384, 2048]⟩ : Shape).Idx → EReal)
    (e : Fin 2) (r : Fin 16384) (n : Fin 2048) : EReal :=
  y (ix2 r n) + ∑ k : Fin 7168, h (ix2 r k) * w (ix3 e k n)

end Cert.Dense

end
-- ==== Proof.DenseUpTables.lean ====
module

public import proofs.«01_k».proof.Proof.DenseUpFrame
public import proofs.«01_k».proof.Proof.DenseWords

@[expose] public section

set_option maxRecDepth 16384

noncomputable section

/-
  The tables of the first dense product: one layer for every tile, every tile active and full.  A layer number in range keeps every
  block inside its array.
-/

namespace Cert.DenseUpIdeal.Dense

open Cert.DenseUpIdeal Cert.DenseUpIdeal.Gen
open Idealize.ShloMosaic Idealize.ShloMosaic.TcCoe
open Idealize.ShloMosaic.Pipeline (Dat Cfg Window)
open Cert.Moe (row_toNat active_iff)
open Cert.Dense

variable {F : FTy → Type} [FloatOps F]

theorem coord0_lt (i : grid0.Coords) : (i 0).val < 14 := (i 0).isLt
theorem coord1_lt (i : grid0.Coords) : (i 1).val < 16 := (i 1).isLt
theorem word_toNat (n : ℕ) (h : n < 72) : (BitVec.ofNat 32 n).toNat = n := by rw [BitVec.toNat_ofNat]; omega

/-- The tables as the host fills them, for a layer number in range. -/
structure Fixed (pf : pre0.Contents (Elt F)) : Prop where
  layer (k : S16.Idx) : (pf 0 k : BitVec 32).toNat < 2
  tiles (k : S1.Idx) : (pf 1 k : BitVec 32) = 16#32
  full (k : S16.Idx) : (pf 2 k : BitVec 32) = 0#32

section
variable (pf : pre0.Contents (Elt F)) (h : Fixed pf)
include h

theorem tiles_pos (k : S1.Idx) : 1 ≤ (pf 1 k : BitVec 32).toInt := by rw [h.tiles]; decide

/-- The row block of a tile: the tile's own. -/
theorem row_eq (i : grid0.Coords) (k : S1.Idx) :
    (Scalar.minsi (BitVec.ofNat 32 (i 1).val) (Scalar.subi (pf 1 k : BitVec 32) 1#32)).toNat = (i 1).val := by
  have hi := coord1_lt i
  rw [row_toNat _ (by omega) _ (tiles_pos pf h k), h.tiles, show (16#32 : BitVec 32).toNat = 16 from rfl]; omega

theorem map0_row (i : grid0.Coords) : cc0_transform_0 inb_S1_S1_0 numel1_S1 pf i 0 = (i 1).val := row_eq pf h i _
theorem map1_layer (i : grid0.Coords) : cc0_transform_1 k0_off1_inb numel1_S1 pf i 0 < 2 := h.layer _
theorem map2_layer (i : grid0.Coords) : cc0_transform_2 k0_off1_inb numel1_S1 pf i 0 < 2 := h.layer _

theorem ok : ok0 pf := by
  refine ⟨fun i => ?_, fun i => ?_, fun i => ?_⟩
  · have hb : ∀ a, (cc0_transform_0 inb_S1_S1_0 numel1_S1 pf i a + 1) * S1024x2048.size a ≤ S16384x2048.size a := fun a => by
      match a with
      | ⟨0, _⟩ =>
        show (cc0_transform_0 inb_S1_S1_0 numel1_S1 pf i 0 + 1) * 1024 ≤ 16384
        rw [map0_row pf h i]; have := coord1_lt i; omega
      | ⟨1, _⟩ => show ((0#32 : BitVec 32).toNat + 1) * 2048 ≤ 2048; decide
    exact ⟨hb, .inr (Affine.block_words_dvd (s := S16384x2048) (p := EltTy.packing .bf16) (by decide) (by decide))⟩
  · have hb : ∀ a, (cc0_transform_1 k0_off1_inb numel1_S1 pf i a + 1) * S1x2048x512.size a ≤ S2x2048x14336.size a := fun a => by
      match a with
      | ⟨0, _⟩ =>
        show (cc0_transform_1 k0_off1_inb numel1_S1 pf i 0 + 1) * 1 ≤ 2
        have := map1_layer pf h i; omega
      | ⟨1, _⟩ => show ((0#32 : BitVec 32).toNat + 1) * 2048 ≤ 2048; decide
      | ⟨2, _⟩ =>
        show ((BitVec.ofNat 32 (i 0).val).toNat + 1) * 512 ≤ 14336
        have := coord0_lt i; rw [word_toNat _ (by omega)]; omega
    exact ⟨hb, .inl rfl⟩
  · have hb : ∀ a, (cc0_transform_2 k0_off1_inb numel1_S1 pf i a + 1) * S1x2048x512.size a ≤ S2x2048x14336.size a := fun a => by
      match a with
      | ⟨0, _⟩ =>
        show (cc0_transform_2 k0_off1_inb numel1_S1 pf i 0 + 1) * 1 ≤ 2
        have := map2_layer pf h i; omega
      | ⟨1, _⟩ => show ((0#32 : BitVec 32).toNat + 1) * 2048 ≤ 2048; decide
      | ⟨2, _⟩ =>
        show ((14#32 + BitVec.ofNat 32 (i 0).val).toNat + 1) * 512 ≤ 14336
        have := coord0_lt i; rw [BitVec.toNat_add, word_toNat (i 0).val (by omega), show (14#32).toNat = 14 from rfl]; omega
    exact ⟨hb, .inl rfl⟩

/-- The mark the body reads lies inside its table. -/
theorem mark_inb (i : grid0.Coords) : k0_chk1 i (naW (F := F) (pf 1)) := fun a => by
  have e := row_eq pf h i
  have := coord1_lt i
  match a with
  | ⟨0, _⟩ =>
    refine Nat.le_trans (Nat.add_le_add_right (le_of_eq (e _)) 1) ?_
    show _ + 1 ≤ 16
    omega

/-- Every tile takes the path of a full tile. -/
theorem all_full (i : grid0.Coords) : k0_cond1 i (naW (F := F) (pf 1)) (thW (F := F) i (pf 1) (pf 2) (mark_inb pf h i)) = 1#1 := by
  have hi := coord1_lt i
  have h1 : naW (F := F) (pf 1) = 16#32 := h.tiles _
  have h2 : thW (F := F) i (pf 1) (pf 2) (mark_inb pf h i) = 0#32 := h.full _
  have h3 : Scalar.cmpi .slt (BitVec.ofNat 32 (i 1).val) (16#32) = 1#1 := (active_iff _ (by omega) _ (by decide)).2 hi
  rw [h1, h2]
  unfold k0_cond1; dsimp only
  rw [h3]; decide
end

/-! ## The tables of a memory -/

section Mem
variable (m : (ℓ : Loc nD τ sig) → Buf (Elt F) ℓ)

/-- The tables filled in from a memory. -/
abbrev tabs : pre0.Contents (Elt F) := fun k => V m (0 : Dev nD) (pre0.ref k)

/-- The layer number in a memory is one of the two stacked layers. -/
def InRange : Prop := (m (((0 : Dev nD).tc : Thread nD τ).loc main_arg0) (fun a => a.elim0) : BitVec 32).toNat < 2

theorem te_eq (k : S16.Idx) : (tabs m 0 k : BitVec 32) = m (((0 : Dev nD).tc : Thread nD τ).loc main_arg0) (fun a => a.elim0) :=
  (congrFun (V_te m 0) k).trans (congrArg (m (((0 : Dev nD).tc : Thread nD τ).loc main_arg0)) (funext fun a => a.elim0))

variable (h : InRange m)
include h

theorem fixed : Fixed (tabs m) where
  layer k := lt_of_eq_of_lt (congrArg BitVec.toNat (te_eq m k)) h
  tiles k := congrFun (V_na m 0) k
  full k := congrFun (V_th m 0) k

omit h in
/-- The same with the proof that every block lies inside its array. -/
abbrev adm (h : InRange m) : (pcfg0 (F := F)).Adm := ⟨tabs m, ok _ (fixed m h)⟩

theorem adm_marks (i : grid0.Coords) : k0_chk1 i (naW (F := F) ((adm m h).1 1)) := mark_inb _ (fixed m h) i

theorem adm_full (i : grid0.Coords) : k0_cond1 i (naW (F := F) ((adm m h).1 1)) (thW (F := F) i ((adm m h).1 1) ((adm m h).1 2) (adm_marks m h i)) = 1#1 :=
  all_full _ (fixed m h) i

theorem adm_tabs (c : Dev nD) (k : Fin 3) : V m c (pre0.ref k) = (adm m h).1 k := by
  obtain rfl : c = 0 := Subsingleton.elim _ _
  rfl

end Mem

end Cert.DenseUpIdeal.Dense

end
-- ==== Proof.DenseUpValue.lean ====
module

public import proofs.«01_k».proof.Proof.DenseUpTables
public import proofs.«01_k».proof.Proof.MoeSpec
public import Idealize.ShloMosaic.Lib.Pointwise

@[expose] public section

set_option maxRecDepth 16384

noncomputable section

/-
  The output block of the first dense product, entry by entry.
-/

namespace Cert.DenseUpIdeal.Dense

open Cert.DenseUpIdeal Cert.DenseUpIdeal.Gen Idealize.ShloMosaic Idealize.ShloMosaic.TcCoe Idealize.ShloMosaic.Tactic Cert.Moe

theorem full_apply (x : Vec Ideal S1024x2048 .bf16) (g : Vec Ideal S1x2048x512 .f32) (u : Vec Ideal S1x2048x512 .f32) (r : Fin 1024) (f : Fin 512) :
    k0_pay1 (F := Ideal) x g u (ix2 r f)
      = gated (∑ k : Fin 2048, x (ix2 r k) * g (ix3 0 k f)) (∑ k : Fin 2048, x (ix2 r k) * u (ix3 0 k f)) := by
  pointwise [k0_pay1, gated]

/-! ## Loads of the blocks -/

theorem ld_x (x : Vec Ideal S1024x2048 .bf16) (inb : ∀ a, (![0, 0] : Fin 2 → Nat) a + (![1024, 2048] : Fin 2 → Nat) a ≤ S1024x2048.size a) (r : Fin 1024) (k : Fin 2048) :
    x ((Rect.unit (s := S1024x2048) ![0, 0] ![1024, 2048] inb).idx (ix2 r k)) = x (ix2 r k) := by
  refine congrArg x (funext fun a => Fin.ext ?_)
  match a with
  | ⟨0, _⟩ => show 0 + 1 * r.val = r.val; omega
  | ⟨1, _⟩ => show 0 + 1 * k.val = k.val; omega

theorem ld_w (x : Vec Ideal S1x2048x512 .f32) (inb : ∀ a, (![0, 0, 0] : Fin 3 → Nat) a + (![1, 2048, 512] : Fin 3 → Nat) a ≤ S1x2048x512.size a) (k : Fin 2048) (f : Fin 512) :
    x ((Rect.unit (s := S1x2048x512) ![0, 0, 0] ![1, 2048, 512] inb).idx (ix3 0 k f)) = x (ix3 0 k f) := by
  refine congrArg x (funext fun a => Fin.ext ?_)
  match a with
  | ⟨0, _⟩ => rfl
  | ⟨1, _⟩ => show 0 + 1 * k.val = k.val; omega
  | ⟨2, _⟩ => show 0 + 1 * f.val = f.val; omega

/-- The piece that is the whole block holds `v` at row `r`, column `f`, if its own entry there is `v`. -/
theorem piece_at (w : (⟨2, ![1024, 512]⟩ : Shape).Idx → EReal) (r : Fin 1024) (f : Fin 512) (v : EReal) (h : w (ix2 r f) = v) :
    View.TileAt (Val := Elt Ideal) (e := .bf16) (S := S1024x512) (ix2 r f) ![0, 0] ![1024, 512] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

section Block
variable (c : Dev nD) (i : grid0.Coords)
  (arg5 : Memref sig .tc .vmem S1024x2048 .bf16) (harg5 : arg5.IsWhole) (arg6 : Memref sig .tc .vmem S1x2048x512 .f32) (harg6 : arg6.IsWhole)
  (arg7 : Memref sig .tc .vmem S1x2048x512 .f32) (harg7 : arg7.IsWhole) (arg8 : Memref sig .tc .vmem S1024x512 .bf16) (harg8 : arg8.IsWhole)
  (T0 : S16.Idx → Elt Ideal .i32) (T1 : S1.Idx → Elt Ideal .i32) (T2 : S16.Idx → Elt Ideal .i32)
  (x0 : S1024x2048.Idx → Elt Ideal .bf16) (x1 : S1x2048x512.Idx → Elt Ideal .f32) (x2 : S1x2048x512.Idx → Elt Ideal .f32) (hw : k0_chk1 i (naW (F := Ideal) T1))
  (h1 : k0_cond1 i (naW (F := Ideal) T1) (thW (F := Ideal) i T1 T2 hw) = 1#1)

/-- The output block after the body. -/
theorem left_apply (r : Fin 1024) (f : Fin 512) :
    left c i arg5 harg5 arg6 harg6 arg7 harg7 arg8 harg8 T0 T1 T2 x0 x1 x2 hw h1 (ix2 r f)
      = gated (∑ k : Fin 2048, x0 (ix2 r k) * x1 (ix3 0 k f)) (∑ k : Fin 2048, x0 (ix2 r k) * x2 (ix3 0 k f)) := by
  unfold left
  rw [View.read_writes_eq_canon _ _ _ (cover_full c i arg5 harg5 arg6 harg6 arg7 harg7 arg8 harg8 T0 T1 T2 x0 x1 x2 hw h1 _ _)]
  refine View.canon_eq_of_allAt _ _ _ (cover_full c i arg5 harg5 arg6 harg6 arg7 harg7 arg8 harg8 T0 T1 T2 x0 x1 x2 hw h1 _ _ _) ?_
  unfold runFull
  dsimp only
  sl_unfold_words
  simp only [View.readAt_rep]
  refine View.allAt_cons_unit _ _ _ _ _ (piece_at _ r f _ ?_) (View.allAt_nil _ _)
  refine (full_apply ..).trans ?_
  simp only [ld_x, ld_w]

end Block

end Cert.DenseUpIdeal.Dense

end
-- ==== Proof.DenseUpArray.lean ====
module

public import proofs.«01_k».proof.Proof.DenseUpValue
public import Idealize.ShloMosaic.Lib.Pipeline.Value

@[expose] public section

set_option maxRecDepth 16384

noncomputable section

/-
  The result array of the first dense product, entry by entry, from the arguments.
-/

namespace Cert.DenseUpIdeal.Dense

open Cert.DenseUpIdeal Cert.DenseUpIdeal.Gen Idealize.ShloMosaic Idealize.ShloMosaic.TcCoe Idealize.ShloMosaic.Tactic Cert.Moe Cert.Dense

/-! ## The grid -/

theorem coord_0 : ∀ t : Fin grid0.N, (grid0.coords t 0).val = t.val / 16 := by decide +kernel
theorem coord_1 : ∀ t : Fin grid0.N, (grid0.coords t 1).val = t.val % 16 := by decide +kernel
theorem out_rows : ∀ t : Fin grid0.N, cc0_transform_3 (grid0.coords t) 0 = t.val % 16 := by decide +kernel
theorem out_cols : ∀ t : Fin grid0.N, cc0_transform_3 (grid0.coords t) 1 = t.val / 16 := by decide +kernel

section
variable (m : (ℓ : Loc nD τ sig) → Buf (Elt Ideal) ℓ)
  (a : (pcfg0 (F := Ideal)).Adm) (hw : ∀ i : grid0.Coords, k0_chk1 i (naW (F := Ideal) (a.1 1)))
  (hf : ∀ i : grid0.Coords, k0_cond1 i (naW (F := Ideal) (a.1 1)) (thW (F := Ideal) i (a.1 1) (a.1 2) (hw i)) = 1#1)

/-- Distinct points write distinct blocks. -/
theorem out_inj (t t' : Fin (cfgA a).N) (h : ((cfgA a).win (3 : Fin 4)).index t = ((cfgA a).win (3 : Fin 4)).index t') : t = t' := by
  have h0 : cc0_transform_3 (grid0.coords t) 0 = cc0_transform_3 (grid0.coords t') 0 := congrFun h 0
  have h1 : cc0_transform_3 (grid0.coords t) 1 = cc0_transform_3 (grid0.coords t') 1 := congrFun h 1
  rw [out_rows, out_rows] at h0
  rw [out_cols, out_cols] at h1
  exact Fin.ext (by omega)

/-- So each point writes its block back. -/
theorem out_flush (t : Fin (cfgA a).N) : ((cfgA a).win (3 : Fin 4)).flush t = true := by
  unfold Pipeline.Window.flush
  rw [Bool.and_eq_true]
  refine ⟨rfl, ?_⟩
  rw [Bool.or_eq_true, decide_eq_true_eq, decide_eq_true_eq]
  by_cases h : t.val + 1 = (cfgA a).N
  · exact .inl h
  · have ht : t.val + 1 < (cfgA a).N := by have := t.isLt; omega
    refine .inr ⟨ht, fun e => ?_⟩
    have := congrArg Fin.val (out_inj a _ _ e)
    dsimp only at this
    omega

/-- Block `t` of the final array is what point `t` left. -/
theorem block_left (c : Dev nD) (t : Fin (cfgA a).N) :
    (((cfgA a).win (3 : Fin 4)).blk t).view.read (Elt Ideal) ((dats m a hw hf 0 c).arrAt (3 : Fin 4) (cfgA a).N) = (dats m a hw hf 0 c).flushed (3 : Fin 4) t :=
  (dats m a hw hf 0 c).read_blk_arrAt_eq_flushed (3 : Fin 4)
    (fun t t' _ _ hne => ((cfgA a).win (3 : Fin 4)).disjoint_blk fun h => hne (out_inj a t t' h)) (cfgA a).N t t.isLt (out_flush a t)

/-- An entry of an array, as an entry of the block of its tile and column block. -/
theorem read_block (G : S16384x7168.Idx → Elt Ideal .bf16) (r : Fin 16384) (f : Fin 7168) (t : Fin (cfgA a).N) (ht : t.val = f / 512 * 16 + r / 1024) :
    (((cfgA a).win (3 : Fin 4)).blk t).view.read (Elt Ideal) G (ix2 (⟨r % 1024, by omega⟩ : Fin 1024) (⟨f % 512, by omega⟩ : Fin 512)) = G (ix2 r f) := by
  have h0 := out_rows t
  have h1 := out_cols t
  refine congrArg G (funext fun b => Fin.ext ?_)
  match b with
  | ⟨0, _⟩ =>
    refine Eq.trans (b := cc0_transform_3 (grid0.coords t) 0 * 1024 + 1 * (r.val % 1024)) rfl ((show _ = r.val from ?_).trans rfl)
    rw [h0]; omega
  | ⟨1, _⟩ =>
    refine Eq.trans (b := cc0_transform_3 (grid0.coords t) 1 * 512 + 1 * (f.val % 512)) rfl ((show _ = f.val from ?_).trans rfl)
    rw [h1]; omega

/-! The input blocks, read off the arguments. -/

theorem blk_x (c : Dev nD) (t : Fin (cfgA a).N) (q : Fin 1024) (k : Fin 2048) (r : Fin 16384)
    (hr : r.val = cc0_transform_0 inb_S1_S1_0 numel1_S1 a.1 (grid0.coords t) 0 * 1024 + q) :
    iblk m a c (0 : Fin 4) t (ix2 q k) = m ((c : Thread nD τ).loc main_arg1) (ix2 r k) := by
  refine Eq.trans ?_ (congrFun (V_arg1 m c) (ix2 r k))
  unfold iblk
  generalize V m c = W
  refine congrArg (W main_arg1) (funext fun b => Fin.ext ?_)
  match b with
  | ⟨0, _⟩ =>
    refine Eq.trans (b := cc0_transform_0 inb_S1_S1_0 numel1_S1 a.1 (grid0.coords t) 0 * 1024 + 1 * q.val) rfl ((show _ = r.val from ?_).trans rfl)
    rw [hr]; omega
  | ⟨1, _⟩ =>
    refine Eq.trans (b := (0#32 : BitVec 32).toNat * 2048 + 1 * k.val) rfl ((show _ = k.val from ?_).trans rfl)
    rw [show (0#32 : BitVec 32).toNat = 0 from rfl]; omega

theorem blk_g (c : Dev nD) (t : Fin (cfgA a).N) (k : Fin 2048) (f : Fin 512) (e : Fin 2) (F : Fin 14336)
    (he : e.val = cc0_transform_1 k0_off1_inb numel1_S1 a.1 (grid0.coords t) 0) (hF : F.val = t / 16 * 512 + f) :
    iblk m a c (1 : Fin 4) t (ix3 0 k f) = m ((c : Thread nD τ).loc main_arg2) (ix3 e k F) := by
  have h0 := coord_0 t
  have h1 := coord0_lt (grid0.coords t)
  refine Eq.trans ?_ (congrFun (V_arg2 m c) (ix3 e k F))
  unfold iblk
  generalize V m c = W
  refine congrArg (W main_arg2) (funext fun b => Fin.ext ?_)
  match b with
  | ⟨0, _⟩ =>
    refine Eq.trans (b := cc0_transform_1 k0_off1_inb numel1_S1 a.1 (grid0.coords t) 0 * 1 + 1 * 0) rfl ((show _ = e.val from ?_).trans rfl)
    rw [he]; omega
  | ⟨1, _⟩ =>
    refine Eq.trans (b := (0#32 : BitVec 32).toNat * 2048 + 1 * k.val) rfl ((show _ = k.val from ?_).trans rfl)
    rw [show (0#32 : BitVec 32).toNat = 0 from rfl]; omega
  | ⟨2, _⟩ =>
    refine Eq.trans (b := (BitVec.ofNat 32 (grid0.coords t 0).val).toNat * 512 + 1 * f.val) rfl ((show _ = F.val from ?_).trans rfl)
    rw [word_toNat (grid0.coords t 0).val (by omega), h0, hF]; omega

theorem blk_u (c : Dev nD) (t : Fin (cfgA a).N) (k : Fin 2048) (f : Fin 512) (e : Fin 2) (F : Fin 14336)
    (he : e.val = cc0_transform_2 k0_off1_inb numel1_S1 a.1 (grid0.coords t) 0) (hF : F.val = 7168 + (t / 16 * 512 + f)) :
    iblk m a c (2 : Fin 4) t (ix3 0 k f) = m ((c : Thread nD τ).loc main_arg2) (ix3 e k F) := by
  have h0 := coord_0 t
  have h1 := coord0_lt (grid0.coords t)
  refine Eq.trans ?_ (congrFun (V_arg2 m c) (ix3 e k F))
  unfold iblk
  generalize V m c = W
  refine congrArg (W main_arg2) (funext fun b => Fin.ext ?_)
  match b with
  | ⟨0, _⟩ =>
    refine Eq.trans (b := cc0_transform_2 k0_off1_inb numel1_S1 a.1 (grid0.coords t) 0 * 1 + 1 * 0) rfl ((show _ = e.val from ?_).trans rfl)
    rw [he]; omega
  | ⟨1, _⟩ =>
    refine Eq.trans (b := (0#32 : BitVec 32).toNat * 2048 + 1 * k.val) rfl ((show _ = k.val from ?_).trans rfl)
    rw [show (0#32 : BitVec 32).toNat = 0 from rfl]; omega
  | ⟨2, _⟩ =>
    refine Eq.trans (b := (14#32 + BitVec.ofNat 32 (grid0.coords t 0).val).toNat * 512 + 1 * f.val) rfl ((show _ = F.val from ?_).trans rfl)
    rw [BitVec.toNat_add, word_toNat (grid0.coords t 0).val (by omega), show (14#32).toNat = 14 from rfl, h0, hF]; omega

end

/-! ## The result -/

section
variable (m : (ℓ : Loc nD τ sig) → Buf (Elt Ideal) ℓ) (h : InRange m)

include h in
/-- The weights a tile reads: the layer's. -/
theorem layer_eq (k : S16.Idx) : (layer (m (((0 : Dev nD).tc : Thread nD τ).loc main_arg0))).val = (tabs m 0 k : BitVec 32).toNat := by
  refine Eq.trans ?_ (congrArg BitVec.toNat (te_eq m k)).symm
  exact Nat.mod_eq_of_lt h

set_option maxHeartbeats 4000000 in
/-- The final array, entry by entry. -/
theorem final_apply (c : Dev nD) (r : Fin 16384) (f : Fin 7168) :
    (dats m (adm m h) (adm_marks m h) (adm_full m h) 0 c).arrAt (3 : Fin 4) (cfgA (adm m h)).N (ix2 r f)
      = upEntry (m ((c : Thread nD τ).loc main_arg1)) (m ((c : Thread nD τ).loc main_arg2))
          (layer (m (((0 : Dev nD).tc : Thread nD τ).loc main_arg0))) r f := by
  have hN : (cfgA (adm m h)).N = 224 := N_0
  have ht : f.val / 512 * 16 + r.val / 1024 < (cfgA (adm m h)).N := by omega
  generalize hT : (⟨_, ht⟩ : Fin (cfgA (adm m h)).N) = t
  have htv : t.val = f.val / 512 * 16 + r.val / 1024 := by rw [← hT]
  have hi : (grid0.coords t 1).val = r.val / 1024 := by rw [coord_1 t, htv]; omega
  have hj : t.val / 16 = f.val / 512 := by rw [htv]; omega
  have hbl := congrFun (block_left m (adm m h) (adm_marks m h) (adm_full m h) c t) (ix2 (⟨r % 1024, by omega⟩ : Fin 1024) (⟨f % 512, by omega⟩ : Fin 512))
  refine (read_block (adm m h) ((dats m (adm m h) (adm_marks m h) (adm_full m h) 0 c).arrAt (3 : Fin 4) (cfgA (adm m h)).N) r f t htv).symm.trans (hbl.trans ?_)
  refine Eq.trans (b := leftAt m (adm m h) (adm_marks m h) (adm_full m h) c t (ix2 ⟨r % 1024, by omega⟩ ⟨f % 512, by omega⟩)) rfl ?_
  unfold leftAt
  refine (left_apply c (crd (adm m h) t) (ms0 (adm m h) t) (hs0 (adm m h) t) (ms1 (adm m h) t) (hs1 (adm m h) t) (ms2 (adm m h) t) (hs2 (adm m h) t)
    (ms3 (adm m h) t) (hs3 (adm m h) t) (tabs m 0) (tabs m 1) (tabs m 2) (iblk m (adm m h) c (0 : Fin 4) t) (iblk m (adm m h) c (1 : Fin 4) t)
    (iblk m (adm m h) c (2 : Fin 4) t) (adm_marks m h _) (adm_full m h _) ⟨r % 1024, by omega⟩ ⟨f % 512, by omega⟩).trans ?_
  have hrow : cc0_transform_0 inb_S1_S1_0 numel1_S1 (tabs m) (grid0.coords t) 0 = r.val / 1024 := (map0_row (tabs m) (fixed m h) (grid0.coords t)).trans hi
  unfold upEntry
  refine congrArg₂ gated (Finset.sum_congr rfl fun k _ => congrArg₂ (· * ·) ?_ ?_) (Finset.sum_congr rfl fun k _ => congrArg₂ (· * ·) ?_ ?_)
  · exact blk_x m (adm m h) c t _ k r (by rw [hrow]; dsimp only; omega)
  · exact blk_g m (adm m h) c t k _ _ _ (layer_eq m h _) (by dsimp only; omega)
  · exact blk_x m (adm m h) c t _ k r (by rw [hrow]; dsimp only; omega)
  · exact blk_u m (adm m h) c t k _ _ _ (layer_eq m h _) (by dsimp only; omega)

end

end Cert.DenseUpIdeal.Dense

end
-- ==== Proof.DenseUpRef.lean ====
/-
  The reference of the first dense product, entry by entry.
-/
module

public import proofs.«01_k».proof.Proof.DenseWords
public import proofs.«01_k».proof.Proof.Gen.DenseUpReferenceIdeal.Read
public import Idealize.ShloMosaic.Lib.Pointwise

@[expose] public section

set_option maxRecDepth 16384

noncomputable section

namespace Cert.DenseUpReferenceIdeal.Dense

open Cert.DenseUpReferenceIdeal Cert.DenseUpReferenceIdeal.Gen Cert.DenseUpReferenceIdeal.Read Idealize.ShloMosaic Cert.Moe Cert.Dense

/-! ## The layer's weights -/

theorem half0 (w : (⟨S2x2048x14336, .f32⟩ : BufTy).Contents (Elt Ideal)) (k : Fin 2048) (f : Fin 14336) : val_main_v2 (F := Ideal) w (ix2 k f) = w (ix3 0 k f) := by
  refine (val_main_v2_apply w _).trans ((val_main_v1_apply w _).trans (congrArg w (funext fun a => Fin.ext ?_)))
  match a with
  | ⟨0, _⟩ => rfl
  | ⟨1, _⟩ => show (k.val * 14336 + f.val) / 14336 % 2048 = k.val; omega
  | ⟨2, _⟩ => show (k.val * 14336 + f.val) % 14336 = f.val; omega

theorem half1 (w : (⟨S2x2048x14336, .f32⟩ : BufTy).Contents (Elt Ideal)) (k : Fin 2048) (f : Fin 14336) : val_main_v4 (F := Ideal) w (ix2 k f) = w (ix3 1 k f) := by
  refine (val_main_v4_apply w _).trans ((val_main_v3_apply w _).trans (congrArg w (funext fun a => Fin.ext ?_)))
  match a with
  | ⟨0, _⟩ => rfl
  | ⟨1, _⟩ => show (k.val * 14336 + f.val) / 14336 % 2048 = k.val; omega
  | ⟨2, _⟩ => show (k.val * 14336 + f.val) % 14336 = f.val; omega

theorem bit_zero : ∀ b : BitVec 1, b ≠ 1#1 → b = 0#1 := by decide

/-- The weights the layer number names. -/
theorem weights_apply (j : (⟨S_, .i32⟩ : BufTy).Contents (Elt Ideal)) (w : (⟨S2x2048x14336, .f32⟩ : BufTy).Contents (Elt Ideal)) (hj : (j (fun a => a.elim0) : BitVec 32).toNat < 2) (k : Fin 2048) (f : Fin 14336) :
    val_main_v5 (F := Ideal) j w (ix2 k f) = w (ix3 (layer j) k f) := by
  have e : val_main_v5 (F := Ideal) j w (ix2 k f)
      = Scalar.select (IntOp.cmpi .eq (j (fun a => a.elim0) : BitVec 32) 0#32) (val_main_v2 (F := Ideal) w (ix2 k f)) (val_main_v4 (F := Ideal) w (ix2 k f)) := by
    pointwise [val_main_v5, val_main_v0, val_main_c]
    rw [show (ix0 : S_.Idx) = fun a => a.elim0 from ix0_eta _]
  rw [e, half0, half1]
  by_cases h0 : (j (fun a => a.elim0) : BitVec 32) = 0#32
  · rw [IntOp.cmpi_eq.2 h0]
    refine Eq.trans (b := w (ix3 0 k f)) rfl ?_
    refine congrArg (fun e => w (ix3 e k f)) (Fin.ext ?_)
    show 0 = (j (fun a => a.elim0) : BitVec 32).toNat % 2
    rw [h0]; rfl
  · rw [bit_zero _ (fun hc => h0 (IntOp.cmpi_eq.1 hc))]
    refine Eq.trans (b := w (ix3 1 k f)) rfl ?_
    refine congrArg (fun e => w (ix3 e k f)) (Fin.ext ?_)
    show 1 = (j (fun a => a.elim0) : BitVec 32).toNat % 2
    have : (j (fun a => a.elim0) : BitVec 32).toNat ≠ 0 := fun hz => h0 (BitVec.eq_of_toNat_eq hz)
    omega

/-! ## The result -/

theorem ref_apply (j : (⟨S_, .i32⟩ : BufTy).Contents (Elt Ideal)) (x : (⟨S16384x2048, .bf16⟩ : BufTy).Contents (Elt Ideal)) (w : (⟨S2x2048x14336, .f32⟩ : BufTy).Contents (Elt Ideal)) (hj : (j (fun a => a.elim0) : BitVec 32).toNat < 2) (r : Fin 16384) (f : Fin 7168) :
    val_main_v12 (F := Ideal) j x w (ix2 r f) = upEntry x w (layer j) r f := by
  have e : val_main_v12 (F := Ideal) j x w (ix2 r f)
      = gated (∑ k : Fin 2048, x (ix2 r k) * val_main_v5 (F := Ideal) j w (ix2 k ⟨f, by omega⟩))
          (∑ k : Fin 2048, x (ix2 r k) * val_main_v5 (F := Ideal) j w (ix2 k ⟨7168 + f, by omega⟩)) := by
    unfold gated Ideal.logistic
    generalize hW : val_main_v5 (F := Ideal) j w = W
    pointwise [val_main_v12, val_main_v11, val_main_v10, val_main_call1_v5, val_main_call1_v4, val_main_call1_cst_0, val_main_call1_v3,
      val_main_call1_v2, val_main_call1_cst, val_main_call1_v1, val_main_call1_v0, val_main_v9, val_main_v8, val_main_v7, val_main_v6, hW]
  rw [e]
  unfold upEntry
  simp only [weights_apply j w hj]

end Cert.DenseUpReferenceIdeal.Dense

end
-- ==== Proof.DenseUpClaim.lean ====
/-
  The claims of the first dense product: the frames of its three programs and the equality of the two results.
-/
module

public import proofs.«01_k».proof.Defs
public import proofs.«01_k».proof.Proof.DenseUpArray
public import proofs.«01_k».proof.Proof.DenseUpRef
public import proofs.«01_k».proof.Proof.Gen.DenseUp
public import proofs.«01_k».proof.Proof.Gen.DenseUpReferenceIdeal.Run
public import proofs.«01_k».proof.Proof.Gen.Pre_dense_up_layer
public import Idealize.ShloMosaic.PureOps.BitExact
public import Idealize.ShloMosaic.Lib.Quiescent

@[expose] public section

set_option maxRecDepth 16384

noncomputable section

namespace Cert.DenseUpIdeal.Dense

open Cert.DenseUpIdeal Cert.DenseUpIdeal.Gen Idealize.ShloMosaic Idealize.ShloMosaic.TcCoe Idealize.ShloMosaic.Tactic Idealize.SL.Sem Cert.Moe Cert.Dense

/-! ## The frames -/

/-- The kernel over the ideal numbers. -/
theorem frame_ideal : quiescent_DenseUpIdeal := fun m ρ hp =>
  let h : InRange m := layer_of_up _ _ _ (hp 0)
  frame m ρ (adm m h) (adm_marks m h) (adm_full m h) (adm_tabs m h)

/-- The kernel's two programs have the same text, so that their runs over bits are the same statement. -/
theorem run_bits (m : (ℓ : Loc Cert.DenseUp.nD Cert.DenseUp.τ Cert.DenseUp.sig) → Buf (Elt Bits) ℓ) (g : Dev Cert.DenseUp.nD → PrngReg) :
    (θ_run (Cert.DenseUpIdeal.defs (F := Bits)) (onTc (τ := Cert.DenseUpIdeal.τ) (Cert.DenseUpIdeal.main (F := Bits))) ⟨m, fun _ => 0, g⟩ (fun r => (∀ c : Dev Cert.DenseUpIdeal.nD,
          r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
        ∧ r.2.sem = fun _ => 0))
      = (θ_run (Cert.DenseUp.defs (F := Bits)) (onTc (τ := Cert.DenseUp.τ) (Cert.DenseUp.main (F := Bits))) ⟨m, fun _ => 0, g⟩ (fun r => (∀ c : Dev Cert.DenseUp.nD,
          r.2.mem ((c.tc : Thread Cert.DenseUp.nD Cert.DenseUp.τ).loc Cert.DenseUp.main_arg0) = m ((c.tc : Thread Cert.DenseUp.nD Cert.DenseUp.τ).loc Cert.DenseUp.main_arg0)
          ∧ r.2.mem ((c.tc : Thread Cert.DenseUp.nD Cert.DenseUp.τ).loc Cert.DenseUp.main_arg1) = m ((c.tc : Thread Cert.DenseUp.nD Cert.DenseUp.τ).loc Cert.DenseUp.main_arg1)
          ∧ r.2.mem ((c.tc : Thread Cert.DenseUp.nD Cert.DenseUp.τ).loc Cert.DenseUp.main_arg2) = m ((c.tc : Thread Cert.DenseUp.nD Cert.DenseUp.τ).loc Cert.DenseUp.main_arg2))
        ∧ r.2.sem = fun _ => 0)) := by
  sl_kernel_rfl

/-- The kernel over bits. -/
theorem frame_bits : quiescent_DenseUp := fun m g hp =>
  let h : InRange (F := Bits) m := layer_of_up _ _ _ (hp 0)
  (run_bits m g).mp (frame (F := Bits) m g (adm m h) (adm_marks m h) (adm_full m h) (adm_tabs m h))

/-- The reference. -/
theorem frame_reference : quiescent_DenseUpReferenceIdeal := fun m ρ _ =>
  (θ_run _ _ _).mono (fun r h => ⟨fun c => (h c).2, sem_eq_zero_of_no_sems (by decide) r.2⟩)
    (Cert.DenseUpReferenceIdeal.Value.run m ρ)

/-- The reference on the layer numbers the kernel is given. -/
theorem frame_reference_layer : quiescent_DenseUpReferenceIdeal_pre_dense_up_layer := fun m ρ _ =>
  (θ_run _ _ _).mono (fun r h => ⟨fun c => (h c).2, sem_eq_zero_of_no_sems (by decide) r.2⟩)
    (Cert.DenseUpReferenceIdeal.Value.run m ρ)

/-! ## The results -/

variable (m : (ℓ : Loc nD τ sig) → Buf (Elt Ideal) ℓ)

/-- The kernel's final array. -/
abbrev result (h : InRange m) (c : Dev nD) : Buf (Elt Ideal) ((c.tc : Thread nD τ).loc main_v3) :=
  (dats m (adm m h) (adm_marks m h) (adm_full m h) 0 c).arrAt (3 : Fin 4) (cfgA (adm m h)).N

/-- Every run of the kernel ends with that array, and its arguments as they were. -/
theorem run_result (ρ) (h : InRange m) :
    θ_run (defs (F := Ideal)) (onTc (τ := τ) (main (F := Ideal))) ⟨m, fun _ => 0, ρ⟩ (fun r => ∀ c : Dev nD,
      r.2.mem ((c.tc : Thread nD τ).loc main_v3) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r q c => q.1 c)
    (run_all m ρ (adm m h) (adm_marks m h) (adm_full m h) (adm_tabs m h))

/-- The kernel's result is the reference's, entry by entry. -/
theorem result_eq (h : InRange m)
    (m' : (ℓ : Loc Cert.DenseUpReferenceIdeal.nD Cert.DenseUpReferenceIdeal.τ Cert.DenseUpReferenceIdeal.sig) → Buf (Elt Ideal) ℓ) (c : Dev nD)
    (h0 : m' ((c.tc : Thread Cert.DenseUpReferenceIdeal.nD Cert.DenseUpReferenceIdeal.τ).loc Cert.DenseUpReferenceIdeal.main_arg0) = m ((c.tc : Thread nD τ).loc main_arg0))
    (h1 : m' ((c.tc : Thread Cert.DenseUpReferenceIdeal.nD Cert.DenseUpReferenceIdeal.τ).loc Cert.DenseUpReferenceIdeal.main_arg1) = m ((c.tc : Thread nD τ).loc main_arg1))
    (h2 : m' ((c.tc : Thread Cert.DenseUpReferenceIdeal.nD Cert.DenseUpReferenceIdeal.τ).loc Cert.DenseUpReferenceIdeal.main_arg2) = m ((c.tc : Thread nD τ).loc main_arg2)) :
    Cert.DenseUpReferenceIdeal.Read.val_main_v12 (F := Ideal) (m' ((c.tc : Thread Cert.DenseUpReferenceIdeal.nD Cert.DenseUpReferenceIdeal.τ).loc Cert.DenseUpReferenceIdeal.main_arg0)) (m' ((c.tc : Thread Cert.DenseUpReferenceIdeal.nD Cert.DenseUpReferenceIdeal.τ).loc Cert.DenseUpReferenceIdeal.main_arg1)) (m' ((c.tc : Thread Cert.DenseUpReferenceIdeal.nD Cert.DenseUpReferenceIdeal.τ).loc Cert.DenseUpReferenceIdeal.main_arg2)) = result m h c := by
  obtain rfl : c = 0 := Subsingleton.elim _ _
  rw [h0, h1, h2]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.DenseUpReferenceIdeal.Dense.ref_apply _ _ _ h _ _).trans (final_apply m h 0 _ _).symm

/-- Both programs run and end with equal results. -/
theorem value : algebraic_DenseUpIdeal_DenseUpReferenceIdeal := fun m g m' g' hp hargs =>
  let h : InRange m := layer_of_up _ _ _ (hp 0)
  ⟨fun c => result m h c, run_result m g h,
    (θ_run _ _ _).mono (fun _ q c => ⟨(q c).1.trans ((Cert.DenseUpReferenceIdeal.Read.val_main_v12_eq _ _ _).trans
        (result_eq m h m' c (hargs c).1 (hargs c).2.1 (hargs c).2.2)), (q c).2⟩)
      (Cert.DenseUpReferenceIdeal.Value.run m' g')⟩

end Cert.DenseUpIdeal.Dense

end
-- ==== Proof.DenseDownRun.lean ====
module

public import proofs.«01_k».proof.Proof.Gen.DenseDownIdeal.Launch
public import proofs.«01_k».proof.Proof.Gen.DenseDownIdeal.Skeleton
public import Idealize.ShloMosaic.Lib.Pipeline.TableIdle
public import Idealize.ShloMosaic.Lib.Pipeline.FrameBody
public import Idealize.ShloMosaic.Lib.Pipeline.ValueKit.Tiles
public import Idealize.ShloMosaic.Lib.Ring
public import Idealize.ShloMosaic.Lib.Tactic
public import Idealize.ShloMosaic.Lib.Exec
public import Idealize.ShloMosaic.Lib.Affine
public import Idealize.ShloMosaic.Lib.Writes
public import Idealize.ShloMosaic.Adequacy
public import Idealize.ShloMosaic.Init

@[expose] public section

set_option maxRecDepth 16384
set_option Elab.async false

noncomputable section

/-
  The body of the second dense product (ffn_down) run once on arbitrary buffers, over any number system and any tables on which it
  takes the path of a tile all of whose rows hold tokens.
-/

namespace Cert.DenseDownIdeal.Dense

open Cert.DenseDownIdeal Cert.DenseDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads of the tables -/

abbrev te : Memref sig .tc .smem S32 .i32 := Memref.whole main_v0
abbrev na : Memref sig .tc .smem S1 .i32 := Memref.whole main_v1
abbrev th : Memref sig .tc .smem S32 .i32 := Memref.whole main_v2

/-- The number of active tiles. -/
abbrev naW (T1 : S1.Idx → Elt F .i32) : BitVec 32 :=
  View.readAt (Elt F) na.view (Rect.unit (s := S1) ![0] S1.size inb_S1_S1_0).toLoadRect T1 (Shape.Idx.first (numel1_S1.symm ▸ Nat.one_pos))

/-- The mark of the tile: 1 where only its first half holds tokens. -/
abbrev thW (i : grid0.Coords) (T1 : S1.Idx → Elt F .i32) (T2 : S32.Idx → Elt F .i32) (hw : k0_chk1 i (naW (F := F) T1)) : BitVec 32 :=
  View.readAt (Elt F) th.view (Rect.unit (s := S32) (k0_off2 i (naW (F := F) T1)) S1.size (k0_off2_inb i (naW (F := F) T1) hw)).toLoadRect T2
    (Shape.Idx.first (numel1_S1.symm ▸ Nat.one_pos))

/-! The first condition excludes the other two. -/

theorem full_excludes (i : grid0.Coords) (v w : BitVec 32) : k0_cond1 i v w = 1#1 → ¬ k0_cond2 i v w = 1#1 ∧ ¬ k0_cond3 i v = 1#1 := by
  unfold k0_cond1 k0_cond2 k0_cond3; dsimp only
  generalize Scalar.cmpi .slt _ v = a; generalize Scalar.cmpi .eq w _ = b
  revert a b; decide

/-- One of the three conditions holds, whatever words the two of them that read a mark read. -/
theorem some_path (i : grid0.Coords) (v w : BitVec 32) :
    (!(k0_cond1 i v w == 1#1) && !(k0_cond2 i v w == 1#1) && !(k0_cond3 i v == 1#1)) = false := by
  unfold k0_cond1 k0_cond2 k0_cond3; dsimp only
  generalize Scalar.cmpi .slt _ v = a; generalize Scalar.cmpi .eq w _ = b
  revert a b; decide

/-! ## The body -/

section Paths
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole) (arg8 : Memref sig .tc .vmem S512x512 .f32) (harg8 : arg8.IsWhole)
  (T0 : S32.Idx → Elt F .i32) (T1 : S1.Idx → Elt F .i32) (T2 : S32.Idx → Elt F .i32)
  (x0 : S512x7168.Idx → Elt F .bf16) (x1 : S1x7168x512.Idx → Elt F .f32) (x2 : S512x512.Idx → Elt F .f32)

/-- The three input blocks and the three tables, as the body finds and leaves them. -/
def held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (te.view.loc (c : Thread nD τ) ↦{fullShare.right} T0)
    ∗ (na.view.loc (c : Thread nD τ) ↦{fullShare.right} T1)
    ∗ (th.view.loc (c : Thread nD τ) ↦{fullShare.right} T2))

/-- The body, run from the held blocks and any output buffer, ends with the output buffer overwritten by `pieces`. -/
def Leaves (pieces : List (View.Piece (Elt F) S512x512 .f32)) : Prop :=
  ∀ K : PUnit → sProp 𝕄,
    iprop(held c arg5 arg6 arg7 T0 T1 T2 x0 x1 x2 ∗ (∃ d, owns (c : Thread nD τ) arg8 fullShare d)
      ∗ (iprop(held c arg5 arg6 arg7 T0 T1 T2 x0 x1 x2
          ∗ (∃ f, arg8.view.loc (c : Thread nD τ) ↦[arg8.view.set]{fullShare} arg8.view.writes (Elt F) f pieces)) -∗ K ⟨⟩))
      ⊢ wp frame (wpE (defs₀ (F := F)) Variants.none c none) Set.univ
        (cc0_ffn_down i te (Memref.isWhole_whole _) na (Memref.isWhole_whole _) th (Memref.isWhole_whole _) arg5 harg5 arg6 harg6 arg7 harg7 arg8 harg8) K

variable (hw : k0_chk1 i (naW (F := F) T1))

set_option backward.proofsInPublic true in
set_option maxHeartbeats 8000000 in
/-- Every row of the tile holds a token. -/
def runFull (h1 : k0_cond1 i (naW (F := F) T1) (thW (F := F) i T1 T2 hw) = 1#1) (h2 : ¬ k0_cond2 i (naW (F := F) T1) (thW (F := F) i T1 T2 hw) = 1#1)
    (h3 : ¬ k0_cond3 i (naW (F := F) T1) = 1#1) :
    { pieces : List (View.Piece (Elt F) S512x512 .f32) //
      Leaves c i arg5 harg5 arg6 harg6 arg7 harg7 arg8 harg8 T0 T1 T2 x0 x1 x2 pieces } :=
  ⟨_, fun K => by
    unfold held owns
    rw [cc0_ffn_down_eq_skeleton]; unfold cc0_ffn_down_skel
    iintro ⟨⟨H0, H1, H2, HT0, HT1, HT2⟩, ⟨%d3, %f3, -, HO⟩, Hk⟩
    have hT0 : te.IsWhole := Memref.isWhole_whole _
    have hT1 : na.IsWhole := Memref.isWhole_whole _
    have hT2 : th.IsWhole := Memref.isWhole_whole _
    sl_exec! (disch := first | (guard_target = k0_chk1 _ _; exact hw) | (guard_target = k0_cond1 _ _ _ = _; exact h1) | (guard_target = ¬(k0_cond2 _ _ _ = _); exact h2) | (guard_target = ¬(k0_cond3 _ _ = _); exact h3))
    sl_step
    iapply Hk
    isplitr [HO]
    · isplitl [H0]; · iexact H0
      isplitl [H1]; · iexact H1
      isplitl [H2]; · iexact H2
      isplitl [HT0]; · iexact HT0
      isplitl [HT1]; · iexact HT1
      iexact HT2
    iexists _; iexact HO⟩

end Paths

end Cert.DenseDownIdeal.Dense

end
-- ==== Proof.DenseDownFrame.lean ====
module

public import proofs.«01_k».proof.Proof.DenseDownRun
public import Idealize.ShloMosaic.Lib.Claim

@[expose] public section

set_option maxRecDepth 16384
set_option Elab.async false

noncomputable section

/-
  The launch of the second dense product (ffn_down) over any number system and any layer number whose
  blocks lie inside the weights: it ends, leaves its arguments as they were, and its result holds the body's output at every grid point.
-/

namespace Cert.DenseDownIdeal.Dense

open Cert.DenseDownIdeal Cert.DenseDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What the body leaves -/

/-- One staging buffer of the output window. -/
abbrev outView : View sig .tc .vmem S512x512 .f32 := (Memref.whole cc0_stg3_0 : Memref sig .tc .vmem S512x512 .f32).view

section Body
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole) (arg8 : Memref sig .tc .vmem S512x512 .f32) (harg8 : arg8.IsWhole)
  (T0 : S32.Idx → Elt F .i32) (T1 : S1.Idx → Elt F .i32) (T2 : S32.Idx → Elt F .i32)
  (x0 : S512x7168.Idx → Elt F .bf16) (x1 : S1x7168x512.Idx → Elt F .f32) (x2 : S512x512.Idx → Elt F .f32) (hw : k0_chk1 i (naW (F := F) T1))

theorem cover_full (h1 h2 h3) (y : S512x512.Idx) :
    ∃ pc ∈ (runFull c i arg5 harg5 arg6 harg6 arg7 harg7 arg8 harg8 T0 T1 T2 x0 x1 x2 hw h1 h2 h3).1, y ∈ pc.1.set :=
  View.cover_of_tiledL (runFull c i arg5 harg5 arg6 harg6 arg7 harg7 arg8 harg8 T0 T1 T2 x0 x1 x2 hw h1 h2 h3).1 S512x512.size (by sl_kernel_rfl) y

variable (h1 : k0_cond1 i (naW (F := F) T1) (thW (F := F) i T1 T2 hw) = 1#1)

/-- The output block after the body: its stored piece read back. -/
def left : Vec F S512x512 .f32 :=
  outView.read (Elt F) (outView.writes (Elt F) outView.junk
    (runFull c i arg5 harg5 arg6 harg6 arg7 harg7 arg8 harg8 T0 T1 T2 x0 x1 x2 hw h1 (full_excludes _ _ _ h1).1 (full_excludes _ _ _ h1).2).1)

/-- The body ends with the blocks and tables it found and its output block at `left`. -/
theorem body_leaves (K : PUnit → sProp 𝕄) :
    iprop(held c arg5 arg6 arg7 T0 T1 T2 x0 x1 x2 ∗ (∃ d, owns (c : Thread nD τ) arg8 fullShare d)
      ∗ (iprop(held c arg5 arg6 arg7 T0 T1 T2 x0 x1 x2
          ∗ owns (c : Thread nD τ) arg8 fullShare (left c i arg5 harg5 arg6 harg6 arg7 harg7 arg8 harg8 T0 T1 T2 x0 x1 x2 hw h1)) -∗ K ⟨⟩))
      ⊢ wp frame (wpE (defs₀ (F := F)) Variants.none c none) Set.univ
        (cc0_ffn_down i te (Memref.isWhole_whole _) na (Memref.isWhole_whole _) th (Memref.isWhole_whole _) arg5 harg5 arg6 harg6 arg7 harg7 arg8 harg8) K := by
  unfold left
  iintro ⟨H, HO, Hk⟩
  iapply ((runFull c i arg5 harg5 arg6 harg6 arg7 harg7 arg8 harg8 T0 T1 T2 x0 x1 x2 hw h1 (full_excludes _ _ _ h1).1 (full_excludes _ _ _ h1).2).2 _)
  isplitl [H]; · iexact H
  isplitl [HO]; · iexact HO
  iintro ⟨H, ⟨%f, HO⟩⟩
  iapply Hk
  isplitl [H]; · iexact H
  unfold owns; iexists _; isplitr
  swap; · iexact HO
  ipureintro; exact View.read_writes_of_cover _ _ _ _ _ (cover_full c _ _ _ _ _ _ _ _ _ _ _ _ _ _ _ _ _ _ _)

end Body

/-! ## The arrays and tables when the pipeline starts -/

section Start
variable (m : (ℓ : Loc nD τ sig) → Buf (Elt F) ℓ)

/-- The buffers when the pipeline starts: those of the launch, with the three tables filled in. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub hostOps0_fresh main_chain

theorem V_arg0 (c : Dev nD) : V m c main_arg0 = m ((c : Thread nD τ).loc main_arg0) := by
  unfold V hostOps0; after_results_simp <;> rfl
theorem V_arg1 (c : Dev nD) : V m c main_arg1 = m ((c : Thread nD τ).loc main_arg1) := by
  unfold V hostOps0; after_results_simp <;> rfl
theorem V_arg2 (c : Dev nD) : V m c main_arg2 = m ((c : Thread nD τ).loc main_arg2) := by
  unfold V hostOps0; after_results_simp <;> rfl
theorem V_arg3 (c : Dev nD) : V m c main_arg3 = m ((c : Thread nD τ).loc main_arg3) := by
  unfold V hostOps0; after_results_simp <;> rfl

/-- The tables: the layer for every tile, the number of tiles, and no tile half full. -/
theorem V_te (c : Dev nD) : V m c main_v0 = broadcastInDim S32 ![] bcast_S_S32 (m ((c : Thread nD τ).loc main_arg0)) := by
  unfold V hostOps0; after_results_simp <;> rfl
theorem V_na (c : Dev nD) : V m c main_v1 = broadcastInDim S1 ![] bcast_S_S1 (constantI S_ 32 32#32) := by
  unfold V hostOps0; after_results_simp <;> rfl
theorem V_th (c : Dev nD) : V m c main_v2 = broadcastInDim S32 ![] bcast_S_S32 (constantI S_ 32 0#32) := by
  unfold V hostOps0; after_results_simp <;> rfl
end Start

/-! ## The pipeline at the tables `a` -/

variable (m : (ℓ : Loc nD τ sig) → Buf (Elt F) ℓ) (ρ : Dev nD → PrngReg)
  (a : (pcfg0 (F := F)).Adm) (hw : ∀ i : grid0.Coords, k0_chk1 i (naW (F := F) (a.1 1)))
  (hf : ∀ i : grid0.Coords, k0_cond1 i (naW (F := F) (a.1 1)) (thW (F := F) i (a.1 1) (a.1 2) (hw i)) = 1#1)

abbrev cfgA : Pipeline.Cfg sig Λ₀ := cfg0 a
abbrev crd (t : Fin (cfgA a).N) : grid0.Coords := (cfgA a).grid.coords t

/-! Each window's staging buffer at a point. -/
abbrev ms0 (t : Fin (cfgA a).N) : Memref sig .tc .vmem S512x7168 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x7168x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S512x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x512 .f32 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- The output block after point `t`. -/
def leftAt (c : Dev nD) (t : Fin (cfgA a).N) : Vec F S512x512 .f32 :=
  left c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t)) (hf (crd a t))

/-- The proof data of the pipeline. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 4) t
    | ⟨1, _⟩ => iblk m a c (1 : Fin 4) t
    | ⟨2, _⟩ => iblk m a c (2 : Fin 4) t
    | ⟨3, _⟩ => leftAt m a hw hf c t
  Φ _ := iprop(Pipeline.ΦA spec0 c ∗ Pipeline.ΦT pre0 a.1 c)
  q w := Pipeline.shareOf spec0 w
  owed _ := 0

theorem after_0 (c : Dev nD) (t : Fin (cfgA a).N) : (dats m a hw hf 0 c).after (0 : Fin 4) t = iblk m a c (0 : Fin 4) t := rfl
theorem after_1 (c : Dev nD) (t : Fin (cfgA a).N) : (dats m a hw hf 0 c).after (1 : Fin 4) t = iblk m a c (1 : Fin 4) t := rfl
theorem after_2 (c : Dev nD) (t : Fin (cfgA a).N) : (dats m a hw hf 0 c).after (2 : Fin 4) t = iblk m a c (2 : Fin 4) t := rfl
set_option maxHeartbeats 4000000 in
theorem after_3 (c : Dev nD) (t : Fin (cfgA a).N) : (dats m a hw hf 0 c).after (3 : Fin 4) t = leftAt m a hw hf c t := rfl

/-! Each input's buffer holds its block whenever the body runs. -/

theorem before_0 (c : Dev nD) (t : Fin (cfgA a).N) (d) : (dats m a hw hf 0 c).before (0 : Fin 4) t d = iblk m a c (0 : Fin 4) t :=
  ((dats m a hw hf 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a hw hf 0 c).before (1 : Fin 4) t d = iblk m a c (1 : Fin 4) t :=
  ((dats m a hw hf 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats m a hw hf 0 c).before (2 : Fin 4) t d = iblk m a c (2 : Fin 4) t :=
  ((dats m a hw hf 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The output window is stored at every point. -/
theorem out_live (i : grid0.Coords) : (cfgA a).idle (3 : Fin 4) i = false := some_path i _ _

/-- The tables as the region hands them to the body, one by one. -/
theorem tables_eq (c : Dev nD) (v : pre0.Contents (Elt F)) :
    (Pipeline.ΦT (U := UR sig nD τ) pre0 v c : sProp 𝕄)
      = iprop((te.view.loc (c : Thread nD τ) ↦{fullShare.right} v 0) ∗ (na.view.loc (c : Thread nD τ) ↦{fullShare.right} v 1)
        ∗ (th.view.loc (c : Thread nD τ) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_ffn_down (crd a t) te (Memref.isWhole_whole _) na (Memref.isWhole_whole _) th (Memref.isWhole_whole _)
    (ms0 a t) (hs0 a t) (ms1 a t) (hs1 a t) (ms2 a t) (hs2 a t) (ms3 a t) (hs3 a t)

set_option maxHeartbeats 4000000 in
/-- The body's obligation at a point. -/
theorem sound_body (c : Dev nD) (t : Fin (cfgA a).N) :
    iprop((dats m a hw hf 0 c).Φ t.castSucc ∗ (dats m a hw hf 0 c).owesAt () t.castSucc
        ∗ (∃ d, owns (c : Thread nD τ) (ms0 a t) fullShare ((dats m a hw hf 0 c).before (0 : Fin 4) t d))
        ∗ (∃ d, owns (c : Thread nD τ) (ms1 a t) fullShare ((dats m a hw hf 0 c).before (1 : Fin 4) t d))
        ∗ (∃ d, owns (c : Thread nD τ) (ms2 a t) fullShare ((dats m a hw hf 0 c).before (2 : Fin 4) t d))
        ∗ (∃ d, owns (c : Thread nD τ) (ms3 a t) fullShare ((dats m a hw hf 0 c).before (3 : Fin 4) t d)))
      ⊢ wp frame (wpE (defs₀ (F := F)) Variants.none c none) Set.univ (bodyAt a t) fun _ =>
          iprop((dats m a hw hf 0 c).Φ t.succ ∗ (dats m a hw hf 0 c).owesAt () t.succ
            ∗ owns (c : Thread nD τ) (ms0 a t) fullShare ((dats m a hw hf 0 c).after (0 : Fin 4) t)
            ∗ owns (c : Thread nD τ) (ms1 a t) fullShare ((dats m a hw hf 0 c).after (1 : Fin 4) t)
            ∗ owns (c : Thread nD τ) (ms2 a t) fullShare ((dats m a hw hf 0 c).after (2 : Fin 4) t)
            ∗ owns (c : Thread nD τ) (ms3 a t) fullShare ((dats m a hw hf 0 c).after (3 : Fin 4) t)) := by
  simp only [before_0, before_1, before_2, after_0, after_1, after_2, after_3]
  rewrite [show (dats m a hw hf 0 c).Φ t.succ = iprop(Pipeline.ΦA spec0 c ∗ Pipeline.ΦT pre0 a.1 c) from rfl,
    show (dats m a hw hf 0 c).Φ t.castSucc = iprop(Pipeline.ΦA spec0 c ∗ Pipeline.ΦT pre0 a.1 c) from rfl,
    show (dats m a hw hf 0 c).owesAt () t.succ = (dats m a hw hf 0 c).owesAt () t.castSucc from rfl, tables_eq]
  iintro ⟨⟨HA, HT0, HT1, HT2⟩, Ho, ⟨%d0, H0⟩, ⟨%d1, H1⟩, ⟨%d2, H2⟩, ⟨%d3, H3⟩⟩
  iapply (body_leaves c (crd a t) (ms0 a t) (hs0 a t) (ms1 a t) (hs1 a t) (ms2 a t) (hs2 a t) (ms3 a t) (hs3 a t) (a.1 0) (a.1 1) (a.1 2)
    (iblk m a c (0 : Fin 4) t) (iblk m a c (1 : Fin 4) t) (iblk m a c (2 : Fin 4) t) (hw (crd a t)) (hf (crd a t)) _)
  unfold held
  isplitl [H0 H1 H2 HT0 HT1 HT2]
  · isplitl [H0]; · iapply rep_of_owns; iexact H0
    isplitl [H1]; · iapply rep_of_owns; iexact H1
    isplitl [H2]; · iapply rep_of_owns; iexact H2
    isplitl [HT0]; · iexact HT0
    isplitl [HT1]; · iexact HT1
    iexact HT2
  isplitl [H3]; · iexists _; iexact H3
  iintro ⟨⟨H0, H1, H2, HT0, HT1, HT2⟩, H3⟩
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  unfold leftAt; iexact H3

/-- The same as the library states it. -/
theorem body_obligation (c : Dev nD) : BodyObligation (dats m a hw hf 0 c) (defs₀ (F := F)) Variants.none () Set.univ := fun t => by
  rw [bigSep_W0, bigSep_W0, out_live]
  exact sound_body m a hw hf c t

/-! ## The launch -/

variable (hpf : ∀ (c : Dev nD) (k : Fin 3), V m c (pre0.ref k) = a.1 k)

include hpf in
set_option backward.isDefEq.respectTransparency.types false in
set_option maxHeartbeats 4000000 in
/-- Every run of the program ends with each array at the computed contents, everything else as it was and every counter zero. -/
theorem run_main_quiescent : θ_run defs (onTc (τ := τ) (main (F := F))) (s₀ m ρ) (fun r =>
    Pipeline.FramePost (Pipeline.pin (pcfgs (F := F)) fun _ => a) (dats m a hw hf) 0 (V m) r ∧ r.2.sem = fun _ => 0) :=
  Pipeline.θ_run_frameP_shared (Q' := _) pcfgs (fun _ => a) (dats m a hw hf) (0 : Fin 1) launch0.to₀ defs₀ Variants.none m ρ main
    (hbody := fun c => (body_obligation m a hw hf c).loose) (hq := fun _ _ _ => rfl)
    (howed := fun _ _ => rfl) (V := V m)
    (hmain := hmain m)
    (hA := fun _ _ => rfl) (hpf := hpf) (hΦ := fun _ _ => rfl)

include hpf in
/-- The result ends at the computed contents, the arguments as they were, and every counter reads zero. -/
theorem run_all : θ_run (defs (F := F)) (onTc (τ := τ) (main (F := F))) ⟨m, fun _ => 0, ρ⟩ (fun r => (∀ c : Dev nD,
      r.2.mem ((c.tc : Thread nD τ).loc main_v3) = (dats m a hw hf 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 (3 : Fin 4),
    ((h.1 c).2 main_arg0 (Pipeline.mem_restRefs_of main_arg0 (by decide) (show ∀ w : Fin 4, (spec0 w).arr.view.ref ≠ main_arg0 by decide))).trans (V_arg0 m c),
    (((h.1 c).1 (0 : Fin 4)).trans ((dats m a hw hf 0 c).arrAt_in (0 : Fin 4) rfl _)).trans (V_arg1 m c),
    (((h.1 c).1 (1 : Fin 4)).trans ((dats m a hw hf 0 c).arrAt_in (1 : Fin 4) rfl _)).trans (V_arg2 m c),
    (((h.1 c).1 (2 : Fin 4)).trans ((dats m a hw hf 0 c).arrAt_in (2 : Fin 4) rfl _)).trans (V_arg3 m c)⟩, h.2⟩)
    (run_main_quiescent m ρ a hw hf hpf)

include hw hf hpf in
/-- The arguments end as they were and every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run_all m ρ a hw hf hpf)

end Cert.DenseDownIdeal.Dense

end
-- ==== Proof.DenseDownTables.lean ====
module

public import proofs.«01_k».proof.Proof.DenseDownFrame
public import proofs.«01_k».proof.Proof.DenseWords

@[expose] public section

set_option maxRecDepth 16384

noncomputable section

/-
  The tables of the second dense product: one layer for every tile, every tile active and full.  A layer number in range keeps every
  block inside its array.
-/

namespace Cert.DenseDownIdeal.Dense

open Cert.DenseDownIdeal Cert.DenseDownIdeal.Gen
open Idealize.ShloMosaic Idealize.ShloMosaic.TcCoe
open Idealize.ShloMosaic.Pipeline (Dat Cfg Window)
open Cert.Moe (row_toNat active_iff)
open Cert.Dense

variable {F : FTy → Type} [FloatOps F]

theorem coord0_lt (i : grid0.Coords) : (i 0).val < 4 := (i 0).isLt
theorem coord1_lt (i : grid0.Coords) : (i 1).val < 32 := (i 1).isLt
theorem word_toNat (n : ℕ) (h : n < 72) : (BitVec.ofNat 32 n).toNat = n := by rw [BitVec.toNat_ofNat]; omega

/-- The tables as the host fills them, for a layer number in range. -/
structure Fixed (pf : pre0.Contents (Elt F)) : Prop where
  layer (k : S32.Idx) : (pf 0 k : BitVec 32).toNat < 2
  tiles (k : S1.Idx) : (pf 1 k : BitVec 32) = 32#32
  full (k : S32.Idx) : (pf 2 k : BitVec 32) = 0#32

section
variable (pf : pre0.Contents (Elt F)) (h : Fixed pf)
include h

theorem tiles_pos (k : S1.Idx) : 1 ≤ (pf 1 k : BitVec 32).toInt := by rw [h.tiles]; decide

/-- The row block of a tile: the tile's own. -/
theorem row_eq (i : grid0.Coords) (k : S1.Idx) :
    (Scalar.minsi (BitVec.ofNat 32 (i 1).val) (Scalar.subi (pf 1 k : BitVec 32) 1#32)).toNat = (i 1).val := by
  have hi := coord1_lt i
  rw [row_toNat _ (by omega) _ (tiles_pos pf h k), h.tiles, show (32#32 : BitVec 32).toNat = 32 from rfl]; omega

theorem map0_row (i : grid0.Coords) : cc0_transform_0 inb_S1_S1_0 numel1_S1 pf i 0 = (i 1).val := row_eq pf h i _
theorem map1_layer (i : grid0.Coords) : cc0_transform_1 k0_off1_inb numel1_S1 pf i 0 < 2 := h.layer _
theorem map2_row (i : grid0.Coords) : cc0_transform_2 inb_S1_S1_0 numel1_S1 pf i 0 = (i 1).val := row_eq pf h i _

theorem ok : ok0 pf := by
  refine ⟨fun i => ?_, fun i => ?_, fun i => ?_⟩
  · have hb : ∀ a, (cc0_transform_0 inb_S1_S1_0 numel1_S1 pf i a + 1) * S512x7168.size a ≤ S16384x7168.size a := fun a => by
      match a with
      | ⟨0, _⟩ =>
        show (cc0_transform_0 inb_S1_S1_0 numel1_S1 pf i 0 + 1) * 512 ≤ 16384
        rw [map0_row pf h i]; have := coord1_lt i; omega
      | ⟨1, _⟩ => show ((0#32 : BitVec 32).toNat + 1) * 7168 ≤ 7168; decide
    exact ⟨hb, .inr (Affine.block_words_dvd (s := S16384x7168) (p := EltTy.packing .bf16) (by decide) (by decide))⟩
  · have hb : ∀ a, (cc0_transform_1 k0_off1_inb numel1_S1 pf i a + 1) * S1x7168x512.size a ≤ S2x7168x2048.size a := fun a => by
      match a with
      | ⟨0, _⟩ =>
        show (cc0_transform_1 k0_off1_inb numel1_S1 pf i 0 + 1) * 1 ≤ 2
        have := map1_layer pf h i; omega
      | ⟨1, _⟩ => show ((0#32 : BitVec 32).toNat + 1) * 7168 ≤ 7168; decide
      | ⟨2, _⟩ =>
        show ((BitVec.ofNat 32 (i 0).val).toNat + 1) * 512 ≤ 2048
        have := coord0_lt i; rw [word_toNat _ (by omega)]; omega
    exact ⟨hb, .inl rfl⟩
  · have hb : ∀ a, (cc0_transform_2 inb_S1_S1_0 numel1_S1 pf i a + 1) * S512x512.size a ≤ S16384x2048.size a := fun a => by
      match a with
      | ⟨0, _⟩ =>
        show (cc0_transform_2 inb_S1_S1_0 numel1_S1 pf i 0 + 1) * 512 ≤ 16384
        rw [map2_row pf h i]; have := coord1_lt i; omega
      | ⟨1, _⟩ =>
        show ((BitVec.ofNat 32 (i 0).val).toNat + 1) * 512 ≤ 2048
        have := coord0_lt i; rw [word_toNat _ (by omega)]; omega
    exact ⟨hb, .inl rfl⟩

/-- The mark the body reads lies inside its table. -/
theorem mark_inb (i : grid0.Coords) : k0_chk1 i (naW (F := F) (pf 1)) := fun a => by
  have e := row_eq pf h i
  have := coord1_lt i
  match a with
  | ⟨0, _⟩ =>
    refine Nat.le_trans (Nat.add_le_add_right (le_of_eq (e _)) 1) ?_
    show _ + 1 ≤ 32
    omega

/-- Every tile takes the path of a full tile. -/
theorem all_full (i : grid0.Coords) : k0_cond1 i (naW (F := F) (pf 1)) (thW (F := F) i (pf 1) (pf 2) (mark_inb pf h i)) = 1#1 := by
  have hi := coord1_lt i
  have h1 : naW (F := F) (pf 1) = 32#32 := h.tiles _
  have h2 : thW (F := F) i (pf 1) (pf 2) (mark_inb pf h i) = 0#32 := h.full _
  have h3 : Scalar.cmpi .slt (BitVec.ofNat 32 (i 1).val) (32#32) = 1#1 := (active_iff _ (by omega) _ (by decide)).2 hi
  rw [h1, h2]
  unfold k0_cond1; dsimp only
  rw [h3]; decide
end

/-! ## The tables of a memory -/

section Mem
variable (m : (ℓ : Loc nD τ sig) → Buf (Elt F) ℓ)

/-- The tables filled in from a memory. -/
abbrev tabs : pre0.Contents (Elt F) := fun k => V m (0 : Dev nD) (pre0.ref k)

/-- The layer number in a memory is one of the two stacked layers. -/
def InRange : Prop := (m (((0 : Dev nD).tc : Thread nD τ).loc main_arg0) (fun a => a.elim0) : BitVec 32).toNat < 2

theorem te_eq (k : S32.Idx) : (tabs m 0 k : BitVec 32) = m (((0 : Dev nD).tc : Thread nD τ).loc main_arg0) (fun a => a.elim0) :=
  (congrFun (V_te m 0) k).trans (congrArg (m (((0 : Dev nD).tc : Thread nD τ).loc main_arg0)) (funext fun a => a.elim0))

variable (h : InRange m)
include h

theorem fixed : Fixed (tabs m) where
  layer k := lt_of_eq_of_lt (congrArg BitVec.toNat (te_eq m k)) h
  tiles k := congrFun (V_na m 0) k
  full k := congrFun (V_th m 0) k

omit h in
/-- The same with the proof that every block lies inside its array. -/
abbrev adm (h : InRange m) : (pcfg0 (F := F)).Adm := ⟨tabs m, ok _ (fixed m h)⟩

theorem adm_marks (i : grid0.Coords) : k0_chk1 i (naW (F := F) ((adm m h).1 1)) := mark_inb _ (fixed m h) i

theorem adm_full (i : grid0.Coords) : k0_cond1 i (naW (F := F) ((adm m h).1 1)) (thW (F := F) i ((adm m h).1 1) ((adm m h).1 2) (adm_marks m h i)) = 1#1 :=
  all_full _ (fixed m h) i

theorem adm_tabs (c : Dev nD) (k : Fin 3) : V m c (pre0.ref k) = (adm m h).1 k := by
  obtain rfl : c = 0 := Subsingleton.elim _ _
  rfl

end Mem

end Cert.DenseDownIdeal.Dense

end
-- ==== Proof.DenseDownValue.lean ====
module

public import proofs.«01_k».proof.Proof.DenseDownTables
public import proofs.«01_k».proof.Proof.MoeSpec
public import Idealize.ShloMosaic.Lib.Pointwise

@[expose] public section

set_option maxRecDepth 16384

noncomputable section

/-
  The output block of the second dense product, entry by entry.
-/

namespace Cert.DenseDownIdeal.Dense

open Cert.DenseDownIdeal Cert.DenseDownIdeal.Gen Idealize.ShloMosaic Idealize.ShloMosaic.TcCoe Idealize.ShloMosaic.Tactic Cert.Moe

theorem full_apply (x : Vec Ideal S512x7168 .bf16) (w : Vec Ideal S1x7168x512 .f32) (y : Vec Ideal S512x512 .f32) (r : Fin 512) (f : Fin 512) :
    k0_pay1 (F := Ideal) x w y (ix2 r f) = (∑ k : Fin 7168, x (ix2 r k) * w (ix3 0 k f)) + y (ix2 r f) := by
  pointwise [k0_pay1]

/-! ## Loads of the blocks -/

theorem ld_x (x : Vec Ideal S512x7168 .bf16) (inb : ∀ a, (![0, 0] : Fin 2 → Nat) a + (![512, 7168] : Fin 2 → Nat) a ≤ S512x7168.size a) (r : Fin 512) (k : Fin 7168) :
    x ((Rect.unit (s := S512x7168) ![0, 0] ![512, 7168] inb).idx (ix2 r k)) = x (ix2 r k) := by
  refine congrArg x (funext fun a => Fin.ext ?_)
  match a with
  | ⟨0, _⟩ => show 0 + 1 * r.val = r.val; omega
  | ⟨1, _⟩ => show 0 + 1 * k.val = k.val; omega

theorem ld_w (x : Vec Ideal S1x7168x512 .f32) (inb : ∀ a, (![0, 0, 0] : Fin 3 → Nat) a + (![1, 7168, 512] : Fin 3 → Nat) a ≤ S1x7168x512.size a) (k : Fin 7168) (f : Fin 512) :
    x ((Rect.unit (s := S1x7168x512) ![0, 0, 0] ![1, 7168, 512] inb).idx (ix3 0 k f)) = x (ix3 0 k f) := by
  refine congrArg x (funext fun a => Fin.ext ?_)
  match a with
  | ⟨0, _⟩ => rfl
  | ⟨1, _⟩ => show 0 + 1 * k.val = k.val; omega
  | ⟨2, _⟩ => show 0 + 1 * f.val = f.val; omega

theorem ld_y (x : Vec Ideal S512x512 .f32) (inb : ∀ a, (![0, 0] : Fin 2 → Nat) a + (![512, 512] : Fin 2 → Nat) a ≤ S512x512.size a) (r : Fin 512) (k : Fin 512) :
    x ((Rect.unit (s := S512x512) ![0, 0] ![512, 512] inb).idx (ix2 r k)) = x (ix2 r k) := by
  refine congrArg x (funext fun a => Fin.ext ?_)
  match a with
  | ⟨0, _⟩ => show 0 + 1 * r.val = r.val; omega
  | ⟨1, _⟩ => show 0 + 1 * k.val = k.val; omega

/-- The piece that is the whole block holds `v` at row `r`, column `f`, if its own entry there is `v`. -/
theorem piece_at (w : (⟨2, ![512, 512]⟩ : Shape).Idx → EReal) (r : Fin 512) (f : Fin 512) (v : EReal) (h : w (ix2 r f) = v) :
    View.TileAt (Val := Elt Ideal) (e := .f32) (S := S512x512) (ix2 r f) ![0, 0] ![512, 512] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

section Block
variable (c : Dev nD) (i : grid0.Coords)
  (arg5 : Memref sig .tc .vmem S512x7168 .bf16) (harg5 : arg5.IsWhole) (arg6 : Memref sig .tc .vmem S1x7168x512 .f32) (harg6 : arg6.IsWhole)
  (arg7 : Memref sig .tc .vmem S512x512 .f32) (harg7 : arg7.IsWhole) (arg8 : Memref sig .tc .vmem S512x512 .f32) (harg8 : arg8.IsWhole)
  (T0 : S32.Idx → Elt Ideal .i32) (T1 : S1.Idx → Elt Ideal .i32) (T2 : S32.Idx → Elt Ideal .i32)
  (x0 : S512x7168.Idx → Elt Ideal .bf16) (x1 : S1x7168x512.Idx → Elt Ideal .f32) (x2 : S512x512.Idx → Elt Ideal .f32) (hw : k0_chk1 i (naW (F := Ideal) T1))
  (h1 : k0_cond1 i (naW (F := Ideal) T1) (thW (F := Ideal) i T1 T2 hw) = 1#1)

/-- The output block after the body. -/
theorem left_apply (r : Fin 512) (f : Fin 512) :
    left c i arg5 harg5 arg6 harg6 arg7 harg7 arg8 harg8 T0 T1 T2 x0 x1 x2 hw h1 (ix2 r f)
      = (∑ k : Fin 7168, x0 (ix2 r k) * x1 (ix3 0 k f)) + x2 (ix2 r f) := by
  unfold left
  rw [View.read_writes_eq_canon _ _ _ (cover_full c i arg5 harg5 arg6 harg6 arg7 harg7 arg8 harg8 T0 T1 T2 x0 x1 x2 hw h1 _ _)]
  refine View.canon_eq_of_allAt _ _ _ (cover_full c i arg5 harg5 arg6 harg6 arg7 harg7 arg8 harg8 T0 T1 T2 x0 x1 x2 hw h1 _ _ _) ?_
  unfold runFull
  dsimp only
  sl_unfold_words
  simp only [View.readAt_rep]
  refine View.allAt_cons_unit _ _ _ _ _ (piece_at _ r f _ ?_) (View.allAt_nil _ _)
  refine (full_apply ..).trans ?_
  simp only [ld_x, ld_w, ld_y]

end Block

end Cert.DenseDownIdeal.Dense

end
-- ==== Proof.DenseDownArray.lean ====
module

public import proofs.«01_k».proof.Proof.DenseDownValue
public import Idealize.ShloMosaic.Lib.Pipeline.Value

@[expose] public section

set_option maxRecDepth 16384

noncomputable section

/-
  The result array of the second dense product, entry by entry, from the arguments.
-/

namespace Cert.DenseDownIdeal.Dense

open Cert.DenseDownIdeal Cert.DenseDownIdeal.Gen Idealize.ShloMosaic Idealize.ShloMosaic.TcCoe Idealize.ShloMosaic.Tactic Cert.Moe Cert.Dense

/-! ## The grid -/

theorem coord_0 : ∀ t : Fin grid0.N, (grid0.coords t 0).val = t.val / 32 := by decide +kernel
theorem coord_1 : ∀ t : Fin grid0.N, (grid0.coords t 1).val = t.val % 32 := by decide +kernel
theorem out_rows : ∀ t : Fin grid0.N, cc0_transform_3 (grid0.coords t) 0 = t.val % 32 := by decide +kernel
theorem out_cols : ∀ t : Fin grid0.N, cc0_transform_3 (grid0.coords t) 1 = t.val / 32 := by decide +kernel

section
variable (m : (ℓ : Loc nD τ sig) → Buf (Elt Ideal) ℓ)
  (a : (pcfg0 (F := Ideal)).Adm) (hw : ∀ i : grid0.Coords, k0_chk1 i (naW (F := Ideal) (a.1 1)))
  (hf : ∀ i : grid0.Coords, k0_cond1 i (naW (F := Ideal) (a.1 1)) (thW (F := Ideal) i (a.1 1) (a.1 2) (hw i)) = 1#1)

/-- Distinct points write distinct blocks. -/
theorem out_inj (t t' : Fin (cfgA a).N) (h : ((cfgA a).win (3 : Fin 4)).index t = ((cfgA a).win (3 : Fin 4)).index t') : t = t' := by
  have h0 : cc0_transform_3 (grid0.coords t) 0 = cc0_transform_3 (grid0.coords t') 0 := congrFun h 0
  have h1 : cc0_transform_3 (grid0.coords t) 1 = cc0_transform_3 (grid0.coords t') 1 := congrFun h 1
  rw [out_rows, out_rows] at h0
  rw [out_cols, out_cols] at h1
  exact Fin.ext (by omega)

/-- So each point writes its block back. -/
theorem out_flush (t : Fin (cfgA a).N) : ((cfgA a).win (3 : Fin 4)).flush t = true := by
  unfold Pipeline.Window.flush
  rw [Bool.and_eq_true]
  refine ⟨rfl, ?_⟩
  rw [Bool.or_eq_true, decide_eq_true_eq, decide_eq_true_eq]
  by_cases h : t.val + 1 = (cfgA a).N
  · exact .inl h
  · have ht : t.val + 1 < (cfgA a).N := by have := t.isLt; omega
    refine .inr ⟨ht, fun e => ?_⟩
    have := congrArg Fin.val (out_inj a _ _ e)
    dsimp only at this
    omega

/-- Block `t` of the final array is what point `t` left. -/
theorem block_left (c : Dev nD) (t : Fin (cfgA a).N) :
    (((cfgA a).win (3 : Fin 4)).blk t).view.read (Elt Ideal) ((dats m a hw hf 0 c).arrAt (3 : Fin 4) (cfgA a).N) = (dats m a hw hf 0 c).flushed (3 : Fin 4) t :=
  (dats m a hw hf 0 c).read_blk_arrAt_eq_flushed (3 : Fin 4)
    (fun t t' _ _ hne => ((cfgA a).win (3 : Fin 4)).disjoint_blk fun h => hne (out_inj a t t' h)) (cfgA a).N t t.isLt (out_flush a t)

/-- An entry of an array, as an entry of the block of its tile and column block. -/
theorem read_block (G : S16384x2048.Idx → Elt Ideal .f32) (r : Fin 16384) (f : Fin 2048) (t : Fin (cfgA a).N) (ht : t.val = f / 512 * 32 + r / 512) :
    (((cfgA a).win (3 : Fin 4)).blk t).view.read (Elt Ideal) G (ix2 (⟨r % 512, by omega⟩ : Fin 512) (⟨f % 512, by omega⟩ : Fin 512)) = G (ix2 r f) := by
  have h0 := out_rows t
  have h1 := out_cols t
  refine congrArg G (funext fun b => Fin.ext ?_)
  match b with
  | ⟨0, _⟩ =>
    refine Eq.trans (b := cc0_transform_3 (grid0.coords t) 0 * 512 + 1 * (r.val % 512)) rfl ((show _ = r.val from ?_).trans rfl)
    rw [h0]; omega
  | ⟨1, _⟩ =>
    refine Eq.trans (b := cc0_transform_3 (grid0.coords t) 1 * 512 + 1 * (f.val % 512)) rfl ((show _ = f.val from ?_).trans rfl)
    rw [h1]; omega

/-! The input blocks, read off the arguments. -/

theorem blk_x (c : Dev nD) (t : Fin (cfgA a).N) (q : Fin 512) (k : Fin 7168) (r : Fin 16384)
    (hr : r.val = cc0_transform_0 inb_S1_S1_0 numel1_S1 a.1 (grid0.coords t) 0 * 512 + q) :
    iblk m a c (0 : Fin 4) t (ix2 q k) = m ((c : Thread nD τ).loc main_arg1) (ix2 r k) := by
  refine Eq.trans ?_ (congrFun (V_arg1 m c) (ix2 r k))
  unfold iblk
  generalize V m c = W
  refine congrArg (W main_arg1) (funext fun b => Fin.ext ?_)
  match b with
  | ⟨0, _⟩ =>
    refine Eq.trans (b := cc0_transform_0 inb_S1_S1_0 numel1_S1 a.1 (grid0.coords t) 0 * 512 + 1 * q.val) rfl ((show _ = r.val from ?_).trans rfl)
    rw [hr]; omega
  | ⟨1, _⟩ =>
    refine Eq.trans (b := (0#32 : BitVec 32).toNat * 7168 + 1 * k.val) rfl ((show _ = k.val from ?_).trans rfl)
    rw [show (0#32 : BitVec 32).toNat = 0 from rfl]; omega

theorem blk_w (c : Dev nD) (t : Fin (cfgA a).N) (k : Fin 7168) (f : Fin 512) (e : Fin 2) (F : Fin 2048)
    (he : e.val = cc0_transform_1 k0_off1_inb numel1_S1 a.1 (grid0.coords t) 0) (hF : F.val = t / 32 * 512 + f) :
    iblk m a c (1 : Fin 4) t (ix3 0 k f) = m ((c : Thread nD τ).loc main_arg2) (ix3 e k F) := by
  have h0 := coord_0 t
  have h1 := coord0_lt (grid0.coords t)
  refine Eq.trans ?_ (congrFun (V_arg2 m c) (ix3 e k F))
  unfold iblk
  generalize V m c = W
  refine congrArg (W main_arg2) (funext fun b => Fin.ext ?_)
  match b with
  | ⟨0, _⟩ =>
    refine Eq.trans (b := cc0_transform_1 k0_off1_inb numel1_S1 a.1 (grid0.coords t) 0 * 1 + 1 * 0) rfl ((show _ = e.val from ?_).trans rfl)
    rw [he]; omega
  | ⟨1, _⟩ =>
    refine Eq.trans (b := (0#32 : BitVec 32).toNat * 7168 + 1 * k.val) rfl ((show _ = k.val from ?_).trans rfl)
    rw [show (0#32 : BitVec 32).toNat = 0 from rfl]; omega
  | ⟨2, _⟩ =>
    refine Eq.trans (b := (BitVec.ofNat 32 (grid0.coords t 0).val).toNat * 512 + 1 * f.val) rfl ((show _ = F.val from ?_).trans rfl)
    rw [word_toNat (grid0.coords t 0).val (by omega), h0, hF]; omega

theorem blk_y (c : Dev nD) (t : Fin (cfgA a).N) (q : Fin 512) (f : Fin 512) (r : Fin 16384) (n : Fin 2048)
    (hr : r.val = cc0_transform_2 inb_S1_S1_0 numel1_S1 a.1 (grid0.coords t) 0 * 512 + q) (hn : n.val = t / 32 * 512 + f) :
    iblk m a c (2 : Fin 4) t (ix2 q f) = m ((c : Thread nD τ).loc main_arg3) (ix2 r n) := by
  have h0 := coord_0 t
  have h1 := coord0_lt (grid0.coords t)
  refine Eq.trans ?_ (congrFun (V_arg3 m c) (ix2 r n))
  unfold iblk
  generalize V m c = W
  refine congrArg (W main_arg3) (funext fun b => Fin.ext ?_)
  match b with
  | ⟨0, _⟩ =>
    refine Eq.trans (b := cc0_transform_2 inb_S1_S1_0 numel1_S1 a.1 (grid0.coords t) 0 * 512 + 1 * q.val) rfl ((show _ = r.val from ?_).trans rfl)
    rw [hr]; omega
  | ⟨1, _⟩ =>
    refine Eq.trans (b := (BitVec.ofNat 32 (grid0.coords t 0).val).toNat * 512 + 1 * f.val) rfl ((show _ = n.val from ?_).trans rfl)
    rw [word_toNat (grid0.coords t 0).val (by omega), h0, hn]; omega

end

/-! ## The result -/

section
variable (m : (ℓ : Loc nD τ sig) → Buf (Elt Ideal) ℓ) (h : InRange m)

include h in
/-- The weights a tile reads: the layer's. -/
theorem layer_eq (k : S32.Idx) : (layer (m (((0 : Dev nD).tc : Thread nD τ).loc main_arg0))).val = (tabs m 0 k : BitVec 32).toNat := by
  refine Eq.trans ?_ (congrArg BitVec.toNat (te_eq m k)).symm
  exact Nat.mod_eq_of_lt h

set_option maxHeartbeats 4000000 in
/-- The final array, entry by entry. -/
theorem final_apply (c : Dev nD) (r : Fin 16384) (f : Fin 2048) :
    (dats m (adm m h) (adm_marks m h) (adm_full m h) 0 c).arrAt (3 : Fin 4) (cfgA (adm m h)).N (ix2 r f)
      = downEntry (m ((c : Thread nD τ).loc main_arg1)) (m ((c : Thread nD τ).loc main_arg2)) (m ((c : Thread nD τ).loc main_arg3))
          (layer (m (((0 : Dev nD).tc : Thread nD τ).loc main_arg0))) r f := by
  have hN : (cfgA (adm m h)).N = 128 := N_0
  have ht : f.val / 512 * 32 + r.val / 512 < (cfgA (adm m h)).N := by omega
  generalize hT : (⟨_, ht⟩ : Fin (cfgA (adm m h)).N) = t
  have htv : t.val = f.val / 512 * 32 + r.val / 512 := by rw [← hT]
  have hi : (grid0.coords t 1).val = r.val / 512 := by rw [coord_1 t, htv]; omega
  have hj : t.val / 32 = f.val / 512 := by rw [htv]; omega
  have hbl := congrFun (block_left m (adm m h) (adm_marks m h) (adm_full m h) c t) (ix2 (⟨r % 512, by omega⟩ : Fin 512) (⟨f % 512, by omega⟩ : Fin 512))
  refine (read_block (adm m h) ((dats m (adm m h) (adm_marks m h) (adm_full m h) 0 c).arrAt (3 : Fin 4) (cfgA (adm m h)).N) r f t htv).symm.trans (hbl.trans ?_)
  refine Eq.trans (b := leftAt m (adm m h) (adm_marks m h) (adm_full m h) c t (ix2 ⟨r % 512, by omega⟩ ⟨f % 512, by omega⟩)) rfl ?_
  unfold leftAt
  refine (left_apply c (crd (adm m h) t) (ms0 (adm m h) t) (hs0 (adm m h) t) (ms1 (adm m h) t) (hs1 (adm m h) t) (ms2 (adm m h) t) (hs2 (adm m h) t)
    (ms3 (adm m h) t) (hs3 (adm m h) t) (tabs m 0) (tabs m 1) (tabs m 2) (iblk m (adm m h) c (0 : Fin 4) t) (iblk m (adm m h) c (1 : Fin 4) t)
    (iblk m (adm m h) c (2 : Fin 4) t) (adm_marks m h _) (adm_full m h _) ⟨r % 512, by omega⟩ ⟨f % 512, by omega⟩).trans ?_
  have hrow : cc0_transform_0 inb_S1_S1_0 numel1_S1 (tabs m) (grid0.coords t) 0 = r.val / 512 := (map0_row (tabs m) (fixed m h) (grid0.coords t)).trans hi
  have hrow2 : cc0_transform_2 inb_S1_S1_0 numel1_S1 (tabs m) (grid0.coords t) 0 = r.val / 512 := (map2_row (tabs m) (fixed m h) (grid0.coords t)).trans hi
  unfold downEntry
  rw [add_comm]
  refine congrArg₂ (· + ·) ?_ (Finset.sum_congr rfl fun k _ => congrArg₂ (· * ·) ?_ ?_)
  · exact blk_y m (adm m h) c t _ _ r f (by rw [hrow2]; dsimp only; omega) (by dsimp only; omega)
  · exact blk_x m (adm m h) c t _ k r (by rw [hrow]; dsimp only; omega)
  · exact blk_w m (adm m h) c t k _ _ _ (layer_eq m h _) (by dsimp only; omega)

end

end Cert.DenseDownIdeal.Dense

end
-- ==== Proof.DenseDownRef.lean ====
/-
  The reference of the second dense product, entry by entry.
-/
module

public import proofs.«01_k».proof.Proof.DenseWords
public import proofs.«01_k».proof.Proof.Gen.DenseDownReferenceIdeal.Read
public import Idealize.ShloMosaic.Lib.Pointwise

@[expose] public section

set_option maxRecDepth 16384

noncomputable section

namespace Cert.DenseDownReferenceIdeal.Dense

open Cert.DenseDownReferenceIdeal Cert.DenseDownReferenceIdeal.Gen Cert.DenseDownReferenceIdeal.Read Idealize.ShloMosaic Cert.Moe Cert.Dense

/-! ## The layer's weights -/

theorem half0 (w : (⟨S2x7168x2048, .f32⟩ : BufTy).Contents (Elt Ideal)) (k : Fin 7168) (f : Fin 2048) : val_main_v2 (F := Ideal) w (ix2 k f) = w (ix3 0 k f) := by
  refine (val_main_v2_apply w _).trans ((val_main_v1_apply w _).trans (congrArg w (funext fun a => Fin.ext ?_)))
  match a with
  | ⟨0, _⟩ => rfl
  | ⟨1, _⟩ => show (k.val * 2048 + f.val) / 2048 % 7168 = k.val; omega
  | ⟨2, _⟩ => show (k.val * 2048 + f.val) % 2048 = f.val; omega

theorem half1 (w : (⟨S2x7168x2048, .f32⟩ : BufTy).Contents (Elt Ideal)) (k : Fin 7168) (f : Fin 2048) : val_main_v4 (F := Ideal) w (ix2 k f) = w (ix3 1 k f) := by
  refine (val_main_v4_apply w _).trans ((val_main_v3_apply w _).trans (congrArg w (funext fun a => Fin.ext ?_)))
  match a with
  | ⟨0, _⟩ => rfl
  | ⟨1, _⟩ => show (k.val * 2048 + f.val) / 2048 % 7168 = k.val; omega
  | ⟨2, _⟩ => show (k.val * 2048 + f.val) % 2048 = f.val; omega

theorem bit_zero : ∀ b : BitVec 1, b ≠ 1#1 → b = 0#1 := by decide

/-- The weights the layer number names. -/
theorem weights_apply (j : (⟨S_, .i32⟩ : BufTy).Contents (Elt Ideal)) (w : (⟨S2x7168x2048, .f32⟩ : BufTy).Contents (Elt Ideal)) (hj : (j (fun a => a.elim0) : BitVec 32).toNat < 2) (k : Fin 7168) (f : Fin 2048) :
    val_main_v5 (F := Ideal) j w (ix2 k f) = w (ix3 (layer j) k f) := by
  have e : val_main_v5 (F := Ideal) j w (ix2 k f)
      = Scalar.select (IntOp.cmpi .eq (j (fun a => a.elim0) : BitVec 32) 0#32) (val_main_v2 (F := Ideal) w (ix2 k f)) (val_main_v4 (F := Ideal) w (ix2 k f)) := by
    pointwise [val_main_v5, val_main_v0, val_main_c]
    rw [show (ix0 : S_.Idx) = fun a => a.elim0 from ix0_eta _]
  rw [e, half0, half1]
  by_cases h0 : (j (fun a => a.elim0) : BitVec 32) = 0#32
  · rw [IntOp.cmpi_eq.2 h0]
    refine Eq.trans (b := w (ix3 0 k f)) rfl ?_
    refine congrArg (fun e => w (ix3 e k f)) (Fin.ext ?_)
    show 0 = (j (fun a => a.elim0) : BitVec 32).toNat % 2
    rw [h0]; rfl
  · rw [bit_zero _ (fun hc => h0 (IntOp.cmpi_eq.1 hc))]
    refine Eq.trans (b := w (ix3 1 k f)) rfl ?_
    refine congrArg (fun e => w (ix3 e k f)) (Fin.ext ?_)
    show 1 = (j (fun a => a.elim0) : BitVec 32).toNat % 2
    have : (j (fun a => a.elim0) : BitVec 32).toNat ≠ 0 := fun hz => h0 (BitVec.eq_of_toNat_eq hz)
    omega

/-! ## The result -/

theorem ref_apply (j : (⟨S_, .i32⟩ : BufTy).Contents (Elt Ideal)) (x : (⟨S16384x7168, .bf16⟩ : BufTy).Contents (Elt Ideal)) (w : (⟨S2x7168x2048, .f32⟩ : BufTy).Contents (Elt Ideal)) (y : (⟨S16384x2048, .f32⟩ : BufTy).Contents (Elt Ideal))
    (hj : (j (fun a => a.elim0) : BitVec 32).toNat < 2) (r : Fin 16384) (f : Fin 2048) :
    val_main_v8 (F := Ideal) j x w y (ix2 r f) = downEntry x w y (layer j) r f := by
  have e : val_main_v8 (F := Ideal) j x w y (ix2 r f) = y (ix2 r f) + ∑ k : Fin 7168, x (ix2 r k) * val_main_v5 (F := Ideal) j w (ix2 k f) := by
    generalize hW : val_main_v5 (F := Ideal) j w = W
    pointwise [val_main_v8, val_main_v7, val_main_v6, hW]
  rw [e]
  unfold downEntry
  simp only [weights_apply j w hj]

end Cert.DenseDownReferenceIdeal.Dense

end
-- ==== Proof.DenseDownClaim.lean ====
/-
  The claims of the second dense product: the frames of its three programs and the equality of the two results.
-/
module

public import proofs.«01_k».proof.Defs
public import proofs.«01_k».proof.Proof.DenseDownArray
public import proofs.«01_k».proof.Proof.DenseDownRef
public import proofs.«01_k».proof.Proof.Gen.DenseDown
public import proofs.«01_k».proof.Proof.Gen.DenseDownReferenceIdeal.Run
public import proofs.«01_k».proof.Proof.Gen.Pre_dense_down_layer
public import Idealize.ShloMosaic.PureOps.BitExact
public import Idealize.ShloMosaic.Lib.Quiescent

@[expose] public section

set_option maxRecDepth 16384

noncomputable section

namespace Cert.DenseDownIdeal.Dense

open Cert.DenseDownIdeal Cert.DenseDownIdeal.Gen Idealize.ShloMosaic Idealize.ShloMosaic.TcCoe Idealize.ShloMosaic.Tactic Idealize.SL.Sem Cert.Moe Cert.Dense

/-! ## The frames -/

/-- The kernel over the ideal numbers. -/
theorem frame_ideal : quiescent_DenseDownIdeal := fun m ρ hp =>
  let h : InRange m := layer_of_down _ _ _ _ (hp 0)
  frame m ρ (adm m h) (adm_marks m h) (adm_full m h) (adm_tabs m h)

/-- The kernel's two programs have the same text, so that their runs over bits are the same statement. -/
theorem run_bits (m : (ℓ : Loc Cert.DenseDown.nD Cert.DenseDown.τ Cert.DenseDown.sig) → Buf (Elt Bits) ℓ) (g : Dev Cert.DenseDown.nD → PrngReg) :
    (θ_run (Cert.DenseDownIdeal.defs (F := Bits)) (onTc (τ := Cert.DenseDownIdeal.τ) (Cert.DenseDownIdeal.main (F := Bits))) ⟨m, fun _ => 0, g⟩ (fun r => (∀ c : Dev Cert.DenseDownIdeal.nD,
          r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
        ∧ r.2.sem = fun _ => 0))
      = (θ_run (Cert.DenseDown.defs (F := Bits)) (onTc (τ := Cert.DenseDown.τ) (Cert.DenseDown.main (F := Bits))) ⟨m, fun _ => 0, g⟩ (fun r => (∀ c : Dev Cert.DenseDown.nD,
          r.2.mem ((c.tc : Thread Cert.DenseDown.nD Cert.DenseDown.τ).loc Cert.DenseDown.main_arg0) = m ((c.tc : Thread Cert.DenseDown.nD Cert.DenseDown.τ).loc Cert.DenseDown.main_arg0)
          ∧ r.2.mem ((c.tc : Thread Cert.DenseDown.nD Cert.DenseDown.τ).loc Cert.DenseDown.main_arg1) = m ((c.tc : Thread Cert.DenseDown.nD Cert.DenseDown.τ).loc Cert.DenseDown.main_arg1)
          ∧ r.2.mem ((c.tc : Thread Cert.DenseDown.nD Cert.DenseDown.τ).loc Cert.DenseDown.main_arg2) = m ((c.tc : Thread Cert.DenseDown.nD Cert.DenseDown.τ).loc Cert.DenseDown.main_arg2)
          ∧ r.2.mem ((c.tc : Thread Cert.DenseDown.nD Cert.DenseDown.τ).loc Cert.DenseDown.main_arg3) = m ((c.tc : Thread Cert.DenseDown.nD Cert.DenseDown.τ).loc Cert.DenseDown.main_arg3))
        ∧ r.2.sem = fun _ => 0)) := by
  sl_kernel_rfl

/-- The kernel over bits. -/
theorem frame_bits : quiescent_DenseDown := fun m g hp =>
  let h : InRange (F := Bits) m := layer_of_down _ _ _ _ (hp 0)
  (run_bits m g).mp (frame (F := Bits) m g (adm m h) (adm_marks m h) (adm_full m h) (adm_tabs m h))

/-- The reference. -/
theorem frame_reference : quiescent_DenseDownReferenceIdeal := fun m ρ _ =>
  (θ_run _ _ _).mono (fun r h => ⟨fun c => (h c).2, sem_eq_zero_of_no_sems (by decide) r.2⟩)
    (Cert.DenseDownReferenceIdeal.Value.run m ρ)

/-- The reference on the layer numbers the kernel is given. -/
theorem frame_reference_layer : quiescent_DenseDownReferenceIdeal_pre_dense_down_layer := fun m ρ _ =>
  (θ_run _ _ _).mono (fun r h => ⟨fun c => (h c).2, sem_eq_zero_of_no_sems (by decide) r.2⟩)
    (Cert.DenseDownReferenceIdeal.Value.run m ρ)

/-! ## The results -/

variable (m : (ℓ : Loc nD τ sig) → Buf (Elt Ideal) ℓ)

/-- The kernel's final array. -/
abbrev result (h : InRange m) (c : Dev nD) : Buf (Elt Ideal) ((c.tc : Thread nD τ).loc main_v3) :=
  (dats m (adm m h) (adm_marks m h) (adm_full m h) 0 c).arrAt (3 : Fin 4) (cfgA (adm m h)).N

/-- Every run of the kernel ends with that array, and its arguments as they were. -/
theorem run_result (ρ) (h : InRange m) :
    θ_run (defs (F := Ideal)) (onTc (τ := τ) (main (F := Ideal))) ⟨m, fun _ => 0, ρ⟩ (fun r => ∀ c : Dev nD,
      r.2.mem ((c.tc : Thread nD τ).loc main_v3) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r q c => q.1 c)
    (run_all m ρ (adm m h) (adm_marks m h) (adm_full m h) (adm_tabs m h))

/-- The kernel's result is the reference's, entry by entry. -/
theorem result_eq (h : InRange m)
    (m' : (ℓ : Loc Cert.DenseDownReferenceIdeal.nD Cert.DenseDownReferenceIdeal.τ Cert.DenseDownReferenceIdeal.sig) → Buf (Elt Ideal) ℓ) (c : Dev nD)
    (h0 : m' ((c.tc : Thread Cert.DenseDownReferenceIdeal.nD Cert.DenseDownReferenceIdeal.τ).loc Cert.DenseDownReferenceIdeal.main_arg0) = m ((c.tc : Thread nD τ).loc main_arg0))
    (h1 : m' ((c.tc : Thread Cert.DenseDownReferenceIdeal.nD Cert.DenseDownReferenceIdeal.τ).loc Cert.DenseDownReferenceIdeal.main_arg1) = m ((c.tc : Thread nD τ).loc main_arg1))
    (h2 : m' ((c.tc : Thread Cert.DenseDownReferenceIdeal.nD Cert.DenseDownReferenceIdeal.τ).loc Cert.DenseDownReferenceIdeal.main_arg2) = m ((c.tc : Thread nD τ).loc main_arg2))
    (h3 : m' ((c.tc : Thread Cert.DenseDownReferenceIdeal.nD Cert.DenseDownReferenceIdeal.τ).loc Cert.DenseDownReferenceIdeal.main_arg3) = m ((c.tc : Thread nD τ).loc main_arg3)) :
    Cert.DenseDownReferenceIdeal.Read.val_main_v8 (F := Ideal) (m' ((c.tc : Thread Cert.DenseDownReferenceIdeal.nD Cert.DenseDownReferenceIdeal.τ).loc Cert.DenseDownReferenceIdeal.main_arg0)) (m' ((c.tc : Thread Cert.DenseDownReferenceIdeal.nD Cert.DenseDownReferenceIdeal.τ).loc Cert.DenseDownReferenceIdeal.main_arg1)) (m' ((c.tc : Thread Cert.DenseDownReferenceIdeal.nD Cert.DenseDownReferenceIdeal.τ).loc Cert.DenseDownReferenceIdeal.main_arg2)) (m' ((c.tc : Thread Cert.DenseDownReferenceIdeal.nD Cert.DenseDownReferenceIdeal.τ).loc Cert.DenseDownReferenceIdeal.main_arg3)) = result m h c := by
  obtain rfl : c = 0 := Subsingleton.elim _ _
  rw [h0, h1, h2, h3]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.DenseDownReferenceIdeal.Dense.ref_apply _ _ _ _ h _ _).trans (final_apply m h 0 _ _).symm

/-- Both programs run and end with equal results. -/
theorem value : algebraic_DenseDownIdeal_DenseDownReferenceIdeal := fun m g m' g' hp hargs =>
  let h : InRange m := layer_of_down _ _ _ _ (hp 0)
  ⟨fun c => result m h c, run_result m g h,
    (θ_run _ _ _).mono (fun _ q c => ⟨(q c).1.trans ((Cert.DenseDownReferenceIdeal.Read.val_main_v8_eq _ _ _ _).trans
        (result_eq m h m' c (hargs c).1 (hargs c).2.1 (hargs c).2.2.1 (hargs c).2.2.2)), (q c).2⟩)
      (Cert.DenseDownReferenceIdeal.Value.run m' g')⟩

end Cert.DenseDownIdeal.Dense

end
-- ==== Proof.OutSpec.lean ====
/-
  The output projections of the mixers, entry by entry: the residual stream plus the mixer's row times a column of the
  projection's weights. In an even layer the row is in two halves, the two head groups.
-/
module

public import Idealize.ShloMosaic.PureOps.Ideal.Laws

@[expose] public section

set_option maxRecDepth 16384

noncomputable section

namespace Cert.Out

open Idealize.ShloMosaic

/-- An entry of the odd layer's projection and residual sum: row `r`, column `f`, weights `e`. -/
def odd (y : Fin 16384 → Fin 2048 → EReal) (w : Fin 2 → Fin 2048 → Fin 2048 → EReal) (x : Fin 16384 → Fin 2048 → EReal)
    (e : Fin 2) (r : Fin 16384) (f : Fin 2048) : EReal :=
  x r f + ∑ k : Fin 2048, y r k * w e k f

/-- An entry of the even layer's: the two head groups `ya` and `yb` meet the upper and the lower half of the weights' rows. -/
def even (ya yb : Fin 16384 → Fin 1024 → EReal) (w : Fin 2 → Fin 2048 → Fin 2048 → EReal) (x : Fin 16384 → Fin 2048 → EReal)
    (e : Fin 2) (r : Fin 16384) (f : Fin 2048) : EReal :=
  x r f + ∑ k : Fin 1024, ya r k * w e ⟨k, by omega⟩ f + ∑ k : Fin 1024, yb r k * w e ⟨1024 + k, by omega⟩ f

/-- A sum over 2048 is the sum over the first 1024 and the sum over the others. -/
theorem sum_halves (g : Fin 2048 → EReal) :
    ∑ k : Fin 2048, g k = ∑ k : Fin 1024, g ⟨k, by omega⟩ + ∑ k : Fin 1024, g ⟨1024 + k, by omega⟩ :=
  Fin.sum_univ_add (a := 1024) (b := 1024) g

end Cert.Out

end
-- ==== Proof.OddOutFirstArray.lean ====
/-
  The output projection of the first odd layer: the kernel's array, entry by entry.
-/
module

public import proofs.«01_k».proof.Proof.OutSpec
public import proofs.«01_k».proof.Proof.Gen.OddOutFirstIdeal.Value
public import Idealize.ShloMosaic.Lib.Pipeline.ValueKit.Tiles
public import Idealize.ShloMosaic.Lib.Pointwise

@[expose] public section

set_option maxRecDepth 16384

noncomputable section

namespace Cert.OddOutFirstIdeal.Out

open Cert.OddOutFirstIdeal Cert.OddOutFirstIdeal.Gen Idealize.ShloMosaic Idealize.ShloMosaic.TcCoe Idealize.ShloMosaic.Tactic Idealize.SL.Sem

/-- The piece that is the whole block holds `v` at row `r`, column `f`, if its own entry there is `v`. -/
theorem piece_at (w : (⟨2, ![1024, 1024]⟩ : Shape).Idx → EReal) (r : Fin 1024) (f : Fin 1024) (v : EReal) (h : w (ix2 r f) = v) :
    View.TileAt (Val := Elt Ideal) (e := .f32) (S := S1024x1024) (ix2 r f) ![0, 0] ![1024, 1024] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

/-- What the body stores, from the blocks it loads. -/
theorem pay_apply (x : Vec Ideal S1024x1024 .f32) (y : Vec Ideal S1024x2048 .bf16) (w : Vec Ideal S1x2048x1024 .f32) (r : Fin 1024) (f : Fin 1024) :
    k0_pay1 (F := Ideal) x y w (ix2 r f) = x (ix2 r f) + ∑ k : Fin 2048, y (ix2 r k) * w (ix3 0 k f) := by
  pointwise [k0_pay1]

/-- The output block of a grid point. -/
theorem out_apply (y : Vec Ideal S1024x2048 .bf16) (w : Vec Ideal S1x2048x1024 .f32) (x : Vec Ideal S1024x1024 .f32) (r : Fin 1024) (f : Fin 1024) :
    out0_3 (F := Ideal) y w x (ix2 r f) = x (ix2 r f) + ∑ k : Fin 2048, y (ix2 r k) * w (ix3 0 k f) := by
  unfold out0_3
  refine View.canon_eq_of_allAt _ _ _ (cover0_3 _ _) ?_
  refine View.allAt_cons_unit _ _ _ _ _ (piece_at _ r f _ ?_) (View.allAt_nil _ _)
  rw [View.ld_unit_zero (funext (by decide)), View.ld_unit_zero (funext (by decide)), View.ld_unit_zero (funext (by decide))]
  exact pay_apply ..

/-! ## The blocks -/

theorem index_0 : ∀ t : Fin grid0.N, win0_0.index t 0 = t.val % 16 ∧ win0_0.index t 1 = 0 := by decide +kernel
theorem index_1 : ∀ t : Fin grid0.N, win0_1.index t 0 = 0 ∧ win0_1.index t 1 = 0 ∧ win0_1.index t 2 = t.val / 16 := by decide +kernel
theorem index_2 : ∀ t : Fin grid0.N, win0_2.index t 0 = t.val % 16 ∧ win0_2.index t 1 = t.val / 16 := by decide +kernel
theorem index_3 : ∀ t : Fin grid0.N, win0_3.index t 0 = t.val % 16 ∧ win0_3.index t 1 = t.val / 16 := by decide +kernel

variable (m : (ℓ : Loc nD τ sig) → Buf (Elt Ideal) ℓ)

theorem blk_0 (c : Dev nD) (t : Fin cfg0.N) (r : Fin 1024) (k : Fin 2048) (n : Fin 16384) (j : Fin 2048)
    (hn : n.val = t.val % 16 * 1024 + r.val) (hj : j.val = k.val) :
    iblk m c 0 t (ix2 r k) = m ((c : Thread nD τ).loc main_arg0) (ix2 n j) := by
  rw [← V_main_arg0 m c]
  refine congrArg (V m c main_arg0) (funext fun a => Fin.ext ?_)
  match a with
  | ⟨0, _⟩ => show win0_0.index t 0 * 1024 + 1 * r.val = n.val; rw [(index_0 t).1]; omega
  | ⟨1, _⟩ => show win0_0.index t 1 * 2048 + 1 * k.val = j.val; rw [(index_0 t).2]; omega

theorem blk_1 (c : Dev nD) (t : Fin cfg0.N) (k : Fin 2048) (f : Fin 1024) (k' : Fin 2048) (j : Fin 2048)
    (hk : k'.val = k.val) (hj : j.val = t.val / 16 * 1024 + f.val) :
    iblk m c 1 t (ix3 0 k f) = m ((c : Thread nD τ).loc main_arg1) (ix3 0 k' j) := by
  rw [← V_main_arg1 m c]
  refine congrArg (V m c main_arg1) (funext fun a => Fin.ext ?_)
  match a with
  | ⟨0, _⟩ => show win0_1.index t 0 * 1 + 1 * 0 = 0; rw [(index_1 t).1]
  | ⟨1, _⟩ => show win0_1.index t 1 * 2048 + 1 * k.val = k'.val; rw [(index_1 t).2.1]; omega
  | ⟨2, _⟩ => show win0_1.index t 2 * 1024 + 1 * f.val = j.val; rw [(index_1 t).2.2]; omega

theorem blk_2 (c : Dev nD) (t : Fin cfg0.N) (r : Fin 1024) (k : Fin 1024) (n : Fin 16384) (j : Fin 2048)
    (hn : n.val = t.val % 16 * 1024 + r.val) (hj : j.val = t.val / 16 * 1024 + k.val) :
    iblk m c 2 t (ix2 r k) = m ((c : Thread nD τ).loc main_arg2) (ix2 n j) := by
  rw [← V_main_arg2 m c]
  refine congrArg (V m c main_arg2) (funext fun a => Fin.ext ?_)
  match a with
  | ⟨0, _⟩ => show win0_2.index t 0 * 1024 + 1 * r.val = n.val; rw [(index_2 t).1]; omega
  | ⟨1, _⟩ => show win0_2.index t 1 * 1024 + 1 * k.val = j.val; rw [(index_2 t).2]; omega

/-! ## The result -/

/-- The kernel's result array, entry by entry. -/
theorem final_apply (c : Dev nD) (n : Fin 16384) (j : Fin 2048) :
    (dats m 0 c).arrAt 3 cfg0.N (ix2 n j)
      = Cert.Out.odd (fun r k => m ((c : Thread nD τ).loc main_arg0) (ix2 r k)) (fun e k f => m ((c : Thread nD τ).loc main_arg1) (ix3 e k f)) (fun r f => m ((c : Thread nD τ).loc main_arg2) (ix2 r f)) 0 n j := by
  have hN : cfg0.N = 32 := N_0
  have ht : j.val / 1024 * 16 + n.val / 1024 < cfg0.N := by omega
  have hbl := congrFun (Value.blocks3 m c ⟨j.val / 1024 * 16 + n.val / 1024, ht⟩ (flush0_3 _)) (ix2 ⟨n % 1024, by omega⟩ ⟨j % 1024, by omega⟩)
  rw [Value.flushed3] at hbl
  have he : ((cfg0.win 3).blk ⟨j.val / 1024 * 16 + n.val / 1024, ht⟩).view.read (Elt Ideal) ((dats m 0 c).arrAt 3 cfg0.N) (ix2 ⟨n % 1024, by omega⟩ ⟨j % 1024, by omega⟩)
      = (dats m 0 c).arrAt 3 cfg0.N (ix2 n j) := by
    refine congrArg ((dats m 0 c).arrAt 3 cfg0.N) (funext fun a => Fin.ext ?_)
    match a with
    | ⟨0, _⟩ => show win0_3.index ⟨j.val / 1024 * 16 + n.val / 1024, ht⟩ 0 * 1024 + 1 * (n.val % 1024) = n.val; rw [(index_3 _).1]; dsimp only; omega
    | ⟨1, _⟩ => show win0_3.index ⟨j.val / 1024 * 16 + n.val / 1024, ht⟩ 1 * 1024 + 1 * (j.val % 1024) = j.val; rw [(index_3 _).2]; dsimp only; omega
  rw [← he, hbl]
  refine (out_apply ..).trans ?_
  rw [blk_2 m c _ _ _ n j (by dsimp only; omega) (by dsimp only; omega)]
  unfold Cert.Out.odd
  refine congrArg₂ (· + ·) rfl (Finset.sum_congr rfl fun k _ => ?_)
  rw [blk_0 m c _ _ k n k (by dsimp only; omega) rfl, blk_1 m c _ k _ k j rfl (by dsimp only; omega)]

end Cert.OddOutFirstIdeal.Out

end
-- ==== Proof.OddOutFirstRef.lean ====
/-
  The output projection of the first odd layer: the reference, entry by entry.
-/
module

public import proofs.«01_k».proof.Proof.OutSpec
public import proofs.«01_k».proof.Proof.Gen.OddOutFirstReferenceIdeal.Read
public import Idealize.ShloMosaic.Lib.Pointwise

@[expose] public section

set_option maxRecDepth 16384

noncomputable section

namespace Cert.OddOutFirstReferenceIdeal.Out

open Cert.OddOutFirstReferenceIdeal Cert.OddOutFirstReferenceIdeal.Gen Cert.OddOutFirstReferenceIdeal.Read Idealize.ShloMosaic

/-- The layer's weights. -/
theorem weights_apply (w : (⟨S2x2048x2048, .f32⟩ : BufTy).Contents (Elt Ideal)) (k f : Fin 2048) : val_main_v2 (F := Ideal) w (ix2 k f) = w (ix3 0 k f) := by
  refine (val_main_v2_apply w _).trans ((val_main_v1_apply w _).trans (congrArg w (funext fun a => Fin.ext ?_)))
  match a with
  | ⟨0, _⟩ => rfl
  | ⟨1, _⟩ => show (k.val * 2048 + f.val) / 2048 % 2048 = k.val; omega
  | ⟨2, _⟩ => show (k.val * 2048 + f.val) % 2048 = f.val; omega

/-- The result, entry by entry. -/
theorem ref_apply (y : (⟨S16384x2048, .bf16⟩ : BufTy).Contents (Elt Ideal)) (w : (⟨S2x2048x2048, .f32⟩ : BufTy).Contents (Elt Ideal)) (x : (⟨S16384x2048, .f32⟩ : BufTy).Contents (Elt Ideal)) (r : Fin 16384) (f : Fin 2048) :
    val_main_v4 (F := Ideal) y w x (ix2 r f) = Cert.Out.odd (fun r k => y (ix2 r k)) (fun e k f => w (ix3 e k f)) (fun r f => x (ix2 r f)) 0 r f := by
  have h : val_main_v4 (F := Ideal) y w x (ix2 r f) = x (ix2 r f) + ∑ k : Fin 2048, y (ix2 r k) * val_main_v2 (F := Ideal) w (ix2 k f) := by
    generalize hW : val_main_v2 (F := Ideal) w = W
    pointwise [val_main_v4, val_main_v3, val_main_v0, hW]
  rw [h]
  unfold Cert.Out.odd
  simp only [weights_apply w]

end Cert.OddOutFirstReferenceIdeal.Out

end
-- ==== Proof.OddOutFirstClaim.lean ====
/-
  The output projection of the first odd layer: the frame of the reference and the equality of the two results.
-/
module

public import proofs.«01_k».proof.Defs
public import proofs.«01_k».proof.Proof.OddOutFirstArray
public import proofs.«01_k».proof.Proof.OddOutFirstRef
public import proofs.«01_k».proof.Proof.Gen.OddOutFirst.Frame
public import Idealize.ShloMosaic.Lib.Quiescent

@[expose] public section

set_option maxRecDepth 16384

noncomputable section

namespace Cert.OddOutFirstIdeal.Out

open Cert.OddOutFirstIdeal Cert.OddOutFirstIdeal.Gen Idealize.ShloMosaic Idealize.ShloMosaic.TcCoe Idealize.ShloMosaic.Tactic Idealize.SL.Sem

/-- The reference runs and leaves its arguments as they were. -/
theorem frame_reference : quiescent_OddOutFirstReferenceIdeal := fun m ρ _ =>
  (θ_run _ _ _).mono (fun r h => ⟨fun c => (h c).2, sem_eq_zero_of_no_sems (by decide) r.2⟩)
    (Cert.OddOutFirstReferenceIdeal.Value.run m ρ)

variable (m : (ℓ : Loc nD τ sig) → Buf (Elt Ideal) ℓ)

/-- The kernel's result is the reference's, entry by entry. -/
theorem result_eq (m' : (ℓ : Loc Cert.OddOutFirstReferenceIdeal.nD Cert.OddOutFirstReferenceIdeal.τ Cert.OddOutFirstReferenceIdeal.sig) → Buf (Elt Ideal) ℓ) (c : Dev nD)
    (h0 : m' ((c.tc : Thread Cert.OddOutFirstReferenceIdeal.nD Cert.OddOutFirstReferenceIdeal.τ).loc Cert.OddOutFirstReferenceIdeal.main_arg0) = m ((c.tc : Thread nD τ).loc main_arg0))
    (h1 : m' ((c.tc : Thread Cert.OddOutFirstReferenceIdeal.nD Cert.OddOutFirstReferenceIdeal.τ).loc Cert.OddOutFirstReferenceIdeal.main_arg1) = m ((c.tc : Thread nD τ).loc main_arg1))
    (h2 : m' ((c.tc : Thread Cert.OddOutFirstReferenceIdeal.nD Cert.OddOutFirstReferenceIdeal.τ).loc Cert.OddOutFirstReferenceIdeal.main_arg2) = m ((c.tc : Thread nD τ).loc main_arg2)) :
    Cert.OddOutFirstReferenceIdeal.Read.val_main_v4 (F := Ideal) (m' ((c.tc : Thread Cert.OddOutFirstReferenceIdeal.nD Cert.OddOutFirstReferenceIdeal.τ).loc Cert.OddOutFirstReferenceIdeal.main_arg0)) (m' ((c.tc : Thread Cert.OddOutFirstReferenceIdeal.nD Cert.OddOutFirstReferenceIdeal.τ).loc Cert.OddOutFirstReferenceIdeal.main_arg1)) (m' ((c.tc : Thread Cert.OddOutFirstReferenceIdeal.nD Cert.OddOutFirstReferenceIdeal.τ).loc Cert.OddOutFirstReferenceIdeal.main_arg2)) = (dats m 0 c).arrAt 3 cfg0.N := by
  rw [h0, h1, h2]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.OddOutFirstReferenceIdeal.Out.ref_apply _ _ _ _ _).trans (final_apply m c _ _).symm

/-- Both programs run and end with equal results. -/
theorem value : algebraic_OddOutFirstIdeal_OddOutFirstReferenceIdeal := fun m g m' g' _ hargs =>
  ⟨fun c => (dats m 0 c).arrAt 3 cfg0.N, Value.run_blocks m g,
    (θ_run _ _ _).mono (fun _ q c => ⟨(q c).1.trans ((Cert.OddOutFirstReferenceIdeal.Read.val_main_v4_eq _ _ _).trans
        (result_eq m m' c (hargs c).1 (hargs c).2.1 (hargs c).2.2)), (q c).2⟩)
      (Cert.OddOutFirstReferenceIdeal.Value.run m' g')⟩

end Cert.OddOutFirstIdeal.Out

end
-- ==== Proof.OddOutSecondArray.lean ====
/-
  The output projection of the second odd layer: the kernel's array, entry by entry.
-/
module

public import proofs.«01_k».proof.Proof.OutSpec
public import proofs.«01_k».proof.Proof.Gen.OddOutSecondIdeal.Value
public import Idealize.ShloMosaic.Lib.Pipeline.ValueKit.Tiles
public import Idealize.ShloMosaic.Lib.Pointwise

@[expose] public section

set_option maxRecDepth 16384

noncomputable section

namespace Cert.OddOutSecondIdeal.Out

open Cert.OddOutSecondIdeal Cert.OddOutSecondIdeal.Gen Idealize.ShloMosaic Idealize.ShloMosaic.TcCoe Idealize.ShloMosaic.Tactic Idealize.SL.Sem

/-- The piece that is the whole block holds `v` at row `r`, column `f`, if its own entry there is `v`. -/
theorem piece_at (w : (⟨2, ![1024, 1024]⟩ : Shape).Idx → EReal) (r : Fin 1024) (f : Fin 1024) (v : EReal) (h : w (ix2 r f) = v) :
    View.TileAt (Val := Elt Ideal) (e := .f32) (S := S1024x1024) (ix2 r f) ![0, 0] ![1024, 1024] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

/-- What the body stores, from the blocks it loads. -/
theorem pay_apply (x : Vec Ideal S1024x1024 .f32) (y : Vec Ideal S1024x2048 .bf16) (w : Vec Ideal S1x2048x1024 .f32) (r : Fin 1024) (f : Fin 1024) :
    k0_pay1 (F := Ideal) x y w (ix2 r f) = x (ix2 r f) + ∑ k : Fin 2048, y (ix2 r k) * w (ix3 0 k f) := by
  pointwise [k0_pay1]

/-- The output block of a grid point. -/
theorem out_apply (y : Vec Ideal S1024x2048 .bf16) (w : Vec Ideal S1x2048x1024 .f32) (x : Vec Ideal S1024x1024 .f32) (r : Fin 1024) (f : Fin 1024) :
    out0_3 (F := Ideal) y w x (ix2 r f) = x (ix2 r f) + ∑ k : Fin 2048, y (ix2 r k) * w (ix3 0 k f) := by
  unfold out0_3
  refine View.canon_eq_of_allAt _ _ _ (cover0_3 _ _) ?_
  refine View.allAt_cons_unit _ _ _ _ _ (piece_at _ r f _ ?_) (View.allAt_nil _ _)
  rw [View.ld_unit_zero (funext (by decide)), View.ld_unit_zero (funext (by decide)), View.ld_unit_zero (funext (by decide))]
  exact pay_apply ..

/-! ## The blocks -/

theorem index_0 : ∀ t : Fin grid0.N, win0_0.index t 0 = t.val % 16 ∧ win0_0.index t 1 = 0 := by decide +kernel
theorem index_1 : ∀ t : Fin grid0.N, win0_1.index t 0 = 1 ∧ win0_1.index t 1 = 0 ∧ win0_1.index t 2 = t.val / 16 := by decide +kernel
theorem index_2 : ∀ t : Fin grid0.N, win0_2.index t 0 = t.val % 16 ∧ win0_2.index t 1 = t.val / 16 := by decide +kernel
theorem index_3 : ∀ t : Fin grid0.N, win0_3.index t 0 = t.val % 16 ∧ win0_3.index t 1 = t.val / 16 := by decide +kernel

variable (m : (ℓ : Loc nD τ sig) → Buf (Elt Ideal) ℓ)

theorem blk_0 (c : Dev nD) (t : Fin cfg0.N) (r : Fin 1024) (k : Fin 2048) (n : Fin 16384) (j : Fin 2048)
    (hn : n.val = t.val % 16 * 1024 + r.val) (hj : j.val = k.val) :
    iblk m c 0 t (ix2 r k) = m ((c : Thread nD τ).loc main_arg0) (ix2 n j) := by
  rw [← V_main_arg0 m c]
  refine congrArg (V m c main_arg0) (funext fun a => Fin.ext ?_)
  match a with
  | ⟨0, _⟩ => show win0_0.index t 0 * 1024 + 1 * r.val = n.val; rw [(index_0 t).1]; omega
  | ⟨1, _⟩ => show win0_0.index t 1 * 2048 + 1 * k.val = j.val; rw [(index_0 t).2]; omega

theorem blk_1 (c : Dev nD) (t : Fin cfg0.N) (k : Fin 2048) (f : Fin 1024) (k' : Fin 2048) (j : Fin 2048)
    (hk : k'.val = k.val) (hj : j.val = t.val / 16 * 1024 + f.val) :
    iblk m c 1 t (ix3 0 k f) = m ((c : Thread nD τ).loc main_arg1) (ix3 1 k' j) := by
  rw [← V_main_arg1 m c]
  refine congrArg (V m c main_arg1) (funext fun a => Fin.ext ?_)
  match a with
  | ⟨0, _⟩ => show win0_1.index t 0 * 1 + 1 * 0 = 1; rw [(index_1 t).1]
  | ⟨1, _⟩ => show win0_1.index t 1 * 2048 + 1 * k.val = k'.val; rw [(index_1 t).2.1]; omega
  | ⟨2, _⟩ => show win0_1.index t 2 * 1024 + 1 * f.val = j.val; rw [(index_1 t).2.2]; omega

theorem blk_2 (c : Dev nD) (t : Fin cfg0.N) (r : Fin 1024) (k : Fin 1024) (n : Fin 16384) (j : Fin 2048)
    (hn : n.val = t.val % 16 * 1024 + r.val) (hj : j.val = t.val / 16 * 1024 + k.val) :
    iblk m c 2 t (ix2 r k) = m ((c : Thread nD τ).loc main_arg2) (ix2 n j) := by
  rw [← V_main_arg2 m c]
  refine congrArg (V m c main_arg2) (funext fun a => Fin.ext ?_)
  match a with
  | ⟨0, _⟩ => show win0_2.index t 0 * 1024 + 1 * r.val = n.val; rw [(index_2 t).1]; omega
  | ⟨1, _⟩ => show win0_2.index t 1 * 1024 + 1 * k.val = j.val; rw [(index_2 t).2]; omega

/-! ## The result -/

/-- The kernel's result array, entry by entry. -/
theorem final_apply (c : Dev nD) (n : Fin 16384) (j : Fin 2048) :
    (dats m 0 c).arrAt 3 cfg0.N (ix2 n j)
      = Cert.Out.odd (fun r k => m ((c : Thread nD τ).loc main_arg0) (ix2 r k)) (fun e k f => m ((c : Thread nD τ).loc main_arg1) (ix3 e k f)) (fun r f => m ((c : Thread nD τ).loc main_arg2) (ix2 r f)) 1 n j := by
  have hN : cfg0.N = 32 := N_0
  have ht : j.val / 1024 * 16 + n.val / 1024 < cfg0.N := by omega
  have hbl := congrFun (Value.blocks3 m c ⟨j.val / 1024 * 16 + n.val / 1024, ht⟩ (flush0_3 _)) (ix2 ⟨n % 1024, by omega⟩ ⟨j % 1024, by omega⟩)
  rw [Value.flushed3] at hbl
  have he : ((cfg0.win 3).blk ⟨j.val / 1024 * 16 + n.val / 1024, ht⟩).view.read (Elt Ideal) ((dats m 0 c).arrAt 3 cfg0.N) (ix2 ⟨n % 1024, by omega⟩ ⟨j % 1024, by omega⟩)
      = (dats m 0 c).arrAt 3 cfg0.N (ix2 n j) := by
    refine congrArg ((dats m 0 c).arrAt 3 cfg0.N) (funext fun a => Fin.ext ?_)
    match a with
    | ⟨0, _⟩ => show win0_3.index ⟨j.val / 1024 * 16 + n.val / 1024, ht⟩ 0 * 1024 + 1 * (n.val % 1024) = n.val; rw [(index_3 _).1]; dsimp only; omega
    | ⟨1, _⟩ => show win0_3.index ⟨j.val / 1024 * 16 + n.val / 1024, ht⟩ 1 * 1024 + 1 * (j.val % 1024) = j.val; rw [(index_3 _).2]; dsimp only; omega
  rw [← he, hbl]
  refine (out_apply ..).trans ?_
  rw [blk_2 m c _ _ _ n j (by dsimp only; omega) (by dsimp only; omega)]
  unfold Cert.Out.odd
  refine congrArg₂ (· + ·) rfl (Finset.sum_congr rfl fun k _ => ?_)
  rw [blk_0 m c _ _ k n k (by dsimp only; omega) rfl, blk_1 m c _ k _ k j rfl (by dsimp only; omega)]

end Cert.OddOutSecondIdeal.Out

end
-- ==== Proof.OddOutSecondRef.lean ====
/-
  The output projection of the second odd layer: the reference, entry by entry.
-/
module

public import proofs.«01_k».proof.Proof.OutSpec
public import proofs.«01_k».proof.Proof.Gen.OddOutSecondReferenceIdeal.Read
public import Idealize.ShloMosaic.Lib.Pointwise

@[expose] public section

set_option maxRecDepth 16384

noncomputable section

namespace Cert.OddOutSecondReferenceIdeal.Out

open Cert.OddOutSecondReferenceIdeal Cert.OddOutSecondReferenceIdeal.Gen Cert.OddOutSecondReferenceIdeal.Read Idealize.ShloMosaic

/-- The layer's weights. -/
theorem weights_apply (w : (⟨S2x2048x2048, .f32⟩ : BufTy).Contents (Elt Ideal)) (k f : Fin 2048) : val_main_v2 (F := Ideal) w (ix2 k f) = w (ix3 1 k f) := by
  refine (val_main_v2_apply w _).trans ((val_main_v1_apply w _).trans (congrArg w (funext fun a => Fin.ext ?_)))
  match a with
  | ⟨0, _⟩ => rfl
  | ⟨1, _⟩ => show (k.val * 2048 + f.val) / 2048 % 2048 = k.val; omega
  | ⟨2, _⟩ => show (k.val * 2048 + f.val) % 2048 = f.val; omega

/-- The result, entry by entry. -/
theorem ref_apply (y : (⟨S16384x2048, .bf16⟩ : BufTy).Contents (Elt Ideal)) (w : (⟨S2x2048x2048, .f32⟩ : BufTy).Contents (Elt Ideal)) (x : (⟨S16384x2048, .f32⟩ : BufTy).Contents (Elt Ideal)) (r : Fin 16384) (f : Fin 2048) :
    val_main_v4 (F := Ideal) y w x (ix2 r f) = Cert.Out.odd (fun r k => y (ix2 r k)) (fun e k f => w (ix3 e k f)) (fun r f => x (ix2 r f)) 1 r f := by
  have h : val_main_v4 (F := Ideal) y w x (ix2 r f) = x (ix2 r f) + ∑ k : Fin 2048, y (ix2 r k) * val_main_v2 (F := Ideal) w (ix2 k f) := by
    generalize hW : val_main_v2 (F := Ideal) w = W
    pointwise [val_main_v4, val_main_v3, val_main_v0, hW]
  rw [h]
  unfold Cert.Out.odd
  simp only [weights_apply w]

end Cert.OddOutSecondReferenceIdeal.Out

end
-- ==== Proof.OddOutSecondClaim.lean ====
/-
  The output projection of the second odd layer: the frame of the reference and the equality of the two results.
-/
module

public import proofs.«01_k».proof.Defs
public import proofs.«01_k».proof.Proof.OddOutSecondArray
public import proofs.«01_k».proof.Proof.OddOutSecondRef
public import proofs.«01_k».proof.Proof.Gen.OddOutSecond.Frame
public import Idealize.ShloMosaic.Lib.Quiescent

@[expose] public section

set_option maxRecDepth 16384

noncomputable section

namespace Cert.OddOutSecondIdeal.Out

open Cert.OddOutSecondIdeal Cert.OddOutSecondIdeal.Gen Idealize.ShloMosaic Idealize.ShloMosaic.TcCoe Idealize.ShloMosaic.Tactic Idealize.SL.Sem

/-- The reference runs and leaves its arguments as they were. -/
theorem frame_reference : quiescent_OddOutSecondReferenceIdeal := fun m ρ _ =>
  (θ_run _ _ _).mono (fun r h => ⟨fun c => (h c).2, sem_eq_zero_of_no_sems (by decide) r.2⟩)
    (Cert.OddOutSecondReferenceIdeal.Value.run m ρ)

variable (m : (ℓ : Loc nD τ sig) → Buf (Elt Ideal) ℓ)

/-- The kernel's result is the reference's, entry by entry. -/
theorem result_eq (m' : (ℓ : Loc Cert.OddOutSecondReferenceIdeal.nD Cert.OddOutSecondReferenceIdeal.τ Cert.OddOutSecondReferenceIdeal.sig) → Buf (Elt Ideal) ℓ) (c : Dev nD)
    (h0 : m' ((c.tc : Thread Cert.OddOutSecondReferenceIdeal.nD Cert.OddOutSecondReferenceIdeal.τ).loc Cert.OddOutSecondReferenceIdeal.main_arg0) = m ((c.tc : Thread nD τ).loc main_arg0))
    (h1 : m' ((c.tc : Thread Cert.OddOutSecondReferenceIdeal.nD Cert.OddOutSecondReferenceIdeal.τ).loc Cert.OddOutSecondReferenceIdeal.main_arg1) = m ((c.tc : Thread nD τ).loc main_arg1))
    (h2 : m' ((c.tc : Thread Cert.OddOutSecondReferenceIdeal.nD Cert.OddOutSecondReferenceIdeal.τ).loc Cert.OddOutSecondReferenceIdeal.main_arg2) = m ((c.tc : Thread nD τ).loc main_arg2)) :
    Cert.OddOutSecondReferenceIdeal.Read.val_main_v4 (F := Ideal) (m' ((c.tc : Thread Cert.OddOutSecondReferenceIdeal.nD Cert.OddOutSecondReferenceIdeal.τ).loc Cert.OddOutSecondReferenceIdeal.main_arg0)) (m' ((c.tc : Thread Cert.OddOutSecondReferenceIdeal.nD Cert.OddOutSecondReferenceIdeal.τ).loc Cert.OddOutSecondReferenceIdeal.main_arg1)) (m' ((c.tc : Thread Cert.OddOutSecondReferenceIdeal.nD Cert.OddOutSecondReferenceIdeal.τ).loc Cert.OddOutSecondReferenceIdeal.main_arg2)) = (dats m 0 c).arrAt 3 cfg0.N := by
  rw [h0, h1, h2]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.OddOutSecondReferenceIdeal.Out.ref_apply _ _ _ _ _).trans (final_apply m c _ _).symm

/-- Both programs run and end with equal results. -/
theorem value : algebraic_OddOutSecondIdeal_OddOutSecondReferenceIdeal := fun m g m' g' _ hargs =>
  ⟨fun c => (dats m 0 c).arrAt 3 cfg0.N, Value.run_blocks m g,
    (θ_run _ _ _).mono (fun _ q c => ⟨(q c).1.trans ((Cert.OddOutSecondReferenceIdeal.Read.val_main_v4_eq _ _ _).trans
        (result_eq m m' c (hargs c).1 (hargs c).2.1 (hargs c).2.2)), (q c).2⟩)
      (Cert.OddOutSecondReferenceIdeal.Value.run m' g')⟩

end Cert.OddOutSecondIdeal.Out

end
-- ==== Proof.EvenOutFirstArray.lean ====
/-
  The output projection of the first even layer: the kernel's array, entry by entry.
-/
module

public import proofs.«01_k».proof.Proof.OutSpec
public import proofs.«01_k».proof.Proof.Gen.EvenOutFirstIdeal.Value
public import Idealize.ShloMosaic.Lib.Pipeline.ValueKit.Tiles
public import Idealize.ShloMosaic.Lib.Pointwise

@[expose] public section

set_option maxRecDepth 16384

noncomputable section

namespace Cert.EvenOutFirstIdeal.Out

open Cert.EvenOutFirstIdeal Cert.EvenOutFirstIdeal.Gen Idealize.ShloMosaic Idealize.ShloMosaic.TcCoe Idealize.ShloMosaic.Tactic Idealize.SL.Sem

/-- The piece that is the whole block holds `v` at row `r`, column `f`, if its own entry there is `v`. -/
theorem piece_at (w : (⟨2, ![1024, 1024]⟩ : Shape).Idx → EReal) (r : Fin 1024) (f : Fin 1024) (v : EReal) (h : w (ix2 r f) = v) :
    View.TileAt (Val := Elt Ideal) (e := .f32) (S := S1024x1024) (ix2 r f) ![0, 0] ![1024, 1024] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

/-- What the body stores, from the blocks it loads. -/
theorem pay_apply (x : Vec Ideal S1024x1024 .f32) (y : Vec Ideal S1024x1024 .bf16) (w : Vec Ideal S1x1024x1024 .f32)
    (y' : Vec Ideal S1024x1024 .bf16) (w' : Vec Ideal S1x1024x1024 .f32) (r : Fin 1024) (f : Fin 1024) :
    k0_pay1 (F := Ideal) x y w y' w' (ix2 r f)
      = x (ix2 r f) + ∑ k : Fin 1024, y (ix2 r k) * w (ix3 0 k f) + ∑ k : Fin 1024, y' (ix2 r k) * w' (ix3 0 k f) := by
  pointwise [k0_pay1]

/-- The output block of a grid point. -/
theorem out_apply (y y' : Vec Ideal S1024x1024 .bf16) (w w' : Vec Ideal S1x1024x1024 .f32) (x : Vec Ideal S1024x1024 .f32) (r : Fin 1024) (f : Fin 1024) :
    out0_5 (F := Ideal) y y' w w' x (ix2 r f)
      = x (ix2 r f) + ∑ k : Fin 1024, y (ix2 r k) * w (ix3 0 k f) + ∑ k : Fin 1024, y' (ix2 r k) * w' (ix3 0 k f) := by
  unfold out0_5
  refine View.canon_eq_of_allAt _ _ _ (cover0_5 _ _) ?_
  refine View.allAt_cons_unit _ _ _ _ _ (piece_at _ r f _ ?_) (View.allAt_nil _ _)
  rw [View.ld_unit_zero (funext (by decide)), View.ld_unit_zero (funext (by decide)), View.ld_unit_zero (funext (by decide)),
    View.ld_unit_zero (funext (by decide)), View.ld_unit_zero (funext (by decide))]
  exact pay_apply ..

/-! ## The blocks -/

theorem index_0 : ∀ t : Fin grid0.N, win0_0.index t 0 = t.val % 16 ∧ win0_0.index t 1 = 0 := by decide +kernel
theorem index_1 : ∀ t : Fin grid0.N, win0_1.index t 0 = t.val % 16 ∧ win0_1.index t 1 = 0 := by decide +kernel
theorem index_2 : ∀ t : Fin grid0.N, win0_2.index t 0 = 0 ∧ win0_2.index t 1 = 0 ∧ win0_2.index t 2 = t.val / 16 := by decide +kernel
theorem index_3 : ∀ t : Fin grid0.N, win0_3.index t 0 = 0 ∧ win0_3.index t 1 = 1 ∧ win0_3.index t 2 = t.val / 16 := by decide +kernel
theorem index_4 : ∀ t : Fin grid0.N, win0_4.index t 0 = t.val % 16 ∧ win0_4.index t 1 = t.val / 16 := by decide +kernel
theorem index_5 : ∀ t : Fin grid0.N, win0_5.index t 0 = t.val % 16 ∧ win0_5.index t 1 = t.val / 16 := by decide +kernel

variable (m : (ℓ : Loc nD τ sig) → Buf (Elt Ideal) ℓ)

theorem blk_0 (c : Dev nD) (t : Fin cfg0.N) (r : Fin 1024) (k : Fin 1024) (n : Fin 16384) (j : Fin 1024)
    (hn : n.val = t.val % 16 * 1024 + r.val) (hj : j.val = k.val) :
    iblk m c 0 t (ix2 r k) = m ((c : Thread nD τ).loc main_arg0) (ix2 n j) := by
  rw [← V_main_arg0 m c]
  refine congrArg (V m c main_arg0) (funext fun a => Fin.ext ?_)
  match a with
  | ⟨0, _⟩ => show win0_0.index t 0 * 1024 + 1 * r.val = n.val; rw [(index_0 t).1]; omega
  | ⟨1, _⟩ => show win0_0.index t 1 * 1024 + 1 * k.val = j.val; rw [(index_0 t).2]; omega

theorem blk_1 (c : Dev nD) (t : Fin cfg0.N) (r : Fin 1024) (k : Fin 1024) (n : Fin 16384) (j : Fin 1024)
    (hn : n.val = t.val % 16 * 1024 + r.val) (hj : j.val = k.val) :
    iblk m c 1 t (ix2 r k) = m ((c : Thread nD τ).loc main_arg1) (ix2 n j) := by
  rw [← V_main_arg1 m c]
  refine congrArg (V m c main_arg1) (funext fun a => Fin.ext ?_)
  match a with
  | ⟨0, _⟩ => show win0_1.index t 0 * 1024 + 1 * r.val = n.val; rw [(index_1 t).1]; omega
  | ⟨1, _⟩ => show win0_1.index t 1 * 1024 + 1 * k.val = j.val; rw [(index_1 t).2]; omega

theorem blk_2 (c : Dev nD) (t : Fin cfg0.N) (k : Fin 1024) (f : Fin 1024) (k' : Fin 2048) (j : Fin 2048)
    (hk : k'.val = k.val) (hj : j.val = t.val / 16 * 1024 + f.val) :
    iblk m c 2 t (ix3 0 k f) = m ((c : Thread nD τ).loc main_arg2) (ix3 0 k' j) := by
  rw [← V_main_arg2 m c]
  refine congrArg (V m c main_arg2) (funext fun a => Fin.ext ?_)
  match a with
  | ⟨0, _⟩ => show win0_2.index t 0 * 1 + 1 * 0 = 0; rw [(index_2 t).1]
  | ⟨1, _⟩ => show win0_2.index t 1 * 1024 + 1 * k.val = k'.val; rw [(index_2 t).2.1]; omega
  | ⟨2, _⟩ => show win0_2.index t 2 * 1024 + 1 * f.val = j.val; rw [(index_2 t).2.2]; omega

theorem blk_3 (c : Dev nD) (t : Fin cfg0.N) (k : Fin 1024) (f : Fin 1024) (k' : Fin 2048) (j : Fin 2048)
    (hk : k'.val = 1024 + k.val) (hj : j.val = t.val / 16 * 1024 + f.val) :
    iblk m c 3 t (ix3 0 k f) = m ((c : Thread nD τ).loc main_arg2) (ix3 0 k' j) := by
  rw [← V_main_arg2 m c]
  refine congrArg (V m c main_arg2) (funext fun a => Fin.ext ?_)
  match a with
  | ⟨0, _⟩ => show win0_3.index t 0 * 1 + 1 * 0 = 0; rw [(index_3 t).1]
  | ⟨1, _⟩ => show win0_3.index t 1 * 1024 + 1 * k.val = k'.val; rw [(index_3 t).2.1]; omega
  | ⟨2, _⟩ => show win0_3.index t 2 * 1024 + 1 * f.val = j.val; rw [(index_3 t).2.2]; omega

theorem blk_4 (c : Dev nD) (t : Fin cfg0.N) (r : Fin 1024) (k : Fin 1024) (n : Fin 16384) (j : Fin 2048)
    (hn : n.val = t.val % 16 * 1024 + r.val) (hj : j.val = t.val / 16 * 1024 + k.val) :
    iblk m c 4 t (ix2 r k) = m ((c : Thread nD τ).loc main_arg3) (ix2 n j) := by
  rw [← V_main_arg3 m c]
  refine congrArg (V m c main_arg3) (funext fun a => Fin.ext ?_)
  match a with
  | ⟨0, _⟩ => show win0_4.index t 0 * 1024 + 1 * r.val = n.val; rw [(index_4 t).1]; omega
  | ⟨1, _⟩ => show win0_4.index t 1 * 1024 + 1 * k.val = j.val; rw [(index_4 t).2]; omega

/-! ## The result -/

/-- The kernel's result array, entry by entry. -/
theorem final_apply (c : Dev nD) (n : Fin 16384) (j : Fin 2048) :
    (dats m 0 c).arrAt 5 cfg0.N (ix2 n j)
      = Cert.Out.even (fun r k => m ((c : Thread nD τ).loc main_arg0) (ix2 r k)) (fun r k => m ((c : Thread nD τ).loc main_arg1) (ix2 r k)) (fun e k f => m ((c : Thread nD τ).loc main_arg2) (ix3 e k f)) (fun r f => m ((c : Thread nD τ).loc main_arg3) (ix2 r f)) 0 n j := by
  have hN : cfg0.N = 32 := N_0
  have ht : j.val / 1024 * 16 + n.val / 1024 < cfg0.N := by omega
  have hbl := congrFun (Value.blocks5 m c ⟨j.val / 1024 * 16 + n.val / 1024, ht⟩ (flush0_5 _)) (ix2 ⟨n % 1024, by omega⟩ ⟨j % 1024, by omega⟩)
  rw [Value.flushed5] at hbl
  have he : ((cfg0.win 5).blk ⟨j.val / 1024 * 16 + n.val / 1024, ht⟩).view.read (Elt Ideal) ((dats m 0 c).arrAt 5 cfg0.N) (ix2 ⟨n % 1024, by omega⟩ ⟨j % 1024, by omega⟩)
      = (dats m 0 c).arrAt 5 cfg0.N (ix2 n j) := by
    refine congrArg ((dats m 0 c).arrAt 5 cfg0.N) (funext fun a => Fin.ext ?_)
    match a with
    | ⟨0, _⟩ => show win0_5.index ⟨j.val / 1024 * 16 + n.val / 1024, ht⟩ 0 * 1024 + 1 * (n.val % 1024) = n.val; rw [(index_5 _).1]; dsimp only; omega
    | ⟨1, _⟩ => show win0_5.index ⟨j.val / 1024 * 16 + n.val / 1024, ht⟩ 1 * 1024 + 1 * (j.val % 1024) = j.val; rw [(index_5 _).2]; dsimp only; omega
  rw [← he, hbl]
  refine (out_apply ..).trans ?_
  rw [blk_4 m c _ _ _ n j (by dsimp only; omega) (by dsimp only; omega)]
  unfold Cert.Out.even
  refine congrArg₂ (· + ·) (congrArg₂ (· + ·) rfl (Finset.sum_congr rfl fun k _ => ?_)) (Finset.sum_congr rfl fun k _ => ?_)
  · rw [blk_0 m c _ _ k n k (by dsimp only; omega) rfl, blk_2 m c _ k _ ⟨k, by omega⟩ j rfl (by dsimp only; omega)]
  · rw [blk_1 m c _ _ k n k (by dsimp only; omega) rfl, blk_3 m c _ k _ ⟨1024 + k, by omega⟩ j rfl (by dsimp only; omega)]

end Cert.EvenOutFirstIdeal.Out

end
-- ==== Proof.EvenOutFirstRef.lean ====
/-
  The output projection of the first even layer: the reference, entry by entry.
-/
module

public import proofs.«01_k».proof.Proof.OutSpec
public import proofs.«01_k».proof.Proof.Gen.EvenOutFirstReferenceIdeal.Read
public import Idealize.ShloMosaic.Lib.Pointwise

@[expose] public section

set_option maxRecDepth 16384

noncomputable section

namespace Cert.EvenOutFirstReferenceIdeal.Out

open Cert.EvenOutFirstReferenceIdeal Cert.EvenOutFirstReferenceIdeal.Gen Cert.EvenOutFirstReferenceIdeal.Read Idealize.ShloMosaic

/-- The layer's weights. -/
theorem weights_apply (w : (⟨S2x2048x2048, .f32⟩ : BufTy).Contents (Elt Ideal)) (k f : Fin 2048) : val_main_v4 (F := Ideal) w (ix2 k f) = w (ix3 0 k f) := by
  refine (val_main_v4_apply w _).trans ((val_main_v3_apply w _).trans (congrArg w (funext fun a => Fin.ext ?_)))
  match a with
  | ⟨0, _⟩ => rfl
  | ⟨1, _⟩ => show (k.val * 2048 + f.val) / 2048 % 2048 = k.val; omega
  | ⟨2, _⟩ => show (k.val * 2048 + f.val) % 2048 = f.val; omega

/-- The joined head groups. -/
theorem joined_apply (ya yb : (⟨S16384x1024, .bf16⟩ : BufTy).Contents (Elt Ideal)) (r : Fin 16384) (k : Fin 2048) :
    val_main_v2 (F := Ideal) ya yb (ix2 r k) = if h : k.val < 1024 then ya (ix2 r ⟨k, h⟩) else yb (ix2 r ⟨k - 1024, by omega⟩) := by
  pointwise [val_main_v2, val_main_v1, val_main_v0]

/-- The result, entry by entry. -/
theorem ref_apply (ya yb : (⟨S16384x1024, .bf16⟩ : BufTy).Contents (Elt Ideal)) (w : (⟨S2x2048x2048, .f32⟩ : BufTy).Contents (Elt Ideal)) (x : (⟨S16384x2048, .f32⟩ : BufTy).Contents (Elt Ideal)) (r : Fin 16384) (f : Fin 2048) :
    val_main_v6 (F := Ideal) ya yb w x (ix2 r f) = Cert.Out.even (fun r k => ya (ix2 r k)) (fun r k => yb (ix2 r k)) (fun e k f => w (ix3 e k f)) (fun r f => x (ix2 r f)) 0 r f := by
  have h : val_main_v6 (F := Ideal) ya yb w x (ix2 r f) = x (ix2 r f) + ∑ k : Fin 2048, val_main_v2 (F := Ideal) ya yb (ix2 r k) * val_main_v4 (F := Ideal) w (ix2 k f) := by
    generalize hW : val_main_v4 (F := Ideal) w = W
    generalize hY : val_main_v2 (F := Ideal) ya yb = Y
    pointwise [val_main_v6, val_main_v5, hW, hY]
  rw [h, Cert.Out.sum_halves, ← add_assoc]
  unfold Cert.Out.even
  refine congrArg₂ (· + ·) (congrArg₂ (· + ·) rfl (Finset.sum_congr rfl fun k _ => ?_)) (Finset.sum_congr rfl fun k _ => ?_)
  · rw [joined_apply, weights_apply, dif_pos k.isLt]
  · rw [joined_apply, weights_apply, dif_neg (by dsimp only; omega)]
    refine congrArg (fun q => yb (ix2 r q) * _) (Fin.ext ?_)
    dsimp only; omega

end Cert.EvenOutFirstReferenceIdeal.Out

end
-- ==== Proof.EvenOutFirstClaim.lean ====
/-
  The output projection of the first even layer: the frame of the reference and the equality of the two results.
-/
module

public import proofs.«01_k».proof.Defs
public import proofs.«01_k».proof.Proof.EvenOutFirstArray
public import proofs.«01_k».proof.Proof.EvenOutFirstRef
public import proofs.«01_k».proof.Proof.Gen.EvenOutFirst.Frame
public import Idealize.ShloMosaic.Lib.Quiescent

@[expose] public section

set_option maxRecDepth 16384

noncomputable section

namespace Cert.EvenOutFirstIdeal.Out

open Cert.EvenOutFirstIdeal Cert.EvenOutFirstIdeal.Gen Idealize.ShloMosaic Idealize.ShloMosaic.TcCoe Idealize.ShloMosaic.Tactic Idealize.SL.Sem

/-- The reference runs and leaves its arguments as they were. -/
theorem frame_reference : quiescent_EvenOutFirstReferenceIdeal := fun m ρ _ =>
  (θ_run _ _ _).mono (fun r h => ⟨fun c => (h c).2, sem_eq_zero_of_no_sems (by decide) r.2⟩)
    (Cert.EvenOutFirstReferenceIdeal.Value.run m ρ)

variable (m : (ℓ : Loc nD τ sig) → Buf (Elt Ideal) ℓ)

/-- The kernel's result is the reference's, entry by entry. -/
theorem result_eq (m' : (ℓ : Loc Cert.EvenOutFirstReferenceIdeal.nD Cert.EvenOutFirstReferenceIdeal.τ Cert.EvenOutFirstReferenceIdeal.sig) → Buf (Elt Ideal) ℓ) (c : Dev nD)
    (h0 : m' ((c.tc : Thread Cert.EvenOutFirstReferenceIdeal.nD Cert.EvenOutFirstReferenceIdeal.τ).loc Cert.EvenOutFirstReferenceIdeal.main_arg0) = m ((c.tc : Thread nD τ).loc main_arg0))
    (h1 : m' ((c.tc : Thread Cert.EvenOutFirstReferenceIdeal.nD Cert.EvenOutFirstReferenceIdeal.τ).loc Cert.EvenOutFirstReferenceIdeal.main_arg1) = m ((c.tc : Thread nD τ).loc main_arg1))
    (h2 : m' ((c.tc : Thread Cert.EvenOutFirstReferenceIdeal.nD Cert.EvenOutFirstReferenceIdeal.τ).loc Cert.EvenOutFirstReferenceIdeal.main_arg2) = m ((c.tc : Thread nD τ).loc main_arg2))
    (h3 : m' ((c.tc : Thread Cert.EvenOutFirstReferenceIdeal.nD Cert.EvenOutFirstReferenceIdeal.τ).loc Cert.EvenOutFirstReferenceIdeal.main_arg3) = m ((c.tc : Thread nD τ).loc main_arg3)) :
    Cert.EvenOutFirstReferenceIdeal.Read.val_main_v6 (F := Ideal) (m' ((c.tc : Thread Cert.EvenOutFirstReferenceIdeal.nD Cert.EvenOutFirstReferenceIdeal.τ).loc Cert.EvenOutFirstReferenceIdeal.main_arg0)) (m' ((c.tc : Thread Cert.EvenOutFirstReferenceIdeal.nD Cert.EvenOutFirstReferenceIdeal.τ).loc Cert.EvenOutFirstReferenceIdeal.main_arg1)) (m' ((c.tc : Thread Cert.EvenOutFirstReferenceIdeal.nD Cert.EvenOutFirstReferenceIdeal.τ).loc Cert.EvenOutFirstReferenceIdeal.main_arg2)) (m' ((c.tc : Thread Cert.EvenOutFirstReferenceIdeal.nD Cert.EvenOutFirstReferenceIdeal.τ).loc Cert.EvenOutFirstReferenceIdeal.main_arg3)) = (dats m 0 c).arrAt 5 cfg0.N := by
  rw [h0, h1, h2, h3]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.EvenOutFirstReferenceIdeal.Out.ref_apply _ _ _ _ _ _).trans (final_apply m c _ _).symm

/-- Both programs run and end with equal results. -/
theorem value : algebraic_EvenOutFirstIdeal_EvenOutFirstReferenceIdeal := fun m g m' g' _ hargs =>
  ⟨fun c => (dats m 0 c).arrAt 5 cfg0.N, Value.run_blocks m g,
    (θ_run _ _ _).mono (fun _ q c => ⟨(q c).1.trans ((Cert.EvenOutFirstReferenceIdeal.Read.val_main_v6_eq _ _ _ _).trans
        (result_eq m m' c (hargs c).1 (hargs c).2.1 (hargs c).2.2.1 (hargs c).2.2.2)), (q c).2⟩)
      (Cert.EvenOutFirstReferenceIdeal.Value.run m' g')⟩

end Cert.EvenOutFirstIdeal.Out

end
-- ==== Proof.EvenOutSecondArray.lean ====
/-
  The output projection of the second even layer: the kernel's array, entry by entry.
-/
module

public import proofs.«01_k».proof.Proof.OutSpec
public import proofs.«01_k».proof.Proof.Gen.EvenOutSecondIdeal.Value
public import Idealize.ShloMosaic.Lib.Pipeline.ValueKit.Tiles
public import Idealize.ShloMosaic.Lib.Pointwise

@[expose] public section

set_option maxRecDepth 16384

noncomputable section

namespace Cert.EvenOutSecondIdeal.Out

open Cert.EvenOutSecondIdeal Cert.EvenOutSecondIdeal.Gen Idealize.ShloMosaic Idealize.ShloMosaic.TcCoe Idealize.ShloMosaic.Tactic Idealize.SL.Sem

/-- The piece that is the whole block holds `v` at row `r`, column `f`, if its own entry there is `v`. -/
theorem piece_at (w : (⟨2, ![1024, 1024]⟩ : Shape).Idx → EReal) (r : Fin 1024) (f : Fin 1024) (v : EReal) (h : w (ix2 r f) = v) :
    View.TileAt (Val := Elt Ideal) (e := .f32) (S := S1024x1024) (ix2 r f) ![0, 0] ![1024, 1024] w v := by
  intro x hx
  have h0 := hx 0
  have h1 := hx 1
  replace h0 : r.val = 0 + (x 0).val := h0
  replace h1 : f.val = 0 + (x 1).val := h1
  have e : x = ix2 r f := by
    funext a
    match a with
    | ⟨0, _⟩ => exact Fin.ext (by show (x 0).val = r.val; omega)
    | ⟨1, _⟩ => exact Fin.ext (by show (x 1).val = f.val; omega)
  rw [e]; exact h

/-- What the body stores, from the blocks it loads. -/
theorem pay_apply (x : Vec Ideal S1024x1024 .f32) (y : Vec Ideal S1024x1024 .bf16) (w : Vec Ideal S1x1024x1024 .f32)
    (y' : Vec Ideal S1024x1024 .bf16) (w' : Vec Ideal S1x1024x1024 .f32) (r : Fin 1024) (f : Fin 1024) :
    k0_pay1 (F := Ideal) x y w y' w' (ix2 r f)
      = x (ix2 r f) + ∑ k : Fin 1024, y (ix2 r k) * w (ix3 0 k f) + ∑ k : Fin 1024, y' (ix2 r k) * w' (ix3 0 k f) := by
  pointwise [k0_pay1]

/-- The output block of a grid point. -/
theorem out_apply (y y' : Vec Ideal S1024x1024 .bf16) (w w' : Vec Ideal S1x1024x1024 .f32) (x : Vec Ideal S1024x1024 .f32) (r : Fin 1024) (f : Fin 1024) :
    out0_5 (F := Ideal) y y' w w' x (ix2 r f)
      = x (ix2 r f) + ∑ k : Fin 1024, y (ix2 r k) * w (ix3 0 k f) + ∑ k : Fin 1024, y' (ix2 r k) * w' (ix3 0 k f) := by
  unfold out0_5
  refine View.canon_eq_of_allAt _ _ _ (cover0_5 _ _) ?_
  refine View.allAt_cons_unit _ _ _ _ _ (piece_at _ r f _ ?_) (View.allAt_nil _ _)
  rw [View.ld_unit_zero (funext (by decide)), View.ld_unit_zero (funext (by decide)), View.ld_unit_zero (funext (by decide)),
    View.ld_unit_zero (funext (by decide)), View.ld_unit_zero (funext (by decide))]
  exact pay_apply ..

/-! ## The blocks -/

theorem index_0 : ∀ t : Fin grid0.N, win0_0.index t 0 = t.val % 16 ∧ win0_0.index t 1 = 0 := by decide +kernel
theorem index_1 : ∀ t : Fin grid0.N, win0_1.index t 0 = t.val % 16 ∧ win0_1.index t 1 = 0 := by decide +kernel
theorem index_2 : ∀ t : Fin grid0.N, win0_2.index t 0 = 1 ∧ win0_2.index t 1 = 0 ∧ win0_2.index t 2 = t.val / 16 := by decide +kernel
theorem index_3 : ∀ t : Fin grid0.N, win0_3.index t 0 = 1 ∧ win0_3.index t 1 = 1 ∧ win0_3.index t 2 = t.val / 16 := by decide +kernel
theorem index_4 : ∀ t : Fin grid0.N, win0_4.index t 0 = t.val % 16 ∧ win0_4.index t 1 = t.val / 16 := by decide +kernel
theorem index_5 : ∀ t : Fin grid0.N, win0_5.index t 0 = t.val % 16 ∧ win0_5.index t 1 = t.val / 16 := by decide +kernel

variable (m : (ℓ : Loc nD τ sig) → Buf (Elt Ideal) ℓ)

theorem blk_0 (c : Dev nD) (t : Fin cfg0.N) (r : Fin 1024) (k : Fin 1024) (n : Fin 16384) (j : Fin 1024)
    (hn : n.val = t.val % 16 * 1024 + r.val) (hj : j.val = k.val) :
    iblk m c 0 t (ix2 r k) = m ((c : Thread nD τ).loc main_arg0) (ix2 n j) := by
  rw [← V_main_arg0 m c]
  refine congrArg (V m c main_arg0) (funext fun a => Fin.ext ?_)
  match a with
  | ⟨0, _⟩ => show win0_0.index t 0 * 1024 + 1 * r.val = n.val; rw [(index_0 t).1]; omega
  | ⟨1, _⟩ => show win0_0.index t 1 * 1024 + 1 * k.val = j.val; rw [(index_0 t).2]; omega

theorem blk_1 (c : Dev nD) (t : Fin cfg0.N) (r : Fin 1024) (k : Fin 1024) (n : Fin 16384) (j : Fin 1024)
    (hn : n.val = t.val % 16 * 1024 + r.val) (hj : j.val = k.val) :
    iblk m c 1 t (ix2 r k) = m ((c : Thread nD τ).loc main_arg1) (ix2 n j) := by
  rw [← V_main_arg1 m c]
  refine congrArg (V m c main_arg1) (funext fun a => Fin.ext ?_)
  match a with
  | ⟨0, _⟩ => show win0_1.index t 0 * 1024 + 1 * r.val = n.val; rw [(index_1 t).1]; omega
  | ⟨1, _⟩ => show win0_1.index t 1 * 1024 + 1 * k.val = j.val; rw [(index_1 t).2]; omega

theorem blk_2 (c : Dev nD) (t : Fin cfg0.N) (k : Fin 1024) (f : Fin 1024) (k' : Fin 2048) (j : Fin 2048)
    (hk : k'.val = k.val) (hj : j.val = t.val / 16 * 1024 + f.val) :
    iblk m c 2 t (ix3 0 k f) = m ((c : Thread nD τ).loc main_arg2) (ix3 1 k' j) := by
  rw [← V_main_arg2 m c]
  refine congrArg (V m c main_arg2) (funext fun a => Fin.ext ?_)
  match a with
  | ⟨0, _⟩ => show win0_2.index t 0 * 1 + 1 * 0 = 1; rw [(index_2 t).1]
  | ⟨1, _⟩ => show win0_2.index t 1 * 1024 + 1 * k.val = k'.val; rw [(index_2 t).2.1]; omega
  | ⟨2, _⟩ => show win0_2.index t 2 * 1024 + 1 * f.val = j.val; rw [(index_2 t).2.2]; omega

theorem blk_3 (c : Dev nD) (t : Fin cfg0.N) (k : Fin 1024) (f : Fin 1024) (k' : Fin 2048) (j : Fin 2048)
    (hk : k'.val = 1024 + k.val) (hj : j.val = t.val / 16 * 1024 + f.val) :
    iblk m c 3 t (ix3 0 k f) = m ((c : Thread nD τ).loc main_arg2) (ix3 1 k' j) := by
  rw [← V_main_arg2 m c]
  refine congrArg (V m c main_arg2) (funext fun a => Fin.ext ?_)
  match a with
  | ⟨0, _⟩ => show win0_3.index t 0 * 1 + 1 * 0 = 1; rw [(index_3 t).1]
  | ⟨1, _⟩ => show win0_3.index t 1 * 1024 + 1 * k.val = k'.val; rw [(index_3 t).2.1]; omega
  | ⟨2, _⟩ => show win0_3.index t 2 * 1024 + 1 * f.val = j.val; rw [(index_3 t).2.2]; omega

theorem blk_4 (c : Dev nD) (t : Fin cfg0.N) (r : Fin 1024) (k : Fin 1024) (n : Fin 16384) (j : Fin 2048)
    (hn : n.val = t.val % 16 * 1024 + r.val) (hj : j.val = t.val / 16 * 1024 + k.val) :
    iblk m c 4 t (ix2 r k) = m ((c : Thread nD τ).loc main_arg3) (ix2 n j) := by
  rw [← V_main_arg3 m c]
  refine congrArg (V m c main_arg3) (funext fun a => Fin.ext ?_)
  match a with
  | ⟨0, _⟩ => show win0_4.index t 0 * 1024 + 1 * r.val = n.val; rw [(index_4 t).1]; omega
  | ⟨1, _⟩ => show win0_4.index t 1 * 1024 + 1 * k.val = j.val; rw [(index_4 t).2]; omega

/-! ## The result -/

/-- The kernel's result array, entry by entry. -/
theorem final_apply (c : Dev nD) (n : Fin 16384) (j : Fin 2048) :
    (dats m 0 c).arrAt 5 cfg0.N (ix2 n j)
      = Cert.Out.even (fun r k => m ((c : Thread nD τ).loc main_arg0) (ix2 r k)) (fun r k => m ((c : Thread nD τ).loc main_arg1) (ix2 r k)) (fun e k f => m ((c : Thread nD τ).loc main_arg2) (ix3 e k f)) (fun r f => m ((c : Thread nD τ).loc main_arg3) (ix2 r f)) 1 n j := by
  have hN : cfg0.N = 32 := N_0
  have ht : j.val / 1024 * 16 + n.val / 1024 < cfg0.N := by omega
  have hbl := congrFun (Value.blocks5 m c ⟨j.val / 1024 * 16 + n.val / 1024, ht⟩ (flush0_5 _)) (ix2 ⟨n % 1024, by omega⟩ ⟨j % 1024, by omega⟩)
  rw [Value.flushed5] at hbl
  have he : ((cfg0.win 5).blk ⟨j.val / 1024 * 16 + n.val / 1024, ht⟩).view.read (Elt Ideal) ((dats m 0 c).arrAt 5 cfg0.N) (ix2 ⟨n % 1024, by omega⟩ ⟨j % 1024, by omega⟩)
      = (dats m 0 c).arrAt 5 cfg0.N (ix2 n j) := by
    refine congrArg ((dats m 0 c).arrAt 5 cfg0.N) (funext fun a => Fin.ext ?_)
    match a with
    | ⟨0, _⟩ => show win0_5.index ⟨j.val / 1024 * 16 + n.val / 1024, ht⟩ 0 * 1024 + 1 * (n.val % 1024) = n.val; rw [(index_5 _).1]; dsimp only; omega
    | ⟨1, _⟩ => show win0_5.index ⟨j.val / 1024 * 16 + n.val / 1024, ht⟩ 1 * 1024 + 1 * (j.val % 1024) = j.val; rw [(index_5 _).2]; dsimp only; omega
  rw [← he, hbl]
  refine (out_apply ..).trans ?_
  rw [blk_4 m c _ _ _ n j (by dsimp only; omega) (by dsimp only; omega)]
  unfold Cert.Out.even
  refine congrArg₂ (· + ·) (congrArg₂ (· + ·) rfl (Finset.sum_congr rfl fun k _ => ?_)) (Finset.sum_congr rfl fun k _ => ?_)
  · rw [blk_0 m c _ _ k n k (by dsimp only; omega) rfl, blk_2 m c _ k _ ⟨k, by omega⟩ j rfl (by dsimp only; omega)]
  · rw [blk_1 m c _ _ k n k (by dsimp only; omega) rfl, blk_3 m c _ k _ ⟨1024 + k, by omega⟩ j rfl (by dsimp only; omega)]

end Cert.EvenOutSecondIdeal.Out

end
-- ==== Proof.EvenOutSecondRef.lean ====
/-
  The output projection of the second even layer: the reference, entry by entry.
-/
module

public import proofs.«01_k».proof.Proof.OutSpec
public import proofs.«01_k».proof.Proof.Gen.EvenOutSecondReferenceIdeal.Read
public import Idealize.ShloMosaic.Lib.Pointwise

@[expose] public section

set_option maxRecDepth 16384

noncomputable section

namespace Cert.EvenOutSecondReferenceIdeal.Out

open Cert.EvenOutSecondReferenceIdeal Cert.EvenOutSecondReferenceIdeal.Gen Cert.EvenOutSecondReferenceIdeal.Read Idealize.ShloMosaic

/-- The layer's weights. -/
theorem weights_apply (w : (⟨S2x2048x2048, .f32⟩ : BufTy).Contents (Elt Ideal)) (k f : Fin 2048) : val_main_v4 (F := Ideal) w (ix2 k f) = w (ix3 1 k f) := by
  refine (val_main_v4_apply w _).trans ((val_main_v3_apply w _).trans (congrArg w (funext fun a => Fin.ext ?_)))
  match a with
  | ⟨0, _⟩ => rfl
  | ⟨1, _⟩ => show (k.val * 2048 + f.val) / 2048 % 2048 = k.val; omega
  | ⟨2, _⟩ => show (k.val * 2048 + f.val) % 2048 = f.val; omega

/-- The joined head groups. -/
theorem joined_apply (ya yb : (⟨S16384x1024, .bf16⟩ : BufTy).Contents (Elt Ideal)) (r : Fin 16384) (k : Fin 2048) :
    val_main_v2 (F := Ideal) ya yb (ix2 r k) = if h : k.val < 1024 then ya (ix2 r ⟨k, h⟩) else yb (ix2 r ⟨k - 1024, by omega⟩) := by
  pointwise [val_main_v2, val_main_v1, val_main_v0]

/-- The result, entry by entry. -/
theorem ref_apply (ya yb : (⟨S16384x1024, .bf16⟩ : BufTy).Contents (Elt Ideal)) (w : (⟨S2x2048x2048, .f32⟩ : BufTy).Contents (Elt Ideal)) (x : (⟨S16384x2048, .f32⟩ : BufTy).Contents (Elt Ideal)) (r : Fin 16384) (f : Fin 2048) :
    val_main_v6 (F := Ideal) ya yb w x (ix2 r f) = Cert.Out.even (fun r k => ya (ix2 r k)) (fun r k => yb (ix2 r k)) (fun e k f => w (ix3 e k f)) (fun r f => x (ix2 r f)) 1 r f := by
  have h : val_main_v6 (F := Ideal) ya yb w x (ix2 r f) = x (ix2 r f) + ∑ k : Fin 2048, val_main_v2 (F := Ideal) ya yb (ix2 r k) * val_main_v4 (F := Ideal) w (ix2 k f) := by
    generalize hW : val_main_v4 (F := Ideal) w = W
    generalize hY : val_main_v2 (F := Ideal) ya yb = Y
    pointwise [val_main_v6, val_main_v5, hW, hY]
  rw [h, Cert.Out.sum_halves, ← add_assoc]
  unfold Cert.Out.even
  refine congrArg₂ (· + ·) (congrArg₂ (· + ·) rfl (Finset.sum_congr rfl fun k _ => ?_)) (Finset.sum_congr rfl fun k _ => ?_)
  · rw [joined_apply, weights_apply, dif_pos k.isLt]
  · rw [joined_apply, weights_apply, dif_neg (by dsimp only; omega)]
    refine congrArg (fun q => yb (ix2 r q) * _) (Fin.ext ?_)
    dsimp only; omega

end Cert.EvenOutSecondReferenceIdeal.Out

end
-- ==== Proof.EvenOutSecondClaim.lean ====
/-
  The output projection of the second even layer: the frame of the reference and the equality of the two results.
-/
module

public import proofs.«01_k».proof.Defs
public import proofs.«01_k».proof.Proof.EvenOutSecondArray
public import proofs.«01_k».proof.Proof.EvenOutSecondRef
public import proofs.«01_k».proof.Proof.Gen.EvenOutSecond.Frame
public import Idealize.ShloMosaic.Lib.Quiescent

@[expose] public section

set_option maxRecDepth 16384

noncomputable section

namespace Cert.EvenOutSecondIdeal.Out

open Cert.EvenOutSecondIdeal Cert.EvenOutSecondIdeal.Gen Idealize.ShloMosaic Idealize.ShloMosaic.TcCoe Idealize.ShloMosaic.Tactic Idealize.SL.Sem

/-- The reference runs and leaves its arguments as they were. -/
theorem frame_reference : quiescent_EvenOutSecondReferenceIdeal := fun m ρ _ =>
  (θ_run _ _ _).mono (fun r h => ⟨fun c => (h c).2, sem_eq_zero_of_no_sems (by decide) r.2⟩)
    (Cert.EvenOutSecondReferenceIdeal.Value.run m ρ)

variable (m : (ℓ : Loc nD τ sig) → Buf (Elt Ideal) ℓ)

/-- The kernel's result is the reference's, entry by entry. -/
theorem result_eq (m' : (ℓ : Loc Cert.EvenOutSecondReferenceIdeal.nD Cert.EvenOutSecondReferenceIdeal.τ Cert.EvenOutSecondReferenceIdeal.sig) → Buf (Elt Ideal) ℓ) (c : Dev nD)
    (h0 : m' ((c.tc : Thread Cert.EvenOutSecondReferenceIdeal.nD Cert.EvenOutSecondReferenceIdeal.τ).loc Cert.EvenOutSecondReferenceIdeal.main_arg0) = m ((c.tc : Thread nD τ).loc main_arg0))
    (h1 : m' ((c.tc : Thread Cert.EvenOutSecondReferenceIdeal.nD Cert.EvenOutSecondReferenceIdeal.τ).loc Cert.EvenOutSecondReferenceIdeal.main_arg1) = m ((c.tc : Thread nD τ).loc main_arg1))
    (h2 : m' ((c.tc : Thread Cert.EvenOutSecondReferenceIdeal.nD Cert.EvenOutSecondReferenceIdeal.τ).loc Cert.EvenOutSecondReferenceIdeal.main_arg2) = m ((c.tc : Thread nD τ).loc main_arg2))
    (h3 : m' ((c.tc : Thread Cert.EvenOutSecondReferenceIdeal.nD Cert.EvenOutSecondReferenceIdeal.τ).loc Cert.EvenOutSecondReferenceIdeal.main_arg3) = m ((c.tc : Thread nD τ).loc main_arg3)) :
    Cert.EvenOutSecondReferenceIdeal.Read.val_main_v6 (F := Ideal) (m' ((c.tc : Thread Cert.EvenOutSecondReferenceIdeal.nD Cert.EvenOutSecondReferenceIdeal.τ).loc Cert.EvenOutSecondReferenceIdeal.main_arg0)) (m' ((c.tc : Thread Cert.EvenOutSecondReferenceIdeal.nD Cert.EvenOutSecondReferenceIdeal.τ).loc Cert.EvenOutSecondReferenceIdeal.main_arg1)) (m' ((c.tc : Thread Cert.EvenOutSecondReferenceIdeal.nD Cert.EvenOutSecondReferenceIdeal.τ).loc Cert.EvenOutSecondReferenceIdeal.main_arg2)) (m' ((c.tc : Thread Cert.EvenOutSecondReferenceIdeal.nD Cert.EvenOutSecondReferenceIdeal.τ).loc Cert.EvenOutSecondReferenceIdeal.main_arg3)) = (dats m 0 c).arrAt 5 cfg0.N := by
  rw [h0, h1, h2, h3]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.EvenOutSecondReferenceIdeal.Out.ref_apply _ _ _ _ _ _).trans (final_apply m c _ _).symm

/-- Both programs run and end with equal results. -/
theorem value : algebraic_EvenOutSecondIdeal_EvenOutSecondReferenceIdeal := fun m g m' g' _ hargs =>
  ⟨fun c => (dats m 0 c).arrAt 5 cfg0.N, Value.run_blocks m g,
    (θ_run _ _ _).mono (fun _ q c => ⟨(q c).1.trans ((Cert.EvenOutSecondReferenceIdeal.Read.val_main_v6_eq _ _ _ _).trans
        (result_eq m m' c (hargs c).1 (hargs c).2.1 (hargs c).2.2.1 (hargs c).2.2.2)), (q c).2⟩)
      (Cert.EvenOutSecondReferenceIdeal.Value.run m' g')⟩

end Cert.EvenOutSecondIdeal.Out

end
-- ==== Proof.Attn.lean ====
/-
  Softmax attention with a sink, over a finite set of keys, on the extended reals.

  `attn s v σ` is the attention of one query over the keys `j : ι` with scores `s j`, values `v j` and a sink logit `σ`: the
  greatest score `m` (the sink counts), the weights `exp (s j - m)`, and the weighted sum of the values over the sum of the
  weights plus the sink's weight. A key that is masked out has the score `⊥`.

  `attn_reindex` is the one fact about it the layer needs: masked keys do not matter, so two sets of keys that agree off
  their masked keys give the same attention. A tile of 512 keys and a band of 384 keys are both compared, by it, with all
  the keys of the sequence.
-/
module

public import Idealize.ShloMosaic.PureOps.Ideal.Laws

@[expose] public section

noncomputable section

namespace Cert.Attn

open Idealize.ShloMosaic

variable {ι κ : Type*} [Fintype ι] [Fintype κ]

/-- The greatest of the scores and the sink logit. -/
def top (s : ι → EReal) (σ : EReal) : EReal := max (Finset.univ.fold max ⊥ s) σ

/-- The attention of one query. -/
def attn (s v : ι → EReal) (σ : EReal) : EReal :=
  Ideal.div (∑ j, Ideal.exp (s j - top s σ) * v j)
    ((∑ j, Ideal.exp (s j - top s σ)) + Ideal.exp (σ - top s σ))

theorem fold_max_eq_sup (s : ι → EReal) : Finset.univ.fold max ⊥ s = Finset.univ.sup s := rfl

theorem exp_bot_sub (a : EReal) : Ideal.exp (⊥ - a) = 0 := by
  rw [sub_eq_add_neg, EReal.bot_add]; rfl

/-- Sums over two sets of keys agree when the keys that contribute correspond one to one. -/
theorem sum_reindex (P : ι → Prop) (key : ι → κ) (hinj : ∀ j j', P j → P j' → key j = key j' → j = j')
    (f : ι → EReal) (g : κ → EReal) (hf : ∀ j, ¬ P j → f j = 0) (hfg : ∀ j, P j → f j = g (key j))
    (hg : ∀ k, (∀ j, P j → key j ≠ k) → g k = 0) : ∑ j, f j = ∑ k, g k := by
  classical
  have h1 : ∑ j, f j = ∑ j ∈ Finset.univ.filter P, f j :=
    (Finset.sum_filter_of_ne fun j _ hj => by by_contra hp; exact hj (hf j hp)).symm
  have h2 : ∑ k, g k = ∑ k ∈ (Finset.univ.filter P).image key, g k := by
    symm
    apply Finset.sum_subset (Finset.subset_univ _)
    intro k _ hk
    refine hg k fun j hj he => hk ?_
    exact Finset.mem_image.2 ⟨j, Finset.mem_filter.2 ⟨Finset.mem_univ _, hj⟩, he⟩
  rw [h1, h2, Finset.sum_image]
  · exact Finset.sum_congr rfl fun j hj => hfg j (Finset.mem_filter.1 hj).2
  · intro a ha b hb h
    exact hinj a b (Finset.mem_filter.1 ha).2 (Finset.mem_filter.1 hb).2 h

/-- The greatest score is the same over two sets of keys that agree off their masked keys. -/
theorem top_reindex (P : ι → Prop) (key : ι → κ) (s : ι → EReal) (s' : κ → EReal) (σ : EReal)
    (hs : ∀ j, ¬ P j → s j = ⊥) (hss : ∀ j, P j → s j = s' (key j))
    (hs' : ∀ k, (∀ j, P j → key j ≠ k) → s' k = ⊥) : top s σ = top s' σ := by
  classical
  unfold top
  rw [fold_max_eq_sup, fold_max_eq_sup]
  congr 1
  apply le_antisymm
  · refine Finset.sup_le fun j _ => ?_
    by_cases hp : P j
    · rw [hss j hp]; exact Finset.le_sup (f := s') (Finset.mem_univ _)
    · rw [hs j hp]; exact bot_le
  · refine Finset.sup_le fun k _ => ?_
    by_cases hk : ∃ j, P j ∧ key j = k
    · obtain ⟨j, hj, rfl⟩ := hk
      rw [← hss j hj]; exact Finset.le_sup (f := s) (Finset.mem_univ _)
    · rw [hs' k fun j hj he => hk ⟨j, hj, he⟩]; exact bot_le

/-- Masked keys do not matter: two sets of keys, whose unmasked keys (`P`) correspond one to one under `key`, give the
    same attention. -/
theorem attn_reindex (P : ι → Prop) (key : ι → κ) (hinj : ∀ j j', P j → P j' → key j = key j' → j = j')
    (s v : ι → EReal) (s' v' : κ → EReal) (σ : EReal)
    (hs : ∀ j, ¬ P j → s j = ⊥) (hss : ∀ j, P j → s j = s' (key j)) (hvv : ∀ j, P j → v j = v' (key j))
    (hs' : ∀ k, (∀ j, P j → key j ≠ k) → s' k = ⊥) : attn s v σ = attn s' v' σ := by
  unfold attn
  rw [top_reindex P key s s' σ hs hss hs']
  congr 1
  · refine sum_reindex P key hinj _ _ (fun j hj => ?_) (fun j hj => ?_) (fun k hk => ?_)
    · rw [hs j hj, exp_bot_sub, zero_mul]
    · rw [hss j hj, hvv j hj]
    · rw [hs' k hk, exp_bot_sub, zero_mul]
  · congr 1
    refine sum_reindex P key hinj _ _ (fun j hj => ?_) (fun j hj => ?_) (fun k hk => ?_)
    · rw [hs j hj, exp_bot_sub]
    · rw [hss j hj]
    · rw [hs' k hk, exp_bot_sub]

/-- A common positive real factor leaves a sum of products: scaling the query scales the score. -/
theorem sum_scale {n : ℕ} (q k : Fin n → EReal) {c : EReal} (h0 : 0 ≤ c) (ht : c ≠ ⊤) :
    ∑ d, (q d * c) * k d = (∑ d, k d * q d) * c := by
  have hc : ∀ s : Finset (Fin n), (∑ d ∈ s, k d * q d) * c = ∑ d ∈ s, (k d * q d) * c := by
    classical
    intro s
    induction s using Finset.induction_on with
    | empty => simp
    | insert a s ha ih =>
      rw [Finset.sum_insert ha, Finset.sum_insert ha, ← ih]
      exact EReal.right_distrib_of_nonneg_of_ne_top h0 ht _ _
  rw [hc]
  exact Finset.sum_congr rfl fun d _ => by rw [mul_assoc, mul_comm c, ← mul_assoc, mul_comm (q d)]

end Cert.Attn

end
-- ==== Proof.Words.lean ====
/-
  The mask of the windowed attention, as the two programs compute it on 32-bit words.

  Both programs number the keys of a window from the window's first key: the query `r` of a tile that starts at the sequence
  position `p` is compared with the key `p - 128 + j`. All the numbers are small, so the words are the integers they stand for,
  and the mask bit is set exactly when the key is at most 128 positions away from the query and is a position of the
  sequence.
-/
module

public import Idealize.ShloMosaic.PureOps.Ideal.Laws

@[expose] public section

namespace Cert.Words

open Idealize.ShloMosaic

/-- A 32-bit word made from an integer in range stands for that integer. -/
theorem toInt_ofInt (z : ℤ) (h : -2147483648 ≤ z) (h' : z < 2147483648) : (BitVec.ofInt 32 z).toInt = z := by
  rw [BitVec.toInt_ofInt, Int.bmod_eq_of_le (by simpa using h) (by simpa using h')]

theorem ofNat_word (n : ℕ) : BitVec.ofNat 32 n = BitVec.ofInt 32 (n : ℤ) := (BitVec.ofInt_natCast 32 n).symm

theorem mul_word (a b : ℤ) : IntOp.muli (BitVec.ofInt 32 a) (BitVec.ofInt 32 b) = BitVec.ofInt 32 (a * b) :=
  (BitVec.ofInt_mul a b).symm

theorem add_word (a b : ℤ) : IntOp.addi (BitVec.ofInt 32 a) (BitVec.ofInt 32 b) = BitVec.ofInt 32 (a + b) :=
  (BitVec.ofInt_add a b).symm

theorem sub_word (a b : ℤ) : IntOp.subi (BitVec.ofInt 32 a) (BitVec.ofInt 32 b) = BitVec.ofInt 32 (a - b) := by
  show BitVec.ofInt 32 a - BitVec.ofInt 32 b = _
  rw [sub_eq_add_neg a b, BitVec.ofInt_add, BitVec.ofInt_neg, BitVec.sub_eq_add_neg]

theorem abs_word (a : ℤ) (h : -2147483648 < a) (h' : a < 2147483648) :
    IntOp.absi (BitVec.ofInt 32 a) = BitVec.ofInt 32 |a| := by
  show (if (BitVec.ofInt 32 a).msb then -(BitVec.ofInt 32 a) else BitVec.ofInt 32 a) = _
  rw [BitVec.msb_eq_toInt, toInt_ofInt a (by omega) h']
  by_cases hn : a < 0
  · rw [if_pos (by simpa using hn), abs_of_neg hn, BitVec.ofInt_neg]
  · rw [if_neg (by simpa using hn), abs_of_nonneg (by omega)]

theorem sle_word (a b : ℤ) (ha : -2147483648 ≤ a) (ha' : a < 2147483648) (hb : -2147483648 ≤ b) (hb' : b < 2147483648) :
    IntOp.cmpi .sle (BitVec.ofInt 32 a) (BitVec.ofInt 32 b) = BitVec.ofBool (decide (a ≤ b)) := by
  show BitVec.ofBool ((BitVec.ofInt 32 a).sle (BitVec.ofInt 32 b)) = _
  rw [BitVec.sle_eq_decide, toInt_ofInt a ha ha', toInt_ofInt b hb hb']

theorem sge_word (a b : ℤ) (ha : -2147483648 ≤ a) (ha' : a < 2147483648) (hb : -2147483648 ≤ b) (hb' : b < 2147483648) :
    IntOp.cmpi .sge (BitVec.ofInt 32 a) (BitVec.ofInt 32 b) = BitVec.ofBool (decide (b ≤ a)) :=
  sle_word b a hb hb' ha ha'

theorem slt_word (a b : ℤ) (ha : -2147483648 ≤ a) (ha' : a < 2147483648) (hb : -2147483648 ≤ b) (hb' : b < 2147483648) :
    IntOp.cmpi .slt (BitVec.ofInt 32 a) (BitVec.ofInt 32 b) = BitVec.ofBool (decide (a < b)) := by
  show BitVec.ofBool ((BitVec.ofInt 32 a).slt (BitVec.ofInt 32 b)) = _
  rw [BitVec.slt_eq_decide, toInt_ofInt a ha ha', toInt_ofInt b hb hb']

theorem and_bit (a b : Bool) : IntOp.andi (BitVec.ofBool a) (BitVec.ofBool b) = BitVec.ofBool (a && b) := by
  cases a <;> cases b <;> rfl

/-- The mask bit of query `r` and key `j` of a tile's window: `T` is the tile's length and `i` its number. -/
def maskWord (T i r j : ℕ) : BitVec 1 :=
  let key := IntOp.addi (IntOp.subi (IntOp.muli (BitVec.ofNat 32 i) (BitVec.ofNat 32 T)) 128#32) (BitVec.ofNat 32 j)
  let query := IntOp.addi (IntOp.muli (BitVec.ofNat 32 i) (BitVec.ofNat 32 T)) (BitVec.ofNat 32 r)
  IntOp.andi (IntOp.andi (IntOp.cmpi .sle (IntOp.absi (IntOp.subi key query)) 128#32) (IntOp.cmpi .sge key 0#32))
    (IntOp.cmpi .slt key 8192#32)

/-- The key is within the window and is a position of the sequence. -/
def near (T i r j : ℕ) : Prop := r ≤ j ∧ j ≤ r + 256 ∧ 128 ≤ i * T + j ∧ i * T + j < 8320

instance (T i r j : ℕ) : Decidable (near T i r j) := by unfold near; infer_instance

theorem maskWord_eq (T i r j : ℕ) (hp : i * T ≤ 16384) (hr : r < 256) (hj : j < 512) :
    maskWord T i r j = BitVec.ofBool (decide (near T i r j)) := by
  obtain ⟨P, hP⟩ : ∃ P, P = i * T := ⟨_, rfl⟩
  have e : (i : ℤ) * (T : ℤ) = (P : ℤ) := by rw [hP]; push_cast; rfl
  have h128 : (128#32 : BitVec 32) = BitVec.ofInt 32 128 := rfl
  have h0 : (0#32 : BitVec 32) = BitVec.ofInt 32 0 := rfl
  have h8192 : (8192#32 : BitVec 32) = BitVec.ofInt 32 8192 := rfl
  unfold maskWord near
  simp only [ofNat_word, h128, h0, h8192, mul_word, sub_word, add_word, e, ← hP]
  rw [← hP] at hp
  rw [abs_word _ (by omega) (by omega), sle_word _ _ (by have := abs_nonneg ((P : ℤ) - 128 + j - (P + r)); omega)
    (by have : |(P : ℤ) - 128 + j - (P + r)| ≤ 1000 := abs_le.2 (by constructor <;> omega); omega) (by omega) (by omega),
    sge_word _ _ (by omega) (by omega) (by omega) (by omega), slt_word _ _ (by omega) (by omega) (by omega) (by omega),
    and_bit, and_bit, ← Bool.decide_and, ← Bool.decide_and]
  congr 1
  rw [decide_eq_decide, abs_le]
  constructor
  · rintro ⟨⟨⟨h1, h2⟩, h3⟩, h4⟩; refine ⟨?_, ?_, ?_, ?_⟩ <;> omega
  · rintro ⟨h1, h2, h3, h4⟩; refine ⟨⟨⟨?_, ?_⟩, ?_⟩, ?_⟩ <;> omega

/-- A choice by the mask bit is a choice by nearness. -/
theorem select_maskWord {α : Type} (T i r j : ℕ) (hp : i * T ≤ 16384) (hr : r < 256) (hj : j < 512) (a b : α) :
    Scalar.select (maskWord T i r j) a b = if near T i r j then a else b := by
  rw [maskWord_eq T i r j hp hr hj]
  by_cases h : near T i r j
  · rw [if_pos h, decide_eq_true h]; rfl
  · rw [if_neg h, decide_eq_false h]; rfl

end Cert.Words
-- ==== Proof.HeadValue.lean ====
module

public import proofs.«01_k».proof.Proof.Gen.KernelIdeal.Skeleton
public import proofs.«01_k».proof.Proof.Attn
public import proofs.«01_k».proof.Proof.Words
public import Idealize.ShloMosaic.Lib.Pointwise

@[expose] public section

set_option maxRecDepth 16384

noncomputable section

namespace Cert.KernelIdeal.WinValue

open Cert.KernelIdeal Cert.KernelIdeal.Gen Idealize.ShloMosaic Cert.Attn

/-- The float word of minus infinity is `⊥`. -/
theorem neg_inf : Ideal.ofBits .f32 0xFF800000#32 = (⊥ : EReal) := by
  simp [Ideal.ofBits, Ideal.ieee]

/-- The named mask constant is `⊥`. -/
theorem mask_bot : Named.named (F := Ideal) κ "mask" (φ := .f32) 0xF149F2CA#32 = (⊥ : EReal) := by
  simp [Named.named, κ]

/-- One head of one query block, entry by entry: the attention of the block's window under its mask. -/
theorem head_apply (ok : IVec S256x512 1) (kk vv : FVec Ideal S512x128 .bf16) (snk : Elt Ideal .f32) (q : Vec Ideal S256x128 .bf16)
    (r : Fin 256) (d : Fin 128) :
    k0_pay8 (F := Ideal) ok kk vv snk q (ix2 r d)
      = attn (fun j : Fin 512 => Scalar.select (ok (ix2 r j)) (∑ e : Fin 128, q (ix2 r e) * kk (ix2 j e)) ⊥)
          (fun j => vv (ix2 j d)) snk := by
  pointwise [k0_pay8, attn, top]
  rw [neg_inf, mask_bot]

/-- The mask of the query block, entry by entry. -/
theorem ok_apply (i : grid0.Coords) (r : Fin 256) (j : Fin 512) :
    k0_pay5 i (ix2 r j) = Cert.Words.maskWord 256 (i 1).val r j := by
  pointwise [k0_pay5, Cert.Words.maskWord]
  rfl

/-- The keys (and values) of the first four heads are the first half of the window's columns. -/
theorem keys_apply (x : Vec Ideal S128x256 .bf16) (y : Vec Ideal S256x256 .bf16) (z : Vec Ideal S128x256 .bf16)
    (g : Fin 8) (hg : g.val < 4) (j : Fin 512) (e : Fin 128) :
    k0_pay6 (F := Ideal) x y z (ix2 j e) = k0_pay3 (F := Ideal) x y z (ix2 j ⟨g / 4 * 128 + e, by omega⟩) := by
  have h : k0_pay6 (F := Ideal) x y z (ix2 j e) = k0_pay3 (F := Ideal) x y z (ix2 j ⟨e, by omega⟩) := by
    pointwise [k0_pay6]
  exact h.trans (congrArg (fun i => k0_pay3 (F := Ideal) x y z (ix2 j i)) (Fin.ext (by show e.val = g.val / 4 * 128 + e.val; omega)))

/-- Those of the last four heads are the second half. -/
theorem keys_apply' (x : Vec Ideal S128x256 .bf16) (y : Vec Ideal S256x256 .bf16) (z : Vec Ideal S128x256 .bf16)
    (g : Fin 8) (hg : 4 ≤ g.val) (j : Fin 512) (e : Fin 128) :
    k0_pay20 (F := Ideal) (k0_pay3 x y z) (ix2 j e) = k0_pay3 (F := Ideal) x y z (ix2 j ⟨g / 4 * 128 + e, by omega⟩) := by
  have h : k0_pay20 (F := Ideal) (k0_pay3 x y z) (ix2 j e) = k0_pay3 (F := Ideal) x y z (ix2 j ⟨128 + e, by omega⟩) := by
    pointwise [k0_pay20]
  exact h.trans (congrArg (fun i => k0_pay3 (F := Ideal) x y z (ix2 j i))
    (Fin.ext (by show 128 + e.val = g.val / 4 * 128 + e.val; omega)))

/-- The window: 128 rows before the block, the block's 256 rows, 128 rows after it. -/
theorem win_apply (x : Vec Ideal S128x256 .bf16) (y : Vec Ideal S256x256 .bf16) (z : Vec Ideal S128x256 .bf16) (j : Fin 512) (e : Fin 256) :
    k0_pay3 (F := Ideal) x y z (ix2 j e) = if h : j.val < 128 then x (ix2 ⟨j, h⟩ e)
      else if h : j.val < 384 then y (ix2 ⟨j - 128, by omega⟩ e) else z (ix2 ⟨j - 384, by omega⟩ e) := by
  pointwise [k0_pay3]
  by_cases h1 : j.val < 128
  · rw [dif_pos h1, dif_pos h1]
  · rw [dif_neg h1, dif_neg h1]
    by_cases h2 : j.val < 384
    · rw [dif_pos (show j.val - 128 < 256 by omega), dif_pos h2]
    · rw [dif_neg (show ¬ j.val - 128 < 256 by omega), dif_neg h2]
      exact congrArg z (congrArg (fun a => ix2 a e) (Fin.ext (by show j.val - 128 - 256 = j.val - 384; omega)))

end Cert.KernelIdeal.WinValue

end
-- ==== Proof.BlockValue.lean ====
module

public import proofs.«01_k».proof.Proof.Gen.KernelIdeal.Value
public import proofs.«01_k».proof.Proof.HeadValue
public import Idealize.ShloMosaic.Lib.Pipeline.ValueKit.Tiles

@[expose] public section

set_option maxRecDepth 16384

noncomputable section

namespace Cert.KernelIdeal.WinValue

open Cert.KernelIdeal Cert.KernelIdeal.Gen Idealize.ShloMosaic Idealize.ShloMosaic.TcCoe Idealize.ShloMosaic.Tactic Idealize.SL.Sem Cert.Attn

variable (m : (ℓ : Loc nD τ sig) → Buf (Elt Ideal) ℓ)

/-! The eight heads are printed as one payload cut in different places: each is the first head's payload. -/

section Pays
variable (ok : IVec S256x512 1) (kk vv : FVec Ideal S512x128 .bf16) (snk : Elt Ideal .f32) (q : Vec Ideal S256x128 .bf16)
  (K V : FVec Ideal S512x256 .bf16)

theorem pay1 : k0_pay14 (F := Ideal) (k0_pay12 ok kk snk q) (k0_pay13 ok kk vv snk q) = k0_pay8 ok kk vv snk q := by
  unfold k0_pay14 k0_pay12 k0_pay13 k0_pay8; rfl
theorem pay2 : k0_pay15 (F := Ideal) ok kk vv snk q = k0_pay8 ok kk vv snk q := by
  unfold k0_pay15 k0_pay8; rfl
theorem pay3 : k0_pay19 (F := Ideal) vv snk (k0_pay16 ok kk q) (k0_pay17 ok kk snk q) (k0_pay18 ok kk snk q) = k0_pay8 ok kk vv snk q := by
  unfold k0_pay19 k0_pay16 k0_pay17 k0_pay18 k0_pay8; rfl
theorem pay4 : k0_pay22 (F := Ideal) K V ok snk q = k0_pay8 ok (k0_pay20 K) (k0_pay21 V) snk q := by
  unfold k0_pay22 k0_pay20 k0_pay21 k0_pay8; rfl
theorem pay5 : k0_pay23 (F := Ideal) ok kk vv snk q = k0_pay8 ok kk vv snk q := by
  unfold k0_pay23 k0_pay8; rfl
theorem pay6 : k0_pay1 (F := Ideal) vv (k0_pay27 ok kk snk q) (k0_pay28 ok kk snk q) = k0_pay8 ok kk vv snk q := by
  unfold k0_pay1 k0_pay27 k0_pay28 k0_pay8; rfl
theorem pay7 : k0_pay2 (F := Ideal) ok kk vv snk q = k0_pay8 ok kk vv snk q := by
  unfold k0_pay2 k0_pay8; rfl

end Pays

/-- A load of a whole 128-row key or value block. -/
theorem ld_narrow (x : Vec Ideal S128x256 .bf16) (inb : ∀ a, (![0, 0] : Fin 2 → Nat) a + (![128, 256] : Fin 2 → Nat) a ≤ S128x256.size a) :
    View.ld x (Rect.unit ![0, 0] ![128, 256] inb) = x :=
  View.ld_unit_zero (funext (by decide)) inb x

/-- A load of a whole 256-row key or value block. -/
theorem ld_wide (x : Vec Ideal S256x256 .bf16) (inb : ∀ a, (![0, 0] : Fin 2 → Nat) a + (![256, 256] : Fin 2 → Nat) a ≤ S256x256.size a) :
    View.ld x (Rect.unit ![0, 0] ![256, 256] inb) = x :=
  View.ld_unit_zero (funext (by decide)) inb x

/-- A load of head `g`'s sink logit. -/
theorem sink_apply (x0 : Vec Ideal S8 .f32) (g : Fin 8) (o : Nat) (ho : o = g.val) (inb : ∀ a, (![o] : Fin 1 → Nat) a + (![1] : Fin 1 → Nat) a ≤ S8.size a)
    (h : 0 < S1.numel) :
    View.ld x0 (Rect.unit ![o] ![1] inb) (Shape.Idx.first h) = x0 (ix1 g) := by
  subst ho
  refine congrArg x0 (funext fun a => Fin.ext ?_)
  match a with
  | ⟨0, _⟩ => show g.val + 1 * 0 = g.val; omega

/-- A load of head `g`'s columns of the query block. -/
theorem q_apply (x1 : Vec Ideal S256x1024 .bf16) (g : Fin 8) (o : Nat) (ho : o = g.val * 128)
    (inb : ∀ a, (![0, o] : Fin 2 → Nat) a + (![256, 128] : Fin 2 → Nat) a ≤ S256x1024.size a)
    (r : Fin 256) (e : Fin 128) :
    View.ld x1 (Rect.unit ![0, o] ![256, 128] inb) (ix2 r e) = x1 (ix2 r ⟨g * 128 + e, by omega⟩) := by
  subst ho
  refine congrArg x1 (funext fun a => Fin.ext ?_)
  match a with
  | ⟨0, _⟩ => show 0 + 1 * r.val = r.val; omega
  | ⟨1, _⟩ => show g.val * 128 + 1 * e.val = g.val * 128 + e.val; omega

/-- One head of one block: the softmax-weighted sum of the window's values, for query head `h`, query row `r` and column `d`. -/
def headOut (i : grid0.Coords) (K V : Vec Ideal S512x256 .bf16) (x0 : Vec Ideal S8 .f32) (x1 : Vec Ideal S256x1024 .bf16)
    (h : Fin 8) (r : Fin 256) (d : Fin 128) : EReal :=
  attn (fun j : Fin 512 => Scalar.select (k0_pay5 i (ix2 r j))
      (∑ e : Fin 128, x1 (ix2 r ⟨h * 128 + e, by omega⟩) * K (ix2 j ⟨h / 4 * 128 + e, by omega⟩)) ⊥)
    (fun j => V (ix2 j ⟨h / 4 * 128 + d, by omega⟩)) (x0 (ix1 h))

/-- A store of one head's tile holds that head's values, whatever head is asked for: the columns tell the head. -/
theorem tile_at (i : grid0.Coords) (K V : Vec Ideal S512x256 .bf16) (x0 : Vec Ideal S8 .f32) (x1 : Vec Ideal S256x1024 .bf16)
    (g : Fin 8) (o : Nat) (ho : o = g.val * 128) (kk vv : FVec Ideal S512x128 .bf16) (snk : Elt Ideal .f32) (q : Vec Ideal S256x128 .bf16) (w : Vec Ideal S256x128 .bf16)
    (hk : ∀ (j : Fin 512) (e : Fin 128), kk (ix2 j e) = K (ix2 j ⟨g / 4 * 128 + e, by omega⟩))
    (hv : ∀ (j : Fin 512) (e : Fin 128), vv (ix2 j e) = V (ix2 j ⟨g / 4 * 128 + e, by omega⟩))
    (hs : snk = x0 (ix1 g))
    (hq : ∀ (r : Fin 256) (e : Fin 128), q (ix2 r e) = x1 (ix2 r ⟨g * 128 + e, by omega⟩))
    (hw : w = k0_pay8 (F := Ideal) (k0_pay5 i) kk vv snk q)
    (h : Fin 8) (r : Fin 256) (d : Fin 128) :
    View.TileAt (Val := Elt Ideal) (e := .bf16) (S := S256x1024) (ix2 r ⟨h * 128 + d, by omega⟩) ![0, o] ![256, 128] w
      (headOut i K V x0 x1 h r d) := by
  intro x hx
  have h0 := hx 0
  have h1 := hx 1
  replace h0 : r.val = 0 + (x 0).val := h0
  replace h1 : h.val * 128 + d.val = o + (x 1).val := h1
  have hx1 : (x 1).val < 128 := (x 1).isLt
  obtain rfl : h = g := Fin.ext (by omega)
  have e : x = ix2 r d := by
    funext a
    match a with
    | ⟨0, _⟩ => exact Fin.ext (by show (x 0).val = r.val; omega)
    | ⟨1, _⟩ => exact Fin.ext (by show (x 1).val = d.val; omega)
  rw [e, hw, head_apply, headOut, hs]
  simp only [hk, hv, hq]

/-- What one grid point leaves in its output block, entry by entry. -/
theorem out_apply (c : Dev nD) (t : Fin cfg0.N) (x0 : Vec Ideal S8 .f32) (x1 : Vec Ideal S256x1024 .bf16)
    (x2 : Vec Ideal S128x256 .bf16) (x3 : Vec Ideal S256x256 .bf16) (x4 : Vec Ideal S128x256 .bf16)
    (x5 : Vec Ideal S128x256 .bf16) (x6 : Vec Ideal S256x256 .bf16) (x7 : Vec Ideal S128x256 .bf16)
    (h : Fin 8) (r : Fin 256) (d : Fin 128) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7
        (ix2 r ⟨h * 128 + d, by omega⟩)
      = headOut (grid0.coords t) (k0_pay3 x2 x3 x4) (k0_pay3 x5 x6 x7) x0 x1 h r d := by
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7)]
  refine View.canon_eq_of_allAt _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7 _) ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [ld_narrow, ld_wide]
  refine View.allAt_cons_unit _ _ _ _ _ (tile_at (grid0.coords t) (k0_pay3 x2 x3 x4) (k0_pay3 x5 x6 x7) x0 x1 7 896 rfl
    (k0_pay20 (k0_pay3 x2 x3 x4)) (k0_pay21 (k0_pay4 x5 x6 x7)) _ _ _ (keys_apply' x2 x3 x4 7 (by decide)) (keys_apply' x5 x6 x7 7 (by decide))
    (sink_apply x0 7 7 rfl inb_S8_S1_7 _) (q_apply x1 7 896 rfl inb_S256x1024_S256x128_0_896) (pay7 ..) h r d) ?_
  refine View.allAt_cons_unit _ _ _ _ _ (tile_at (grid0.coords t) (k0_pay3 x2 x3 x4) (k0_pay3 x5 x6 x7) x0 x1 6 768 rfl
    (k0_pay20 (k0_pay3 x2 x3 x4)) (k0_pay21 (k0_pay4 x5 x6 x7)) _ _ _ (keys_apply' x2 x3 x4 6 (by decide)) (keys_apply' x5 x6 x7 6 (by decide))
    (sink_apply x0 6 6 rfl inb_S8_S1_6 _) (q_apply x1 6 768 rfl inb_S256x1024_S256x128_0_768) (pay6 ..) h r d) ?_
  refine View.allAt_cons_unit _ _ _ _ _ (tile_at (grid0.coords t) (k0_pay3 x2 x3 x4) (k0_pay3 x5 x6 x7) x0 x1 5 640 rfl
    (k0_pay20 (k0_pay3 x2 x3 x4)) (k0_pay21 (k0_pay4 x5 x6 x7)) _ _ _ (keys_apply' x2 x3 x4 5 (by decide)) (keys_apply' x5 x6 x7 5 (by decide))
    (sink_apply x0 5 5 rfl inb_S8_S1_5 _) (q_apply x1 5 640 rfl inb_S256x1024_S256x128_0_640) (pay5 ..) h r d) ?_
  refine View.allAt_cons_unit _ _ _ _ _ (tile_at (grid0.coords t) (k0_pay3 x2 x3 x4) (k0_pay3 x5 x6 x7) x0 x1 4 512 rfl
    (k0_pay20 (k0_pay3 x2 x3 x4)) (k0_pay21 (k0_pay4 x5 x6 x7)) _ _ _ (keys_apply' x2 x3 x4 4 (by decide)) (keys_apply' x5 x6 x7 4 (by decide))
    (sink_apply x0 4 4 rfl inb_S8_S1_4 _) (q_apply x1 4 512 rfl inb_S256x1024_S256x128_0_512) (pay4 ..) h r d) ?_
  refine View.allAt_cons_unit _ _ _ _ _ (tile_at (grid0.coords t) (k0_pay3 x2 x3 x4) (k0_pay3 x5 x6 x7) x0 x1 3 384 rfl
    (k0_pay6 x2 x3 x4) (k0_pay7 x5 x6 x7) _ _ _ (keys_apply x2 x3 x4 3 (by decide)) (keys_apply x5 x6 x7 3 (by decide))
    (sink_apply x0 3 3 rfl inb_S8_S1_3 _) (q_apply x1 3 384 rfl inb_S256x1024_S256x128_0_384) (pay3 ..) h r d) ?_
  refine View.allAt_cons_unit _ _ _ _ _ (tile_at (grid0.coords t) (k0_pay3 x2 x3 x4) (k0_pay3 x5 x6 x7) x0 x1 2 256 rfl
    (k0_pay6 x2 x3 x4) (k0_pay7 x5 x6 x7) _ _ _ (keys_apply x2 x3 x4 2 (by decide)) (keys_apply x5 x6 x7 2 (by decide))
    (sink_apply x0 2 2 rfl inb_S8_S1_2 _) (q_apply x1 2 256 rfl inb_S256x1024_S256x128_0_256) (pay2 ..) h r d) ?_
  refine View.allAt_cons_unit _ _ _ _ _ (tile_at (grid0.coords t) (k0_pay3 x2 x3 x4) (k0_pay3 x5 x6 x7) x0 x1 1 128 rfl
    (k0_pay6 x2 x3 x4) (k0_pay7 x5 x6 x7) _ _ _ (keys_apply x2 x3 x4 1 (by decide)) (keys_apply x5 x6 x7 1 (by decide))
    (sink_apply x0 1 1 rfl inb_S8_S1_1 _) (q_apply x1 1 128 rfl inb_S256x1024_S256x128_0_128) (pay1 ..) h r d) ?_
  refine View.allAt_cons_unit _ _ _ _ _ (tile_at (grid0.coords t) (k0_pay3 x2 x3 x4) (k0_pay3 x5 x6 x7) x0 x1 0 0 rfl
    (k0_pay6 x2 x3 x4) (k0_pay7 x5 x6 x7) _ _ _ (keys_apply x2 x3 x4 0 (by decide)) (keys_apply x5 x6 x7 0 (by decide))
    (sink_apply x0 0 0 rfl inb_S8_S1_0 _) (q_apply x1 0 0 rfl inb_S256x1024_S256x128_0_0) rfl h r d) ?_
  exact View.allAt_nil _ _

end Cert.KernelIdeal.WinValue

end
-- ==== Proof.Spec.lean ====
/-
  The windowed attention as one formula over all keys: query position `n` attends to the positions within 128 of it,
  the others having the score `⊥`.  A program that gathers a WINDOW of keys (row `j` of tile `i`'s window is position
  `i · T + j - 128`) computes the same: `win_of_window`.
-/
module

public import proofs.«01_k».proof.Proof.Attn
public import proofs.«01_k».proof.Proof.Words

@[expose] public section

noncomputable section

namespace Cert.Spec

open Idealize.ShloMosaic Cert.Attn Cert.Words

/-- The scale of the scores: the single-precision number nearest `1 / √128`. -/
def scale : EReal := Ideal.ofBits .f32 1035273459#32

theorem scale_nonneg : 0 ≤ scale := by
  unfold scale
  simp [Ideal.ofBits, Ideal.ieee]
  positivity

theorem scale_ne_top : scale ≠ ⊤ := by
  unfold scale
  simp [Ideal.ofBits, Ideal.ieee]
  exact EReal.coe_ne_top _

variable (q : Fin 2 → Fin 8192 → Fin 2 → Fin 4 → Fin 128 → EReal) (k v : Fin 2 → Fin 8192 → Fin 2 → Fin 128 → EReal)
  (s : Fin 8 → EReal)

/-- The score of key position `p` for query position `n` of batch `b`, key head `g`, query head `u` of its group. -/
def score (b : Fin 2) (n : Fin 8192) (g : Fin 2) (u : Fin 4) (p : Fin 8192) : EReal :=
  if n.val ≤ p.val + 128 ∧ p.val ≤ n.val + 128 then ∑ e : Fin 128, (q b n g u e * scale) * k b p g e else ⊥

/-- The attention of that query, at column `d`. -/
def win (b : Fin 2) (n : Fin 8192) (g : Fin 2) (u : Fin 4) (d : Fin 128) : EReal :=
  attn (score q k b n g u) (fun p => v b p g d) (s ⟨g * 4 + u, by omega⟩)

/-- A window of `N` rows that holds every position within 128 of the query computes `win`. -/
theorem win_of_window {N : ℕ} (T i r : ℕ) (b : Fin 2) (n : Fin 8192) (g : Fin 2) (u : Fin 4) (d : Fin 128)
    (hn : n.val = i * T + r) (hN : r + 256 < N) (s' v' : Fin N → EReal) (σ : EReal) (hσ : σ = s ⟨g * 4 + u, by omega⟩)
    (hs : ∀ j : Fin N, ¬ near T i r j → s' j = ⊥)
    (hss : ∀ (j : Fin N) (p : Fin 8192), near T i r j → p.val + 128 = i * T + j.val →
      s' j = ∑ e : Fin 128, (q b n g u e * scale) * k b p g e)
    (hvv : ∀ (j : Fin N) (p : Fin 8192), near T i r j → p.val + 128 = i * T + j.val → v' j = v b p g d) :
    attn s' v' σ = win q k v s b n g u d := by
  subst hσ
  have key : ∀ j : Fin N, near T i r j → (i * T + j.val - 128) % 8192 + 128 = i * T + j.val := fun j h => by
    unfold near at h
    rw [Nat.mod_eq_of_lt (by omega)]; omega
  refine attn_reindex (fun j : Fin N => near T i r j) (fun j => (⟨(i * T + j.val - 128) % 8192, Nat.mod_lt _ (by decide)⟩ : Fin 8192))
    (fun j j' h h' e => ?_) s' v' (score q k b n g u) (fun p => v b p g d) _ hs (fun j h => ?_) (fun j h => ?_) (fun p h => ?_)
  · have := key j h
    have := key j' h'
    have := congrArg Fin.val e
    dsimp only at this
    exact Fin.ext (by omega)
  · rw [hss j ⟨(i * T + j.val - 128) % 8192, Nat.mod_lt _ (by decide)⟩ h (key j h), score, if_pos]
    have := key j h
    unfold near at h
    dsimp only
    omega
  · exact hvv j ⟨(i * T + j.val - 128) % 8192, Nat.mod_lt _ (by decide)⟩ h (key j h)
  · rw [score, if_neg]
    intro hp
    have hlt : p.val + 128 - i * T < N := by omega
    refine h ⟨p.val + 128 - i * T, hlt⟩ ?_ (Fin.ext ?_)
    · unfold near
      dsimp only
      omega
    · dsimp only
      rw [Nat.mod_eq_of_lt (by omega)]; omega

end Cert.Spec

end
-- ==== Proof.ArrayValue.lean ====
module

public import proofs.«01_k».proof.Proof.BlockValue
public import proofs.«01_k».proof.Proof.Spec
public import Idealize.ShloMosaic.Lib.StableHlo.ReadAt

@[expose] public section

set_option maxRecDepth 16384

noncomputable section

namespace Cert.KernelIdeal.WinValue

open Cert.KernelIdeal Cert.KernelIdeal.Gen Idealize.ShloMosaic Idealize.ShloMosaic.TcCoe Idealize.ShloMosaic.Tactic Idealize.SL.Sem Cert.Attn

variable (m : (ℓ : Loc nD τ sig) → Buf (Elt Ideal) ℓ)

/-- The arguments of device `c`, as functions of their plain indices. -/
def argQ (c : Dev nD) (b : Fin 2) (n : Fin 8192) (g : Fin 2) (u : Fin 4) (e : Fin 128) : EReal :=
  m ((c : Thread nD τ).loc main_arg0) (ix5 b n g u e)
def argK (c : Dev nD) (b : Fin 2) (n : Fin 8192) (g : Fin 2) (e : Fin 128) : EReal := m ((c : Thread nD τ).loc main_arg1) (ix4 b n g e)
def argV (c : Dev nD) (b : Fin 2) (n : Fin 8192) (g : Fin 2) (e : Fin 128) : EReal := m ((c : Thread nD τ).loc main_arg2) (ix4 b n g e)
def argS (c : Dev nD) (h : Fin 8) : EReal := m ((c : Thread nD τ).loc main_arg3) (ix1 h)

/-- The scaled queries, the keys and the values, joined along the columns, read at a row and a column. -/
theorem z_apply (c : Dev nD) (n : Fin 16384) (j : Fin 1536) :
    V m c main_v6 (ix2 n j) = if h : j.val < 1024 then
        argQ m c ⟨n / 8192, by omega⟩ ⟨n % 8192, by omega⟩ ⟨j / 512, by omega⟩ ⟨j / 128 % 4, by omega⟩ ⟨j % 128, by omega⟩ * Cert.Spec.scale
      else if h : j.val - 1024 < 256 then
        argK m c ⟨n / 8192, by omega⟩ ⟨n % 8192, by omega⟩ ⟨(j - 1024) / 128, by omega⟩ ⟨(j - 1024) % 128, by omega⟩
      else
        argV m c ⟨n / 8192, by omega⟩ ⟨n % 8192, by omega⟩ ⟨(j - 1024 - 256) / 128, by omega⟩ ⟨(j - 1024 - 256) % 128, by omega⟩ := by
  unfold V
  after_results_simp
  pointwise
  after_results_simp
  pointwise
  rfl

/-- The joined array's query, key and value columns, by batch, position, head and column. -/
theorem z_q (c : Dev nD) (b : Fin 2) (p : Fin 8192) (h : Fin 8) (e : Fin 128) (n : Fin 16384) (j : Fin 1536)
    (hn : n.val = b * 8192 + p) (hj : j.val = h * 128 + e) :
    V m c main_v6 (ix2 n j) = argQ m c b p ⟨h / 4, by omega⟩ ⟨h % 4, by omega⟩ e * Cert.Spec.scale := by
  rw [z_apply, dif_pos (by omega)]
  refine congrArg (· * Cert.Spec.scale) ?_
  congr 1 <;> exact Fin.ext (by dsimp only; omega)

theorem z_k (c : Dev nD) (b : Fin 2) (p : Fin 8192) (g : Fin 2) (e : Fin 128) (n : Fin 16384) (j : Fin 1536)
    (hn : n.val = b * 8192 + p) (hj : j.val = 1024 + (g * 128 + e)) :
    V m c main_v6 (ix2 n j) = argK m c b p g e := by
  rw [z_apply, dif_neg (by omega), dif_pos (by omega)]
  congr 1 <;> exact Fin.ext (by dsimp only; omega)

theorem z_v (c : Dev nD) (b : Fin 2) (p : Fin 8192) (g : Fin 2) (e : Fin 128) (n : Fin 16384) (j : Fin 1536)
    (hn : n.val = b * 8192 + p) (hj : j.val = 1280 + (g * 128 + e)) :
    V m c main_v6 (ix2 n j) = argV m c b p g e := by
  rw [z_apply, dif_neg (by omega), dif_neg (by omega)]
  congr 1 <;> exact Fin.ext (by dsimp only; omega)

/-- Where the blocks of the nine windows lie at each grid point. -/
theorem index_1 : ∀ t : Fin grid0.N, win0_1.index t 0 = t.val ∧ win0_1.index t 1 = 0 := by decide +kernel
theorem index_2 : ∀ t : Fin grid0.N, win0_2.index t 0 = t.val / 32 * 64 + (t.val % 32 * 2 - 1) ∧ win0_2.index t 1 = 4 := by decide +kernel
theorem index_3 : ∀ t : Fin grid0.N, win0_3.index t 0 = t.val ∧ win0_3.index t 1 = 4 := by decide +kernel
theorem index_4 : ∀ t : Fin grid0.N, win0_4.index t 0 = t.val / 32 * 64 + min (t.val % 32 * 2 + 2) 63 ∧ win0_4.index t 1 = 4 := by decide +kernel
theorem index_5 : ∀ t : Fin grid0.N, win0_5.index t 0 = t.val / 32 * 64 + (t.val % 32 * 2 - 1) ∧ win0_5.index t 1 = 5 := by decide +kernel
theorem index_6 : ∀ t : Fin grid0.N, win0_6.index t 0 = t.val ∧ win0_6.index t 1 = 5 := by decide +kernel
theorem index_7 : ∀ t : Fin grid0.N, win0_7.index t 0 = t.val / 32 * 64 + min (t.val % 32 * 2 + 2) 63 ∧ win0_7.index t 1 = 5 := by decide +kernel
theorem index_8 : ∀ t : Fin grid0.N, win0_8.index t 0 = t.val ∧ win0_8.index t 1 = 0 := by decide +kernel
theorem index_0 : ∀ t : Fin grid0.N, win0_0.index t 0 = 0 := by decide +kernel
theorem coord_1 : ∀ t : Fin grid0.N, (grid0.coords t 1).val = t.val % 32 := by decide +kernel

theorem blk_2 (c : Dev nD) (t : Fin cfg0.N) (r : Fin 128) (e : Fin 256) (n : Fin 16384) (j : Fin 1536)
    (hn : n.val = (t.val / 32 * 64 + (t.val % 32 * 2 - 1)) * 128 + r.val) (hj : j.val = 1024 + e.val) :
    iblk m c 2 t (ix2 r e) = V m c main_v6 (ix2 n j) := by
  refine congrArg (V m c main_v6) (funext fun a => Fin.ext ?_)
  match a with
  | ⟨0, _⟩ => show win0_2.index t 0 * 128 + 1 * r.val = n.val; rw [(index_2 t).1, Nat.one_mul]; exact hn.symm
  | ⟨1, _⟩ => show win0_2.index t 1 * 256 + 1 * e.val = j.val; rw [(index_2 t).2, Nat.one_mul]; exact hj.symm

theorem blk_3 (c : Dev nD) (t : Fin cfg0.N) (r : Fin 256) (e : Fin 256) (n : Fin 16384) (j : Fin 1536)
    (hn : n.val = (t.val) * 256 + r.val) (hj : j.val = 1024 + e.val) :
    iblk m c 3 t (ix2 r e) = V m c main_v6 (ix2 n j) := by
  refine congrArg (V m c main_v6) (funext fun a => Fin.ext ?_)
  match a with
  | ⟨0, _⟩ => show win0_3.index t 0 * 256 + 1 * r.val = n.val; rw [(index_3 t).1, Nat.one_mul]; exact hn.symm
  | ⟨1, _⟩ => show win0_3.index t 1 * 256 + 1 * e.val = j.val; rw [(index_3 t).2, Nat.one_mul]; exact hj.symm

theorem blk_4 (c : Dev nD) (t : Fin cfg0.N) (r : Fin 128) (e : Fin 256) (n : Fin 16384) (j : Fin 1536)
    (hn : n.val = (t.val / 32 * 64 + min (t.val % 32 * 2 + 2) 63) * 128 + r.val) (hj : j.val = 1024 + e.val) :
    iblk m c 4 t (ix2 r e) = V m c main_v6 (ix2 n j) := by
  refine congrArg (V m c main_v6) (funext fun a => Fin.ext ?_)
  match a with
  | ⟨0, _⟩ => show win0_4.index t 0 * 128 + 1 * r.val = n.val; rw [(index_4 t).1, Nat.one_mul]; exact hn.symm
  | ⟨1, _⟩ => show win0_4.index t 1 * 256 + 1 * e.val = j.val; rw [(index_4 t).2, Nat.one_mul]; exact hj.symm

theorem blk_5 (c : Dev nD) (t : Fin cfg0.N) (r : Fin 128) (e : Fin 256) (n : Fin 16384) (j : Fin 1536)
    (hn : n.val = (t.val / 32 * 64 + (t.val % 32 * 2 - 1)) * 128 + r.val) (hj : j.val = 1280 + e.val) :
    iblk m c 5 t (ix2 r e) = V m c main_v6 (ix2 n j) := by
  refine congrArg (V m c main_v6) (funext fun a => Fin.ext ?_)
  match a with
  | ⟨0, _⟩ => show win0_5.index t 0 * 128 + 1 * r.val = n.val; rw [(index_5 t).1, Nat.one_mul]; exact hn.symm
  | ⟨1, _⟩ => show win0_5.index t 1 * 256 + 1 * e.val = j.val; rw [(index_5 t).2, Nat.one_mul]; exact hj.symm

theorem blk_6 (c : Dev nD) (t : Fin cfg0.N) (r : Fin 256) (e : Fin 256) (n : Fin 16384) (j : Fin 1536)
    (hn : n.val = (t.val) * 256 + r.val) (hj : j.val = 1280 + e.val) :
    iblk m c 6 t (ix2 r e) = V m c main_v6 (ix2 n j) := by
  refine congrArg (V m c main_v6) (funext fun a => Fin.ext ?_)
  match a with
  | ⟨0, _⟩ => show win0_6.index t 0 * 256 + 1 * r.val = n.val; rw [(index_6 t).1, Nat.one_mul]; exact hn.symm
  | ⟨1, _⟩ => show win0_6.index t 1 * 256 + 1 * e.val = j.val; rw [(index_6 t).2, Nat.one_mul]; exact hj.symm

theorem blk_7 (c : Dev nD) (t : Fin cfg0.N) (r : Fin 128) (e : Fin 256) (n : Fin 16384) (j : Fin 1536)
    (hn : n.val = (t.val / 32 * 64 + min (t.val % 32 * 2 + 2) 63) * 128 + r.val) (hj : j.val = 1280 + e.val) :
    iblk m c 7 t (ix2 r e) = V m c main_v6 (ix2 n j) := by
  refine congrArg (V m c main_v6) (funext fun a => Fin.ext ?_)
  match a with
  | ⟨0, _⟩ => show win0_7.index t 0 * 128 + 1 * r.val = n.val; rw [(index_7 t).1, Nat.one_mul]; exact hn.symm
  | ⟨1, _⟩ => show win0_7.index t 1 * 256 + 1 * e.val = j.val; rw [(index_7 t).2, Nat.one_mul]; exact hj.symm

theorem blk_1 (c : Dev nD) (t : Fin cfg0.N) (r : Fin 256) (e : Fin 1024) (n : Fin 16384) (j : Fin 1536)
    (hn : n.val = t.val * 256 + r.val) (hj : j.val = e.val) :
    X0_1 m c t (ix2 r e) = V m c main_v6 (ix2 n j) := by
  unfold X0_1 Pipeline.Window.fill
  rw [dif_pos (moved0_1 t _)]
  refine congrArg (V m c main_v6) (funext fun a => Fin.ext ?_)
  match a with
  | ⟨0, _⟩ => show win0_1.index t 0 * 256 + 1 * r.val = n.val; rw [(index_1 t).1, Nat.one_mul]; exact hn.symm
  | ⟨1, _⟩ => show win0_1.index t 1 * 1024 + 1 * e.val = j.val; rw [(index_1 t).2, Nat.zero_mul, Nat.zero_add, Nat.one_mul]; exact hj.symm

/-- Row `j` of the key window of grid point `t` is the position `256 (t mod 32) + j - 128`, where that is one. -/
theorem keys_window (c : Dev nD) (t : Fin cfg0.N) (b : Fin 2) (hb : t.val / 32 = b.val) (j : Fin 512) (g : Fin 2) (e : Fin 128) (p : Fin 8192)
    (hp : p.val + 128 = t.val % 32 * 256 + j.val) (ht : t.val < 64) (col : Fin 256) (hcol : col.val = g * 128 + e) :
    k0_pay3 (F := Ideal) (iblk m c 2 t) (iblk m c 3 t) (iblk m c 4 t) (ix2 j col) = argK m c b p g e := by
  have hz : ∀ (n : Fin 16384), n.val = b * 8192 + p → V m c main_v6 (ix2 n ⟨1024 + col.val, by omega⟩) = argK m c b p g e :=
    fun n hn => z_k m c b p g e n _ hn (by dsimp only; omega)
  have hz' := hz ⟨b * 8192 + p, by omega⟩ rfl
  rw [win_apply]
  by_cases h1 : j.val < 128
  · rw [dif_pos h1]
    exact (blk_2 m c t _ col ⟨b * 8192 + p, by omega⟩ ⟨_, by omega⟩ (by dsimp only; omega) rfl).trans hz'
  · rw [dif_neg h1]
    by_cases h2 : j.val < 384
    · rw [dif_pos h2]
      exact (blk_3 m c t _ col ⟨b * 8192 + p, by omega⟩ ⟨_, by omega⟩ (by dsimp only; omega) rfl).trans hz'
    · rw [dif_neg h2]
      exact (blk_4 m c t _ col ⟨b * 8192 + p, by omega⟩ ⟨_, by omega⟩ (by dsimp only; omega) rfl).trans hz'

/-- Row `j` of the value window of grid point `t` is the position `256 (t mod 32) + j - 128`, where that is one. -/
theorem vals_window (c : Dev nD) (t : Fin cfg0.N) (b : Fin 2) (hb : t.val / 32 = b.val) (j : Fin 512) (g : Fin 2) (e : Fin 128) (p : Fin 8192)
    (hp : p.val + 128 = t.val % 32 * 256 + j.val) (ht : t.val < 64) (col : Fin 256) (hcol : col.val = g * 128 + e) :
    k0_pay3 (F := Ideal) (iblk m c 5 t) (iblk m c 6 t) (iblk m c 7 t) (ix2 j col) = argV m c b p g e := by
  have hz : ∀ (n : Fin 16384), n.val = b * 8192 + p → V m c main_v6 (ix2 n ⟨1280 + col.val, by omega⟩) = argV m c b p g e :=
    fun n hn => z_v m c b p g e n _ hn (by dsimp only; omega)
  have hz' := hz ⟨b * 8192 + p, by omega⟩ rfl
  rw [win_apply]
  by_cases h1 : j.val < 128
  · rw [dif_pos h1]
    exact (blk_5 m c t _ col ⟨b * 8192 + p, by omega⟩ ⟨_, by omega⟩ (by dsimp only; omega) rfl).trans hz'
  · rw [dif_neg h1]
    by_cases h2 : j.val < 384
    · rw [dif_pos h2]
      exact (blk_6 m c t _ col ⟨b * 8192 + p, by omega⟩ ⟨_, by omega⟩ (by dsimp only; omega) rfl).trans hz'
    · rw [dif_neg h2]
      exact (blk_7 m c t _ col ⟨b * 8192 + p, by omega⟩ ⟨_, by omega⟩ (by dsimp only; omega) rfl).trans hz'

/-- The sink logits are staged whole. -/
theorem sink_blk (c : Dev nD) (t : Fin cfg0.N) (h : Fin 8) : iblk m c 0 t (ix1 h) = argS m c h := by
  unfold argS
  rw [← V_main_arg3 m c]
  refine congrArg (V m c main_arg3) (funext fun a => Fin.ext ?_)
  match a with
  | ⟨0, _⟩ => show win0_0.index t 0 * 8 + 1 * h.val = h.val; rw [index_0 t]; omega

/-- A head of a block of the kernel's is the windowed attention of its queries. -/
theorem head_win (c : Dev nD) (t : Fin cfg0.N) (h : Fin 8) (r : Fin 256) (d : Fin 128) (b : Fin 2) (hb : t.val / 32 = b.val)
    (n : Fin 8192) (hn : n.val = t.val % 32 * 256 + r.val) (ht : t.val < 64) :
    headOut (grid0.coords t) (k0_pay3 (iblk m c 2 t) (iblk m c 3 t) (iblk m c 4 t)) (k0_pay3 (iblk m c 5 t) (iblk m c 6 t) (iblk m c 7 t))
        (iblk m c 0 t) (X0_1 m c t) h r d
      = Cert.Spec.win (argQ m c) (argK m c) (argV m c) (argS m c) b n ⟨h / 4, by omega⟩ ⟨h % 4, by omega⟩ d := by
  unfold headOut
  refine Cert.Spec.win_of_window _ _ _ _ 256 (t.val % 32) r.val b n _ _ d hn (by omega) _ _ _ ?_ (fun j hj => ?_) (fun j p hj hp => ?_) (fun j p hj hp => ?_)
  · rw [sink_blk]
    exact congrArg (argS m c) (Fin.ext (by dsimp only; omega))
  · rw [ok_apply, coord_1 t, Cert.Words.select_maskWord _ _ _ _ (by omega) r.isLt j.isLt, if_neg hj]
  · rw [ok_apply, coord_1 t, Cert.Words.select_maskWord _ _ _ _ (by omega) r.isLt j.isLt, if_pos hj]
    refine Finset.sum_congr rfl fun e _ => ?_
    rw [keys_window m c t b hb j ⟨h / 4, by omega⟩ e p hp ht _ rfl,
      (blk_1 m c t r _ ⟨t.val * 256 + r.val, by omega⟩ ⟨h * 128 + e, by omega⟩ rfl rfl).trans
        (z_q m c b n h e _ _ (by dsimp only; omega) rfl)]
  · exact vals_window m c t b hb j ⟨h / 4, by omega⟩ d p hp ht _ rfl

/-- The kernel's result array, entry by entry. -/
theorem final_apply (c : Dev nD) (n : Fin 16384) (j : Fin 1024) :
    (dats m 0 c).arrAt 8 cfg0.N (ix2 n j)
      = Cert.Spec.win (argQ m c) (argK m c) (argV m c) (argS m c) ⟨n / 8192, by omega⟩ ⟨n % 8192, by omega⟩ ⟨j / 512, by omega⟩ ⟨j / 128 % 4, by omega⟩ ⟨j % 128, by omega⟩ := by
  have hN : cfg0.N = 64 := N_0
  have ht : n.val / 256 < cfg0.N := by omega
  have hbl := congrFun (Value.blocks8 m c ⟨n.val / 256, ht⟩ (flush0_8 _)) (ix2 ⟨n % 256, by omega⟩ j)
  rw [Value.flushed8_A] at hbl
  have he : ((cfg0.win 8).blk ⟨n.val / 256, ht⟩).view.read (Elt Ideal) ((dats m 0 c).arrAt 8 cfg0.N) (ix2 ⟨n % 256, by omega⟩ j)
      = (dats m 0 c).arrAt 8 cfg0.N (ix2 n j) := by
    refine congrArg ((dats m 0 c).arrAt 8 cfg0.N) (funext fun a => Fin.ext ?_)
    match a with
    | ⟨0, _⟩ => show win0_8.index ⟨n.val / 256, ht⟩ 0 * 256 + 1 * (n.val % 256) = n.val; rw [(index_8 _).1]; dsimp only; omega
    | ⟨1, _⟩ => show win0_8.index ⟨n.val / 256, ht⟩ 1 * 1024 + 1 * j.val = j.val; rw [(index_8 _).2]; omega
  rw [← he, hbl]
  have hj : (ix2 ⟨n % 256, by omega⟩ j : S256x1024.Idx) = ix2 ⟨n % 256, by omega⟩ ⟨(⟨j / 128, by omega⟩ : Fin 8).val * 128 + (⟨j % 128, by omega⟩ : Fin 128).val, by dsimp only; omega⟩ :=
    congrArg (ix2 _) (Fin.ext (by dsimp only; omega))
  refine (congrArg (out0_A_8 c _ _ _ _ _ _ _ _ _ _ _ _ _ _ _ _ _ _ _ _ _ _ _ _ _ _ _) hj).trans ?_
  rw [out_apply, head_win m c _ _ _ _ ⟨n / 8192, by omega⟩ (by dsimp only; omega) ⟨n % 8192, by omega⟩ (by dsimp only; omega) (by dsimp only; omega)]
  congr 1 <;> exact Fin.ext (by (try dsimp only) <;> omega)

end Cert.KernelIdeal.WinValue

end
-- ==== Proof.RefScore.lean ====
module

public import proofs.«01_k».proof.Proof.Gen.ReferenceIdeal.Read
public import proofs.«01_k».proof.Proof.Attn
public import proofs.«01_k».proof.Proof.Words
public import Idealize.ShloMosaic.Lib.Pointwise

@[expose] public section

set_option maxRecDepth 16384

noncomputable section

namespace Cert.ReferenceIdeal.WinValue

open Cert.ReferenceIdeal Cert.ReferenceIdeal.Gen Cert.ReferenceIdeal.Read Idealize.ShloMosaic Cert.Attn

/-- The reference's mask bit of tile `w`, query row `r`, key row `j`. -/
theorem mask_apply (w : Fin 64) (r : Fin 128) (j : Fin 384) :
    val_main_v50 (F := Ideal) (ix3 w r j) = Cert.Words.maskWord 128 w r j := by
  pointwise [val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_c_1, val_main_c_2, val_main_c_3, val_main_c_4, val_main_c_5, val_main_c_6, Cert.Words.maskWord]

/-- The reference's masked score: the scaled product of key and query where the mask is set, minus infinity elsewhere. -/
theorem score_apply (q k) (b : Fin 2) (w : Fin 64) (g : Fin 2) (u : Fin 4) (r : Fin 128) (j : Fin 384) :
    val_main_v52 (F := Ideal) q k (ix6 b w g u r j) =
     Scalar.select (val_main_v50 (F := Ideal) (ix3 w r j)) ((∑ x, val_main_v7 (F := Ideal) k (ix5 b w j g x) * q (ix5 b ⟨↑w * 128 + ↑r, by omega⟩ g u x)) * Ideal.ofBits FTy.f32 1035273459#32) (Ideal.ofBits .f32 0xFF800000#32) := by
  pointwise [val_main_v52, val_main_v16, val_main_v15, val_main_v14, val_main_v13, val_main_cst, val_main_v12, val_main_call2_v2, val_main_call2_v1, val_main_call2_v0, val_main_cst_7, val_main_v51]
  rfl

end Cert.ReferenceIdeal.WinValue

end
-- ==== Proof.RefValue.lean ====
module

public import proofs.«01_k».proof.Proof.Gen.ReferenceIdeal.Read
public import proofs.«01_k».proof.Proof.Attn
public import proofs.«01_k».proof.Proof.Words
public import Idealize.ShloMosaic.Lib.Pointwise

@[expose] public section

set_option maxRecDepth 16384

noncomputable section

namespace Cert.ReferenceIdeal.WinValue

open Cert.ReferenceIdeal Cert.ReferenceIdeal.Gen Cert.ReferenceIdeal.Read Idealize.ShloMosaic Cert.Attn

/-- The greatest score of a query. -/
theorem rowMax_apply (q k) (b : Fin 2) (w : Fin 64) (g : Fin 2) (u : Fin 4) (r : Fin 128) :
    val_main_v53 (F := Ideal) q k (ix5 b w g u r) =
      Finset.univ.fold max (⊥ : EReal) (fun j : Fin 384 => val_main_v52 (F := Ideal) q k (ix6 b w g u r j)) := by
  unfold val_main_v53
  generalize val_main_v52 (F := Ideal) q k = y
  have hr : S2x64x2x4x128x384.Reduces [5] S2x64x2x4x128 := by decide
  have e : (Finset.univ.filter fun i => reducesTo_S2x64x2x4x128x384_S2x64x2x4x128_d5.drop i = ix5 b w g u r)
      = Finset.univ.filter fun i => hr.drop i = ix5 b w g u r :=
    Finset.filter_congr fun i _ => by rw [Shape.ReducesTo.drop_eq_drop reducesTo_S2x64x2x4x128x384_S2x64x2x4x128_d5 hr]
  rw [Host.reduce_eq_fold]
  refine (congrArg (fun S => Finset.fold max (val_main_cst_8 (F := Ideal) (Shape.Idx.first h_S_)) y S) e).trans ?_
  rw [hr.fold_filter_drop_single]
  have hi : val_main_cst_8 (F := Ideal) (Shape.Idx.first h_S_) = (⊥ : EReal) := by
    show Ideal.ofBits .f32 0xFF800000#32 = (⊥ : EReal)
    simp [Ideal.ofBits, Ideal.ieee]
  rw [hi]
  refine congrArg (fun f => Finset.univ.fold max (⊥ : EReal) f) (funext fun j => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- The sink logit laid out by head group and head. -/
theorem sink_apply (s) (b : Fin 2) (w : Fin 64) (g : Fin 2) (u : Fin 4) (r : Fin 128) :
    val_main_v56 (F := Ideal) s (ix5 b w g u r) = s (ix1 ⟨g * 4 + u, by omega⟩) := by
  pointwise [val_main_v56, val_main_v55, val_main_v54]

/-- The greatest of the scores and the sink. -/
theorem max_apply (q k s) (b : Fin 2) (w : Fin 64) (g : Fin 2) (u : Fin 4) (r : Fin 128) :
    val_main_v57 (F := Ideal) q k s (ix5 b w g u r) =
      top (fun j : Fin 384 => val_main_v52 (F := Ideal) q k (ix6 b w g u r j)) (s (ix1 ⟨g * 4 + u, by omega⟩)) := by
  rw [val_main_v57_apply, rowMax_apply, sink_apply]
  rfl

/-- The unnormalised weight of a key. -/
theorem weight_apply (q k s) (b : Fin 2) (w : Fin 64) (g : Fin 2) (u : Fin 4) (r : Fin 128) (j : Fin 384) :
    val_main_v61 (F := Ideal) q k s (ix6 b w g u r j) =
      Ideal.exp (val_main_v52 (F := Ideal) q k (ix6 b w g u r j) -
        top (fun j : Fin 384 => val_main_v52 (F := Ideal) q k (ix6 b w g u r j)) (s (ix1 ⟨g * 4 + u, by omega⟩))) := by
  rw [← max_apply]
  pointwise [val_main_v61, val_main_v60, val_main_v59, val_main_v58]

/-- The normaliser: the weights' sum and the sink's weight. -/
theorem den_apply (q k s) (b : Fin 2) (w : Fin 64) (g : Fin 2) (u : Fin 4) (r : Fin 128) :
    val_main_v62 (F := Ideal) q k s (ix5 b w g u r) = ∑ j : Fin 384, val_main_v61 (F := Ideal) q k s (ix6 b w g u r j) := by
  rw [val_main_v62_apply]
  have h0 : val_main_cst_9 (F := Ideal) (Shape.Idx.first h_S_) = (0 : EReal) := Ideal.ofBits_zero_f32
  rw [h0, zero_add]
  refine Finset.sum_congr rfl fun j _ => congrArg _ (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The reference's attention of one query, at one column. -/
theorem out_apply (q k v s) (b : Fin 2) (w : Fin 64) (r : Fin 128) (g : Fin 2) (u : Fin 4) (d : Fin 128) :
    val_main_v72 (F := Ideal) q k v s (ix6 b w r g u d) =
      attn (fun j : Fin 384 => val_main_v52 (F := Ideal) q k (ix6 b w g u r j)) (fun j => val_main_v11 (F := Ideal) v (ix5 b w j g d)) (s (ix1 ⟨g * 4 + u, by omega⟩)) := by
  pointwise [val_main_v72, val_main_v71, val_main_v70, val_main_v69, val_main_v68, val_main_v67, val_main_v66, val_main_v65, val_main_v64,
    val_main_v63, val_main_v55, val_main_v54, attn]
  simp only [den_apply, weight_apply, max_apply]
  refine congrArg (fun x => Ideal.div x _) (Finset.sum_congr rfl fun j _ => mul_comm _ _)

end Cert.ReferenceIdeal.WinValue

end
-- ==== Proof.RefKeys.lean ====
module

public import proofs.«01_k».proof.Proof.Gen.ReferenceIdeal.Read
public import proofs.«01_k».proof.Proof.Attn
public import proofs.«01_k».proof.Proof.Words
public import Idealize.ShloMosaic.Lib.Pointwise

@[expose] public section

set_option maxRecDepth 16384

noncomputable section

namespace Cert.ReferenceIdeal.WinValue

open Cert.ReferenceIdeal Cert.ReferenceIdeal.Gen Cert.ReferenceIdeal.Read Idealize.ShloMosaic Cert.Attn

/-- Row `j` of tile `w`'s key window is position `128 w + j - 128`, where that is one. -/
theorem key_apply (k) (b : Fin 2) (w : Fin 64) (j : Fin 384) (g : Fin 2) (d : Fin 128) (h : 128 ≤ w.val * 128 + j.val) (h' : w.val * 128 + j.val < 8320) :
    val_main_v7 (F := Ideal) k (ix5 b w j g d) = k (ix4 b ⟨w.val * 128 + j.val - 128, by omega⟩ g d) := by
  pointwise [val_main_v7, val_main_v6, val_main_v5, val_main_v4, val_main_v1, val_main_v0]
  by_cases h1 : j.val < 128
  · rw [dif_pos h1, dif_pos (by omega)]
  · rw [dif_neg h1]
    by_cases h2 : j.val - 128 < 128
    · rw [dif_pos h2, dif_pos (by omega)]
      exact congrArg k (congrArg (fun a => ix4 b a g d) (Fin.ext (by dsimp only; omega)))
    · rw [dif_neg h2, dif_pos (by omega)]
      exact congrArg k (congrArg (fun a => ix4 b a g d) (Fin.ext (by dsimp only; omega)))

/-- The same for the values. -/
theorem val_apply (v) (b : Fin 2) (w : Fin 64) (j : Fin 384) (g : Fin 2) (d : Fin 128) (h : 128 ≤ w.val * 128 + j.val) (h' : w.val * 128 + j.val < 8320) :
    val_main_v11 (F := Ideal) v (ix5 b w j g d) = v (ix4 b ⟨w.val * 128 + j.val - 128, by omega⟩ g d) := by
  show val_main_v7 (F := Ideal) v (ix5 b w j g d) = _
  exact key_apply v b w j g d h h'

/-- The result array's entry as an entry of the attention's. -/
theorem final_apply (q k v s) (n : Fin 16384) (h : Fin 1024) :
    val_main_v74 (F := Ideal) q k v s (ix2 n h) = val_main_v72 (F := Ideal) q k v s
      (ix6 ⟨n / 8192, by omega⟩ ⟨n / 128 % 64, by omega⟩ ⟨n % 128, by omega⟩ ⟨h / 512, by omega⟩ ⟨h / 128 % 4, by omega⟩ ⟨h % 128, by omega⟩) := by
  pointwise [val_main_v74, val_main_v73]

end Cert.ReferenceIdeal.WinValue

end
-- ==== Proof.Equation.lean ====
/-
  The reference's result, entry by entry, as the windowed attention of `Spec.lean`; the kernel's is `ArrayValue.lean`'s.
-/
module

public import proofs.«01_k».proof.Proof.Spec
public import proofs.«01_k».proof.Proof.RefScore
public import proofs.«01_k».proof.Proof.RefValue
public import proofs.«01_k».proof.Proof.RefKeys

@[expose] public section

set_option maxRecDepth 16384

noncomputable section

namespace Cert.ReferenceIdeal.WinValue

open Cert.ReferenceIdeal Cert.ReferenceIdeal.Gen Cert.ReferenceIdeal.Read Idealize.ShloMosaic Cert.Attn

/-- The reference's window of 384 keys gives the same attention over all keys. -/
theorem ref_win (q k v s) (n : Fin 16384) (h : Fin 1024) :
    val_main_v74 (F := Ideal) q k v s (ix2 n h)
      = Cert.Spec.win (fun b n g u e => q (ix5 b n g u e)) (fun b n g e => k (ix4 b n g e)) (fun b n g e => v (ix4 b n g e))
          (fun h => s (ix1 h)) ⟨n / 8192, by omega⟩ ⟨n % 8192, by omega⟩ ⟨h / 512, by omega⟩ ⟨h / 128 % 4, by omega⟩ ⟨h % 128, by omega⟩ := by
  rw [final_apply, out_apply]
  refine Cert.Spec.win_of_window _ _ _ _ 128 (n / 128 % 64) (n % 128) _ _ _ _ _ (by dsimp only; omega) (by omega) _ _ _ rfl
    (fun j hj => ?_) (fun j p hj hp => ?_) (fun j p hj hp => ?_)
  · rw [score_apply, mask_apply, Cert.Words.select_maskWord _ _ _ _ (by dsimp only; omega) (by dsimp only; omega) (by omega), if_neg hj]
    simp [Ideal.ofBits, Ideal.ieee]
  · rw [score_apply, mask_apply, Cert.Words.select_maskWord _ _ _ _ (by dsimp only; omega) (by dsimp only; omega) (by omega), if_pos hj]
    refine Eq.trans ?_ (sum_scale _ _ Cert.Spec.scale_nonneg Cert.Spec.scale_ne_top).symm
    refine congrArg (· * Cert.Spec.scale) (Finset.sum_congr rfl fun x _ => ?_)
    unfold Cert.Words.near at hj
    rw [key_apply k _ _ j _ x (by dsimp only; omega) (by dsimp only; omega)]
    congr 3 <;> exact Fin.ext (by (try dsimp only) <;> omega)
  · unfold Cert.Words.near at hj
    rw [val_apply v _ _ j _ _ (by dsimp only; omega) (by dsimp only; omega)]
    congr 2 <;> exact Fin.ext (by (try dsimp only) <;> omega)

end Cert.ReferenceIdeal.WinValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.UpClaim
public import proofs.«01_k».proof.Proof.DownClaim
public import proofs.«01_k».proof.Proof.DenseUpClaim
public import proofs.«01_k».proof.Proof.DenseDownClaim
public import proofs.«01_k».proof.Proof.OddOutFirstClaim
public import proofs.«01_k».proof.Proof.OddOutSecondClaim
public import proofs.«01_k».proof.Proof.EvenOutFirstClaim
public import proofs.«01_k».proof.Proof.EvenOutSecondClaim
public import proofs.«01_k».proof.Proof.ArrayValue
public import proofs.«01_k».proof.Proof.Equation
public import Idealize.ShloMosaic.Lib.Quiescent
public import Idealize.ShloMosaic.Adequacy
public import Idealize.ShloMosaic.Init

@[expose] public section

noncomputable section

/-
  The windowed attention call and the two expert products.  The attention's three programs' frames and the named constant are direct; the value claim reads both
  results entry by entry as the windowed attention of `Spec.lean`, the kernel's in `ArrayValue.lean`, the reference's in
  `Equation.lean`.  The claims of the two products are in `UpClaim.lean` and `DownClaim.lean`, those
  of the dense products and of the output projections in `DenseUpClaim.lean`, `DenseDownClaim.lean` and the four `…OutFirstClaim.lean`,
  `…OutSecondClaim.lean`.
-/

namespace Cert.Proof

open Idealize.ShloMosaic Idealize.ShloMosaic.TcCoe Idealize.SL.Sem

/-- The kernel's result is the reference's, entry by entry. -/
theorem win_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v74 m' c = (Cert.KernelIdeal.Gen.dats m 0 c).arrAt 8 Cert.KernelIdeal.cfg0.N := by
  rw [Cert.ReferenceIdeal.Read.val_main_v74_eq, h0, h1, h2, h3]
  funext i
  have e : i = ix2 ⟨(i 0).val, (i 0).isLt⟩ ⟨(i 1).val, (i 1).isLt⟩ := by
    funext a
    match a with
    | ⟨0, _⟩ => rfl
    | ⟨1, _⟩ => rfl
  rw [e]
  exact (Cert.ReferenceIdeal.WinValue.ref_win _ _ _ _ _ _).trans (Cert.KernelIdeal.WinValue.final_apply m c _ _).symm

/-- Both attention programs run and end with equal results. -/
theorem win_algebraic : algebraic_KernelIdeal_ReferenceIdeal := fun m g m' g' _ hargs =>
  ⟨fun c => (Cert.KernelIdeal.Gen.dats m 0 c).arrAt 8 Cert.KernelIdeal.cfg0.N,
    Cert.KernelIdeal.Value.run_blocks m g,
    (θ_run _ _ _).mono (fun _ h c => ⟨(h c).1.trans (win_eq m m' c (hargs c).1 (hargs c).2.1 (hargs c).2.2.1 (hargs c).2.2.2), (h c).2⟩)
      (Cert.ReferenceIdeal.Value.run m' g')⟩

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.DenseUp.Gen.facts, Cert.DenseUpIdeal.Gen.facts, Cert.DenseUpReferenceIdeal.Gen.facts,
  Cert.DenseDown.Gen.facts, Cert.DenseDownIdeal.Gen.facts, Cert.DenseDownReferenceIdeal.Gen.facts,
  Cert.OddOutFirst.Gen.facts, Cert.OddOutFirstIdeal.Gen.facts, Cert.OddOutFirstReferenceIdeal.Gen.facts,
  Cert.OddOutSecond.Gen.facts, Cert.OddOutSecondIdeal.Gen.facts, Cert.OddOutSecondReferenceIdeal.Gen.facts,
  Cert.EvenOutFirst.Gen.facts, Cert.EvenOutFirstIdeal.Gen.facts, Cert.EvenOutFirstReferenceIdeal.Gen.facts,
  Cert.EvenOutSecond.Gen.facts, Cert.EvenOutSecondIdeal.Gen.facts, Cert.EvenOutSecondReferenceIdeal.Gen.facts,
  Cert.Pre_up_tables_ok.Gen.facts, Cert.Pre_down_tables_ok.Gen.facts, Cert.Pre_dense_up_layer.Gen.facts, Cert.Pre_dense_down_layer.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩)
    (Cert.ReferenceIdeal.Value.run m ρ),
  Cert.UpIdeal.Moe.frame_bits, Cert.UpIdeal.Moe.frame_ideal, Cert.UpIdeal.Moe.frame_reference, Cert.UpIdeal.Moe.frame_reference_tables,
  Cert.DownIdeal.Moe.frame_bits, Cert.DownIdeal.Moe.frame_ideal, Cert.DownIdeal.Moe.frame_reference, Cert.DownIdeal.Moe.frame_reference_tables,
  Cert.DenseUpIdeal.Dense.frame_bits, Cert.DenseUpIdeal.Dense.frame_ideal, Cert.DenseUpIdeal.Dense.frame_reference, Cert.DenseUpIdeal.Dense.frame_reference_layer,
  Cert.DenseDownIdeal.Dense.frame_bits, Cert.DenseDownIdeal.Dense.frame_ideal, Cert.DenseDownIdeal.Dense.frame_reference, Cert.DenseDownIdeal.Dense.frame_reference_layer,
  fun m ρ _ => Cert.OddOutFirst.Gen.frame m ρ, fun m ρ _ => Cert.OddOutFirstIdeal.Gen.frame m ρ, Cert.OddOutFirstIdeal.Out.frame_reference,
  fun m ρ _ => Cert.OddOutSecond.Gen.frame m ρ, fun m ρ _ => Cert.OddOutSecondIdeal.Gen.frame m ρ, Cert.OddOutSecondIdeal.Out.frame_reference,
  fun m ρ _ => Cert.EvenOutFirst.Gen.frame m ρ, fun m ρ _ => Cert.EvenOutFirstIdeal.Gen.frame m ρ, Cert.EvenOutFirstIdeal.Out.frame_reference,
  fun m ρ _ => Cert.EvenOutSecond.Gen.frame m ρ, fun m ρ _ => Cert.EvenOutSecondIdeal.Gen.frame m ρ, Cert.EvenOutSecondIdeal.Out.frame_reference,
  IdealRules.named_const.statement Cert.KernelIdeal.κ "mask" .f32 0xF149F2CA#32 ⊥ rfl,
  win_algebraic,
  trivial, Cert.UpIdeal.Moe.value,
  trivial, Cert.DownIdeal.Moe.value,
  trivial, Cert.DenseUpIdeal.Dense.value,
  trivial, Cert.DenseDownIdeal.Dense.value,
  trivial, Cert.OddOutFirstIdeal.Out.value,
  trivial, Cert.OddOutSecondIdeal.Out.value,
  trivial, Cert.EvenOutFirstIdeal.Out.value,
  trivial, Cert.EvenOutSecondIdeal.Out.value⟩

end Cert.Proof

end
